-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneReferenceIdeal (m : (ℓ : Loc Cert.FfnOneReferenceIdeal.nD Cert.FfnOneReferenceIdeal.τ Cert.FfnOneReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Rv (m : (ℓ : Loc Cert.Rv.nD Cert.Rv.τ Cert.Rv.sig) → Buf (Elt Bits) ℓ) : Prop :=
  True

def Pre_RvIdeal (m : (ℓ : Loc Cert.RvIdeal.nD Cert.RvIdeal.τ Cert.RvIdeal.sig) → Buf (Elt Ideal) ℓ) : Prop :=
  True

def Pre_RvReferenceIdeal (m : (ℓ : Loc Cert.RvReferenceIdeal.nD Cert.RvReferenceIdeal.τ Cert.RvReferenceIdeal.sig) → Buf (Elt Ideal) ℓ) : Prop :=
  True

def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgReferenceIdeal (m : (ℓ : Loc Cert.RgReferenceIdeal.nD Cert.RgReferenceIdeal.τ Cert.RgReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Av (m : (ℓ : Loc Cert.Av.nD Cert.Av.τ Cert.Av.sig) → Buf (Elt Bits) ℓ) : Prop :=
  True

def Pre_AvIdeal (m : (ℓ : Loc Cert.AvIdeal.nD Cert.AvIdeal.τ Cert.AvIdeal.sig) → Buf (Elt Ideal) ℓ) : Prop :=
  True

def Pre_AvReferenceIdeal (m : (ℓ : Loc Cert.AvReferenceIdeal.nD Cert.AvReferenceIdeal.τ Cert.AvReferenceIdeal.sig) → Buf (Elt Ideal) ℓ) : Prop :=
  True

def Pre_Rqk (m : (ℓ : Loc Cert.Rqk.nD Cert.Rqk.τ Cert.Rqk.sig) → Buf (Elt Bits) ℓ) : Prop :=
  True

def Pre_RqkIdeal (m : (ℓ : Loc Cert.RqkIdeal.nD Cert.RqkIdeal.τ Cert.RqkIdeal.sig) → Buf (Elt Ideal) ℓ) : Prop :=
  True

def Pre_RqkReferenceIdeal (m : (ℓ : Loc Cert.RqkReferenceIdeal.nD Cert.RqkReferenceIdeal.τ Cert.RqkReferenceIdeal.sig) → Buf (Elt Ideal) ℓ) : Prop :=
  True

def Pre_Aqk (m : (ℓ : Loc Cert.Aqk.nD Cert.Aqk.τ Cert.Aqk.sig) → Buf (Elt Bits) ℓ) : Prop :=
  True

def Pre_AqkIdeal (m : (ℓ : Loc Cert.AqkIdeal.nD Cert.AqkIdeal.τ Cert.AqkIdeal.sig) → Buf (Elt Ideal) ℓ) : Prop :=
  True

def Pre_AqkReferenceIdeal (m : (ℓ : Loc Cert.AqkReferenceIdeal.nD Cert.AqkReferenceIdeal.τ Cert.AqkReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4)
      ∧ r.2.mem ((c.tc : Thread Cert.FfnOne.nD Cert.FfnOne.τ).loc Cert.FfnOne.main_arg5) = m ((c.tc : Thread Cert.FfnOne.nD Cert.FfnOne.τ).loc Cert.FfnOne.main_arg5))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
      ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ r.2.sem = fun _ => 0)

def quiescent_FfnOneReferenceIdeal [hFfnOneReferenceIdeal : Cert.FfnOneReferenceIdeal.Facts] : Prop :=
  ∀ (m : (ℓ : Loc Cert.FfnOneReferenceIdeal.nD Cert.FfnOneReferenceIdeal.τ Cert.FfnOneReferenceIdeal.sig) → Buf (Elt Ideal) ℓ) (g : Dev Cert.FfnOneReferenceIdeal.nD → PrngReg), Pre_FfnOneReferenceIdeal m →
    θ_run (Cert.FfnOneReferenceIdeal.defs (F := Ideal)) (onTc (τ := Cert.FfnOneReferenceIdeal.τ) (Cert.FfnOneReferenceIdeal.main (F := Ideal))) ⟨m, fun _ => 0, g⟩ (fun r => (∀ c : Dev Cert.FfnOneReferenceIdeal.nD,
      r.2.mem ((c.tc : Thread Cert.FfnOneReferenceIdeal.nD Cert.FfnOneReferenceIdeal.τ).loc Cert.FfnOneReferenceIdeal.main_arg0) = m ((c.tc : Thread Cert.FfnOneReferenceIdeal.nD Cert.FfnOneReferenceIdeal.τ).loc Cert.FfnOneReferenceIdeal.main_arg0)
      ∧ r.2.mem ((c.tc : Thread Cert.FfnOneReferenceIdeal.nD Cert.FfnOneReferenceIdeal.τ).loc Cert.FfnOneReferenceIdeal.main_arg1) = m ((c.tc : Thread Cert.FfnOneReferenceIdeal.nD Cert.FfnOneReferenceIdeal.τ).loc Cert.FfnOneReferenceIdeal.main_arg1)
      ∧ r.2.mem ((c.tc : Thread Cert.FfnOneReferenceIdeal.nD Cert.FfnOneReferenceIdeal.τ).loc Cert.FfnOneReferenceIdeal.main_arg2) = m ((c.tc : Thread Cert.FfnOneReferenceIdeal.nD Cert.FfnOneReferenceIdeal.τ).loc Cert.FfnOneReferenceIdeal.main_arg2)
      ∧ r.2.mem ((c.tc : Thread Cert.FfnOneReferenceIdeal.nD Cert.FfnOneReferenceIdeal.τ).loc Cert.FfnOneReferenceIdeal.main_arg3) = m ((c.tc : Thread Cert.FfnOneReferenceIdeal.nD Cert.FfnOneReferenceIdeal.τ).loc Cert.FfnOneReferenceIdeal.main_arg3)
      ∧ r.2.mem ((c.tc : Thread Cert.FfnOneReferenceIdeal.nD Cert.FfnOneReferenceIdeal.τ).loc Cert.FfnOneReferenceIdeal.main_arg4) = m ((c.tc : Thread Cert.FfnOneReferenceIdeal.nD Cert.FfnOneReferenceIdeal.τ).loc Cert.FfnOneReferenceIdeal.main_arg4)
      ∧ r.2.mem ((c.tc : Thread Cert.FfnOneReferenceIdeal.nD Cert.FfnOneReferenceIdeal.τ).loc Cert.FfnOneReferenceIdeal.main_arg5) = m ((c.tc : Thread Cert.FfnOneReferenceIdeal.nD Cert.FfnOneReferenceIdeal.τ).loc Cert.FfnOneReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Rv [hRv : Cert.Rv.Facts] : Prop :=
  ∀ (m : (ℓ : Loc Cert.Rv.nD Cert.Rv.τ Cert.Rv.sig) → Buf (Elt Bits) ℓ) (g : Dev Cert.Rv.nD → PrngReg), Pre_Rv m →
    θ_run (Cert.Rv.defs (F := Bits)) (onTc (τ := Cert.Rv.τ) (Cert.Rv.main (F := Bits))) ⟨m, fun _ => 0, g⟩ (fun r => (∀ c : Dev Cert.Rv.nD,
      r.2.mem ((c.tc : Thread Cert.Rv.nD Cert.Rv.τ).loc Cert.Rv.main_arg0) = m ((c.tc : Thread Cert.Rv.nD Cert.Rv.τ).loc Cert.Rv.main_arg0)
      ∧ r.2.mem ((c.tc : Thread Cert.Rv.nD Cert.Rv.τ).loc Cert.Rv.main_arg1) = m ((c.tc : Thread Cert.Rv.nD Cert.Rv.τ).loc Cert.Rv.main_arg1))
      ∧ r.2.sem = fun _ => 0)

def quiescent_RvIdeal [hRvIdeal : Cert.RvIdeal.Facts] : Prop :=
  ∀ (m : (ℓ : Loc Cert.RvIdeal.nD Cert.RvIdeal.τ Cert.RvIdeal.sig) → Buf (Elt Ideal) ℓ) (g : Dev Cert.RvIdeal.nD → PrngReg), Pre_RvIdeal m →
    θ_run (Cert.RvIdeal.defs (F := Ideal)) (onTc (τ := Cert.RvIdeal.τ) (Cert.RvIdeal.main (F := Ideal))) ⟨m, fun _ => 0, g⟩ (fun r => (∀ c : Dev Cert.RvIdeal.nD,
      r.2.mem ((c.tc : Thread Cert.RvIdeal.nD Cert.RvIdeal.τ).loc Cert.RvIdeal.main_arg0) = m ((c.tc : Thread Cert.RvIdeal.nD Cert.RvIdeal.τ).loc Cert.RvIdeal.main_arg0)
      ∧ r.2.mem ((c.tc : Thread Cert.RvIdeal.nD Cert.RvIdeal.τ).loc Cert.RvIdeal.main_arg1) = m ((c.tc : Thread Cert.RvIdeal.nD Cert.RvIdeal.τ).loc Cert.RvIdeal.main_arg1))
      ∧ r.2.sem = fun _ => 0)

def quiescent_RvReferenceIdeal [hRvReferenceIdeal : Cert.RvReferenceIdeal.Facts] : Prop :=
  ∀ (m : (ℓ : Loc Cert.RvReferenceIdeal.nD Cert.RvReferenceIdeal.τ Cert.RvReferenceIdeal.sig) → Buf (Elt Ideal) ℓ) (g : Dev Cert.RvReferenceIdeal.nD → PrngReg), Pre_RvReferenceIdeal m →
    θ_run (Cert.RvReferenceIdeal.defs (F := Ideal)) (onTc (τ := Cert.RvReferenceIdeal.τ) (Cert.RvReferenceIdeal.main (F := Ideal))) ⟨m, fun _ => 0, g⟩ (fun r => (∀ c : Dev Cert.RvReferenceIdeal.nD,
      r.2.mem ((c.tc : Thread Cert.RvReferenceIdeal.nD Cert.RvReferenceIdeal.τ).loc Cert.RvReferenceIdeal.main_arg0) = m ((c.tc : Thread Cert.RvReferenceIdeal.nD Cert.RvReferenceIdeal.τ).loc Cert.RvReferenceIdeal.main_arg0)
      ∧ r.2.mem ((c.tc : Thread Cert.RvReferenceIdeal.nD Cert.RvReferenceIdeal.τ).loc Cert.RvReferenceIdeal.main_arg1) = m ((c.tc : Thread Cert.RvReferenceIdeal.nD Cert.RvReferenceIdeal.τ).loc Cert.RvReferenceIdeal.main_arg1))
      ∧ r.2.sem = fun _ => 0)

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1))
      ∧ r.2.sem = fun _ => 0)

def quiescent_RgReferenceIdeal [hRgReferenceIdeal : Cert.RgReferenceIdeal.Facts] : Prop :=
  ∀ (m : (ℓ : Loc Cert.RgReferenceIdeal.nD Cert.RgReferenceIdeal.τ Cert.RgReferenceIdeal.sig) → Buf (Elt Ideal) ℓ) (g : Dev Cert.RgReferenceIdeal.nD → PrngReg), Pre_RgReferenceIdeal m →
    θ_run (Cert.RgReferenceIdeal.defs (F := Ideal)) (onTc (τ := Cert.RgReferenceIdeal.τ) (Cert.RgReferenceIdeal.main (F := Ideal))) ⟨m, fun _ => 0, g⟩ (fun r => (∀ c : Dev Cert.RgReferenceIdeal.nD,
      r.2.mem ((c.tc : Thread Cert.RgReferenceIdeal.nD Cert.RgReferenceIdeal.τ).loc Cert.RgReferenceIdeal.main_arg0) = m ((c.tc : Thread Cert.RgReferenceIdeal.nD Cert.RgReferenceIdeal.τ).loc Cert.RgReferenceIdeal.main_arg0)
      ∧ r.2.mem ((c.tc : Thread Cert.RgReferenceIdeal.nD Cert.RgReferenceIdeal.τ).loc Cert.RgReferenceIdeal.main_arg1) = m ((c.tc : Thread Cert.RgReferenceIdeal.nD Cert.RgReferenceIdeal.τ).loc Cert.RgReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Av [hAv : Cert.Av.Facts] : Prop :=
  ∀ (m : (ℓ : Loc Cert.Av.nD Cert.Av.τ Cert.Av.sig) → Buf (Elt Bits) ℓ) (g : Dev Cert.Av.nD → PrngReg), Pre_Av m →
    θ_run (Cert.Av.defs (F := Bits)) (onTc (τ := Cert.Av.τ) (Cert.Av.main (F := Bits))) ⟨m, fun _ => 0, g⟩ (fun r => (∀ c : Dev Cert.Av.nD,
      r.2.mem ((c.tc : Thread Cert.Av.nD Cert.Av.τ).loc Cert.Av.main_arg0) = m ((c.tc : Thread Cert.Av.nD Cert.Av.τ).loc Cert.Av.main_arg0)
      ∧ r.2.mem ((c.tc : Thread Cert.Av.nD Cert.Av.τ).loc Cert.Av.main_arg1) = m ((c.tc : Thread Cert.Av.nD Cert.Av.τ).loc Cert.Av.main_arg1))
      ∧ r.2.sem = fun _ => 0)

def quiescent_AvIdeal [hAvIdeal : Cert.AvIdeal.Facts] : Prop :=
  ∀ (m : (ℓ : Loc Cert.AvIdeal.nD Cert.AvIdeal.τ Cert.AvIdeal.sig) → Buf (Elt Ideal) ℓ) (g : Dev Cert.AvIdeal.nD → PrngReg), Pre_AvIdeal m →
    θ_run (Cert.AvIdeal.defs (F := Ideal)) (onTc (τ := Cert.AvIdeal.τ) (Cert.AvIdeal.main (F := Ideal))) ⟨m, fun _ => 0, g⟩ (fun r => (∀ c : Dev Cert.AvIdeal.nD,
      r.2.mem ((c.tc : Thread Cert.AvIdeal.nD Cert.AvIdeal.τ).loc Cert.AvIdeal.main_arg0) = m ((c.tc : Thread Cert.AvIdeal.nD Cert.AvIdeal.τ).loc Cert.AvIdeal.main_arg0)
      ∧ r.2.mem ((c.tc : Thread Cert.AvIdeal.nD Cert.AvIdeal.τ).loc Cert.AvIdeal.main_arg1) = m ((c.tc : Thread Cert.AvIdeal.nD Cert.AvIdeal.τ).loc Cert.AvIdeal.main_arg1))
      ∧ r.2.sem = fun _ => 0)

def quiescent_AvReferenceIdeal [hAvReferenceIdeal : Cert.AvReferenceIdeal.Facts] : Prop :=
  ∀ (m : (ℓ : Loc Cert.AvReferenceIdeal.nD Cert.AvReferenceIdeal.τ Cert.AvReferenceIdeal.sig) → Buf (Elt Ideal) ℓ) (g : Dev Cert.AvReferenceIdeal.nD → PrngReg), Pre_AvReferenceIdeal m →
    θ_run (Cert.AvReferenceIdeal.defs (F := Ideal)) (onTc (τ := Cert.AvReferenceIdeal.τ) (Cert.AvReferenceIdeal.main (F := Ideal))) ⟨m, fun _ => 0, g⟩ (fun r => (∀ c : Dev Cert.AvReferenceIdeal.nD,
      r.2.mem ((c.tc : Thread Cert.AvReferenceIdeal.nD Cert.AvReferenceIdeal.τ).loc Cert.AvReferenceIdeal.main_arg0) = m ((c.tc : Thread Cert.AvReferenceIdeal.nD Cert.AvReferenceIdeal.τ).loc Cert.AvReferenceIdeal.main_arg0)
      ∧ r.2.mem ((c.tc : Thread Cert.AvReferenceIdeal.nD Cert.AvReferenceIdeal.τ).loc Cert.AvReferenceIdeal.main_arg1) = m ((c.tc : Thread Cert.AvReferenceIdeal.nD Cert.AvReferenceIdeal.τ).loc Cert.AvReferenceIdeal.main_arg1))
      ∧ r.2.sem = fun _ => 0)

def quiescent_Rqk [hRqk : Cert.Rqk.Facts] : Prop :=
  ∀ (m : (ℓ : Loc Cert.Rqk.nD Cert.Rqk.τ Cert.Rqk.sig) → Buf (Elt Bits) ℓ) (g : Dev Cert.Rqk.nD → PrngReg), Pre_Rqk m →
    θ_run (Cert.Rqk.defs (F := Bits)) (onTc (τ := Cert.Rqk.τ) (Cert.Rqk.main (F := Bits))) ⟨m, fun _ => 0, g⟩ (fun r => (∀ c : Dev Cert.Rqk.nD,
      r.2.mem ((c.tc : Thread Cert.Rqk.nD Cert.Rqk.τ).loc Cert.Rqk.main_arg0) = m ((c.tc : Thread Cert.Rqk.nD Cert.Rqk.τ).loc Cert.Rqk.main_arg0)
      ∧ r.2.mem ((c.tc : Thread Cert.Rqk.nD Cert.Rqk.τ).loc Cert.Rqk.main_arg1) = m ((c.tc : Thread Cert.Rqk.nD Cert.Rqk.τ).loc Cert.Rqk.main_arg1))
      ∧ r.2.sem = fun _ => 0)

def quiescent_RqkIdeal [hRqkIdeal : Cert.RqkIdeal.Facts] : Prop :=
  ∀ (m : (ℓ : Loc Cert.RqkIdeal.nD Cert.RqkIdeal.τ Cert.RqkIdeal.sig) → Buf (Elt Ideal) ℓ) (g : Dev Cert.RqkIdeal.nD → PrngReg), Pre_RqkIdeal m →
    θ_run (Cert.RqkIdeal.defs (F := Ideal)) (onTc (τ := Cert.RqkIdeal.τ) (Cert.RqkIdeal.main (F := Ideal))) ⟨m, fun _ => 0, g⟩ (fun r => (∀ c : Dev Cert.RqkIdeal.nD,
      r.2.mem ((c.tc : Thread Cert.RqkIdeal.nD Cert.RqkIdeal.τ).loc Cert.RqkIdeal.main_arg0) = m ((c.tc : Thread Cert.RqkIdeal.nD Cert.RqkIdeal.τ).loc Cert.RqkIdeal.main_arg0)
      ∧ r.2.mem ((c.tc : Thread Cert.RqkIdeal.nD Cert.RqkIdeal.τ).loc Cert.RqkIdeal.main_arg1) = m ((c.tc : Thread Cert.RqkIdeal.nD Cert.RqkIdeal.τ).loc Cert.RqkIdeal.main_arg1))
      ∧ r.2.sem = fun _ => 0)

def quiescent_RqkReferenceIdeal [hRqkReferenceIdeal : Cert.RqkReferenceIdeal.Facts] : Prop :=
  ∀ (m : (ℓ : Loc Cert.RqkReferenceIdeal.nD Cert.RqkReferenceIdeal.τ Cert.RqkReferenceIdeal.sig) → Buf (Elt Ideal) ℓ) (g : Dev Cert.RqkReferenceIdeal.nD → PrngReg), Pre_RqkReferenceIdeal m →
    θ_run (Cert.RqkReferenceIdeal.defs (F := Ideal)) (onTc (τ := Cert.RqkReferenceIdeal.τ) (Cert.RqkReferenceIdeal.main (F := Ideal))) ⟨m, fun _ => 0, g⟩ (fun r => (∀ c : Dev Cert.RqkReferenceIdeal.nD,
      r.2.mem ((c.tc : Thread Cert.RqkReferenceIdeal.nD Cert.RqkReferenceIdeal.τ).loc Cert.RqkReferenceIdeal.main_arg0) = m ((c.tc : Thread Cert.RqkReferenceIdeal.nD Cert.RqkReferenceIdeal.τ).loc Cert.RqkReferenceIdeal.main_arg0)
      ∧ r.2.mem ((c.tc : Thread Cert.RqkReferenceIdeal.nD Cert.RqkReferenceIdeal.τ).loc Cert.RqkReferenceIdeal.main_arg1) = m ((c.tc : Thread Cert.RqkReferenceIdeal.nD Cert.RqkReferenceIdeal.τ).loc Cert.RqkReferenceIdeal.main_arg1))
      ∧ r.2.sem = fun _ => 0)

def quiescent_Aqk [hAqk : Cert.Aqk.Facts] : Prop :=
  ∀ (m : (ℓ : Loc Cert.Aqk.nD Cert.Aqk.τ Cert.Aqk.sig) → Buf (Elt Bits) ℓ) (g : Dev Cert.Aqk.nD → PrngReg), Pre_Aqk m →
    θ_run (Cert.Aqk.defs (F := Bits)) (onTc (τ := Cert.Aqk.τ) (Cert.Aqk.main (F := Bits))) ⟨m, fun _ => 0, g⟩ (fun r => (∀ c : Dev Cert.Aqk.nD,
      r.2.mem ((c.tc : Thread Cert.Aqk.nD Cert.Aqk.τ).loc Cert.Aqk.main_arg0) = m ((c.tc : Thread Cert.Aqk.nD Cert.Aqk.τ).loc Cert.Aqk.main_arg0)
      ∧ r.2.mem ((c.tc : Thread Cert.Aqk.nD Cert.Aqk.τ).loc Cert.Aqk.main_arg1) = m ((c.tc : Thread Cert.Aqk.nD Cert.Aqk.τ).loc Cert.Aqk.main_arg1))
      ∧ r.2.sem = fun _ => 0)

def quiescent_AqkIdeal [hAqkIdeal : Cert.AqkIdeal.Facts] : Prop :=
  ∀ (m : (ℓ : Loc Cert.AqkIdeal.nD Cert.AqkIdeal.τ Cert.AqkIdeal.sig) → Buf (Elt Ideal) ℓ) (g : Dev Cert.AqkIdeal.nD → PrngReg), Pre_AqkIdeal m →
    θ_run (Cert.AqkIdeal.defs (F := Ideal)) (onTc (τ := Cert.AqkIdeal.τ) (Cert.AqkIdeal.main (F := Ideal))) ⟨m, fun _ => 0, g⟩ (fun r => (∀ c : Dev Cert.AqkIdeal.nD,
      r.2.mem ((c.tc : Thread Cert.AqkIdeal.nD Cert.AqkIdeal.τ).loc Cert.AqkIdeal.main_arg0) = m ((c.tc : Thread Cert.AqkIdeal.nD Cert.AqkIdeal.τ).loc Cert.AqkIdeal.main_arg0)
      ∧ r.2.mem ((c.tc : Thread Cert.AqkIdeal.nD Cert.AqkIdeal.τ).loc Cert.AqkIdeal.main_arg1) = m ((c.tc : Thread Cert.AqkIdeal.nD Cert.AqkIdeal.τ).loc Cert.AqkIdeal.main_arg1))
      ∧ r.2.sem = fun _ => 0)

def quiescent_AqkReferenceIdeal [hAqkReferenceIdeal : Cert.AqkReferenceIdeal.Facts] : Prop :=
  ∀ (m : (ℓ : Loc Cert.AqkReferenceIdeal.nD Cert.AqkReferenceIdeal.τ Cert.AqkReferenceIdeal.sig) → Buf (Elt Ideal) ℓ) (g : Dev Cert.AqkReferenceIdeal.nD → PrngReg), Pre_AqkReferenceIdeal m →
    θ_run (Cert.AqkReferenceIdeal.defs (F := Ideal)) (onTc (τ := Cert.AqkReferenceIdeal.τ) (Cert.AqkReferenceIdeal.main (F := Ideal))) ⟨m, fun _ => 0, g⟩ (fun r => (∀ c : Dev Cert.AqkReferenceIdeal.nD,
      r.2.mem ((c.tc : Thread Cert.AqkReferenceIdeal.nD Cert.AqkReferenceIdeal.τ).loc Cert.AqkReferenceIdeal.main_arg0) = m ((c.tc : Thread Cert.AqkReferenceIdeal.nD Cert.AqkReferenceIdeal.τ).loc Cert.AqkReferenceIdeal.main_arg0)
      ∧ r.2.mem ((c.tc : Thread Cert.AqkReferenceIdeal.nD Cert.AqkReferenceIdeal.τ).loc Cert.AqkReferenceIdeal.main_arg1) = m ((c.tc : Thread Cert.AqkReferenceIdeal.nD Cert.AqkReferenceIdeal.τ).loc Cert.AqkReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v38) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnOne_FfnOneIdeal : Prop :=
  True

def algebraic_FfnOneIdeal_FfnOneReferenceIdeal [hFfnOneIdeal : Cert.FfnOneIdeal.Facts] [hFfnOneReferenceIdeal : Cert.FfnOneReferenceIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneReferenceIdeal.nD Cert.FfnOneReferenceIdeal.τ Cert.FfnOneReferenceIdeal.sig) → Buf (Elt Ideal) ℓ) (g' : Dev Cert.FfnOneReferenceIdeal.nD → PrngReg), Pre_FfnOneIdeal m →
    (∀ c : Dev Cert.FfnOneIdeal.nD,
      m' ((c.tc : Thread Cert.FfnOneReferenceIdeal.nD Cert.FfnOneReferenceIdeal.τ).loc Cert.FfnOneReferenceIdeal.main_arg0) = m ((c.tc : Thread Cert.FfnOneIdeal.nD Cert.FfnOneIdeal.τ).loc Cert.FfnOneIdeal.main_arg0)
      ∧ m' ((c.tc : Thread Cert.FfnOneReferenceIdeal.nD Cert.FfnOneReferenceIdeal.τ).loc Cert.FfnOneReferenceIdeal.main_arg1) = m ((c.tc : Thread Cert.FfnOneIdeal.nD Cert.FfnOneIdeal.τ).loc Cert.FfnOneIdeal.main_arg1)
      ∧ m' ((c.tc : Thread Cert.FfnOneReferenceIdeal.nD Cert.FfnOneReferenceIdeal.τ).loc Cert.FfnOneReferenceIdeal.main_arg2) = m ((c.tc : Thread Cert.FfnOneIdeal.nD Cert.FfnOneIdeal.τ).loc Cert.FfnOneIdeal.main_arg2)
      ∧ m' ((c.tc : Thread Cert.FfnOneReferenceIdeal.nD Cert.FfnOneReferenceIdeal.τ).loc Cert.FfnOneReferenceIdeal.main_arg3) = m ((c.tc : Thread Cert.FfnOneIdeal.nD Cert.FfnOneIdeal.τ).loc Cert.FfnOneIdeal.main_arg3)
      ∧ m' ((c.tc : Thread Cert.FfnOneReferenceIdeal.nD Cert.FfnOneReferenceIdeal.τ).loc Cert.FfnOneReferenceIdeal.main_arg4) = m ((c.tc : Thread Cert.FfnOneIdeal.nD Cert.FfnOneIdeal.τ).loc Cert.FfnOneIdeal.main_arg4)
      ∧ m' ((c.tc : Thread Cert.FfnOneReferenceIdeal.nD Cert.FfnOneReferenceIdeal.τ).loc Cert.FfnOneReferenceIdeal.main_arg5) = m ((c.tc : Thread Cert.FfnOneIdeal.nD Cert.FfnOneIdeal.τ).loc Cert.FfnOneIdeal.main_arg5)) →
    ∃ (v0 : (c : Dev Cert.FfnOneIdeal.nD) → Buf (Elt Ideal) ((c.tc : Thread Cert.FfnOneIdeal.nD Cert.FfnOneIdeal.τ).loc Cert.FfnOneIdeal.main_v11_0)) (v1 : (c : Dev Cert.FfnOneIdeal.nD) → Buf (Elt Ideal) ((c.tc : Thread Cert.FfnOneIdeal.nD Cert.FfnOneIdeal.τ).loc Cert.FfnOneIdeal.main_v11_1)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v11_0) = v0 c
          ∧ r.2.mem ((c.tc : Thread Cert.FfnOneIdeal.nD Cert.FfnOneIdeal.τ).loc Cert.FfnOneIdeal.main_v11_1) = v1 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
          ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ θ_run (Cert.FfnOneReferenceIdeal.defs (F := Ideal)) (onTc (τ := Cert.FfnOneReferenceIdeal.τ) (Cert.FfnOneReferenceIdeal.main (F := Ideal))) ⟨m', fun _ => 0, g'⟩ (fun r => ∀ c : Dev Cert.FfnOneReferenceIdeal.nD,
          r.2.mem ((c.tc : Thread Cert.FfnOneReferenceIdeal.nD Cert.FfnOneReferenceIdeal.τ).loc Cert.FfnOneReferenceIdeal.main_v25) = v0 c
          ∧ r.2.mem ((c.tc : Thread Cert.FfnOneReferenceIdeal.nD Cert.FfnOneReferenceIdeal.τ).loc Cert.FfnOneReferenceIdeal.main_v41) = v1 c
          ∧ r.2.mem ((c.tc : Thread Cert.FfnOneReferenceIdeal.nD Cert.FfnOneReferenceIdeal.τ).loc Cert.FfnOneReferenceIdeal.main_arg0) = m' ((c.tc : Thread Cert.FfnOneReferenceIdeal.nD Cert.FfnOneReferenceIdeal.τ).loc Cert.FfnOneReferenceIdeal.main_arg0)
          ∧ r.2.mem ((c.tc : Thread Cert.FfnOneReferenceIdeal.nD Cert.FfnOneReferenceIdeal.τ).loc Cert.FfnOneReferenceIdeal.main_arg1) = m' ((c.tc : Thread Cert.FfnOneReferenceIdeal.nD Cert.FfnOneReferenceIdeal.τ).loc Cert.FfnOneReferenceIdeal.main_arg1)
          ∧ r.2.mem ((c.tc : Thread Cert.FfnOneReferenceIdeal.nD Cert.FfnOneReferenceIdeal.τ).loc Cert.FfnOneReferenceIdeal.main_arg2) = m' ((c.tc : Thread Cert.FfnOneReferenceIdeal.nD Cert.FfnOneReferenceIdeal.τ).loc Cert.FfnOneReferenceIdeal.main_arg2)
          ∧ r.2.mem ((c.tc : Thread Cert.FfnOneReferenceIdeal.nD Cert.FfnOneReferenceIdeal.τ).loc Cert.FfnOneReferenceIdeal.main_arg3) = m' ((c.tc : Thread Cert.FfnOneReferenceIdeal.nD Cert.FfnOneReferenceIdeal.τ).loc Cert.FfnOneReferenceIdeal.main_arg3)
          ∧ r.2.mem ((c.tc : Thread Cert.FfnOneReferenceIdeal.nD Cert.FfnOneReferenceIdeal.τ).loc Cert.FfnOneReferenceIdeal.main_arg4) = m' ((c.tc : Thread Cert.FfnOneReferenceIdeal.nD Cert.FfnOneReferenceIdeal.τ).loc Cert.FfnOneReferenceIdeal.main_arg4)
          ∧ r.2.mem ((c.tc : Thread Cert.FfnOneReferenceIdeal.nD Cert.FfnOneReferenceIdeal.τ).loc Cert.FfnOneReferenceIdeal.main_arg5) = m' ((c.tc : Thread Cert.FfnOneReferenceIdeal.nD Cert.FfnOneReferenceIdeal.τ).loc Cert.FfnOneReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Rv_RvIdeal : Prop :=
  True

def algebraic_RvIdeal_RvReferenceIdeal [hRvIdeal : Cert.RvIdeal.Facts] [hRvReferenceIdeal : Cert.RvReferenceIdeal.Facts] : Prop :=
  ∀ (m : (ℓ : Loc Cert.RvIdeal.nD Cert.RvIdeal.τ Cert.RvIdeal.sig) → Buf (Elt Ideal) ℓ) (g : Dev Cert.RvIdeal.nD → PrngReg)
    (m' : (ℓ : Loc Cert.RvReferenceIdeal.nD Cert.RvReferenceIdeal.τ Cert.RvReferenceIdeal.sig) → Buf (Elt Ideal) ℓ) (g' : Dev Cert.RvReferenceIdeal.nD → PrngReg), Pre_RvIdeal m →
    (∀ c : Dev Cert.RvIdeal.nD,
      m' ((c.tc : Thread Cert.RvReferenceIdeal.nD Cert.RvReferenceIdeal.τ).loc Cert.RvReferenceIdeal.main_arg0) = m ((c.tc : Thread Cert.RvIdeal.nD Cert.RvIdeal.τ).loc Cert.RvIdeal.main_arg0)
      ∧ m' ((c.tc : Thread Cert.RvReferenceIdeal.nD Cert.RvReferenceIdeal.τ).loc Cert.RvReferenceIdeal.main_arg1) = m ((c.tc : Thread Cert.RvIdeal.nD Cert.RvIdeal.τ).loc Cert.RvIdeal.main_arg1)) →
    ∃ (v0 : (c : Dev Cert.RvIdeal.nD) → Buf (Elt Ideal) ((c.tc : Thread Cert.RvIdeal.nD Cert.RvIdeal.τ).loc Cert.RvIdeal.main_v2)),
      θ_run (Cert.RvIdeal.defs (F := Ideal)) (onTc (τ := Cert.RvIdeal.τ) (Cert.RvIdeal.main (F := Ideal))) ⟨m, fun _ => 0, g⟩ (fun r => ∀ c : Dev Cert.RvIdeal.nD,
          r.2.mem ((c.tc : Thread Cert.RvIdeal.nD Cert.RvIdeal.τ).loc Cert.RvIdeal.main_v2) = v0 c
          ∧ r.2.mem ((c.tc : Thread Cert.RvIdeal.nD Cert.RvIdeal.τ).loc Cert.RvIdeal.main_arg0) = m ((c.tc : Thread Cert.RvIdeal.nD Cert.RvIdeal.τ).loc Cert.RvIdeal.main_arg0)
          ∧ r.2.mem ((c.tc : Thread Cert.RvIdeal.nD Cert.RvIdeal.τ).loc Cert.RvIdeal.main_arg1) = m ((c.tc : Thread Cert.RvIdeal.nD Cert.RvIdeal.τ).loc Cert.RvIdeal.main_arg1))
      ∧ θ_run (Cert.RvReferenceIdeal.defs (F := Ideal)) (onTc (τ := Cert.RvReferenceIdeal.τ) (Cert.RvReferenceIdeal.main (F := Ideal))) ⟨m', fun _ => 0, g'⟩ (fun r => ∀ c : Dev Cert.RvReferenceIdeal.nD,
          r.2.mem ((c.tc : Thread Cert.RvReferenceIdeal.nD Cert.RvReferenceIdeal.τ).loc Cert.RvReferenceIdeal.main_v4) = v0 c
          ∧ r.2.mem ((c.tc : Thread Cert.RvReferenceIdeal.nD Cert.RvReferenceIdeal.τ).loc Cert.RvReferenceIdeal.main_arg0) = m' ((c.tc : Thread Cert.RvReferenceIdeal.nD Cert.RvReferenceIdeal.τ).loc Cert.RvReferenceIdeal.main_arg0)
          ∧ r.2.mem ((c.tc : Thread Cert.RvReferenceIdeal.nD Cert.RvReferenceIdeal.τ).loc Cert.RvReferenceIdeal.main_arg1) = m' ((c.tc : Thread Cert.RvReferenceIdeal.nD Cert.RvReferenceIdeal.τ).loc Cert.RvReferenceIdeal.main_arg1))

def preserves_Rg_RgIdeal : Prop :=
  True

def algebraic_RgIdeal_RgReferenceIdeal [hRgIdeal : Cert.RgIdeal.Facts] [hRgReferenceIdeal : Cert.RgReferenceIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgReferenceIdeal.nD Cert.RgReferenceIdeal.τ Cert.RgReferenceIdeal.sig) → Buf (Elt Ideal) ℓ) (g' : Dev Cert.RgReferenceIdeal.nD → PrngReg), Pre_RgIdeal m →
    (∀ c : Dev Cert.RgIdeal.nD,
      m' ((c.tc : Thread Cert.RgReferenceIdeal.nD Cert.RgReferenceIdeal.τ).loc Cert.RgReferenceIdeal.main_arg0) = m ((c.tc : Thread Cert.RgIdeal.nD Cert.RgIdeal.τ).loc Cert.RgIdeal.main_arg0)
      ∧ m' ((c.tc : Thread Cert.RgReferenceIdeal.nD Cert.RgReferenceIdeal.τ).loc Cert.RgReferenceIdeal.main_arg1) = m ((c.tc : Thread Cert.RgIdeal.nD Cert.RgIdeal.τ).loc Cert.RgIdeal.main_arg1)) →
    ∃ (v0 : (c : Dev Cert.RgIdeal.nD) → Buf (Elt Ideal) ((c.tc : Thread Cert.RgIdeal.nD Cert.RgIdeal.τ).loc Cert.RgIdeal.main_v2)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v2) = v0 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1))
      ∧ θ_run (Cert.RgReferenceIdeal.defs (F := Ideal)) (onTc (τ := Cert.RgReferenceIdeal.τ) (Cert.RgReferenceIdeal.main (F := Ideal))) ⟨m', fun _ => 0, g'⟩ (fun r => ∀ c : Dev Cert.RgReferenceIdeal.nD,
          r.2.mem ((c.tc : Thread Cert.RgReferenceIdeal.nD Cert.RgReferenceIdeal.τ).loc Cert.RgReferenceIdeal.main_v5) = v0 c
          ∧ r.2.mem ((c.tc : Thread Cert.RgReferenceIdeal.nD Cert.RgReferenceIdeal.τ).loc Cert.RgReferenceIdeal.main_arg0) = m' ((c.tc : Thread Cert.RgReferenceIdeal.nD Cert.RgReferenceIdeal.τ).loc Cert.RgReferenceIdeal.main_arg0)
          ∧ r.2.mem ((c.tc : Thread Cert.RgReferenceIdeal.nD Cert.RgReferenceIdeal.τ).loc Cert.RgReferenceIdeal.main_arg1) = m' ((c.tc : Thread Cert.RgReferenceIdeal.nD Cert.RgReferenceIdeal.τ).loc Cert.RgReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v4) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Av_AvIdeal : Prop :=
  True

def algebraic_AvIdeal_AvReferenceIdeal [hAvIdeal : Cert.AvIdeal.Facts] [hAvReferenceIdeal : Cert.AvReferenceIdeal.Facts] : Prop :=
  ∀ (m : (ℓ : Loc Cert.AvIdeal.nD Cert.AvIdeal.τ Cert.AvIdeal.sig) → Buf (Elt Ideal) ℓ) (g : Dev Cert.AvIdeal.nD → PrngReg)
    (m' : (ℓ : Loc Cert.AvReferenceIdeal.nD Cert.AvReferenceIdeal.τ Cert.AvReferenceIdeal.sig) → Buf (Elt Ideal) ℓ) (g' : Dev Cert.AvReferenceIdeal.nD → PrngReg), Pre_AvIdeal m →
    (∀ c : Dev Cert.AvIdeal.nD,
      m' ((c.tc : Thread Cert.AvReferenceIdeal.nD Cert.AvReferenceIdeal.τ).loc Cert.AvReferenceIdeal.main_arg0) = m ((c.tc : Thread Cert.AvIdeal.nD Cert.AvIdeal.τ).loc Cert.AvIdeal.main_arg0)
      ∧ m' ((c.tc : Thread Cert.AvReferenceIdeal.nD Cert.AvReferenceIdeal.τ).loc Cert.AvReferenceIdeal.main_arg1) = m ((c.tc : Thread Cert.AvIdeal.nD Cert.AvIdeal.τ).loc Cert.AvIdeal.main_arg1)) →
    ∃ (v0 : (c : Dev Cert.AvIdeal.nD) → Buf (Elt Ideal) ((c.tc : Thread Cert.AvIdeal.nD Cert.AvIdeal.τ).loc Cert.AvIdeal.main_v2)),
      θ_run (Cert.AvIdeal.defs (F := Ideal)) (onTc (τ := Cert.AvIdeal.τ) (Cert.AvIdeal.main (F := Ideal))) ⟨m, fun _ => 0, g⟩ (fun r => ∀ c : Dev Cert.AvIdeal.nD,
          r.2.mem ((c.tc : Thread Cert.AvIdeal.nD Cert.AvIdeal.τ).loc Cert.AvIdeal.main_v2) = v0 c
          ∧ r.2.mem ((c.tc : Thread Cert.AvIdeal.nD Cert.AvIdeal.τ).loc Cert.AvIdeal.main_arg0) = m ((c.tc : Thread Cert.AvIdeal.nD Cert.AvIdeal.τ).loc Cert.AvIdeal.main_arg0)
          ∧ r.2.mem ((c.tc : Thread Cert.AvIdeal.nD Cert.AvIdeal.τ).loc Cert.AvIdeal.main_arg1) = m ((c.tc : Thread Cert.AvIdeal.nD Cert.AvIdeal.τ).loc Cert.AvIdeal.main_arg1))
      ∧ θ_run (Cert.AvReferenceIdeal.defs (F := Ideal)) (onTc (τ := Cert.AvReferenceIdeal.τ) (Cert.AvReferenceIdeal.main (F := Ideal))) ⟨m', fun _ => 0, g'⟩ (fun r => ∀ c : Dev Cert.AvReferenceIdeal.nD,
          r.2.mem ((c.tc : Thread Cert.AvReferenceIdeal.nD Cert.AvReferenceIdeal.τ).loc Cert.AvReferenceIdeal.main_v4) = v0 c
          ∧ r.2.mem ((c.tc : Thread Cert.AvReferenceIdeal.nD Cert.AvReferenceIdeal.τ).loc Cert.AvReferenceIdeal.main_arg0) = m' ((c.tc : Thread Cert.AvReferenceIdeal.nD Cert.AvReferenceIdeal.τ).loc Cert.AvReferenceIdeal.main_arg0)
          ∧ r.2.mem ((c.tc : Thread Cert.AvReferenceIdeal.nD Cert.AvReferenceIdeal.τ).loc Cert.AvReferenceIdeal.main_arg1) = m' ((c.tc : Thread Cert.AvReferenceIdeal.nD Cert.AvReferenceIdeal.τ).loc Cert.AvReferenceIdeal.main_arg1))

def preserves_Rqk_RqkIdeal : Prop :=
  True

def algebraic_RqkIdeal_RqkReferenceIdeal [hRqkIdeal : Cert.RqkIdeal.Facts] [hRqkReferenceIdeal : Cert.RqkReferenceIdeal.Facts] : Prop :=
  ∀ (m : (ℓ : Loc Cert.RqkIdeal.nD Cert.RqkIdeal.τ Cert.RqkIdeal.sig) → Buf (Elt Ideal) ℓ) (g : Dev Cert.RqkIdeal.nD → PrngReg)
    (m' : (ℓ : Loc Cert.RqkReferenceIdeal.nD Cert.RqkReferenceIdeal.τ Cert.RqkReferenceIdeal.sig) → Buf (Elt Ideal) ℓ) (g' : Dev Cert.RqkReferenceIdeal.nD → PrngReg), Pre_RqkIdeal m →
    (∀ c : Dev Cert.RqkIdeal.nD,
      m' ((c.tc : Thread Cert.RqkReferenceIdeal.nD Cert.RqkReferenceIdeal.τ).loc Cert.RqkReferenceIdeal.main_arg0) = m ((c.tc : Thread Cert.RqkIdeal.nD Cert.RqkIdeal.τ).loc Cert.RqkIdeal.main_arg0)
      ∧ m' ((c.tc : Thread Cert.RqkReferenceIdeal.nD Cert.RqkReferenceIdeal.τ).loc Cert.RqkReferenceIdeal.main_arg1) = m ((c.tc : Thread Cert.RqkIdeal.nD Cert.RqkIdeal.τ).loc Cert.RqkIdeal.main_arg1)) →
    ∃ (v0 : (c : Dev Cert.RqkIdeal.nD) → Buf (Elt Ideal) ((c.tc : Thread Cert.RqkIdeal.nD Cert.RqkIdeal.τ).loc Cert.RqkIdeal.main_v32)),
      θ_run (Cert.RqkIdeal.defs (F := Ideal)) (onTc (τ := Cert.RqkIdeal.τ) (Cert.RqkIdeal.main (F := Ideal))) ⟨m, fun _ => 0, g⟩ (fun r => ∀ c : Dev Cert.RqkIdeal.nD,
          r.2.mem ((c.tc : Thread Cert.RqkIdeal.nD Cert.RqkIdeal.τ).loc Cert.RqkIdeal.main_v32) = v0 c
          ∧ r.2.mem ((c.tc : Thread Cert.RqkIdeal.nD Cert.RqkIdeal.τ).loc Cert.RqkIdeal.main_arg0) = m ((c.tc : Thread Cert.RqkIdeal.nD Cert.RqkIdeal.τ).loc Cert.RqkIdeal.main_arg0)
          ∧ r.2.mem ((c.tc : Thread Cert.RqkIdeal.nD Cert.RqkIdeal.τ).loc Cert.RqkIdeal.main_arg1) = m ((c.tc : Thread Cert.RqkIdeal.nD Cert.RqkIdeal.τ).loc Cert.RqkIdeal.main_arg1))
      ∧ θ_run (Cert.RqkReferenceIdeal.defs (F := Ideal)) (onTc (τ := Cert.RqkReferenceIdeal.τ) (Cert.RqkReferenceIdeal.main (F := Ideal))) ⟨m', fun _ => 0, g'⟩ (fun r => ∀ c : Dev Cert.RqkReferenceIdeal.nD,
          r.2.mem ((c.tc : Thread Cert.RqkReferenceIdeal.nD Cert.RqkReferenceIdeal.τ).loc Cert.RqkReferenceIdeal.main_v92) = v0 c
          ∧ r.2.mem ((c.tc : Thread Cert.RqkReferenceIdeal.nD Cert.RqkReferenceIdeal.τ).loc Cert.RqkReferenceIdeal.main_arg0) = m' ((c.tc : Thread Cert.RqkReferenceIdeal.nD Cert.RqkReferenceIdeal.τ).loc Cert.RqkReferenceIdeal.main_arg0)
          ∧ r.2.mem ((c.tc : Thread Cert.RqkReferenceIdeal.nD Cert.RqkReferenceIdeal.τ).loc Cert.RqkReferenceIdeal.main_arg1) = m' ((c.tc : Thread Cert.RqkReferenceIdeal.nD Cert.RqkReferenceIdeal.τ).loc Cert.RqkReferenceIdeal.main_arg1))

def preserves_Aqk_AqkIdeal : Prop :=
  True

def algebraic_AqkIdeal_AqkReferenceIdeal [hAqkIdeal : Cert.AqkIdeal.Facts] [hAqkReferenceIdeal : Cert.AqkReferenceIdeal.Facts] : Prop :=
  ∀ (m : (ℓ : Loc Cert.AqkIdeal.nD Cert.AqkIdeal.τ Cert.AqkIdeal.sig) → Buf (Elt Ideal) ℓ) (g : Dev Cert.AqkIdeal.nD → PrngReg)
    (m' : (ℓ : Loc Cert.AqkReferenceIdeal.nD Cert.AqkReferenceIdeal.τ Cert.AqkReferenceIdeal.sig) → Buf (Elt Ideal) ℓ) (g' : Dev Cert.AqkReferenceIdeal.nD → PrngReg), Pre_AqkIdeal m →
    (∀ c : Dev Cert.AqkIdeal.nD,
      m' ((c.tc : Thread Cert.AqkReferenceIdeal.nD Cert.AqkReferenceIdeal.τ).loc Cert.AqkReferenceIdeal.main_arg0) = m ((c.tc : Thread Cert.AqkIdeal.nD Cert.AqkIdeal.τ).loc Cert.AqkIdeal.main_arg0)
      ∧ m' ((c.tc : Thread Cert.AqkReferenceIdeal.nD Cert.AqkReferenceIdeal.τ).loc Cert.AqkReferenceIdeal.main_arg1) = m ((c.tc : Thread Cert.AqkIdeal.nD Cert.AqkIdeal.τ).loc Cert.AqkIdeal.main_arg1)) →
    ∃ (v0 : (c : Dev Cert.AqkIdeal.nD) → Buf (Elt Ideal) ((c.tc : Thread Cert.AqkIdeal.nD Cert.AqkIdeal.τ).loc Cert.AqkIdeal.main_v32)),
      θ_run (Cert.AqkIdeal.defs (F := Ideal)) (onTc (τ := Cert.AqkIdeal.τ) (Cert.AqkIdeal.main (F := Ideal))) ⟨m, fun _ => 0, g⟩ (fun r => ∀ c : Dev Cert.AqkIdeal.nD,
          r.2.mem ((c.tc : Thread Cert.AqkIdeal.nD Cert.AqkIdeal.τ).loc Cert.AqkIdeal.main_v32) = v0 c
          ∧ r.2.mem ((c.tc : Thread Cert.AqkIdeal.nD Cert.AqkIdeal.τ).loc Cert.AqkIdeal.main_arg0) = m ((c.tc : Thread Cert.AqkIdeal.nD Cert.AqkIdeal.τ).loc Cert.AqkIdeal.main_arg0)
          ∧ r.2.mem ((c.tc : Thread Cert.AqkIdeal.nD Cert.AqkIdeal.τ).loc Cert.AqkIdeal.main_arg1) = m ((c.tc : Thread Cert.AqkIdeal.nD Cert.AqkIdeal.τ).loc Cert.AqkIdeal.main_arg1))
      ∧ θ_run (Cert.AqkReferenceIdeal.defs (F := Ideal)) (onTc (τ := Cert.AqkReferenceIdeal.τ) (Cert.AqkReferenceIdeal.main (F := Ideal))) ⟨m', fun _ => 0, g'⟩ (fun r => ∀ c : Dev Cert.AqkReferenceIdeal.nD,
          r.2.mem ((c.tc : Thread Cert.AqkReferenceIdeal.nD Cert.AqkReferenceIdeal.τ).loc Cert.AqkReferenceIdeal.main_v92) = v0 c
          ∧ r.2.mem ((c.tc : Thread Cert.AqkReferenceIdeal.nD Cert.AqkReferenceIdeal.τ).loc Cert.AqkReferenceIdeal.main_arg0) = m' ((c.tc : Thread Cert.AqkReferenceIdeal.nD Cert.AqkReferenceIdeal.τ).loc Cert.AqkReferenceIdeal.main_arg0)
          ∧ r.2.mem ((c.tc : Thread Cert.AqkReferenceIdeal.nD Cert.AqkReferenceIdeal.τ).loc Cert.AqkReferenceIdeal.main_arg1) = m' ((c.tc : Thread Cert.AqkReferenceIdeal.nD Cert.AqkReferenceIdeal.τ).loc Cert.AqkReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnOne : Cert.FfnOne.Facts) (hFfnOneIdeal : Cert.FfnOneIdeal.Facts) (hFfnOneReferenceIdeal : Cert.FfnOneReferenceIdeal.Facts) (hMerge : Cert.Merge.Facts) (hMergeIdeal : Cert.MergeIdeal.Facts) (hMergeReferenceIdeal : Cert.MergeReferenceIdeal.Facts) (hRv : Cert.Rv.Facts) (hRvIdeal : Cert.RvIdeal.Facts) (hRvReferenceIdeal : Cert.RvReferenceIdeal.Facts) (hRg : Cert.Rg.Facts) (hRgIdeal : Cert.RgIdeal.Facts) (hRgReferenceIdeal : Cert.RgReferenceIdeal.Facts) (hGates : Cert.Gates.Facts) (hGatesIdeal : Cert.GatesIdeal.Facts) (hGatesReferenceIdeal : Cert.GatesReferenceIdeal.Facts) (hAv : Cert.Av.Facts) (hAvIdeal : Cert.AvIdeal.Facts) (hAvReferenceIdeal : Cert.AvReferenceIdeal.Facts) (hRqk : Cert.Rqk.Facts) (hRqkIdeal : Cert.RqkIdeal.Facts) (hRqkReferenceIdeal : Cert.RqkReferenceIdeal.Facts) (hAqk : Cert.Aqk.Facts) (hAqkIdeal : Cert.AqkIdeal.Facts) (hAqkReferenceIdeal : Cert.AqkReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnOne (hFfnOne := hFfnOne)
    ∧ quiescent_FfnOneIdeal (hFfnOneIdeal := hFfnOneIdeal)
    ∧ quiescent_FfnOneReferenceIdeal (hFfnOneReferenceIdeal := hFfnOneReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Rv (hRv := hRv)
    ∧ quiescent_RvIdeal (hRvIdeal := hRvIdeal)
    ∧ quiescent_RvReferenceIdeal (hRvReferenceIdeal := hRvReferenceIdeal)
    ∧ quiescent_Rg (hRg := hRg)
    ∧ quiescent_RgIdeal (hRgIdeal := hRgIdeal)
    ∧ quiescent_RgReferenceIdeal (hRgReferenceIdeal := hRgReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Av (hAv := hAv)
    ∧ quiescent_AvIdeal (hAvIdeal := hAvIdeal)
    ∧ quiescent_AvReferenceIdeal (hAvReferenceIdeal := hAvReferenceIdeal)
    ∧ quiescent_Rqk (hRqk := hRqk)
    ∧ quiescent_RqkIdeal (hRqkIdeal := hRqkIdeal)
    ∧ quiescent_RqkReferenceIdeal (hRqkReferenceIdeal := hRqkReferenceIdeal)
    ∧ quiescent_Aqk (hAqk := hAqk)
    ∧ quiescent_AqkIdeal (hAqkIdeal := hAqkIdeal)
    ∧ quiescent_AqkReferenceIdeal (hAqkReferenceIdeal := hAqkReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnOne_FfnOneIdeal
    ∧ algebraic_FfnOneIdeal_FfnOneReferenceIdeal (hFfnOneIdeal := hFfnOneIdeal) (hFfnOneReferenceIdeal := hFfnOneReferenceIdeal)
    ∧ preserves_Merge_MergeIdeal
    ∧ algebraic_MergeIdeal_MergeReferenceIdeal (hMergeIdeal := hMergeIdeal) (hMergeReferenceIdeal := hMergeReferenceIdeal)
    ∧ preserves_Rv_RvIdeal
    ∧ algebraic_RvIdeal_RvReferenceIdeal (hRvIdeal := hRvIdeal) (hRvReferenceIdeal := hRvReferenceIdeal)
    ∧ preserves_Rg_RgIdeal
    ∧ algebraic_RgIdeal_RgReferenceIdeal (hRgIdeal := hRgIdeal) (hRgReferenceIdeal := hRgReferenceIdeal)
    ∧ preserves_Gates_GatesIdeal
    ∧ algebraic_GatesIdeal_GatesReferenceIdeal (hGatesIdeal := hGatesIdeal) (hGatesReferenceIdeal := hGatesReferenceIdeal)
    ∧ preserves_Av_AvIdeal
    ∧ algebraic_AvIdeal_AvReferenceIdeal (hAvIdeal := hAvIdeal) (hAvReferenceIdeal := hAvReferenceIdeal)
    ∧ preserves_Rqk_RqkIdeal
    ∧ algebraic_RqkIdeal_RqkReferenceIdeal (hRqkIdeal := hRqkIdeal) (hRqkReferenceIdeal := hRqkReferenceIdeal)
    ∧ preserves_Aqk_AqkIdeal
    ∧ algebraic_AqkIdeal_AqkReferenceIdeal (hAqkIdeal := hAqkIdeal) (hAqkReferenceIdeal := hAqkReferenceIdeal)
-- ==== Pre_finite.lean ====
abbrev S8x2048x2048 : Shape := ⟨3, ![8, 2048, 2048]⟩
abbrev S16x1024 : Shape := ⟨2, ![16, 1024]⟩
abbrev S16x2048 : Shape := ⟨2, ![16, 2048]⟩
abbrev S_ : Shape := ⟨0, ![]⟩

class Facts : Prop where
  bitsLt_bf16_f32 : FTy.bits .bf16 < FTy.bits .f32
  bcast_S_S8x2048x2048 : S_.BroadcastsInDim S8x2048x2048 (![] : Fin 0 → Fin S8x2048x2048.rank)
  bcast_S_S16x1024 : S_.BroadcastsInDim S16x1024 (![] : Fin 0 → Fin S16x1024.rank)
  bcast_S_S16x2048 : S_.BroadcastsInDim S16x2048 (![] : Fin 0 → Fin S16x2048.rank)

variable [Facts]

def fn {F : FTy → Type} [FloatOps F] (main_arg0 : FVec F S8x2048x2048 .bf16) (main_arg1 : FVec F S8x2048x2048 .bf16) (main_arg2 : FVec F S8x2048x2048 .bf16) (main_arg3 : FVec F S16x1024 .bf16) (main_arg4 : FVec F S16x2048 .bf16) : IVec S8x2048x2048 1 × IVec S8x2048x2048 1 × IVec S16x1024 1 × IVec S16x2048 1 :=
  let main_v0 : FVec F S8x2048x2048 .f32 := (extf .f32 · bitsLt_bf16_f32) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_v4 : FVec F S8x2048x2048 .f32 := (extf .f32 · bitsLt_bf16_f32) main_arg1
  let main_v5 : FVec F S8x2048x2048 .f32 := Host.absf main_v4
  let main_cst_0 : FVec F S_ .f32 := constant S_ .f32 0x7F800000#32
  let main_v6 : FVec F S8x2048x2048 .f32 := broadcastInDim S8x2048x2048 ![] bcast_S_S8x2048x2048 main_cst_0
  let main_v7 : IVec S8x2048x2048 1 := cmpf .olt main_v5 main_v6
  let main_v8 : FVec F S16x1024 .f32 := (extf .f32 · bitsLt_bf16_f32) main_arg3
  let main_v9 : FVec F S16x1024 .f32 := Host.absf main_v8
  let main_cst_1 : FVec F S_ .f32 := constant S_ .f32 0x7F800000#32
  let main_v10 : FVec F S16x1024 .f32 := broadcastInDim S16x1024 ![] bcast_S_S16x1024 main_cst_1
  let main_v11 : IVec S16x1024 1 := cmpf .olt main_v9 main_v10
  let main_v12 : FVec F S16x2048 .f32 := (extf .f32 · bitsLt_bf16_f32) main_arg4
  let main_v13 : FVec F S16x2048 .f32 := Host.absf main_v12
  let main_cst_2 : FVec F S_ .f32 := constant S_ .f32 0x7F800000#32
  let main_v14 : FVec F S16x2048 .f32 := broadcastInDim S16x2048 ![] bcast_S_S16x2048 main_cst_2
  let main_v15 : IVec S16x2048 1 := cmpf .olt main_v13 main_v14
  (main_v3, main_v7, main_v11, main_v15)
-- ==== Kernel.lean ====
abbrev S8x2048x2048 : Shape := ⟨3, ![8, 2048, 2048]⟩
abbrev S16x1024 : Shape := ⟨2, ![16, 1024]⟩
abbrev S16x2048 : Shape := ⟨2, ![16, 2048]⟩
abbrev S4 : Shape := ⟨1, ![4]⟩
abbrev S_ : Shape := ⟨0, ![]⟩
abbrev S1x512x1024 : Shape := ⟨3, ![1, 512, 1024]⟩
abbrev S1x512x2048 : Shape := ⟨3, ![1, 512, 2048]⟩
abbrev S4x256x512 : Shape := ⟨3, ![4, 256, 512]⟩
abbrev S4x512x512 : Shape := ⟨3, ![4, 512, 512]⟩
abbrev S16x1 : Shape := ⟨2, ![16, 1]⟩
abbrev S512x512 : Shape := ⟨2, ![512, 512]⟩
abbrev S1 : Shape := ⟨1, ![1]⟩
abbrev S16x256 : Shape := ⟨2, ![16, 256]⟩
abbrev S256x16 : Shape := ⟨2, ![256, 16]⟩
abbrev S16x512 : Shape := ⟨2, ![16, 512]⟩
abbrev S256x512 : Shape := ⟨2, ![256, 512]⟩
abbrev S1x256x512 : Shape := ⟨3, ![1, 256, 512]⟩
abbrev S1x512x512 : Shape := ⟨3, ![1, 512, 512]⟩
abbrev S512x1 : Shape := ⟨2, ![512, 1]⟩
abbrev S1x512x256 : Shape := ⟨3, ![1, 512, 256]⟩
abbrev S512x256 : Shape := ⟨2, ![512, 256]⟩
abbrev S512 : Shape := ⟨1, ![512]⟩

abbrev nBuf : Space → Nat
  | .hbm => 19
  | .vmem => 15
  | .smem => 2
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S8x2048x2048, .bf16⟩
  | .hbm, ⟨3, _⟩ => ⟨S16x1024, .bf16⟩
  | .hbm, ⟨4, _⟩ => ⟨S16x2048, .bf16⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S8x2048x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S16x1024, .bf16⟩
  | .local _ .vmem, ⟨9, _⟩ => ⟨S16x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S4x256x512, .f32⟩
  | .local _ .vmem, ⟨13, _⟩ => ⟨S4x256x512, .f32⟩
  | .local _ .vmem, ⟨14, _⟩ => ⟨S4x512x512, .f32⟩
  | .local _ .smem, ⟨0, _⟩ => ⟨S4, .f32⟩
  | .local _ .smem, ⟨1, _⟩ => ⟨S4, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x2048 : Shape := ⟨3, ![8, 2048, 2048]⟩
abbrev S16x1024 : Shape := ⟨2, ![16, 1024]⟩
abbrev S16x2048 : Shape := ⟨2, ![16, 2048]⟩
abbrev S8x2048x1024 : Shape := ⟨3, ![8, 2048, 1024]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S8x2048x4x256 : Shape := ⟨4, ![8, 2048, 4, 256]⟩
abbrev S8x4x2048x256 : Shape := ⟨4, ![8, 4, 2048, 256]⟩
abbrev S8x2064x4x256 : Shape := ⟨4, ![8, 2064, 4, 256]⟩
abbrev S8x4x2064x256 : Shape := ⟨4, ![8, 4, 2064, 256]⟩
abbrev S8x2064x4x512 : Shape := ⟨4, ![8, 2064, 4, 512]⟩
abbrev S8x4x2064x512 : Shape := ⟨4, ![8, 4, 2064, 512]⟩
abbrev S4 : Shape := ⟨1, ![4]⟩
abbrev S_ : Shape := ⟨0, ![]⟩
abbrev S8x4x16x256 : Shape := ⟨4, ![8, 4, 16, 256]⟩
abbrev S8x4x16x512 : Shape := ⟨4, ![8, 4, 16, 512]⟩
abbrev S4x1 : Shape := ⟨2, ![4, 1]⟩
abbrev S16 : Shape := ⟨1, ![16]⟩
abbrev S1x16 : Shape := ⟨2, ![1, 16]⟩
abbrev S4x16 : Shape := ⟨2, ![4, 16]⟩
abbrev S4x16x1 : Shape := ⟨3, ![4, 16, 1]⟩
abbrev S1x4x16x1 : Shape := ⟨4, ![1, 4, 16, 1]⟩
abbrev S8x4x256x512 : Shape := ⟨4, ![8, 4, 256, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S4x128x1 : Shape := ⟨3, ![4, 128, 1]⟩
abbrev S8x4x16x128x256 : Shape := ⟨5, ![8, 4, 16, 128, 256]⟩
abbrev S16x8x4x128x256 : Shape := ⟨5, ![16, 8, 4, 128, 256]⟩
abbrev S8x4x2048x512 : Shape := ⟨4, ![8, 4, 2048, 512]⟩
abbrev S8x4x16x128x512 : Shape := ⟨5, ![8, 4, 16, 128, 512]⟩
abbrev S16x8x4x128x512 : Shape := ⟨5, ![16, 8, 4, 128, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S8x4x2048 : Shape := ⟨3, ![8, 4, 2048]⟩
abbrev S8x4x2048x1 : Shape := ⟨4, ![8, 4, 2048, 1]⟩
abbrev S8x2048x4x512 : Shape := ⟨4, ![8, 2048, 4, 512]⟩

abbrev nBuf : Space → Nat
  | .hbm => 186
  | .vmem => 0
  | .smem => 0
  | _ => 0

abbrev hbmTy0_0 (i : Nat) : BufTy := match i % 128 with
  | 0 => ⟨S8x2048x2048, .bf16⟩
  | 1 => ⟨S8x2048x2048, .bf16⟩
  | 2 => ⟨S8x2048x2048, .bf16⟩
  | 3 => ⟨S16x1024, .bf16⟩
  | 4 => ⟨S16x2048, .bf16⟩
  | 5 => ⟨S8x2048x1024, .bf16⟩
  | 6 => ⟨S8x2048x1024, .f32⟩
  | 7 => ⟨S8x2048x1024, .bf16⟩
  | 8 => ⟨S8x2048x1024, .f32⟩
  | 9 => ⟨S16x1024, .f32⟩
  | 10 => ⟨S1x16x1024, .f32⟩
  | 11 => ⟨S8x16x1024, .f32⟩
  | 12 => ⟨S8x2064x1024, .f32⟩
  | 13 => ⟨S16x2048, .f32⟩
  | 14 => ⟨S1x16x2048, .f32⟩
  | 15 => ⟨S8x16x2048, .f32⟩
  | 16 => ⟨S8x2048x2048, .f32⟩
  | 17 => ⟨S8x2064x2048, .f32⟩
  | 18 => ⟨S8x2048x4x256, .f32⟩
  | 19 => ⟨S8x4x2048x256, .f32⟩
  | 20 => ⟨S8x2064x4x256, .f32⟩
  | 21 => ⟨S8x4x2064x256, .f32⟩
  | 22 => ⟨S8x2064x4x512, .f32⟩
  | 23 => ⟨S8x4x2064x512, .f32⟩
  | 24 => ⟨S4, .f32⟩
  | 25 => ⟨S_, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S4, .f32⟩
  | 33 => ⟨S8x4x16x256, .f32⟩
  | 34 => ⟨S8x4x16x512, .f32⟩
  | 35 => ⟨S4x1, .f32⟩
  | 36 => ⟨S16, .f32⟩
  | 37 => ⟨S_, .f32⟩
  | 38 => ⟨S16, .f32⟩
  | 39 => ⟨S16, .f32⟩
  | 40 => ⟨S1x16, .f32⟩
  | 41 => ⟨S4x16, .f32⟩
  | 42 => ⟨S4x16, .f32⟩
  | 43 => ⟨S4x16, .f32⟩
  | 44 => ⟨S4x16, .f32⟩
  | 45 => ⟨S4x16x1, .f32⟩
  | 46 => ⟨S1x4x16x1, .f32⟩
  | 47 => ⟨S8x4x16x256, .f32⟩
  | 48 => ⟨S8x4x16x256, .f32⟩
  | 49 => ⟨S8x4x256x512, .f32⟩
  | 50 => ⟨S128, .f32⟩
  | 51 => ⟨S128x1, .f32⟩
  | 52 => ⟨S1x128, .f32⟩
  | 53 => ⟨S128x128, .f32⟩
  | 54 => ⟨S128x128, .f32⟩
  | 55 => ⟨S128x128, .f32⟩
  | 56 => ⟨S_, .f32⟩
  | 57 => ⟨S128x128, .f32⟩
  | 58 => ⟨S128x128, .i1⟩
  | 59 => ⟨S4x1x1, .f32⟩
  | 60 => ⟨S_, .f32⟩
  | 61 => ⟨S128x128, .f32⟩
  | 62 => ⟨S128x128, .f32⟩
  | 63 => ⟨S1x128x128, .f32⟩
  | 64 => ⟨S4x128x128, .f32⟩
  | 65 => ⟨S4x128x128, .f32⟩
  | 66 => ⟨S4x128x128, .f32⟩
  | 67 => ⟨S4x128x128, .f32⟩
  | 68 => ⟨S_, .f32⟩
  | 69 => ⟨S_, .f32⟩
  | 70 => ⟨S4x128x128, .i1⟩
  | 71 => ⟨S4x128x128, .f32⟩
  | 72 => ⟨S4x128x128, .f32⟩
  | 73 => ⟨S128, .f32⟩
  | 74 => ⟨S4x1, .f32⟩
  | 75 => ⟨S_, .f32⟩
  | 76 => ⟨S128, .f32⟩
  | 77 => ⟨S128, .f32⟩
  | 78 => ⟨S1x128, .f32⟩
  | 79 => ⟨S4x128, .f32⟩
  | 80 => ⟨S4x128, .f32⟩
  | 81 => ⟨S4x128, .f32⟩
  | 82 => ⟨S4x128, .f32⟩
  | 83 => ⟨S4x128x1, .f32⟩
  | 84 => ⟨S4x1, .f32⟩
  | 85 => ⟨S_, .f32⟩
  | 86 => ⟨S128, .f32⟩
  | 87 => ⟨S128, .f32⟩
  | 88 => ⟨S1x128, .f32⟩
  | 89 => ⟨S4x128, .f32⟩
  | 90 => ⟨S4x128, .f32⟩
  | 91 => ⟨S4x128, .f32⟩
  | 92 => ⟨S4x128, .f32⟩
  | 93 => ⟨S4x128x1, .f32⟩
  | 94 => ⟨S_, .f32⟩
  | 95 => ⟨S4, .f32⟩
  | 96 => ⟨S4, .f32⟩
  | 97 => ⟨S4, .f32⟩
  | 98 => ⟨S4x1x1, .f32⟩
  | 99 => ⟨S8x4x16x128x256, .f32⟩
  | 100 => ⟨S16x8x4x128x256, .f32⟩
  | 101 => ⟨S8x4x2048x256, .f32⟩
  | 102 => ⟨S8x4x16x128x256, .f32⟩
  | 103 => ⟨S16x8x4x128x256, .f32⟩
  | 104 => ⟨S8x4x2048x512, .f32⟩
  | 105 => ⟨S8x4x16x128x512, .f32⟩
  | 106 => ⟨S16x8x4x128x512, .f32⟩
  | 107 => ⟨S_, .f32⟩
  | 108 => ⟨S16x8x4x128x512, .f32⟩
  | 109 => ⟨S_, .i32⟩
  | 110 => ⟨S16x8x4x128x256, .f32⟩
  | 111 => ⟨S16x8x4x128x256, .f32⟩
  | 112 => ⟨S16x8x4x128x512, .f32⟩
  | 113 => ⟨S4x128x128, .f32⟩
  | 114 => ⟨S4x128x1, .f32⟩
  | 115 => ⟨S4x1x1, .f32⟩
  | 116 => ⟨S4x128x1, .f32⟩
  | 117 => ⟨S_, .i32⟩
  | 118 => ⟨S8x4x256x512, .f32⟩
  | 119 => ⟨S16x8x4x128x512, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x8x4x128x256, .f32⟩
  | 127 => ⟨S8x4x128x256, .f32⟩
  | _ => ⟨S8x2048x2048, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x8x4x128x256, .f32⟩
  | 5 => ⟨S8x4x128x256, .f32⟩
  | 6 => ⟨S_, .i32⟩
  | 7 => ⟨S_, .i32⟩
  | 8 => ⟨S_, .i32⟩
  | 9 => ⟨S_, .i32⟩
  | 10 => ⟨S1x8x4x128x512, .f32⟩
  | 11 => ⟨S8x4x128x512, .f32⟩
  | 12 => ⟨S8x4x128x128, .f32⟩
  | 13 => ⟨S1x4x128x128, .f32⟩
  | 14 => ⟨S8x4x128x128, .f32⟩
  | 15 => ⟨S8x4x128x128, .f32⟩
  | 16 => ⟨S8x4x128x512, .f32⟩
  | 17 => ⟨S8x4x128x512, .f32⟩
  | 18 => ⟨S1x4x128x1, .f32⟩
  | 19 => ⟨S8x4x128x512, .f32⟩
  | 20 => ⟨S8x4x128x512, .f32⟩
  | 21 => ⟨S1x4x1x1, .f32⟩
  | 22 => ⟨S8x4x256x512, .f32⟩
  | 23 => ⟨S8x4x256x512, .f32⟩
  | 24 => ⟨S1x4x128x1, .f32⟩
  | 25 => ⟨S8x4x128x256, .f32⟩
  | 26 => ⟨S8x4x128x256, .f32⟩
  | 27 => ⟨S8x4x256x512, .f32⟩
  | 28 => ⟨S8x4x256x512, .f32⟩
  | 29 => ⟨S8x4x128x512, .f32⟩
  | 30 => ⟨S1x8x4x128x512, .f32⟩
  | 31 => ⟨S_, .i32⟩
  | 32 => ⟨S_, .i32⟩
  | 33 => ⟨S_, .i32⟩
  | 34 => ⟨S_, .i32⟩
  | 35 => ⟨S16x8x4x128x512, .f32⟩
  | 36 => ⟨S_, .i32⟩
  | 37 => ⟨S_, .i32⟩
  | 38 => ⟨S8x4x16x128x512, .f32⟩
  | 39 => ⟨S8x4x2048x512, .f32⟩
  | 40 => ⟨S8x4x2048x512, .f32⟩
  | 41 => ⟨S_, .f32⟩
  | 42 => ⟨S8x4x2048, .f32⟩
  | 43 => ⟨S8x4x2048x1, .f32⟩
  | 44 => ⟨S_, .f32⟩
  | 45 => ⟨S8x4x2048x1, .f32⟩
  | 46 => ⟨S8x4x2048x1, .f32⟩
  | 47 => ⟨S_, .f32⟩
  | 48 => ⟨S8x4x2048x1, .f32⟩
  | 49 => ⟨S8x4x2048x1, .f32⟩
  | 50 => ⟨S8x4x2048x1, .f32⟩
  | 51 => ⟨S8x4x2048x512, .f32⟩
  | 52 => ⟨S8x4x2048x512, .f32⟩
  | 53 => ⟨S8x2048x4x512, .f32⟩
  | 54 => ⟨S8x2048x2048, .f32⟩
  | 55 => ⟨S8x2048x2048, .f32⟩
  | 56 => ⟨S8x2048x2048, .f32⟩
  | 57 => ⟨S8x2048x2048, .bf16⟩
  | _ => ⟨S8x2048x2048, .bf16⟩

abbrev hbmTy (i : Nat) : BufTy := match i / 128 with
  | 0 => hbmTy0_0 i
  | 1 => hbmTy0_1 i
  | _ => ⟨S8x2048x2048, .bf16⟩

abbrev bufTy : (tb : Table) → Fin (tcTables nBuf tb) → BufTy
  | .hbm, ⟨i, _⟩ => hbmTy i
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_8 : Ref sig .tc := ⟨.hbm, 107, rfl⟩
abbrev main_v90 : Ref sig .tc := ⟨.hbm, 108, rfl⟩
abbrev main_c : Ref sig .tc := ⟨.hbm, 109, rfl⟩
abbrev main_v91_0 : Ref sig .tc := ⟨.hbm, 110, rfl⟩
abbrev main_v91_1 : Ref sig .tc := ⟨.hbm, 111, rfl⟩
abbrev main_v91_2 : Ref sig .tc := ⟨.hbm, 112, rfl⟩
abbrev main_v91_3 : Ref sig .tc := ⟨.hbm, 113, rfl⟩
abbrev main_v91_4 : Ref sig .tc := ⟨.hbm, 114, rfl⟩
abbrev main_v91_5 : Ref sig .tc := ⟨.hbm, 115, rfl⟩
abbrev main_v91_6 : Ref sig .tc := ⟨.hbm, 116, rfl⟩
abbrev main_v91_7 : Ref sig .tc := ⟨.hbm, 117, rfl⟩
abbrev main_v91_8 : Ref sig .tc := ⟨.hbm, 118, rfl⟩
abbrev main_v91_9 : Ref sig .tc := ⟨.hbm, 119, rfl⟩
abbrev main_while0c_c_21 : Ref sig .tc := ⟨.hbm, 120, rfl⟩
abbrev main_while0c_v109 : Ref sig .tc := ⟨.hbm, 121, rfl⟩
abbrev main_while0b_call1_c : Ref sig .tc := ⟨.hbm, 122, rfl⟩
abbrev main_while0b_call1_c_0 : Ref sig .tc := ⟨.hbm, 123, rfl⟩
abbrev main_while0b_call1_c_1 : Ref sig .tc := ⟨.hbm, 124, rfl⟩
abbrev main_while0b_call1_c_2 : Ref sig .tc := ⟨.hbm, 125, rfl⟩
abbrev main_while0b_call1_v0 : Ref sig .tc := ⟨.hbm, 126, rfl⟩
abbrev main_while0b_v109 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_c_1 : Ref sig .tc := ⟨.hbm, 130, rfl⟩
abbrev main_while0b_call2_c_2 : Ref sig .tc := ⟨.hbm, 131, rfl⟩
abbrev main_while0b_call2_v0 : Ref sig .tc := ⟨.hbm, 132, rfl⟩
abbrev main_while0b_v110 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_call3_c_2 : Ref sig .tc := ⟨.hbm, 137, rfl⟩
abbrev main_while0b_call3_v0 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_v127 : Ref sig .tc := ⟨.hbm, 155, rfl⟩
abbrev main_while0b_v128 : Ref sig .tc := ⟨.hbm, 156, rfl⟩
abbrev main_while0b_v129 : Ref sig .tc := ⟨.hbm, 157, rfl⟩
abbrev main_while0b_call4_v0 : Ref sig .tc := ⟨.hbm, 158, rfl⟩
abbrev main_while0b_call4_c : Ref sig .tc := ⟨.hbm, 159, rfl⟩
abbrev main_while0b_call4_c_0 : Ref sig .tc := ⟨.hbm, 160, rfl⟩
abbrev main_while0b_call4_c_1 : Ref sig .tc := ⟨.hbm, 161, rfl⟩
abbrev main_while0b_call4_c_2 : Ref sig .tc := ⟨.hbm, 162, rfl⟩
abbrev main_while0b_v130 : Ref sig .tc := ⟨.hbm, 163, rfl⟩
abbrev main_while0b_c_21 : Ref sig .tc := ⟨.hbm, 164, rfl⟩
abbrev main_while0b_v131 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_9 : Ref sig .tc := ⟨.hbm, 169, rfl⟩
abbrev main_v95 : Ref sig .tc := ⟨.hbm, 170, rfl⟩
abbrev main_v96 : Ref sig .tc := ⟨.hbm, 171, rfl⟩
abbrev main_cst_10 : Ref sig .tc := ⟨.hbm, 172, rfl⟩
abbrev main_v97 : Ref sig .tc := ⟨.hbm, 173, rfl⟩
abbrev main_v98 : Ref sig .tc := ⟨.hbm, 174, rfl⟩
abbrev main_cst_11 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩

abbrev nD : Nat := 1
abbrev τ : Topo := Topo.v7x

variable {F : FTy → Type} [FloatOps F]

abbrev main_while0_count : Scf.Loop 32 := ⟨0#32, 16#32, 1#32⟩
-- ==== Ffn.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1024x1024 : Shape := ⟨2, ![1024, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S16384x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  c0_i32
def k0_mult2 : BitVec 32 :=
  let c1_i32 : BitVec 32 := 1#32
  let c1_i32_23 : BitVec 32 := 1#32
  let v48 : BitVec 32 := Scalar.subi c1_i32 c1_i32_23
  let c256_i32 : BitVec 32 := 256#32
  let v49 : BitVec 32 := Scalar.muli v48 c256_i32
  v49
def k0_off1 (c1_i32 : BitVec 32) : Fin 2 → Nat :=
  let c1_i32_23 : BitVec 32 := 1#32
  let v48 : BitVec 32 := Scalar.subi c1_i32 c1_i32_23
  let c256_i32 : BitVec 32 := 256#32
  let v49 : BitVec 32 := Scalar.muli v48 c256_i32
  let v50 : BitVec 32 := v49
  let v52 : Index := Scalar.indexCast v50
  let c0_26 : Index := 0#32
  ![v52.toNat, 0]
def k0_mult3 : BitVec 32 :=
  let c1_i32 : BitVec 32 := 1#32
  let c256_i32_30 : BitVec 32 := 256#32
  let v60 : BitVec 32 := Scalar.muli c1_i32 c256_i32_30
  v60
def k0_off2 (c1_i32 : BitVec 32) : Fin 2 → Nat :=
  let c0_33 : Index := 0#32
  let c256_i32_30 : BitVec 32 := 256#32
  let v60 : BitVec 32 := Scalar.muli c1_i32 c256_i32_30
  let v61 : BitVec 32 := v60
  let v63 : Index := Scalar.indexCast v61
  ![0, v63.toNat]
def k0_mult4 : BitVec 32 :=
  let c2_i32 : BitVec 32 := 2#32
  let c1_i32_44 : BitVec 32 := 1#32
  let v85 : BitVec 32 := Scalar.subi c2_i32 c1_i32_44
  let c256_i32_45 : BitVec 32 := 256#32
  let v86 : BitVec 32 := Scalar.muli v85 c256_i32_45
  v86
def k0_mult5 : BitVec 32 :=
  let c2_i32 : BitVec 32 := 2#32
  let c256_i32_52 : BitVec 32 := 256#32
  let v97 : BitVec 32 := Scalar.muli c2_i32 c256_i32_52
  v97
def k0_mult6 : BitVec 32 :=
  let c3_i32 : BitVec 32 := 3#32
  let c1_i32_66 : BitVec 32 := 1#32
  let v122 : BitVec 32 := Scalar.subi c3_i32 c1_i32_66
  let c256_i32_67 : BitVec 32 := 256#32
  let v123 : BitVec 32 := Scalar.muli v122 c256_i32_67
  v123
def k0_mult7 : BitVec 32 :=
  let c3_i32 : BitVec 32 := 3#32
  let c256_i32_74 : BitVec 32 := 256#32
  let v134 : BitVec 32 := Scalar.muli c3_i32 c256_i32_74
  v134
def k0_mult8 : BitVec 32 :=
  let c4_i32 : BitVec 32 := 4#32
  let c1_i32_88 : BitVec 32 := 1#32
  let v159 : BitVec 32 := Scalar.subi c4_i32 c1_i32_88
  let c256_i32_89 : BitVec 32 := 256#32
  let v160 : BitVec 32 := Scalar.muli v159 c256_i32_89
  v160
def k0_mult9 : BitVec 32 :=
  let c4_i32 : BitVec 32 := 4#32
  let c256_i32_96 : BitVec 32 := 256#32
  let v171 : BitVec 32 := Scalar.muli c4_i32 c256_i32_96
  v171
def k0_mult10 : BitVec 32 :=
  let c5_i32 : BitVec 32 := 5#32
  let c1_i32_110 : BitVec 32 := 1#32
  let v196 : BitVec 32 := Scalar.subi c5_i32 c1_i32_110
  let c256_i32_111 : BitVec 32 := 256#32
  let v197 : BitVec 32 := Scalar.muli v196 c256_i32_111
  v197
def k0_mult11 : BitVec 32 :=
  let c5_i32 : BitVec 32 := 5#32
  let c256_i32_118 : BitVec 32 := 256#32
  let v208 : BitVec 32 := Scalar.muli c5_i32 c256_i32_118
  v208
def k0_mult12 : BitVec 32 :=
  let c6_i32 : BitVec 32 := 6#32
  let c1_i32_132 : BitVec 32 := 1#32
  let v233 : BitVec 32 := Scalar.subi c6_i32 c1_i32_132
  let c256_i32_133 : BitVec 32 := 256#32
  let v234 : BitVec 32 := Scalar.muli v233 c256_i32_133
  v234
def k0_mult13 : BitVec 32 :=
  let c6_i32 : BitVec 32 := 6#32
  let c256_i32_140 : BitVec 32 := 256#32
  let v245 : BitVec 32 := Scalar.muli c6_i32 c256_i32_140
  v245
def k0_mult14 : BitVec 32 :=
  let c7_i32 : BitVec 32 := 7#32
  let c1_i32_154 : BitVec 32 := 1#32
  let v270 : BitVec 32 := Scalar.subi c7_i32 c1_i32_154
  let c256_i32_155 : BitVec 32 := 256#32
  let v271 : BitVec 32 := Scalar.muli v270 c256_i32_155
  v271
def k0_mult15 : BitVec 32 :=
  let c7_i32 : BitVec 32 := 7#32
  let c256_i32_162 : BitVec 32 := 256#32
  let v282 : BitVec 32 := Scalar.muli c7_i32 c256_i32_162
  v282
def k0_mult16 : BitVec 32 :=
  let c8_i32 : BitVec 32 := 8#32
  let c1_i32_176 : BitVec 32 := 1#32
  let v307 : BitVec 32 := Scalar.subi c8_i32 c1_i32_176
  let c256_i32_177 : BitVec 32 := 256#32
  let v308 : BitVec 32 := Scalar.muli v307 c256_i32_177
  v308
def k0_mult17 : BitVec 32 :=
  let c8_i32 : BitVec 32 := 8#32
  let c256_i32_184 : BitVec 32 := 256#32
  let v319 : BitVec 32 := Scalar.muli c8_i32 c256_i32_184
  v319
def k0_mult18 : BitVec 32 :=
  let c9_i32 : BitVec 32 := 9#32
  let c1_i32_198 : BitVec 32 := 1#32
  let v344 : BitVec 32 := Scalar.subi c9_i32 c1_i32_198
  let c256_i32_199 : BitVec 32 := 256#32
  let v345 : BitVec 32 := Scalar.muli v344 c256_i32_199
  v345
def k0_mult19 : BitVec 32 :=
  let c9_i32 : BitVec 32 := 9#32
  let c256_i32_206 : BitVec 32 := 256#32
  let v356 : BitVec 32 := Scalar.muli c9_i32 c256_i32_206
  v356
def k0_mult20 : BitVec 32 :=
  let c10_i32 : BitVec 32 := 10#32
  let c1_i32_220 : BitVec 32 := 1#32
  let v381 : BitVec 32 := Scalar.subi c10_i32 c1_i32_220
  let c256_i32_221 : BitVec 32 := 256#32
  let v382 : BitVec 32 := Scalar.muli v381 c256_i32_221
  v382
def k0_mult21 : BitVec 32 :=
  let c10_i32 : BitVec 32 := 10#32
  let c256_i32_228 : BitVec 32 := 256#32
  let v393 : BitVec 32 := Scalar.muli c10_i32 c256_i32_228
  v393
def k0_mult22 : BitVec 32 :=
  let c2560_i32 : BitVec 32 := 2560#32
  c2560_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== FfnOne.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1024x1024 : Shape := ⟨2, ![1024, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 19
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  c0_i32
def k0_mult2 : BitVec 32 :=
  let c1_i32 : BitVec 32 := 1#32
  let c1_i32_23 : BitVec 32 := 1#32
  let v48 : BitVec 32 := Scalar.subi c1_i32 c1_i32_23
  let c256_i32 : BitVec 32 := 256#32
  let v49 : BitVec 32 := Scalar.muli v48 c256_i32
  v49
def k0_off1 (c1_i32 : BitVec 32) : Fin 2 → Nat :=
  let c1_i32_23 : BitVec 32 := 1#32
  let v48 : BitVec 32 := Scalar.subi c1_i32 c1_i32_23
  let c256_i32 : BitVec 32 := 256#32
  let v49 : BitVec 32 := Scalar.muli v48 c256_i32
  let v50 : BitVec 32 := v49
  let v52 : Index := Scalar.indexCast v50
  let c0_26 : Index := 0#32
  ![v52.toNat, 0]
def k0_mult3 : BitVec 32 :=
  let c1_i32 : BitVec 32 := 1#32
  let c256_i32_30 : BitVec 32 := 256#32
  let v60 : BitVec 32 := Scalar.muli c1_i32 c256_i32_30
  v60
def k0_off2 (c1_i32 : BitVec 32) : Fin 2 → Nat :=
  let c0_33 : Index := 0#32
  let c256_i32_30 : BitVec 32 := 256#32
  let v60 : BitVec 32 := Scalar.muli c1_i32 c256_i32_30
  let v61 : BitVec 32 := v60
  let v63 : Index := Scalar.indexCast v61
  ![0, v63.toNat]
def k0_mult4 : BitVec 32 :=
  let c2_i32 : BitVec 32 := 2#32
  let c1_i32_44 : BitVec 32 := 1#32
  let v85 : BitVec 32 := Scalar.subi c2_i32 c1_i32_44
  let c256_i32_45 : BitVec 32 := 256#32
  let v86 : BitVec 32 := Scalar.muli v85 c256_i32_45
  v86
def k0_mult5 : BitVec 32 :=
  let c2_i32 : BitVec 32 := 2#32
  let c256_i32_52 : BitVec 32 := 256#32
  let v97 : BitVec 32 := Scalar.muli c2_i32 c256_i32_52
  v97
def k0_mult6 : BitVec 32 :=
  let c3_i32 : BitVec 32 := 3#32
  let c1_i32_66 : BitVec 32 := 1#32
  let v122 : BitVec 32 := Scalar.subi c3_i32 c1_i32_66
  let c256_i32_67 : BitVec 32 := 256#32
  let v123 : BitVec 32 := Scalar.muli v122 c256_i32_67
  v123
def k0_mult7 : BitVec 32 :=
  let c3_i32 : BitVec 32 := 3#32
  let c256_i32_74 : BitVec 32 := 256#32
  let v134 : BitVec 32 := Scalar.muli c3_i32 c256_i32_74
  v134
def k0_mult8 : BitVec 32 :=
  let c4_i32 : BitVec 32 := 4#32
  let c1_i32_88 : BitVec 32 := 1#32
  let v159 : BitVec 32 := Scalar.subi c4_i32 c1_i32_88
  let c256_i32_89 : BitVec 32 := 256#32
  let v160 : BitVec 32 := Scalar.muli v159 c256_i32_89
  v160
def k0_mult9 : BitVec 32 :=
  let c4_i32 : BitVec 32 := 4#32
  let c256_i32_96 : BitVec 32 := 256#32
  let v171 : BitVec 32 := Scalar.muli c4_i32 c256_i32_96
  v171
def k0_mult10 : BitVec 32 :=
  let c5_i32 : BitVec 32 := 5#32
  let c1_i32_110 : BitVec 32 := 1#32
  let v196 : BitVec 32 := Scalar.subi c5_i32 c1_i32_110
  let c256_i32_111 : BitVec 32 := 256#32
  let v197 : BitVec 32 := Scalar.muli v196 c256_i32_111
  v197
def k0_mult11 : BitVec 32 :=
  let c5_i32 : BitVec 32 := 5#32
  let c256_i32_118 : BitVec 32 := 256#32
  let v208 : BitVec 32 := Scalar.muli c5_i32 c256_i32_118
  v208
def k0_mult12 : BitVec 32 :=
  let c6_i32 : BitVec 32 := 6#32
  let c1_i32_132 : BitVec 32 := 1#32
  let v233 : BitVec 32 := Scalar.subi c6_i32 c1_i32_132
  let c256_i32_133 : BitVec 32 := 256#32
  let v234 : BitVec 32 := Scalar.muli v233 c256_i32_133
  v234
def k0_mult13 : BitVec 32 :=
  let c6_i32 : BitVec 32 := 6#32
  let c256_i32_140 : BitVec 32 := 256#32
  let v245 : BitVec 32 := Scalar.muli c6_i32 c256_i32_140
  v245
def k0_mult14 : BitVec 32 :=
  let c7_i32 : BitVec 32 := 7#32
  let c1_i32_154 : BitVec 32 := 1#32
  let v270 : BitVec 32 := Scalar.subi c7_i32 c1_i32_154
  let c256_i32_155 : BitVec 32 := 256#32
  let v271 : BitVec 32 := Scalar.muli v270 c256_i32_155
  v271
def k0_mult15 : BitVec 32 :=
  let c7_i32 : BitVec 32 := 7#32
  let c256_i32_162 : BitVec 32 := 256#32
  let v282 : BitVec 32 := Scalar.muli c7_i32 c256_i32_162
  v282
def k0_mult16 : BitVec 32 :=
  let c8_i32 : BitVec 32 := 8#32
  let c1_i32_176 : BitVec 32 := 1#32
  let v307 : BitVec 32 := Scalar.subi c8_i32 c1_i32_176
  let c256_i32_177 : BitVec 32 := 256#32
  let v308 : BitVec 32 := Scalar.muli v307 c256_i32_177
  v308
def k0_mult17 : BitVec 32 :=
  let c8_i32 : BitVec 32 := 8#32
  let c256_i32_184 : BitVec 32 := 256#32
  let v319 : BitVec 32 := Scalar.muli c8_i32 c256_i32_184
  v319
def k0_mult18 : BitVec 32 :=
  let c9_i32 : BitVec 32 := 9#32
  let c1_i32_198 : BitVec 32 := 1#32
  let v344 : BitVec 32 := Scalar.subi c9_i32 c1_i32_198
  let c256_i32_199 : BitVec 32 := 256#32
  let v345 : BitVec 32 := Scalar.muli v344 c256_i32_199
  v345
def k0_mult19 : BitVec 32 :=
  let c9_i32 : BitVec 32 := 9#32
  let c256_i32_206 : BitVec 32 := 256#32
  let v356 : BitVec 32 := Scalar.muli c9_i32 c256_i32_206
  v356
def k0_mult20 : BitVec 32 :=
  let c10_i32 : BitVec 32 := 10#32
  let c1_i32_220 : BitVec 32 := 1#32
  let v381 : BitVec 32 := Scalar.subi c10_i32 c1_i32_220
  let c256_i32_221 : BitVec 32 := 256#32
  let v382 : BitVec 32 := Scalar.muli v381 c256_i32_221
  v382
def k0_mult21 : BitVec 32 :=
  let c10_i32 : BitVec 32 := 10#32
  let c256_i32_228 : BitVec 32 := 256#32
  let v393 : BitVec 32 := Scalar.muli c10_i32 c256_i32_228
  v393
def k0_mult22 : BitVec 32 :=
  let c2560_i32 : BitVec 32 := 2560#32
  c2560_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOneReferenceIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S16384x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | .hbm, ⟨62, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x1024, .bf16⟩
  | .hbm, ⟨3, _⟩ => ⟨S16384x2048, .bf16⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S2048x1024, .f32⟩
  | .hbm, ⟨8, _⟩ => ⟨S2048x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x1024 : Shape := ⟨2, ![16384, 1024]⟩
abbrev S16384x2048 : Shape := ⟨2, ![16384, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x1024, .bf16⟩
  | .hbm, ⟨3, _⟩ => ⟨S16384x2048, .bf16⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S16384x2048, .f32⟩
  | .hbm, ⟨8, _⟩ => ⟨S16384x1024, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S2048x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Rv.lean ====
abbrev S16384x1024 : Shape := ⟨2, ![16384, 1024]⟩
abbrev S1x1024x11848 : Shape := ⟨3, ![1, 1024, 11848]⟩
abbrev S1024x11848 : Shape := ⟨2, ![1024, 11848]⟩
abbrev S11848x1024 : Shape := ⟨2, ![11848, 1024]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S1024x11848, .f32⟩
  | .hbm, ⟨3, _⟩ => ⟨S11848x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RvReferenceIdeal.lean ====
abbrev S16384x1024 : Shape := ⟨2, ![16384, 1024]⟩
abbrev S1x1024x11848 : Shape := ⟨3, ![1, 1024, 11848]⟩
abbrev S1024x11848 : Shape := ⟨2, ![1024, 11848]⟩
abbrev S16384x11848 : Shape := ⟨2, ![16384, 11848]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S16384x1024, .f32⟩
  | .hbm, ⟨3, _⟩ => ⟨S1024x11848, .f32⟩
  | .hbm, ⟨4, _⟩ => ⟨S16384x11848, .f32⟩
  | .hbm, ⟨5, _⟩ => ⟨S16384x2048, .f32⟩
  | .hbm, ⟨6, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rg.lean ====
abbrev S16384x1024 : Shape := ⟨2, ![16384, 1024]⟩
abbrev S1x1024x11848 : Shape := ⟨3, ![1, 1024, 11848]⟩
abbrev S1024x11848 : Shape := ⟨2, ![1024, 11848]⟩
abbrev S11848x1024 : Shape := ⟨2, ![11848, 1024]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S1024x11848, .f32⟩
  | .hbm, ⟨3, _⟩ => ⟨S11848x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RgReferenceIdeal.lean ====
abbrev S16384x1024 : Shape := ⟨2, ![16384, 1024]⟩
abbrev S1x1024x11848 : Shape := ⟨3, ![1, 1024, 11848]⟩
abbrev S1024x11848 : Shape := ⟨2, ![1024, 11848]⟩
abbrev S16384x11848 : Shape := ⟨2, ![16384, 11848]⟩
abbrev S16384x2048 : Shape := ⟨2, ![16384, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S16384x1024, .f32⟩
  | .hbm, ⟨3, _⟩ => ⟨S1024x11848, .f32⟩
  | .hbm, ⟨4, _⟩ => ⟨S16384x11848, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Gates.lean ====
abbrev S16384x1024 : Shape := ⟨2, ![16384, 1024]⟩
abbrev S1x1024x11848 : Shape := ⟨3, ![1, 1024, 11848]⟩
abbrev S1024x11848 : Shape := ⟨2, ![1024, 11848]⟩
abbrev S11848x1024 : Shape := ⟨2, ![11848, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S1024x11848, .f32⟩
  | .hbm, ⟨3, _⟩ => ⟨S11848x1024, .f32⟩
  | .hbm, ⟨4, _⟩ => ⟨S2048x1024, .f32⟩
  | .hbm, ⟨5, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S16384x1024 : Shape := ⟨2, ![16384, 1024]⟩
abbrev S1x1024x11848 : Shape := ⟨3, ![1, 1024, 11848]⟩
abbrev S1024x11848 : Shape := ⟨2, ![1024, 11848]⟩
abbrev S16384x11848 : Shape := ⟨2, ![16384, 11848]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S16384x1024, .f32⟩
  | .hbm, ⟨3, _⟩ => ⟨S1024x11848, .f32⟩
  | .hbm, ⟨4, _⟩ => ⟨S16384x11848, .f32⟩
  | .hbm, ⟨5, _⟩ => ⟨S16384x2048, .f32⟩
  | .hbm, ⟨6, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Av.lean ====
abbrev S16384x1024 : Shape := ⟨2, ![16384, 1024]⟩
abbrev S1x1024x11848 : Shape := ⟨3, ![1, 1024, 11848]⟩
abbrev S1024x11848 : Shape := ⟨2, ![1024, 11848]⟩
abbrev S11848x1024 : Shape := ⟨2, ![11848, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S1024x11848, .f32⟩
  | .hbm, ⟨3, _⟩ => ⟨S11848x1024, .f32⟩
  | .hbm, ⟨4, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AvReferenceIdeal.lean ====
abbrev S16384x1024 : Shape := ⟨2, ![16384, 1024]⟩
abbrev S1x1024x11848 : Shape := ⟨3, ![1, 1024, 11848]⟩
abbrev S1024x11848 : Shape := ⟨2, ![1024, 11848]⟩
abbrev S16384x11848 : Shape := ⟨2, ![16384, 11848]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S16384x1024, .f32⟩
  | .hbm, ⟨3, _⟩ => ⟨S1024x11848, .f32⟩
  | .hbm, ⟨4, _⟩ => ⟨S16384x11848, .f32⟩
  | .hbm, ⟨5, _⟩ => ⟨S16384x1024, .f32⟩
  | .hbm, ⟨6, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rqk.lean ====
abbrev S16384x1024 : Shape := ⟨2, ![16384, 1024]⟩
abbrev S1x1024x11848 : Shape := ⟨3, ![1, 1024, 11848]⟩
abbrev S2048 : Shape := ⟨1, ![2048]⟩
abbrev S_ : Shape := ⟨0, ![]⟩
abbrev S1024x11848 : Shape := ⟨2, ![1024, 11848]⟩
abbrev S11848x1024 : Shape := ⟨2, ![11848, 1024]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S2048x256 : Shape := ⟨2, ![2048, 256]⟩
abbrev S1x2048x1x256 : Shape := ⟨4, ![1, 2048, 1, 256]⟩
abbrev S16384x2048 : Shape := ⟨2, ![16384, 2048]⟩
abbrev S2048x1024 : Shape := ⟨2, ![2048, 1024]⟩
abbrev S1024x1024 : Shape := ⟨2, ![1024, 1024]⟩
abbrev S256x1024 : Shape := ⟨2, ![256, 1024]⟩
abbrev S256x256 : Shape := ⟨2, ![256, 256]⟩
abbrev S256x128 : Shape := ⟨2, ![256, 128]⟩

abbrev nBuf : Space → Nat
  | .hbm => 40
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S1024x11848, .f32⟩
  | .hbm, ⟨7, _⟩ => ⟨S11848x1024, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S2048, .f32⟩
  | .hbm, ⟨23, _⟩ => ⟨S2048x1, .f32⟩
  | .hbm, ⟨24, _⟩ => ⟨S1x128, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x256, .f32⟩
  | .hbm, ⟨31, _⟩ => ⟨S2048x128, .f32⟩
  | .hbm, ⟨32, _⟩ => ⟨S2048x256, .f32⟩
  | .hbm, ⟨33, _⟩ => ⟨S1x2048x1x256, .f32⟩
  | .hbm, ⟨34, _⟩ => ⟨S1x2048x1x256, .f32⟩
  | .hbm, ⟨35, _⟩ => ⟨S2048x256, .f32⟩
  | .hbm, ⟨36, _⟩ => ⟨S1x2048x1x256, .f32⟩
  | .hbm, ⟨37, _⟩ => ⟨S1x2048x1x256, .f32⟩
  | .hbm, ⟨38, _⟩ => ⟨S2048x256, .f32⟩
  | .hbm, ⟨39, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x256, .f32⟩
  | .local _ .vmem, ⟨5, _⟩ => ⟨S2048x256, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RqkReferenceIdeal.lean ====
abbrev S16384x1024 : Shape := ⟨2, ![16384, 1024]⟩
abbrev S1x1024x11848 : Shape := ⟨3, ![1, 1024, 11848]⟩
abbrev S2048 : Shape := ⟨1, ![2048]⟩
abbrev S_ : Shape := ⟨0, ![]⟩
abbrev S1024x11848 : Shape := ⟨2, ![1024, 11848]⟩
abbrev S16384x11848 : Shape := ⟨2, ![16384, 11848]⟩
abbrev S8x2048x4x256 : Shape := ⟨4, ![8, 2048, 4, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S8x2048x4x128 : Shape := ⟨4, ![8, 2048, 4, 128]⟩
abbrev S1x2048x1x128 : Shape := ⟨4, ![1, 2048, 1, 128]⟩
abbrev S16384x2048 : Shape := ⟨2, ![16384, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S16384x1024, .f32⟩
  | .hbm, ⟨7, _⟩ => ⟨S1024x11848, .f32⟩
  | .hbm, ⟨8, _⟩ => ⟨S16384x11848, .f32⟩
  | .hbm, ⟨9, _⟩ => ⟨S16384x1024, .f32⟩
  | .hbm, ⟨10, _⟩ => ⟨S8x2048x4x256, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S2048, .f32⟩
  | .hbm, ⟨26, _⟩ => ⟨S2048x1, .f32⟩
  | .hbm, ⟨27, _⟩ => ⟨S1x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x1x128, .f32⟩
  | .hbm, ⟨33, _⟩ => ⟨S2048x128, .f32⟩
  | .hbm, ⟨34, _⟩ => ⟨S2048x1x128, .f32⟩
  | .hbm, ⟨35, _⟩ => ⟨S8x2048x4x128, .f32⟩
  | .hbm, ⟨36, _⟩ => ⟨S8x2048x4x128, .f32⟩
  | .hbm, ⟨37, _⟩ => ⟨S1x2048x1x128, .f32⟩
  | .hbm, ⟨38, _⟩ => ⟨S8x2048x4x128, .f32⟩
  | .hbm, ⟨39, _⟩ => ⟨S8x2048x4x128, .f32⟩
  | .hbm, ⟨40, _⟩ => ⟨S1x2048x1x128, .f32⟩
  | .hbm, ⟨41, _⟩ => ⟨S8x2048x4x128, .f32⟩
  | .hbm, ⟨42, _⟩ => ⟨S8x2048x4x128, .f32⟩
  | .hbm, ⟨43, _⟩ => ⟨S8x2048x4x128, .f32⟩
  | .hbm, ⟨44, _⟩ => ⟨S1x2048x1x128, .f32⟩
  | .hbm, ⟨45, _⟩ => ⟨S8x2048x4x128, .f32⟩
  | .hbm, ⟨46, _⟩ => ⟨S8x2048x4x128, .f32⟩
  | .hbm, ⟨47, _⟩ => ⟨S1x2048x1x128, .f32⟩
  | .hbm, ⟨48, _⟩ => ⟨S8x2048x4x128, .f32⟩
  | .hbm, ⟨49, _⟩ => ⟨S8x2048x4x128, .f32⟩
  | .hbm, ⟨50, _⟩ => ⟨S8x2048x4x128, .f32⟩
  | .hbm, ⟨51, _⟩ => ⟨S8x2048x4x256, .f32⟩
  | .hbm, ⟨52, _⟩ => ⟨S16384x1024, .f32⟩
  | .hbm, ⟨53, _⟩ => ⟨S1024x11848, .f32⟩
  | .hbm, ⟨54, _⟩ => ⟨S16384x11848, .f32⟩
  | .hbm, ⟨55, _⟩ => ⟨S16384x1024, .f32⟩
  | .hbm, ⟨56, _⟩ => ⟨S8x2048x4x256, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S2048, .f32⟩
  | .hbm, ⟨72, _⟩ => ⟨S2048x1, .f32⟩
  | .hbm, ⟨73, _⟩ => ⟨S1x128, .f32⟩
  | .hbm, ⟨74, _⟩ => ⟨S2048x128, .f32⟩
  | .hbm, ⟨75, _⟩ => ⟨S2048x128, .f32⟩
  | .hbm, ⟨76, _⟩ => ⟨S2048x128, .f32⟩
  | .hbm, ⟨77, _⟩ => ⟨S2048x128, .f32⟩
  | .hbm, ⟨78, _⟩ => ⟨S2048x1x128, .f32⟩
  | .hbm, ⟨79, _⟩ => ⟨S2048x128, .f32⟩
  | .hbm, ⟨80, _⟩ => ⟨S2048x1x128, .f32⟩
  | .hbm, ⟨81, _⟩ => ⟨S8x2048x4x128, .f32⟩
  | .hbm, ⟨82, _⟩ => ⟨S8x2048x4x128, .f32⟩
  | .hbm, ⟨83, _⟩ => ⟨S1x2048x1x128, .f32⟩
  | .hbm, ⟨84, _⟩ => ⟨S8x2048x4x128, .f32⟩
  | .hbm, ⟨85, _⟩ => ⟨S8x2048x4x128, .f32⟩
  | .hbm, ⟨86, _⟩ => ⟨S1x2048x1x128, .f32⟩
  | .hbm, ⟨87, _⟩ => ⟨S8x2048x4x128, .f32⟩
  | .hbm, ⟨88, _⟩ => ⟨S8x2048x4x128, .f32⟩
  | .hbm, ⟨89, _⟩ => ⟨S8x2048x4x128, .f32⟩
  | .hbm, ⟨90, _⟩ => ⟨S1x2048x1x128, .f32⟩
  | .hbm, ⟨91, _⟩ => ⟨S8x2048x4x128, .f32⟩
  | .hbm, ⟨92, _⟩ => ⟨S8x2048x4x128, .f32⟩
  | .hbm, ⟨93, _⟩ => ⟨S1x2048x1x128, .f32⟩
  | .hbm, ⟨94, _⟩ => ⟨S8x2048x4x128, .f32⟩
  | .hbm, ⟨95, _⟩ => ⟨S8x2048x4x128, .f32⟩
  | .hbm, ⟨96, _⟩ => ⟨S8x2048x4x128, .f32⟩
  | .hbm, ⟨97, _⟩ => ⟨S8x2048x4x256, .f32⟩
  | .hbm, ⟨98, _⟩ => ⟨S_, .f32⟩
  | .hbm, ⟨99, _⟩ => ⟨S8x2048x4x256, .f32⟩
  | .hbm, ⟨100, _⟩ => ⟨S8x2048x4x256, .f32⟩
  | .hbm, ⟨101, _⟩ => ⟨S16384x1024, .f32⟩
  | .hbm, ⟨102, _⟩ => ⟨S16384x1024, .f32⟩
  | .hbm, ⟨103, _⟩ => ⟨S16384x2048, .f32⟩
  | .hbm, ⟨104, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]
-- ==== Aqk.lean ====
abbrev S16384x1024 : Shape := ⟨2, ![16384, 1024]⟩
abbrev S1x1024x11848 : Shape := ⟨3, ![1, 1024, 11848]⟩
abbrev S2048 : Shape := ⟨1, ![2048]⟩
abbrev S_ : Shape := ⟨0, ![]⟩
abbrev S1024x11848 : Shape := ⟨2, ![1024, 11848]⟩
abbrev S11848x1024 : Shape := ⟨2, ![11848, 1024]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S16384x2048 : Shape := ⟨2, ![16384, 2048]⟩
abbrev S2048x1024 : Shape := ⟨2, ![2048, 1024]⟩
abbrev S1024x1024 : Shape := ⟨2, ![1024, 1024]⟩
abbrev S256x1024 : Shape := ⟨2, ![256, 1024]⟩
abbrev S256x128 : Shape := ⟨2, ![256, 128]⟩
abbrev S256x64 : Shape := ⟨2, ![256, 64]⟩

abbrev nBuf : Space → Nat
  | .hbm => 40
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S1024x11848, .f32⟩
  | .hbm, ⟨7, _⟩ => ⟨S11848x1024, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S2048x64, .f32⟩
  | .hbm, ⟨32, _⟩ => ⟨S2048x128, .f32⟩
  | .hbm, ⟨33, _⟩ => ⟨S1x2048x1x128, .f32⟩
  | .hbm, ⟨34, _⟩ => ⟨S1x2048x1x128, .f32⟩
  | .hbm, ⟨35, _⟩ => ⟨S2048x128, .f32⟩
  | .hbm, ⟨36, _⟩ => ⟨S1x2048x1x128, .f32⟩
  | .hbm, ⟨37, _⟩ => ⟨S1x2048x1x128, .f32⟩
  | .hbm, ⟨38, _⟩ => ⟨S2048x128, .f32⟩
  | .hbm, ⟨39, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x128, .f32⟩
  | .local _ .vmem, ⟨5, _⟩ => ⟨S2048x128, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AqkReferenceIdeal.lean ====
abbrev S16384x1024 : Shape := ⟨2, ![16384, 1024]⟩
abbrev S1x1024x11848 : Shape := ⟨3, ![1, 1024, 11848]⟩
abbrev S2048 : Shape := ⟨1, ![2048]⟩
abbrev S_ : Shape := ⟨0, ![]⟩
abbrev S1024x11848 : Shape := ⟨2, ![1024, 11848]⟩
abbrev S16384x11848 : Shape := ⟨2, ![16384, 11848]⟩
abbrev S8x2048x8x128 : Shape := ⟨4, ![8, 2048, 8, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x8x64 : Shape := ⟨4, ![8, 2048, 8, 64]⟩
abbrev S1x2048x1x64 : Shape := ⟨4, ![1, 2048, 1, 64]⟩
abbrev S16384x2048 : Shape := ⟨2, ![16384, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x11848, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S16384x1024, .f32⟩
  | .hbm, ⟨7, _⟩ => ⟨S1024x11848, .f32⟩
  | .hbm, ⟨8, _⟩ => ⟨S16384x11848, .f32⟩
  | .hbm, ⟨9, _⟩ => ⟨S16384x1024, .f32⟩
  | .hbm, ⟨10, _⟩ => ⟨S8x2048x8x128, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S2048, .f32⟩
  | .hbm, ⟨26, _⟩ => ⟨S2048x1, .f32⟩
  | .hbm, ⟨27, _⟩ => ⟨S1x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x1x64, .f32⟩
  | .hbm, ⟨33, _⟩ => ⟨S2048x64, .f32⟩
  | .hbm, ⟨34, _⟩ => ⟨S2048x1x64, .f32⟩
  | .hbm, ⟨35, _⟩ => ⟨S8x2048x8x64, .f32⟩
  | .hbm, ⟨36, _⟩ => ⟨S8x2048x8x64, .f32⟩
  | .hbm, ⟨37, _⟩ => ⟨S1x2048x1x64, .f32⟩
  | .hbm, ⟨38, _⟩ => ⟨S8x2048x8x64, .f32⟩
  | .hbm, ⟨39, _⟩ => ⟨S8x2048x8x64, .f32⟩
  | .hbm, ⟨40, _⟩ => ⟨S1x2048x1x64, .f32⟩
  | .hbm, ⟨41, _⟩ => ⟨S8x2048x8x64, .f32⟩
  | .hbm, ⟨42, _⟩ => ⟨S8x2048x8x64, .f32⟩
  | .hbm, ⟨43, _⟩ => ⟨S8x2048x8x64, .f32⟩
  | .hbm, ⟨44, _⟩ => ⟨S1x2048x1x64, .f32⟩
  | .hbm, ⟨45, _⟩ => ⟨S8x2048x8x64, .f32⟩
  | .hbm, ⟨46, _⟩ => ⟨S8x2048x8x64, .f32⟩
  | .hbm, ⟨47, _⟩ => ⟨S1x2048x1x64, .f32⟩
  | .hbm, ⟨48, _⟩ => ⟨S8x2048x8x64, .f32⟩
  | .hbm, ⟨49, _⟩ => ⟨S8x2048x8x64, .f32⟩
  | .hbm, ⟨50, _⟩ => ⟨S8x2048x8x64, .f32⟩
  | .hbm, ⟨51, _⟩ => ⟨S8x2048x8x128, .f32⟩
  | .hbm, ⟨52, _⟩ => ⟨S_, .f32⟩
  | .hbm, ⟨53, _⟩ => ⟨S8x2048x8x128, .f32⟩
  | .hbm, ⟨54, _⟩ => ⟨S8x2048x8x128, .f32⟩
  | .hbm, ⟨55, _⟩ => ⟨S16384x1024, .f32⟩
  | .hbm, ⟨56, _⟩ => ⟨S1024x11848, .f32⟩
  | .hbm, ⟨57, _⟩ => ⟨S16384x11848, .f32⟩
  | .hbm, ⟨58, _⟩ => ⟨S16384x1024, .f32⟩
  | .hbm, ⟨59, _⟩ => ⟨S8x2048x8x128, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S2048, .f32⟩
  | .hbm, ⟨75, _⟩ => ⟨S2048x1, .f32⟩
  | .hbm, ⟨76, _⟩ => ⟨S1x64, .f32⟩
  | .hbm, ⟨77, _⟩ => ⟨S2048x64, .f32⟩
  | .hbm, ⟨78, _⟩ => ⟨S2048x64, .f32⟩
  | .hbm, ⟨79, _⟩ => ⟨S2048x64, .f32⟩
  | .hbm, ⟨80, _⟩ => ⟨S2048x64, .f32⟩
  | .hbm, ⟨81, _⟩ => ⟨S2048x1x64, .f32⟩
  | .hbm, ⟨82, _⟩ => ⟨S2048x64, .f32⟩
  | .hbm, ⟨83, _⟩ => ⟨S2048x1x64, .f32⟩
  | .hbm, ⟨84, _⟩ => ⟨S8x2048x8x64, .f32⟩
  | .hbm, ⟨85, _⟩ => ⟨S8x2048x8x64, .f32⟩
  | .hbm, ⟨86, _⟩ => ⟨S1x2048x1x64, .f32⟩
  | .hbm, ⟨87, _⟩ => ⟨S8x2048x8x64, .f32⟩
  | .hbm, ⟨88, _⟩ => ⟨S8x2048x8x64, .f32⟩
  | .hbm, ⟨89, _⟩ => ⟨S1x2048x1x64, .f32⟩
  | .hbm, ⟨90, _⟩ => ⟨S8x2048x8x64, .f32⟩
  | .hbm, ⟨91, _⟩ => ⟨S8x2048x8x64, .f32⟩
  | .hbm, ⟨92, _⟩ => ⟨S8x2048x8x64, .f32⟩
  | .hbm, ⟨93, _⟩ => ⟨S1x2048x1x64, .f32⟩
  | .hbm, ⟨94, _⟩ => ⟨S8x2048x8x64, .f32⟩
  | .hbm, ⟨95, _⟩ => ⟨S8x2048x8x64, .f32⟩
  | .hbm, ⟨96, _⟩ => ⟨S1x2048x1x64, .f32⟩
  | .hbm, ⟨97, _⟩ => ⟨S8x2048x8x64, .f32⟩
  | .hbm, ⟨98, _⟩ => ⟨S8x2048x8x64, .f32⟩
  | .hbm, ⟨99, _⟩ => ⟨S8x2048x8x64, .f32⟩
  | .hbm, ⟨100, _⟩ => ⟨S8x2048x8x128, .f32⟩
  | .hbm, ⟨101, _⟩ => ⟨S16384x1024, .f32⟩
  | .hbm, ⟨102, _⟩ => ⟨S16384x1024, .f32⟩
  | .hbm, ⟨103, _⟩ => ⟨S16384x2048, .f32⟩
  | .hbm, ⟨104, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]
-- ==== Proof.RetPieces.lean ====
module
public import proofs.«01_k».proof.Proof.Gen.KernelIdeal.Value
public import Idealize.ShloMosaic.Lib.Tactic
public import Idealize.ShloMosaic.Lib.Pointwise
public import Idealize.ShloMosaic.Lib.Pipeline.ReadBack
public import Idealize.ShloMosaic.Lib.Pipeline.ValueKit.Tiles

/-! # What one point of the retention kernel leaves, head by head

The kernel's body treats four heads in turn. Each head stores one slab of the output block (its 512 columns) and one slab
of the state. Here the three cases of the body (first point, first chunk of a later row, any other chunk) are written as
four slabs of the same functions `hOut` and `hSt`; the reads of the state scratch between the stores are resolved. -/

@[expose] public section
set_option maxRecDepth 16384
set_option maxHeartbeats 1000000
noncomputable section
namespace Cert.KernelIdeal.Val
open Idealize.ShloMosaic Idealize.ShloMosaic.TcCoe Idealize.SL.Sem
open Cert.KernelIdeal Cert.KernelIdeal.Gen
variable {F : FTy → Type} [FloatOps F]

/-- One head's output block, from its decay rate, state, queries, keys, values, decay matrix and gate. -/
def hOut (lg : Elt F .f32) (st : Vec F S1x256x512 .f32) (q k : Vec F S1x512x256 .bf16) (v : Vec F S1x512x512 .bf16)
    (dec : Vec F S1x512x512 .f32) (g : Vec F S1x512x512 .bf16) : Vec F S1x512x512 .bf16 :=
  k0_pay27 (k0_pay19 lg) (k0_pay21 st) (k0_pay22 q) (k0_pay24 v) (k0_pay25 q k) (k0_pay26 dec) g

/-- One head's state after a chunk, from its decay rate, its chunk decay, keys, values and the state before. -/
def hSt (lg gc : Elt F .f32) (st : Vec F S1x256x512 .f32) (k : Vec F S1x512x256 .bf16) (v : Vec F S1x512x512 .bf16) :
    Vec F S1x256x512 .f32 :=
  k0_pay28 (k0_pay20 lg) (k0_pay21 st) (k0_pay23 k) (k0_pay24 v) gc

/-- A four-slab array from its slabs. -/
def slabs {a b : ℕ} {X : Type} (f : Fin 4 → (⟨3, ![1, a, b]⟩ : Shape).Idx → X) : (⟨3, ![4, a, b]⟩ : Shape).Idx → X :=
  fun i => f (i 0) (ix3 (0 : Fin 1) (i 1) (i 2))

/-- A block of 2048 columns from its four blocks of 512. -/
def cols {X : Type} (f : Fin 4 → S1x512x512.Idx → X) : S1x512x2048.Idx → X :=
  fun i => f ⟨(i 2).val / 512, by have h : (i 2).val < 2048 := (i 2).isLt; omega⟩
    (ix3 (0 : Fin 1) (i 1) (⟨(i 2).val % 512, Nat.mod_lt _ (by norm_num)⟩ : Fin 512))

/-- The `h`-th slab of a stacked array. -/
def slab {a b : ℕ} {X : Type} (w : (⟨3, ![4, a, b]⟩ : Shape).Idx → X) (h : Fin 4) : (⟨3, ![1, a, b]⟩ : Shape).Idx → X :=
  fun i => w (ix3 h (i 1) (i 2))

/-- The `h`-th block of 512 columns. -/
def colb {X : Type} (w : S1x512x2048.Idx → X) (h : Fin 4) : S1x512x512.Idx → X :=
  fun i => w (ix3 (0 : Fin 1) (i 1) (⟨512 * h.val + (i 2).val, by have := h.isLt; have h2 : (i 2).val < 512 := (i 2).isLt; omega⟩ : Fin 2048))

/-- The `h`-th block of 256 columns. -/
def colq {X : Type} (w : S1x512x1024.Idx → X) (h : Fin 4) : S1x512x256.Idx → X :=
  fun i => w (ix3 (0 : Fin 1) (i 1) (⟨256 * h.val + (i 2).val, by have := h.isLt; have h2 : (i 2).val < 256 := (i 2).isLt; omega⟩ : Fin 1024))

/-- The `h`-th block of 256 columns of the meta keys. -/
def colk {X : Type} (w : S16x1024.Idx → X) (h : Fin 4) : S16x256.Idx → X :=
  fun i => w (ix2 (i 0) (⟨256 * h.val + (i 1).val, by have := h.isLt; have h2 : (i 1).val < 256 := (i 1).isLt; omega⟩ : Fin 1024))

/-- The `h`-th block of 512 columns of the meta values. -/
def colv {X : Type} (w : S16x2048.Idx → X) (h : Fin 4) : S16x512.Idx → X :=
  fun i => w (ix2 (i 0) (⟨512 * h.val + (i 1).val, by have := h.isLt; have h2 : (i 1).val < 512 := (i 1).isLt; omega⟩ : Fin 2048))

theorem slab_slabs {a b : ℕ} {X : Type} (f : Fin 4 → (⟨3, ![1, a, b]⟩ : Shape).Idx → X) (h : Fin 4) : slab (slabs f) h = f h := by
  funext i
  show f h (ix3 (0 : Fin 1) (i 1) (i 2)) = f h i
  rw [eq_ix3 i, show i 0 = (0 : Fin 1) from Fin.ext (by have h0 : (i 0).val < 1 := (i 0).isLt; simpa using h0)]
  rfl

theorem eq_ix3_one {a b : ℕ} (x : (⟨3, ![1, a, b]⟩ : Shape).Idx) : x = ix3 (0 : Fin 1) (x 1) (x 2) := by
  conv_lhs => rw [eq_ix3 x]
  rw [show x 0 = (0 : Fin 1) from Fin.ext (by have h0 : (x 0).val < 1 := (x 0).isLt; simpa using h0)]
  rfl

theorem ld_slab_0 {a b : ℕ} {Val : EltTy → Type} {e : EltTy} (w : (⟨3, ![4, a, b]⟩ : Shape).Idx → Val e)
    (inb : ∀ d, (![0, 0, 0] : Fin 3 → ℕ) d + (![1, a, b] : Fin 3 → ℕ) d ≤ (⟨3, ![4, a, b]⟩ : Shape).size d) :
    View.ld w (Rect.unit (s := ⟨3, ![4, a, b]⟩) ![0, 0, 0] ![1, a, b] inb) = slab w 0 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show (x 2).val = 0 + (x 2).val; omega

theorem ld_colb_0 {Val : EltTy → Type} {e : EltTy} (w : S1x512x2048.Idx → Val e)
    (inb : ∀ d, (![0, 0, 0] : Fin 3 → ℕ) d + (![1, 512, 512] : Fin 3 → ℕ) d ≤ S1x512x2048.size d) :
    View.ld w (Rect.unit (s := S1x512x2048) ![0, 0, 0] ![1, 512, 512] inb) = colb w 0 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 512 * 0 + (x 2).val = 0 + (x 2).val; omega

theorem ld_colq_0 {Val : EltTy → Type} {e : EltTy} (w : S1x512x1024.Idx → Val e)
    (inb : ∀ d, (![0, 0, 0] : Fin 3 → ℕ) d + (![1, 512, 256] : Fin 3 → ℕ) d ≤ S1x512x1024.size d) :
    View.ld w (Rect.unit (s := S1x512x1024) ![0, 0, 0] ![1, 512, 256] inb) = colq w 0 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 256 * 0 + (x 2).val = 0 + (x 2).val; omega

theorem ld_colk_0 {Val : EltTy → Type} {e : EltTy} (w : S16x1024.Idx → Val e)
    (inb : ∀ d, (![0, 0] : Fin 2 → ℕ) d + (![16, 256] : Fin 2 → ℕ) d ≤ S16x1024.size d) :
    View.ld w (Rect.unit (s := S16x1024) ![0, 0] ![16, 256] inb) = colk w 0 := by
  funext x
  refine View.ld_unit_apply_of w _ _ inb x _ fun d => ?_
  match d with
  | ⟨0, _⟩ => show (x 0).val = 0 + (x 0).val; omega
  | ⟨1, _⟩ => show 256 * 0 + (x 1).val = 0 + (x 1).val; omega

theorem ld_colv_0 {Val : EltTy → Type} {e : EltTy} (w : S16x2048.Idx → Val e)
    (inb : ∀ d, (![0, 0] : Fin 2 → ℕ) d + (![16, 512] : Fin 2 → ℕ) d ≤ S16x2048.size d) :
    View.ld w (Rect.unit (s := S16x2048) ![0, 0] ![16, 512] inb) = colv w 0 := by
  funext x
  refine View.ld_unit_apply_of w _ _ inb x _ fun d => ?_
  match d with
  | ⟨0, _⟩ => show (x 0).val = 0 + (x 0).val; omega
  | ⟨1, _⟩ => show 512 * 0 + (x 1).val = 0 + (x 1).val; omega

theorem ld_sc_0 {Val : EltTy → Type} {e : EltTy} (w : S4.Idx → Val e) (inb : ∀ d, (![0] : Fin 1 → ℕ) d + (![1] : Fin 1 → ℕ) d ≤ S4.size d) :
    View.ld w (Rect.unit (s := S4) ![0] ![1] inb) = fun _ => w (ix1 (0 : Fin 4)) := by
  funext x
  refine View.ld_unit_apply_of w _ _ inb x _ fun d => ?_
  have h0 : (x 0).val < 1 := (x 0).isLt
  match d with
  | ⟨0, _⟩ => show 0 = 0 + (x 0).val; omega

theorem ld_slab_1 {a b : ℕ} {Val : EltTy → Type} {e : EltTy} (w : (⟨3, ![4, a, b]⟩ : Shape).Idx → Val e)
    (inb : ∀ d, (![1, 0, 0] : Fin 3 → ℕ) d + (![1, a, b] : Fin 3 → ℕ) d ≤ (⟨3, ![4, a, b]⟩ : Shape).size d) :
    View.ld w (Rect.unit (s := ⟨3, ![4, a, b]⟩) ![1, 0, 0] ![1, a, b] inb) = slab w 1 := by
  funext x
  refine View.ld_unit_apply_of w _ _ inb x _ fun d => ?_
  have h0 : (x 0).val < 1 := (x 0).isLt
  match d with
  | ⟨0, _⟩ => show 1 = 1 + (x 0).val; omega
  | ⟨1, _⟩ => show (x 1).val = 0 + (x 1).val; omega
  | ⟨2, _⟩ => show (x 2).val = 0 + (x 2).val; omega

theorem ld_colb_1 {Val : EltTy → Type} {e : EltTy} (w : S1x512x2048.Idx → Val e)
    (inb : ∀ d, (![0, 0, 512] : Fin 3 → ℕ) d + (![1, 512, 512] : Fin 3 → ℕ) d ≤ S1x512x2048.size d) :
    View.ld w (Rect.unit (s := S1x512x2048) ![0, 0, 512] ![1, 512, 512] inb) = colb w 1 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 512 * 1 + (x 2).val = 512 + (x 2).val; omega

theorem ld_colq_1 {Val : EltTy → Type} {e : EltTy} (w : S1x512x1024.Idx → Val e)
    (inb : ∀ d, (![0, 0, 256] : Fin 3 → ℕ) d + (![1, 512, 256] : Fin 3 → ℕ) d ≤ S1x512x1024.size d) :
    View.ld w (Rect.unit (s := S1x512x1024) ![0, 0, 256] ![1, 512, 256] inb) = colq w 1 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 256 * 1 + (x 2).val = 256 + (x 2).val; omega

theorem ld_colk_1 {Val : EltTy → Type} {e : EltTy} (w : S16x1024.Idx → Val e)
    (inb : ∀ d, (![0, 256] : Fin 2 → ℕ) d + (![16, 256] : Fin 2 → ℕ) d ≤ S16x1024.size d) :
    View.ld w (Rect.unit (s := S16x1024) ![0, 256] ![16, 256] inb) = colk w 1 := by
  funext x
  refine View.ld_unit_apply_of w _ _ inb x _ fun d => ?_
  match d with
  | ⟨0, _⟩ => show (x 0).val = 0 + (x 0).val; omega
  | ⟨1, _⟩ => show 256 * 1 + (x 1).val = 256 + (x 1).val; omega

theorem ld_colv_1 {Val : EltTy → Type} {e : EltTy} (w : S16x2048.Idx → Val e)
    (inb : ∀ d, (![0, 512] : Fin 2 → ℕ) d + (![16, 512] : Fin 2 → ℕ) d ≤ S16x2048.size d) :
    View.ld w (Rect.unit (s := S16x2048) ![0, 512] ![16, 512] inb) = colv w 1 := by
  funext x
  refine View.ld_unit_apply_of w _ _ inb x _ fun d => ?_
  match d with
  | ⟨0, _⟩ => show (x 0).val = 0 + (x 0).val; omega
  | ⟨1, _⟩ => show 512 * 1 + (x 1).val = 512 + (x 1).val; omega

theorem ld_sc_1 {Val : EltTy → Type} {e : EltTy} (w : S4.Idx → Val e) (inb : ∀ d, (![1] : Fin 1 → ℕ) d + (![1] : Fin 1 → ℕ) d ≤ S4.size d) :
    View.ld w (Rect.unit (s := S4) ![1] ![1] inb) = fun _ => w (ix1 (1 : Fin 4)) := by
  funext x
  refine View.ld_unit_apply_of w _ _ inb x _ fun d => ?_
  have h0 : (x 0).val < 1 := (x 0).isLt
  match d with
  | ⟨0, _⟩ => show 1 = 1 + (x 0).val; omega

theorem ld_slab_2 {a b : ℕ} {Val : EltTy → Type} {e : EltTy} (w : (⟨3, ![4, a, b]⟩ : Shape).Idx → Val e)
    (inb : ∀ d, (![2, 0, 0] : Fin 3 → ℕ) d + (![1, a, b] : Fin 3 → ℕ) d ≤ (⟨3, ![4, a, b]⟩ : Shape).size d) :
    View.ld w (Rect.unit (s := ⟨3, ![4, a, b]⟩) ![2, 0, 0] ![1, a, b] inb) = slab w 2 := by
  funext x
  refine View.ld_unit_apply_of w _ _ inb x _ fun d => ?_
  have h0 : (x 0).val < 1 := (x 0).isLt
  match d with
  | ⟨0, _⟩ => show 2 = 2 + (x 0).val; omega
  | ⟨1, _⟩ => show (x 1).val = 0 + (x 1).val; omega
  | ⟨2, _⟩ => show (x 2).val = 0 + (x 2).val; omega

theorem ld_colb_2 {Val : EltTy → Type} {e : EltTy} (w : S1x512x2048.Idx → Val e)
    (inb : ∀ d, (![0, 0, 1024] : Fin 3 → ℕ) d + (![1, 512, 512] : Fin 3 → ℕ) d ≤ S1x512x2048.size d) :
    View.ld w (Rect.unit (s := S1x512x2048) ![0, 0, 1024] ![1, 512, 512] inb) = colb w 2 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 512 * 2 + (x 2).val = 1024 + (x 2).val; omega

theorem ld_colq_2 {Val : EltTy → Type} {e : EltTy} (w : S1x512x1024.Idx → Val e)
    (inb : ∀ d, (![0, 0, 512] : Fin 3 → ℕ) d + (![1, 512, 256] : Fin 3 → ℕ) d ≤ S1x512x1024.size d) :
    View.ld w (Rect.unit (s := S1x512x1024) ![0, 0, 512] ![1, 512, 256] inb) = colq w 2 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 256 * 2 + (x 2).val = 512 + (x 2).val; omega

theorem ld_colk_2 {Val : EltTy → Type} {e : EltTy} (w : S16x1024.Idx → Val e)
    (inb : ∀ d, (![0, 512] : Fin 2 → ℕ) d + (![16, 256] : Fin 2 → ℕ) d ≤ S16x1024.size d) :
    View.ld w (Rect.unit (s := S16x1024) ![0, 512] ![16, 256] inb) = colk w 2 := by
  funext x
  refine View.ld_unit_apply_of w _ _ inb x _ fun d => ?_
  match d with
  | ⟨0, _⟩ => show (x 0).val = 0 + (x 0).val; omega
  | ⟨1, _⟩ => show 256 * 2 + (x 1).val = 512 + (x 1).val; omega

theorem ld_colv_2 {Val : EltTy → Type} {e : EltTy} (w : S16x2048.Idx → Val e)
    (inb : ∀ d, (![0, 1024] : Fin 2 → ℕ) d + (![16, 512] : Fin 2 → ℕ) d ≤ S16x2048.size d) :
    View.ld w (Rect.unit (s := S16x2048) ![0, 1024] ![16, 512] inb) = colv w 2 := by
  funext x
  refine View.ld_unit_apply_of w _ _ inb x _ fun d => ?_
  match d with
  | ⟨0, _⟩ => show (x 0).val = 0 + (x 0).val; omega
  | ⟨1, _⟩ => show 512 * 2 + (x 1).val = 1024 + (x 1).val; omega

theorem ld_sc_2 {Val : EltTy → Type} {e : EltTy} (w : S4.Idx → Val e) (inb : ∀ d, (![2] : Fin 1 → ℕ) d + (![1] : Fin 1 → ℕ) d ≤ S4.size d) :
    View.ld w (Rect.unit (s := S4) ![2] ![1] inb) = fun _ => w (ix1 (2 : Fin 4)) := by
  funext x
  refine View.ld_unit_apply_of w _ _ inb x _ fun d => ?_
  have h0 : (x 0).val < 1 := (x 0).isLt
  match d with
  | ⟨0, _⟩ => show 2 = 2 + (x 0).val; omega

theorem ld_slab_3 {a b : ℕ} {Val : EltTy → Type} {e : EltTy} (w : (⟨3, ![4, a, b]⟩ : Shape).Idx → Val e)
    (inb : ∀ d, (![3, 0, 0] : Fin 3 → ℕ) d + (![1, a, b] : Fin 3 → ℕ) d ≤ (⟨3, ![4, a, b]⟩ : Shape).size d) :
    View.ld w (Rect.unit (s := ⟨3, ![4, a, b]⟩) ![3, 0, 0] ![1, a, b] inb) = slab w 3 := by
  funext x
  refine View.ld_unit_apply_of w _ _ inb x _ fun d => ?_
  have h0 : (x 0).val < 1 := (x 0).isLt
  match d with
  | ⟨0, _⟩ => show 3 = 3 + (x 0).val; omega
  | ⟨1, _⟩ => show (x 1).val = 0 + (x 1).val; omega
  | ⟨2, _⟩ => show (x 2).val = 0 + (x 2).val; omega

theorem ld_colb_3 {Val : EltTy → Type} {e : EltTy} (w : S1x512x2048.Idx → Val e)
    (inb : ∀ d, (![0, 0, 1536] : Fin 3 → ℕ) d + (![1, 512, 512] : Fin 3 → ℕ) d ≤ S1x512x2048.size d) :
    View.ld w (Rect.unit (s := S1x512x2048) ![0, 0, 1536] ![1, 512, 512] inb) = colb w 3 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 512 * 3 + (x 2).val = 1536 + (x 2).val; omega

theorem ld_colq_3 {Val : EltTy → Type} {e : EltTy} (w : S1x512x1024.Idx → Val e)
    (inb : ∀ d, (![0, 0, 768] : Fin 3 → ℕ) d + (![1, 512, 256] : Fin 3 → ℕ) d ≤ S1x512x1024.size d) :
    View.ld w (Rect.unit (s := S1x512x1024) ![0, 0, 768] ![1, 512, 256] inb) = colq w 3 := by
  funext x
  refine View.ld_unit_apply_of w _ _ inb x _ fun d => ?_
  have h0 : (x 0).val < 1 := (x 0).isLt
  match d with
  | ⟨0, _⟩ => show 0 = 0 + (x 0).val; omega
  | ⟨1, _⟩ => show (x 1).val = 0 + (x 1).val; omega
  | ⟨2, _⟩ => show 256 * 3 + (x 2).val = 768 + (x 2).val; omega

theorem ld_colk_3 {Val : EltTy → Type} {e : EltTy} (w : S16x1024.Idx → Val e)
    (inb : ∀ d, (![0, 768] : Fin 2 → ℕ) d + (![16, 256] : Fin 2 → ℕ) d ≤ S16x1024.size d) :
    View.ld w (Rect.unit (s := S16x1024) ![0, 768] ![16, 256] inb) = colk w 3 := by
  funext x
  refine View.ld_unit_apply_of w _ _ inb x _ fun d => ?_
  match d with
  | ⟨0, _⟩ => show (x 0).val = 0 + (x 0).val; omega
  | ⟨1, _⟩ => show 256 * 3 + (x 1).val = 768 + (x 1).val; omega

theorem ld_colv_3 {Val : EltTy → Type} {e : EltTy} (w : S16x2048.Idx → Val e)
    (inb : ∀ d, (![0, 1536] : Fin 2 → ℕ) d + (![16, 512] : Fin 2 → ℕ) d ≤ S16x2048.size d) :
    View.ld w (Rect.unit (s := S16x2048) ![0, 1536] ![16, 512] inb) = colv w 3 := by
  funext x
  refine View.ld_unit_apply_of w _ _ inb x _ fun d => ?_
  match d with
  | ⟨0, _⟩ => show (x 0).val = 0 + (x 0).val; omega
  | ⟨1, _⟩ => show 512 * 3 + (x 1).val = 1536 + (x 1).val; omega

theorem ld_sc_3 {Val : EltTy → Type} {e : EltTy} (w : S4.Idx → Val e) (inb : ∀ d, (![3] : Fin 1 → ℕ) d + (![1] : Fin 1 → ℕ) d ≤ S4.size d) :
    View.ld w (Rect.unit (s := S4) ![3] ![1] inb) = fun _ => w (ix1 (3 : Fin 4)) := by
  funext x
  refine View.ld_unit_apply_of w _ _ inb x _ fun d => ?_
  have h0 : (x 0).val < 1 := (x 0).isLt
  match d with
  | ⟨0, _⟩ => show 3 = 3 + (x 0).val; omega

/-- Four slab stores, whatever lies under them, leave the array of the four slabs. -/
theorem canon_slabs {a b : ℕ} {Val : EltTy → Type} {e : EltTy} [∀ e, Nonempty (Val e)] (f : Fin 4 → (⟨3, ![1, a, b]⟩ : Shape).Idx → Val e)
    (i3 i2 i1 i0) (L : List (View.Piece Val (⟨3, ![4, a, b]⟩ : Shape) e)) :
    View.canon (⟨Rect.unit (s := ⟨3, ![4, a, b]⟩) ![3, 0, 0] ![1, a, b] i3, f 3⟩ :: ⟨Rect.unit (s := ⟨3, ![4, a, b]⟩) ![2, 0, 0] ![1, a, b] i2, f 2⟩ ::
      ⟨Rect.unit (s := ⟨3, ![4, a, b]⟩) ![1, 0, 0] ![1, a, b] i1, f 1⟩ :: ⟨Rect.unit (s := ⟨3, ![4, a, b]⟩) ![0, 0, 0] ![1, a, b] i0, f 0⟩ :: L) = slabs f := by
  have key : ∀ (n : ℕ) (hn : n < 4) (inb) (M : List (View.Piece Val (⟨3, ![4, a, b]⟩ : Shape) e)) (y : (⟨3, ![4, a, b]⟩ : Shape).Idx)
      (_ : (y 0).val ≠ n → View.canon M y = slabs f y),
      View.canon (⟨Rect.unit (s := ⟨3, ![4, a, b]⟩) ![n, 0, 0] ![1, a, b] inb, f ⟨n, hn⟩⟩ :: M) y = slabs f y := by
    intro n hn inb M y hM
    by_cases hy : (y 0).val = n
    · have e1 : (Rect.unit (s := ⟨3, ![4, a, b]⟩) ![n, 0, 0] ![1, a, b] inb).emb (ix3 (0 : Fin 1) (y 1) (y 2)) = y := by
        funext d
        refine Fin.ext ((Rect.idx_unit_val _ _ inb _ d).trans ?_)
        match d with
        | ⟨0, _⟩ => show n + 0 = (y 0).val; omega
        | ⟨1, _⟩ => show 0 + (y 1).val = (y 1).val; omega
        | ⟨2, _⟩ => show 0 + (y 2).val = (y 2).val; omega
      have e2 := View.canon_cons_emb (Rect.unit (s := ⟨3, ![4, a, b]⟩) ![n, 0, 0] ![1, a, b] inb) (f ⟨n, hn⟩) M (ix3 (0 : Fin 1) (y 1) (y 2))
      rw [e1] at e2
      rw [e2]
      show f ⟨n, hn⟩ _ = f (y 0) _
      rw [show (y 0) = (⟨n, hn⟩ : Fin 4) from Fin.ext hy]
    · rw [View.canon_cons_of_not_mem, hM hy]
      intro hm
      have h0 := (Rect.mem_set_unit (inb := inb)).mp hm ⟨0, by norm_num⟩
      have h1 : n ≤ (y 0).val := h0.1
      have h2 : (y 0).val < n + 1 := h0.2
      omega
  funext y
  refine key 3 (by norm_num) i3 _ y fun h3 => key 2 (by norm_num) i2 _ y fun h2 => key 1 (by norm_num) i1 _ y fun h1 =>
    key 0 (by norm_num) i0 _ y fun h0 => ?_
  have h : (y 0).val < 4 := (y 0).isLt
  omega

/-- Four column-block stores leave the block of the four. -/
theorem canon_cols {Val : EltTy → Type} {e : EltTy} [∀ e, Nonempty (Val e)] (f : Fin 4 → S1x512x512.Idx → Val e)
    (i3 i2 i1 i0) (L : List (View.Piece Val S1x512x2048 e)) :
    View.canon (⟨Rect.unit (s := S1x512x2048) ![0, 0, 1536] ![1, 512, 512] i3, f 3⟩ :: ⟨Rect.unit (s := S1x512x2048) ![0, 0, 1024] ![1, 512, 512] i2, f 2⟩ ::
      ⟨Rect.unit (s := S1x512x2048) ![0, 0, 512] ![1, 512, 512] i1, f 1⟩ :: ⟨Rect.unit (s := S1x512x2048) ![0, 0, 0] ![1, 512, 512] i0, f 0⟩ :: L) = cols f := by
  have key : ∀ (n o : ℕ) (hn : n < 4) (ho : o = 512 * n) (inb) (M : List (View.Piece Val S1x512x2048 e)) (y : S1x512x2048.Idx)
      (_ : (y 2).val / 512 ≠ n → View.canon M y = cols f y),
      View.canon (⟨Rect.unit (s := S1x512x2048) ![0, 0, o] ![1, 512, 512] inb, f ⟨n, hn⟩⟩ :: M) y = cols f y := by
    intro n o hn ho inb M y hM
    have hy2 : (y 2).val < 2048 := (y 2).isLt
    have hy0 : (y 0).val < 1 := (y 0).isLt
    by_cases hy : (y 2).val / 512 = n
    · have e1 : (Rect.unit (s := S1x512x2048) ![0, 0, o] ![1, 512, 512] inb).emb (ix3 (0 : Fin 1) (y 1) (⟨(y 2).val % 512, Nat.mod_lt _ (by norm_num)⟩ : Fin 512)) = y := by
        funext d
        refine Fin.ext ((Rect.idx_unit_val _ _ inb _ d).trans ?_)
        match d with
        | ⟨0, _⟩ => show 0 + 0 = (y 0).val; omega
        | ⟨1, _⟩ => show 0 + (y 1).val = (y 1).val; omega
        | ⟨2, _⟩ => show o + (y 2).val % 512 = (y 2).val; omega
      have e2 := View.canon_cons_emb (Rect.unit (s := S1x512x2048) ![0, 0, o] ![1, 512, 512] inb) (f ⟨n, hn⟩) M (ix3 (0 : Fin 1) (y 1) (⟨(y 2).val % 512, Nat.mod_lt _ (by norm_num)⟩ : Fin 512))
      rw [e1] at e2
      rw [e2]
      have e3 : (⟨(y 2).val / 512, by omega⟩ : Fin 4) = ⟨n, hn⟩ := Fin.ext hy
      show f ⟨n, hn⟩ _ = f ⟨(y 2).val / 512, _⟩ _
      rw [e3]
    · rw [View.canon_cons_of_not_mem, hM hy]
      intro hm
      have h0 := (Rect.mem_set_unit (inb := inb)).mp hm ⟨2, by norm_num⟩
      have h1 : o ≤ (y 2).val := h0.1
      have h2 : (y 2).val < o + 512 := h0.2
      omega
  funext y
  refine key 3 1536 (by norm_num) rfl i3 _ y fun h3 => key 2 1024 (by norm_num) rfl i2 _ y fun h2 => key 1 512 (by norm_num) rfl i1 _ y fun h1 =>
    key 0 0 (by norm_num) rfl i0 _ y fun h0 => ?_
  have h : (y 2).val < 2048 := (y 2).isLt
  omega

/-- The state the meta rows leave. -/
def metaSt (lg : S4.Idx → Elt F .f32) (km : Vec F S16x1024 .bf16) (vm : Vec F S16x2048 .bf16) : Vec F S4x256x512 .f32 :=
  slabs fun h => k0_pay5 (lg (ix1 h)) (colk km h) (colv vm h)

/-- The decay matrices. -/
def decays (lg : S4.Idx → Elt F .f32) : Vec F S4x512x512 .f32 := slabs fun h => k0_pay6 (lg (ix1 h))

/-- The output block of a point, from the state it reads. -/
def ptOut (lg : S4.Idx → Elt F .f32) (st : Vec F S4x256x512 .f32) (q k : Vec F S1x512x1024 .bf16) (v : Vec F S1x512x2048 .bf16)
    (dec : Vec F S4x512x512 .f32) (g : Vec F S1x512x2048 .bf16) : Vec F S1x512x2048 .bf16 :=
  cols fun h => hOut (lg (ix1 h)) (slab st h) (colq q h) (colq k h) (colb v h) (slab dec h) (colb g h)

/-- The state a point leaves, from the state it reads. -/
def ptSt (lg gc : S4.Idx → Elt F .f32) (st : Vec F S4x256x512 .f32) (k : Vec F S1x512x1024 .bf16) (v : Vec F S1x512x2048 .bf16) :
    Vec F S4x256x512 .f32 :=
  slabs fun h => hSt (lg (ix1 h)) (gc (ix1 h)) (slab st h) (colq k h) (colb v h)

theorem ld_whole_st {Val : EltTy → Type} {e : EltTy} (w : S4x256x512.Idx → Val e)
    (inb : ∀ d, (![0, 0, 0] : Fin 3 → ℕ) d + (![4, 256, 512] : Fin 3 → ℕ) d ≤ S4x256x512.size d) :
    View.ld w (Rect.unit (s := S4x256x512) ![0, 0, 0] ![4, 256, 512] inb) = w :=
  View.ld_unit_zero (S := S4x256x512) (by funext d; match d with | ⟨0, _⟩ => rfl | ⟨1, _⟩ => rfl | ⟨2, _⟩ => rfl) inb w

theorem pay17_eq (w : Vec F S4x256x512 .f32) : k0_pay17 w = w := by
  unfold k0_pay17
  exact shapeCast_self _ _

/-- A slab read past a store of another slab. -/
theorem readCov_slab_skip {a b : ℕ} {sig : RefSig} {κ : Kind} {sp : Space} {Val : EltTy → Type} {e : EltTy} [∀ e, Nonempty (Val e)]
    (u : View sig κ sp (⟨3, ![4, a, b]⟩ : Shape) e) (n k : ℕ) (hnk : n ≠ k) (i1 i2) (w) (L : List (View.Piece Val (⟨3, ![4, a, b]⟩ : Shape) e)) :
    u.readCov (⟨Rect.unit (s := ⟨3, ![4, a, b]⟩) ![n, 0, 0] ![1, a, b] i1, w⟩ :: L) (Rect.unit (s := ⟨3, ![4, a, b]⟩) ![k, 0, 0] ![1, a, b] i2).toLoadRect =
      u.readCov L (Rect.unit (s := ⟨3, ![4, a, b]⟩) ![k, 0, 0] ![1, a, b] i2).toLoadRect :=
  View.readCov_cons_of_disjoint u _ L _ (Rect.unit_disjoint (s := ⟨3, ![4, a, b]⟩) (inb := i1) (inb' := i2) ⟨0, by norm_num⟩ (by
    show n + 1 ≤ k ∨ k + 1 ≤ n
    omega))
theorem skip_01 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![0, 0, 0] ![1, 256, 512] i1, w⟩ :: L) (Rect.unit (s := S4x256x512) ![1, 0, 0] ![1, 256, 512] i2).toLoadRect =
      u.readCov L (Rect.unit (s := S4x256x512) ![1, 0, 0] ![1, 256, 512] i2).toLoadRect :=
  readCov_slab_skip u 0 1 (by norm_num) i1 i2 w L
theorem skip_02 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![0, 0, 0] ![1, 256, 512] i1, w⟩ :: L) (Rect.unit (s := S4x256x512) ![2, 0, 0] ![1, 256, 512] i2).toLoadRect =
      u.readCov L (Rect.unit (s := S4x256x512) ![2, 0, 0] ![1, 256, 512] i2).toLoadRect :=
  readCov_slab_skip u 0 2 (by norm_num) i1 i2 w L
theorem skip_03 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![0, 0, 0] ![1, 256, 512] i1, w⟩ :: L) (Rect.unit (s := S4x256x512) ![3, 0, 0] ![1, 256, 512] i2).toLoadRect =
      u.readCov L (Rect.unit (s := S4x256x512) ![3, 0, 0] ![1, 256, 512] i2).toLoadRect :=
  readCov_slab_skip u 0 3 (by norm_num) i1 i2 w L
theorem skip_12 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![1, 0, 0] ![1, 256, 512] i1, w⟩ :: L) (Rect.unit (s := S4x256x512) ![2, 0, 0] ![1, 256, 512] i2).toLoadRect =
      u.readCov L (Rect.unit (s := S4x256x512) ![2, 0, 0] ![1, 256, 512] i2).toLoadRect :=
  readCov_slab_skip u 1 2 (by norm_num) i1 i2 w L
theorem skip_13 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![1, 0, 0] ![1, 256, 512] i1, w⟩ :: L) (Rect.unit (s := S4x256x512) ![3, 0, 0] ![1, 256, 512] i2).toLoadRect =
      u.readCov L (Rect.unit (s := S4x256x512) ![3, 0, 0] ![1, 256, 512] i2).toLoadRect :=
  readCov_slab_skip u 1 3 (by norm_num) i1 i2 w L
theorem skip_23 {sig : RefSig} {κ : Kind} {sp : Space} {Val : EltTy → Type} {e : EltTy} [∀ e, Nonempty (Val e)] (u : View sig κ sp S4x256x512 e) (i1 i2) (w) (L : List (View.Piece Val S4x256x512 e)) :
    u.readCov (⟨Rect.unit (s := S4x256x512) ![2, 0, 0] ![1, 256, 512] i1, w⟩ :: L) (Rect.unit (s := S4x256x512) ![3, 0, 0] ![1, 256, 512] i2).toLoadRect =
      u.readCov L (Rect.unit (s := S4x256x512) ![3, 0, 0] ![1, 256, 512] i2).toLoadRect :=
  readCov_slab_skip u 2 3 (by norm_num) i1 i2 w L
theorem fill_0 {sig : RefSig} {κ : Kind} {sp : Space} {Val : EltTy → Type} {e : EltTy} [∀ e, Nonempty (Val e)] (u : View sig κ sp S4x256x512 e) (i1 i2) (w) :
    View.readCov (Val := Val) u [⟨Rect.unit (s := S4x256x512) ![0, 0, 0] ![4, 256, 512] i1, w⟩] (Rect.unit (s := S4x256x512) ![0, 0, 0] ![1, 256, 512] i2).toLoadRect = slab w 0 :=
  (View.readCov_fill (Val := Val) u i1 w [] _ (fun d => by match d with | ⟨0, _⟩ => rfl | ⟨1, _⟩ => rfl | ⟨2, _⟩ => rfl)).trans (ld_slab_0 w i2)
theorem fill_1 {sig : RefSig} {κ : Kind} {sp : Space} {Val : EltTy → Type} {e : EltTy} [∀ e, Nonempty (Val e)] (u : View sig κ sp S4x256x512 e) (i1 i2) (w) :
    View.readCov (Val := Val) u [⟨Rect.unit (s := S4x256x512) ![0, 0, 0] ![4, 256, 512] i1, w⟩] (Rect.unit (s := S4x256x512) ![1, 0, 0] ![1, 256, 512] i2).toLoadRect = slab w 1 :=
  (View.readCov_fill (Val := Val) u i1 w [] _ (fun d => by match d with | ⟨0, _⟩ => rfl | ⟨1, _⟩ => rfl | ⟨2, _⟩ => rfl)).trans (ld_slab_1 w i2)
theorem fill_2 {sig : RefSig} {κ : Kind} {sp : Space} {Val : EltTy → Type} {e : EltTy} [∀ e, Nonempty (Val e)] (u : View sig κ sp S4x256x512 e) (i1 i2) (w) :
    View.readCov (Val := Val) u [⟨Rect.unit (s := S4x256x512) ![0, 0, 0] ![4, 256, 512] i1, w⟩] (Rect.unit (s := S4x256x512) ![2, 0, 0] ![1, 256, 512] i2).toLoadRect = slab w 2 :=
  (View.readCov_fill (Val := Val) u i1 w [] _ (fun d => by match d with | ⟨0, _⟩ => rfl | ⟨1, _⟩ => rfl | ⟨2, _⟩ => rfl)).trans (ld_slab_2 w i2)
theorem fill_3 {sig : RefSig} {κ : Kind} {sp : Space} {Val : EltTy → Type} {e : EltTy} [∀ e, Nonempty (Val e)] (u : View sig κ sp S4x256x512 e) (i1 i2) (w) :
    View.readCov (Val := Val) u [⟨Rect.unit (s := S4x256x512) ![0, 0, 0] ![4, 256, 512] i1, w⟩] (Rect.unit (s := S4x256x512) ![3, 0, 0] ![1, 256, 512] i2).toLoadRect = slab w 3 :=
  (View.readCov_fill (Val := Val) u i1 w [] _ (fun d => by match d with | ⟨0, _⟩ => rfl | ⟨1, _⟩ => rfl | ⟨2, _⟩ => rfl)).trans (ld_slab_3 w i2)
theorem whole_slab_0 {sig : RefSig} {κ : Kind} {sp : Space} {Val : EltTy → Type} {e : EltTy} [∀ e, Nonempty (Val e)] (u : View sig κ sp S4x256x512 e) (i3 i2 i1 i0 i)
    (w3 w2 w1 w0 : S1x256x512.Idx → Val e) :
    slab (View.readCov (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect) 0 = w0 := by
  have e1 := View.readCov_eq_canon' (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect
  have e2 := canon_slabs (Val := Val) (e := e) (![w0, w1, w2, w3] : Fin 4 → S1x256x512.Idx → Val e) i3 i2 i1 i0 []
  have e3 := ld_whole_st (Val := Val) (e := e) (View.canon (Val := Val) [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]) i
  refine (congrArg (fun z => slab z 0) (e1.trans (e3.trans e2))).trans (slab_slabs _ _)
theorem whole_slab_1 {sig : RefSig} {κ : Kind} {sp : Space} {Val : EltTy → Type} {e : EltTy} [∀ e, Nonempty (Val e)] (u : View sig κ sp S4x256x512 e) (i3 i2 i1 i0 i)
    (w3 w2 w1 w0 : S1x256x512.Idx → Val e) :
    slab (View.readCov (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect) 1 = w1 := by
  have e1 := View.readCov_eq_canon' (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect
  have e2 := canon_slabs (Val := Val) (e := e) (![w0, w1, w2, w3] : Fin 4 → S1x256x512.Idx → Val e) i3 i2 i1 i0 []
  have e3 := ld_whole_st (Val := Val) (e := e) (View.canon (Val := Val) [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]) i
  refine (congrArg (fun z => slab z 1) (e1.trans (e3.trans e2))).trans (slab_slabs _ _)
theorem whole_slab_2 {sig : RefSig} {κ : Kind} {sp : Space} {Val : EltTy → Type} {e : EltTy} [∀ e, Nonempty (Val e)] (u : View sig κ sp S4x256x512 e) (i3 i2 i1 i0 i)
    (w3 w2 w1 w0 : S1x256x512.Idx → Val e) :
    slab (View.readCov (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect) 2 = w2 := by
  have e1 := View.readCov_eq_canon' (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect
  have e2 := canon_slabs (Val := Val) (e := e) (![w0, w1, w2, w3] : Fin 4 → S1x256x512.Idx → Val e) i3 i2 i1 i0 []
  have e3 := ld_whole_st (Val := Val) (e := e) (View.canon (Val := Val) [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]) i
  refine (congrArg (fun z => slab z 2) (e1.trans (e3.trans e2))).trans (slab_slabs _ _)
theorem whole_slab_3 {sig : RefSig} {κ : Kind} {sp : Space} {Val : EltTy → Type} {e : EltTy} [∀ e, Nonempty (Val e)] (u : View sig κ sp S4x256x512 e) (i3 i2 i1 i0 i)
    (w3 w2 w1 w0 : S1x256x512.Idx → Val e) :
    slab (View.readCov (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect) 3 = w3 := by
  have e1 := View.readCov_eq_canon' (Val := Val) u [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]
      (Rect.unit (s := S4x256x512) ![0, 0, 0] ![4, 256, 512] i).toLoadRect
  have e2 := canon_slabs (Val := Val) (e := e) (![w0, w1, w2, w3] : Fin 4 → S1x256x512.Idx → Val e) i3 i2 i1 i0 []
  have e3 := ld_whole_st (Val := Val) (e := e) (View.canon (Val := Val) [⟨Rect.unit (s := S4x256x512) ![3, 0, 0] ![1, 256, 512] i3, w3⟩, ⟨Rect.unit (s := S4x256x512) ![2, 0, 0] ![1, 256, 512] i2, w2⟩,
      ⟨Rect.unit (s := S4x256x512) ![1, 0, 0] ![1, 256, 512] i1, w1⟩, ⟨Rect.unit (s := S4x256x512) ![0, 0, 0] ![1, 256, 512] i0, w0⟩]) i
  refine (congrArg (fun z => slab z 3) (e1.trans (e3.trans e2))).trans (slab_slabs _ _)
theorem skipd_10 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![1, 0, 0] ![1, 512, 512] i1, w⟩ :: L) (Rect.unit (s := S4x512x512) ![0, 0, 0] ![1, 512, 512] i2).toLoadRect =
      u.readCov L (Rect.unit (s := S4x512x512) ![0, 0, 0] ![1, 512, 512] i2).toLoadRect :=
  readCov_slab_skip u 1 0 (by norm_num) i1 i2 w L
theorem skipd_20 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![2, 0, 0] ![1, 512, 512] i1, w⟩ :: L) (Rect.unit (s := S4x512x512) ![0, 0, 0] ![1, 512, 512] i2).toLoadRect =
      u.readCov L (Rect.unit (s := S4x512x512) ![0, 0, 0] ![1, 512, 512] i2).toLoadRect :=
  readCov_slab_skip u 2 0 (by norm_num) i1 i2 w L
theorem skipd_21 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![2, 0, 0] ![1, 512, 512] i1, w⟩ :: L) (Rect.unit (s := S4x512x512) ![1, 0, 0] ![1, 512, 512] i2).toLoadRect =
      u.readCov L (Rect.unit (s := S4x512x512) ![1, 0, 0] ![1, 512, 512] i2).toLoadRect :=
  readCov_slab_skip u 2 1 (by norm_num) i1 i2 w L
theorem skipd_30 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![3, 0, 0] ![1, 512, 512] i1, w⟩ :: L) (Rect.unit (s := S4x512x512) ![0, 0, 0] ![1, 512, 512] i2).toLoadRect =
      u.readCov L (Rect.unit (s := S4x512x512) ![0, 0, 0] ![1, 512, 512] i2).toLoadRect :=
  readCov_slab_skip u 3 0 (by norm_num) i1 i2 w L
theorem skipd_31 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![3, 0, 0] ![1, 512, 512] i1, w⟩ :: L) (Rect.unit (s := S4x512x512) ![1, 0, 0] ![1, 512, 512] i2).toLoadRect =
      u.readCov L (Rect.unit (s := S4x512x512) ![1, 0, 0] ![1, 512, 512] i2).toLoadRect :=
  readCov_slab_skip u 3 1 (by norm_num) i1 i2 w L
theorem skipd_32 {sig : RefSig} {κ : Kind} {sp : Space} {Val : EltTy → Type} {e : EltTy} [∀ e, Nonempty (Val e)] (u : View sig κ sp S4x512x512 e) (i1 i2) (w) (L : List (View.Piece Val S4x512x512 e)) :
    u.readCov (⟨Rect.unit (s := S4x512x512) ![3, 0, 0] ![1, 512, 512] i1, w⟩ :: L) (Rect.unit (s := S4x512x512) ![2, 0, 0] ![1, 512, 512] i2).toLoadRect =
      u.readCov L (Rect.unit (s := S4x512x512) ![2, 0, 0] ![1, 512, 512] i2).toLoadRect :=
  readCov_slab_skip u 3 2 (by norm_num) i1 i2 w L

section heads
variable (lg gc : Elt F .f32) (st : Vec F S1x256x512 .f32) (q k : Vec F S1x512x256 .bf16) (v : Vec F S1x512x512 .bf16)
    (dec : Vec F S1x512x512 .f32) (g : Vec F S1x512x512 .bf16)
theorem hOut_0 : k0_pay27 (k0_pay19 lg) (k0_pay21 st) (k0_pay22 q) (k0_pay24 v) (k0_pay25 q k) (k0_pay26 dec) g = hOut lg st q k v dec g := rfl
theorem hOut_1 (o : Elt F .f32) (ho : o = Scalar.ofBits .f32 0x3F800000#32) : k0_pay35 (k0_pay33 k0_pay18 lg o st q k v dec) (k0_pay34 k0_pay18 lg o st q k v dec) g = hOut lg st q k v dec g := by subst ho; rfl
theorem hOut_2 : k0_pay43 (k0_pay37 k0_pay18 lg) (k0_pay39 st) (k0_pay40 q) k v dec g = hOut lg st q k v dec g := rfl
theorem hOut_3 : k0_pay1 (k0_pay47 k0_pay18 lg) (k0_pay50 q) (k0_pay53 q k v dec) (k0_pay54 st) (constant S512x512 .f32 0x00000000#32) g = hOut lg st q k v dec g := rfl
theorem hSt_0 : k0_pay28 (k0_pay20 lg) (k0_pay21 st) (k0_pay23 k) (k0_pay24 v) gc = hSt lg gc st k v := rfl
theorem hSt_1 : k0_pay36 (k0_pay29 k0_pay18 lg) (k0_pay30 st) (k0_pay31 k) (k0_pay32 v) gc = hSt lg gc st k v := rfl
theorem hSt_2 : k0_pay46 (k0_pay39 st) (k0_pay42 v) (k0_pay44 (k0_pay38 k0_pay18 lg) k) (k0_pay45 gc) = hSt lg gc st k v := rfl
theorem hSt_3 : k0_pay2 (k0_pay48 k0_pay18 lg) (k0_pay49 st) (k0_pay51 k) (k0_pay52 v) gc = hSt lg gc st k v := rfl
theorem meta_1 (km : Vec F S16x256 .bf16) (vm : Vec F S16x512 .bf16) : k0_pay8 (k0_pay7 lg) km vm = k0_pay5 lg km vm := rfl
theorem meta_2 (km : Vec F S16x256 .bf16) (vm : Vec F S16x512 .bf16) : k0_pay11 (k0_pay10 k0_pay3 lg km) vm (constant S256x512 .f32 0x00000000#32) = k0_pay5 lg km vm := rfl
theorem meta_3 (km : Vec F S16x256 .bf16) (vm : Vec F S16x512 .bf16) : k0_pay13 k0_pay3 lg km vm = k0_pay5 lg km vm := rfl
theorem dec_1 : k0_pay9 k0_pay4 lg = k0_pay6 lg := rfl
theorem dec_2 : k0_pay12 k0_pay4 lg = k0_pay6 lg := rfl
theorem dec_3 : k0_pay16 k0_pay4 lg (k0_pay14 (k0_pay4 (F := F))) k0_pay15 = k0_pay6 lg := rfl
end heads

theorem out0_B_8_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : ¬cond0_0 i) (hc1 : ¬cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) (xs0 : Vec F S4x256x512 .f32) (xs1 : Vec F S4x256x512 .f32) (xs2 : Vec F S4x512x512 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = ptOut x0 xs0 x2 x3 x4 xs2 x5 := by
  unfold out0_B_8
  rw [View.read_writes_junk_eq_canon]
  unfold kernelRun0_B
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0]
  beta_reduce
  have e := fun L => canon_cols (Val := Elt F) (e := .bf16) (fun h => hOut (x0 (ix1 h)) (slab xs0 h) (colq x2 h) (colq x3 h) (colb x4 h) (slab xs2 h) (colb x5 h)) inb_S1x512x2048_S1x512x512_0_0_1536 inb_S1x512x2048_S1x512x512_0_0_1024 inb_S1x512x2048_S1x512x512_0_0_512 inb_S1x512x2048_S1x512x512_0_0_0 L
  beta_reduce at e
  rw [e]
  rfl

theorem sout0_B_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : ¬cond0_0 i) (hc1 : ¬cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) (xs0 : Vec F S4x256x512 .f32) (xs1 : Vec F S4x256x512 .f32) (xs2 : Vec F S4x512x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = ptSt x0 x1 xs0 x3 x4 := by
  unfold sout0_B_0
  rw [View.read_writes_junk_eq_canon]
  unfold kernelRun0_B
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0, ld_sc_0 x1, ld_sc_1 x1, ld_sc_2 x1, ld_sc_3 x1]
  beta_reduce
  have e := fun L => canon_slabs (Val := Elt F) (e := .f32) (fun h => hSt (x0 (ix1 h)) (x1 (ix1 h)) (slab xs0 h) (colq x3 h) (colb x4 h)) inb_S4x256x512_S1x256x512_3_0_0 inb_S4x256x512_S1x256x512_2_0_0 inb_S4x256x512_S1x256x512_1_0_0 inb_S4x256x512_S1x256x512_0_0_0 L
  beta_reduce at e
  rw [e]
  rfl

theorem out0_C_8_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : ¬cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) (xs1 : Vec F S4x256x512 .f32) (xs2 : Vec F S4x512x512 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2 = ptOut x0 xs1 x2 x3 x4 xs2 x5 := by
  unfold out0_C_8
  rw [View.read_writes_junk_eq_canon]
  unfold kernelRun0_C
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0]
  beta_reduce
  have e := fun L => canon_cols (Val := Elt F) (e := .bf16) (fun h => hOut (x0 (ix1 h)) (slab xs1 h) (colq x2 h) (colq x3 h) (colb x4 h) (slab xs2 h) (colb x5 h)) inb_S1x512x2048_S1x512x512_0_0_1536 inb_S1x512x2048_S1x512x512_0_0_1024 inb_S1x512x2048_S1x512x512_0_0_512 inb_S1x512x2048_S1x512x512_0_0_0 L
  beta_reduce at e
  rw [e]
  rfl

theorem sout0_C_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : ¬cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) (xs1 : Vec F S4x256x512 .f32) (xs2 : Vec F S4x512x512 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2 = ptSt x0 x1 xs1 x3 x4 := by
  unfold sout0_C_0
  rw [View.read_writes_junk_eq_canon]
  unfold kernelRun0_C
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0, ld_sc_0 x1, ld_sc_1 x1, ld_sc_2 x1, ld_sc_3 x1]
  beta_reduce
  have e := fun L => canon_slabs (Val := Elt F) (e := .f32) (fun h => hSt (x0 (ix1 h)) (x1 (ix1 h)) (slab xs1 h) (colq x3 h) (colb x4 h)) inb_S4x256x512_S1x256x512_3_0_0 inb_S4x256x512_S1x256x512_2_0_0 inb_S4x256x512_S1x256x512_1_0_0 inb_S4x256x512_S1x256x512_0_0_0 L
  beta_reduce at e
  rw [e]
  rfl

theorem sout0_A_1_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = metaSt x0 x6 x7 := by
  unfold sout0_A_1
  rw [View.read_writes_junk_eq_canon]
  unfold kernelRun0_A
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0]
  beta_reduce
  have e := fun L => canon_slabs (Val := Elt F) (e := .f32) (fun h => k0_pay5 (x0 (ix1 h)) (colk x6 h) (colv x7 h)) inb_S4x256x512_S1x256x512_3_0_0 inb_S4x256x512_S1x256x512_2_0_0 inb_S4x256x512_S1x256x512_1_0_0 inb_S4x256x512_S1x256x512_0_0_0 L
  beta_reduce at e
  rw [e]
  rfl

theorem sout0_A_2_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = decays x0 := by
  unfold sout0_A_2
  rw [View.read_writes_junk_eq_canon]
  unfold kernelRun0_A
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0]
  beta_reduce
  have e := fun L => canon_slabs (Val := Elt F) (e := .f32) (fun h => k0_pay6 (x0 (ix1 h))) inb_S4x512x512_S1x512x512_3_0_0 inb_S4x512x512_S1x512x512_2_0_0 inb_S4x512x512_S1x512x512_1_0_0 inb_S4x512x512_S1x512x512_0_0_0 L
  beta_reduce at e
  rw [e]
  rfl

theorem out0_A_8_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = ptOut x0 (metaSt x0 x6 x7) x2 x3 x4 (decays x0) x5 := by
  unfold out0_A_8
  rw [View.read_writes_junk_eq_canon]
  unfold kernelRun0_A
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0]
  beta_reduce
  have e := fun L => canon_cols (Val := Elt F) (e := .bf16) (fun h => hOut (x0 (ix1 h)) (k0_pay5 (x0 (ix1 h)) (colk x6 h) (colv x7 h)) (colq x2 h) (colq x3 h) (colb x4 h) (k0_pay6 (x0 (ix1 h))) (colb x5 h)) inb_S1x512x2048_S1x512x512_0_0_1536 inb_S1x512x2048_S1x512x512_0_0_1024 inb_S1x512x2048_S1x512x512_0_0_512 inb_S1x512x2048_S1x512x512_0_0_0 L
  beta_reduce at e
  rw [e]
  unfold ptOut metaSt decays
  simp only [slab_slabs]

theorem sout0_A_0_eq (c : Dev nD) (i : grid0.Coords) (arg2 : Memref sig .tc .smem S4 .f32) (harg2 : arg2.IsWhole) (arg3 : Memref sig .tc .smem S4 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x2048 .bf16) (harg6 : arg6.IsWhole) (arg7 : Memref sig .tc .vmem S1x512x2048 .bf16) (harg7 : arg7.IsWhole) (arg8 : Memref sig .tc .vmem S16x1024 .bf16) (harg8 : arg8.IsWhole) (arg9 : Memref sig .tc .vmem S16x2048 .bf16) (harg9 : arg9.IsWhole) (arg10 : Memref sig .tc .vmem S1x512x2048 .bf16) (harg10 : arg10.IsWhole) (arg11 : Memref sig .tc .vmem S4x256x512 .f32) (harg11 : arg11.IsWhole) (arg12 : Memref sig .tc .vmem S4x256x512 .f32) (harg12 : arg12.IsWhole) (arg13 : Memref sig .tc .vmem S4x512x512 .f32) (harg13 : arg13.IsWhole) (hc0 : cond0_0 i) (hc1 : cond0_1 i)
    (x0 : Vec F S4 .f32) (x1 : Vec F S4 .f32) (x2 : Vec F S1x512x1024 .bf16) (x3 : Vec F S1x512x1024 .bf16) (x4 : Vec F S1x512x2048 .bf16) (x5 : Vec F S1x512x2048 .bf16) (x6 : Vec F S16x1024 .bf16) (x7 : Vec F S16x2048 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = ptSt x0 x1 (metaSt x0 x6 x7) x3 x4 := by
  unfold sout0_A_0
  rw [View.read_writes_junk_eq_canon]
  unfold kernelRun0_A
  dsimp only
  sl_unfold_words
  simp (disch := rfl) only [↓skip_01, ↓skip_02, ↓skip_03, ↓skip_12, ↓skip_13, ↓skip_23, ↓fill_0, ↓fill_1, ↓fill_2, ↓fill_3, View.readAt_eq_ld, harg2.read_unread, harg3.read_unread, harg4.read_unread, harg5.read_unread, harg6.read_unread, harg7.read_unread, harg8.read_unread, harg9.read_unread, harg11.read_unread, harg12.read_unread, harg13.read_unread,
    ld_slab_0, ld_slab_1, ld_slab_2, ld_slab_3, ld_colb_0, ld_colb_1, ld_colb_2, ld_colb_3, ld_colq_0, ld_colq_1, ld_colq_2, ld_colq_3, ld_colk_0, ld_colk_1, ld_colk_2, ld_colk_3, ld_colv_0, ld_colv_1, ld_colv_2, ld_colv_3, ld_sc_0, ld_sc_1, ld_sc_2, ld_sc_3,
    hOut_0, hOut_1, hOut_2, hOut_3, hSt_0, hSt_1, hSt_2, hSt_3, ld_whole_st, pay17_eq, meta_1, meta_2, meta_3, dec_1, dec_2, dec_3, skipd_10, skipd_20, skipd_30, skipd_21, skipd_31, skipd_32, View.readCov_cons_toLoadRect, whole_slab_0, whole_slab_1, whole_slab_2, whole_slab_3]
  rw [ld_sc_0 x0, ld_sc_1 x0, ld_sc_2 x0, ld_sc_3 x0, ld_sc_0 x1, ld_sc_1 x1, ld_sc_2 x1, ld_sc_3 x1]
  beta_reduce
  have e := fun L => canon_slabs (Val := Elt F) (e := .f32) (fun h => hSt (x0 (ix1 h)) (x1 (ix1 h)) (k0_pay5 (x0 (ix1 h)) (colk x6 h) (colv x7 h)) (colq x3 h) (colb x4 h)) inb_S4x256x512_S1x256x512_3_0_0 inb_S4x256x512_S1x256x512_2_0_0 inb_S4x256x512_S1x256x512_1_0_0 inb_S4x256x512_S1x256x512_0_0_0 L
  beta_reduce at e
  rw [e]
  unfold ptSt metaSt
  simp only [slab_slabs]

end Cert.KernelIdeal.Val
-- ==== Proof.RetMath.lean ====
module
public import Mathlib.Analysis.SpecialFunctions.Exp
public import Mathlib.Algebra.BigOperators.Fin
public import Mathlib.Tactic.Ring
public import Mathlib.Data.EReal.Operations

/-!
# The retention recurrence over the reals, and why the length of a chunk does not matter

One head of one batch row: queries and keys are streams of 256 numbers, values streams of 512. The state before
row `t` is the sum of the outer products of the keys and values seen so far, each damped by `exp L` for every row
that has passed since, the 16 meta rows standing before row 0. The output of row `t` is its query times the state
after that row. Both programs cut the rows into chunks, the kernel of 512 rows, the reference of 128: inside a chunk
they sum over the chunk's rows with a triangle of decays, and carry the state from chunk to chunk.
-/

@[expose] public section
noncomputable section
namespace Cert.Ret

variable {D E : Type} [Fintype D]

/-- The state before row `t`. -/
def St (L : ℝ) (km : Fin 16 → D → ℝ) (vm : Fin 16 → E → ℝ) (k : ℕ → D → ℝ) (v : ℕ → E → ℝ) (t : ℕ) (d : D) (e : E) : ℝ :=
  ∑ i : Fin 16, (km i d * Real.exp (L * ((t : ℝ) + (15 - (i : ℕ))))) * vm i e
    + ∑ i ∈ Finset.range t, (k i d * Real.exp (L * ((t : ℝ) - 1 - i))) * v i e

/-- The output of row `t`: its query times the state after it. -/
def Y (L : ℝ) (km : Fin 16 → D → ℝ) (vm : Fin 16 → E → ℝ) (q k : ℕ → D → ℝ) (v : ℕ → E → ℝ) (t : ℕ) (e : E) : ℝ :=
  ∑ d, q t d * St L km vm k v (t + 1) d e

variable (L : ℝ) (km : Fin 16 → D → ℝ) (vm : Fin 16 → E → ℝ) (q k : ℕ → D → ℝ) (v : ℕ → E → ℝ)

omit [Fintype D] in
/-- The state at the start: the meta rows alone. -/
theorem St_zero (d : D) (e : E) : St L km vm k v 0 d e = ∑ i : Fin 16, (km i d * Real.exp (L * (15 - (i : ℕ)))) * vm i e := by
  simp [St]

omit [Fintype D] in
/-- The state `C` rows later: the state damped `C` times and the rows of the chunk. -/
theorem St_add (t C : ℕ) (d : D) (e : E) :
    St L km vm k v (t + C) d e = Real.exp (L * C) * St L km vm k v t d e
      + ∑ r : Fin C, (k (t + r) d * Real.exp (L * ((C : ℝ) - 1 - (r : ℕ)))) * v (t + r) e := by
  unfold St
  rw [Finset.sum_range_add, Fin.sum_univ_eq_sum_range (fun r => (k (t + r) d * Real.exp (L * ((C : ℝ) - 1 - (r : ℕ)))) * v (t + r) e) C,
    ← add_assoc, mul_add, Finset.mul_sum, Finset.mul_sum]
  refine congrArg₂ (· + ·) (congrArg₂ (· + ·) ?_ ?_) ?_ <;> refine Finset.sum_congr rfl fun i _ => ?_
  · rw [show L * (((t + C : ℕ) : ℝ) + (15 - (i : ℕ))) = L * C + L * ((t : ℝ) + (15 - (i : ℕ))) by push_cast; ring, Real.exp_add]; ring
  · rw [show L * (((t + C : ℕ) : ℝ) - 1 - i) = L * C + L * ((t : ℝ) - 1 - i) by push_cast; ring, Real.exp_add]; ring
  · rw [show L * (((t + C : ℕ) : ℝ) - 1 - ((t + i : ℕ) : ℝ)) = L * ((C : ℝ) - 1 - i) by push_cast; ring]

/-- The output of row `r` of a chunk of `C` rows from row `t`: the chunk's own rows up to `r`, damped, and the
    state the chunk began with, damped `r + 1` times. The right side does not mention the chunk. -/
theorem Y_chunk (t C : ℕ) (r : Fin C) (e : E) :
    (∑ s : Fin C, ((∑ d, q (t + r) d * k (t + s) d) * (if (s : ℕ) ≤ r then Real.exp (L * ((r : ℕ) - (s : ℕ) : ℝ)) else 0)) * v (t + s) e)
        + (∑ d, q (t + r) d * St L km vm k v t d e) * Real.exp (L * ((r : ℕ) + 1))
      = Y L km vm q k v (t + r) e := by
  have hs : ∀ d, St L km vm k v (t + r + 1) d e = Real.exp (L * ((r : ℕ) + 1)) * St L km vm k v t d e
      + ∑ s : Fin C, (k (t + s) d * (if (s : ℕ) ≤ r then Real.exp (L * ((r : ℕ) - (s : ℕ) : ℝ)) else 0)) * v (t + s) e := by
    intro d
    rw [show t + (r : ℕ) + 1 = t + (r + 1) by omega, St_add]
    refine congrArg₂ (· + ·) (by push_cast; rfl) ?_
    rw [Fin.sum_univ_eq_sum_range (fun s => (k (t + s) d * Real.exp (L * (((r + 1 : ℕ) : ℝ) - 1 - (s : ℕ)))) * v (t + s) e) (r + 1),
      Fin.sum_univ_eq_sum_range (fun s => (k (t + s) d * (if s ≤ r then Real.exp (L * ((r : ℕ) - (s : ℕ) : ℝ)) else 0)) * v (t + s) e) C]
    rw [← Finset.sum_subset (Finset.range_subset_range.2 (show (r : ℕ) + 1 ≤ C from r.2))]
    · refine Finset.sum_congr rfl fun s hs => ?_
      rw [if_pos (by have := Finset.mem_range.1 hs; omega)]
      push_cast
      rw [show ((r : ℕ) : ℝ) + 1 - 1 - (s : ℝ) = (r : ℕ) - (s : ℝ) by ring]
    · intro s _ hs
      rw [if_neg (fun h => hs (Finset.mem_range.2 (by omega)))]; ring
  unfold Y
  simp only [hs, mul_add, Finset.sum_add_distrib, Finset.mul_sum, Finset.sum_mul]
  rw [add_comm, Finset.sum_comm]
  refine congrArg₂ (· + ·) (Finset.sum_congr rfl fun _ _ => by ring) (Finset.sum_congr rfl fun _ _ => Finset.sum_congr rfl fun _ _ => by ring)

/-- A finite sum of reals, read in the extended reals. -/
theorem coe_sum {ι : Type} (s : Finset ι) (f : ι → ℝ) : (∑ i ∈ s, ((f i : ℝ) : EReal)) = ((∑ i ∈ s, f i : ℝ) : EReal) := by
  classical
  induction s using Finset.induction with
  | empty => simp
  | insert a s h ih => rw [Finset.sum_insert h, Finset.sum_insert h, ih, EReal.coe_add]

end Cert.Ret
-- ==== Proof.RetConst.lean ====
module
public import proofs.«01_k».proof.Proof.RetMath
public import Idealize.ShloMosaic.Lib.Pointwise
public import Idealize.ShloMosaic.Lib.IdealHost

/-!
# The constants of the two programs as real numbers

Literals, row numbers kept as 32-bit words, and the decay rate of a head, which both programs work out on the host:
`log (1 - 2 ^ (-5 - h))` for head `h`.
-/

@[expose] public section
noncomputable section
namespace Cert.Ret
open Idealize.ShloMosaic Idealize.ShloMosaic.TcCoe

theorem ofBits_511 : Ideal.ofBits .f32 0x43FF8000#32 = ((511 : ℝ) : EReal) := by
  simp [Ideal.ofBits, Ideal.ieee, -EReal.coe_mul]; norm_num
theorem ofBits_15 : Ideal.ofBits .f32 0x41700000#32 = ((15 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_neg5 : Ideal.ofBits .f32 0xC0A00000#32 = ((-5 : ℝ) : EReal) := by
  simp [Ideal.ofBits, Ideal.ieee, -EReal.coe_mul, -EReal.coe_neg]; norm_num

/-- A row number as a 32-bit word, read as a real number, is the number. -/
theorem word_real {n : ℕ} (h : n < 2 ^ 31) : (FloatOps.sitofp (F := Ideal) FTy.f32 (BitVec.ofNat 32 n)) = (((n : ℕ) : ℝ) : EReal) := by
  have e : (BitVec.ofNat 32 n).toInt = (n : ℤ) := by
    rw [BitVec.toInt_ofNat', Int.bmod_def, if_pos (by omega)]; omega
  change ((((BitVec.ofNat 32 n).toInt : ℤ) : ℝ) : EReal) = _
  rw [e]; norm_cast

/-- The difference of two row numbers as 32-bit words, read as a real number, is the difference. -/
theorem word_sub_real {n k : ℕ} (h : n < 2 ^ 30) (hk : k < 2 ^ 30) :
    (FloatOps.sitofp (F := Ideal) FTy.f32 (IntOp.subi (BitVec.ofNat 32 n) (BitVec.ofNat 32 k))) = (((n : ℝ) - (k : ℝ) : ℝ) : EReal) := by
  have e : (BitVec.ofNat 32 n - BitVec.ofNat 32 k).toInt = (n : ℤ) - (k : ℤ) := by
    rw [BitVec.toInt_sub, BitVec.toInt_ofNat', BitVec.toInt_ofNat']
    simp only [Int.bmod_def]
    split_ifs <;> omega
  change ((((BitVec.ofNat 32 n - BitVec.ofNat 32 k).toInt : ℤ) : ℝ) : EReal) = _
  rw [e]; push_cast; rfl

theorem exp_mul (L x : ℝ) : Ideal.exp ((L : EReal) * (x : EReal)) = ((Real.exp (L * x) : ℝ) : EReal) := by
  rw [← EReal.coe_mul, Ideal.exp_coe]

/-- The decay rate of head `h`. -/
def lg (h : Fin 4) : ℝ := Real.log (1 + -(2 : ℝ) ^ ((-5 : ℝ) - (h : ℕ)))

/-- What the host works out for head `h` is its decay rate. -/
theorem rate (h : Fin 4) : Ideal.log1p (-Ideal.pow (Ideal.ofBits .f32 0x40000000#32)
    (Ideal.ofBits .f32 0xC0A00000#32 - FloatOps.sitofp (F := Ideal) FTy.f32 (BitVec.ofNat 32 h.val))) = ((lg h : ℝ) : EReal) := by
  rw [ofBits_2, ofBits_neg5, word_real (by omega), ← EReal.coe_sub]
  have hp : (2 : ℝ) ^ ((-5 : ℝ) - (h : ℕ)) < 1 :=
    Real.rpow_lt_one_of_one_lt_of_neg (by norm_num) (by have : (0 : ℝ) ≤ (h : ℕ) := Nat.cast_nonneg _
                                                        linarith)
  show Ideal.log (1 + -(((2 : ℝ) ^ ((-5 : ℝ) - (h : ℕ)) : ℝ) : EReal)) = _
  rw [← EReal.coe_neg, ← EReal.coe_one, ← EReal.coe_add, Ideal.log_coe, if_neg (by linarith), lg]

end Cert.Ret
-- ==== Proof.RetHeads.lean ====
module
public import proofs.«01_k».proof.Proof.RetPieces
public import proofs.«01_k».proof.Proof.RetConst
public import Idealize.ShloMosaic.Lib.Pointwise

/-!
# One head of one grid point, over the reals

What the kernel computes for one head of one chunk of 512 rows, entry by entry: the new state, the output rows, the
meta rows' state and the triangle of decays, first as extended reals, then, where the queries, keys, values and the
state are real numbers, as the real expressions of `RetMath`.
-/

@[expose] public section
set_option maxRecDepth 16384
noncomputable section
namespace Cert.KernelIdeal.Val
open Idealize.ShloMosaic Idealize.ShloMosaic.TcCoe Idealize.SL.Sem
open Cert.KernelIdeal Cert.KernelIdeal.Gen Cert.Ret

/-- The state after one chunk. -/
theorem hSt_apply (lg gc : EReal) (st : Vec Ideal S1x256x512 .f32) (k : Vec Ideal S1x512x256 .bf16) (v : Vec Ideal S1x512x512 .bf16) (d : Fin 256) (e : Fin 512) :
    hSt lg gc st k v (ix3 0 d e) = gc * st (ix3 0 d e) + ∑ x : Fin 512, k (ix3 0 x d) *
            Ideal.exp (lg * (Ideal.ofBits FTy.f32 1140817920#32 - FloatOps.sitofp (F := Ideal) FTy.f32 (BitVec.ofNat 32 x.val))) * v (ix3 0 x e) := by
  pointwise [hSt, k0_pay28, k0_pay20, k0_pay21, k0_pay23, k0_pay24, k0_pay18]

/-- A row of a chunk before it is normalised: the chunk's own rows and the state. -/
def hY (lg : EReal) (st : Vec Ideal S1x256x512 .f32) (q k : Vec Ideal S1x512x256 .bf16) (v : Vec Ideal S1x512x512 .bf16) (dec : Vec Ideal S1x512x512 .f32) (r e : Fin 512) : EReal :=
  ∑ s : Fin 512, (∑ d : Fin 256, q (ix3 0 r d) * k (ix3 0 s d)) * dec (ix3 0 r s) * v (ix3 0 s e)
    + (∑ d : Fin 256, q (ix3 0 r d) * st (ix3 0 d e)) * Ideal.exp (lg * (FloatOps.sitofp (F := Ideal) FTy.f32 (BitVec.ofNat 32 r.val) + 1))

/-- The output of one chunk: every row normalised by its mean square and times the gate. -/
theorem hOut_apply (lg : EReal) (st : Vec Ideal S1x256x512 .f32) (q k : Vec Ideal S1x512x256 .bf16) (v : Vec Ideal S1x512x512 .bf16) (dec : Vec Ideal S1x512x512 .f32) (g : Vec Ideal S1x512x512 .bf16) (r e : Fin 512) :
    hOut lg st q k v dec g (ix3 0 r e) = g (ix3 0 r e) * (hY lg st q k v dec r e * Ideal.rsqrt (Ideal.div (∑ x : Fin 512, hY lg st q k v dec r x * hY lg st q k v dec r x)
      (Ideal.ofBits FTy.f32 1140850688#32) + Ideal.ofBits FTy.f32 897988541#32)) := by
  pointwise [hOut, hY, k0_pay27, k0_pay19, k0_pay21, k0_pay22, k0_pay24, k0_pay25, k0_pay26, k0_pay23, k0_pay18]

/-- The meta rows' state. -/
theorem meta_apply (lg : EReal) (km : Vec Ideal S16x256 .bf16) (vm : Vec Ideal S16x512 .bf16) (d : Fin 256) (e : Fin 512) :
    k0_pay5 (F := Ideal) lg km vm (ix3 0 d e) = ∑ x : Fin 16, km (ix2 x d) *
            Ideal.exp (lg * (Ideal.ofBits FTy.f32 1097859072#32 - FloatOps.sitofp (F := Ideal) FTy.f32 (BitVec.ofNat 32 x.val))) * vm (ix2 x e) := by
  pointwise [k0_pay5, k0_pay3]

/-- The triangle of decays. -/
theorem dec_apply (lg : EReal) (r s : Fin 512) :
    k0_pay6 (F := Ideal) lg (ix3 0 r s) = if 0 ≤ FloatOps.sitofp (F := Ideal) FTy.f32 (IntOp.subi (BitVec.ofNat 32 r.val) (BitVec.ofNat 32 s.val)) then
      Ideal.exp (lg * max (FloatOps.sitofp (F := Ideal) FTy.f32 (IntOp.subi (BitVec.ofNat 32 r.val) (BitVec.ofNat 32 s.val))) 0) else 0 := by
  pointwise [k0_pay6, k0_pay4]

/-! ## The same over the reals -/

theorem dec_real (L : ℝ) (r s : Fin 512) :
    k0_pay6 (F := Ideal) (L : EReal) (ix3 0 r s) = (((if (s : ℕ) ≤ r then Real.exp (L * ((r : ℕ) - (s : ℕ) : ℝ)) else 0 : ℝ)) : EReal) := by
  rw [dec_apply, word_sub_real (by omega) (by omega)]
  by_cases h : (s : ℕ) ≤ r
  · have h0 : (0 : ℝ) ≤ (r : ℕ) - (s : ℕ) := by have : ((s : ℕ) : ℝ) ≤ (r : ℕ) := by exact_mod_cast h
                                                linarith
    rw [if_pos h, if_pos (by exact_mod_cast h0), max_eq_left (by exact_mod_cast h0), exp_mul]
  · have h0 : ¬ (0 : ℝ) ≤ (r : ℕ) - (s : ℕ) := by
      have : ((r : ℕ) : ℝ) < (s : ℕ) := by exact_mod_cast (not_le.1 h)
      linarith
    rw [if_neg h, if_neg (by rw [← EReal.coe_zero, EReal.coe_le_coe_iff]; exact h0)]; rfl

theorem meta_real (L : ℝ) (km : Vec Ideal S16x256 .bf16) (vm : Vec Ideal S16x512 .bf16) (KM : Fin 16 → Fin 256 → ℝ) (VM : Fin 16 → Fin 512 → ℝ)
    (hk : ∀ i d, km (ix2 i d) = ((KM i d : ℝ) : EReal)) (hv : ∀ i e, vm (ix2 i e) = ((VM i e : ℝ) : EReal)) (d : Fin 256) (e : Fin 512) :
    k0_pay5 (F := Ideal) (L : EReal) km vm (ix3 0 d e) = ((∑ i : Fin 16, (KM i d * Real.exp (L * (15 - (i : ℕ)))) * VM i e : ℝ) : EReal) := by
  rw [meta_apply, ← Ret.coe_sum]
  refine Finset.sum_congr rfl fun i _ => ?_
  rw [word_real (by omega), ofBits_15, hk, hv, ← EReal.coe_sub, exp_mul, ← EReal.coe_mul, ← EReal.coe_mul]

theorem hSt_real (L G : ℝ) (st : Vec Ideal S1x256x512 .f32) (k : Vec Ideal S1x512x256 .bf16) (v : Vec Ideal S1x512x512 .bf16)
    (S : Fin 256 → Fin 512 → ℝ) (K : Fin 512 → Fin 256 → ℝ) (V : Fin 512 → Fin 512 → ℝ)
    (hs : ∀ d e, st (ix3 0 d e) = ((S d e : ℝ) : EReal)) (hk : ∀ r d, k (ix3 0 r d) = ((K r d : ℝ) : EReal)) (hv : ∀ r e, v (ix3 0 r e) = ((V r e : ℝ) : EReal))
    (d : Fin 256) (e : Fin 512) :
    hSt (L : EReal) (G : EReal) st k v (ix3 0 d e) = ((G * S d e + ∑ r : Fin 512, (K r d * Real.exp (L * (511 - (r : ℕ)))) * V r e : ℝ) : EReal) := by
  rw [hSt_apply, EReal.coe_add, ← Ret.coe_sum, hs, EReal.coe_mul]
  refine congrArg _ (Finset.sum_congr rfl fun i _ => ?_)
  rw [word_real (by omega), ofBits_511, hk, hv, ← EReal.coe_sub, exp_mul, ← EReal.coe_mul, ← EReal.coe_mul]

theorem hY_real (L : ℝ) (st : Vec Ideal S1x256x512 .f32) (q k : Vec Ideal S1x512x256 .bf16) (v : Vec Ideal S1x512x512 .bf16) (dec : Vec Ideal S1x512x512 .f32)
    (S : Fin 256 → Fin 512 → ℝ) (Q K : Fin 512 → Fin 256 → ℝ) (V : Fin 512 → Fin 512 → ℝ) (Dc : Fin 512 → Fin 512 → ℝ)
    (hs : ∀ d e, st (ix3 0 d e) = ((S d e : ℝ) : EReal)) (hq : ∀ r d, q (ix3 0 r d) = ((Q r d : ℝ) : EReal))
    (hk : ∀ r d, k (ix3 0 r d) = ((K r d : ℝ) : EReal)) (hv : ∀ r e, v (ix3 0 r e) = ((V r e : ℝ) : EReal))
    (hd : ∀ r s, dec (ix3 0 r s) = ((Dc r s : ℝ) : EReal)) (r e : Fin 512) :
    hY (L : EReal) st q k v dec r e = (((∑ s : Fin 512, ((∑ d, Q r d * K s d) * Dc r s) * V s e) + (∑ d, Q r d * S d e) * Real.exp (L * ((r : ℕ) + 1)) : ℝ) : EReal) := by
  unfold hY
  rw [EReal.coe_add, ← Ret.coe_sum, EReal.coe_mul, ← Ret.coe_sum, word_real (by omega)]
  refine congrArg₂ (· + ·) (Finset.sum_congr rfl fun i _ => ?_) (congrArg₂ (· * ·) (Finset.sum_congr rfl fun i _ => ?_) ?_)
  · rw [hd, hv, EReal.coe_mul, EReal.coe_mul, ← Ret.coe_sum]
    simp only [hq, hk, EReal.coe_mul]
  · rw [hq, hs, EReal.coe_mul]
  · rw [← EReal.coe_one, ← EReal.coe_add, exp_mul]

end Cert.KernelIdeal.Val
-- ==== Proof.RetBlocks.lean ====
module
public import proofs.«01_k».proof.Proof.RetHeads
public import proofs.«01_k».proof.Proof.Gen.KernelIdeal.Value
public import Idealize.ShloMosaic.Lib.StableHlo.RunClose

/-!
# What the kernel's blocks hold

At grid point `t` the kernel works on batch row `t / 4` and on the 512 rows from `512 * (t % 4)`. Each input block,
entry by entry, is an entry of an argument; the two small vectors the host prepares are the heads' decay rates and the
decays of a whole chunk.
-/

@[expose] public section
set_option maxRecDepth 16384
noncomputable section
namespace Cert.KernelIdeal.Val
open Idealize.ShloMosaic Idealize.ShloMosaic.TcCoe Idealize.SL.Sem
open Cert.KernelIdeal Cert.KernelIdeal.Gen

variable (m : (ℓ : Loc nD τ sig) → Buf (Elt Ideal) ℓ) (c : Dev nD)

theorem lt32 (t : Fin cfg0.N) : t.val < 32 := lt_of_lt_of_eq t.2 (by decide)

/-- The batch row of a grid point. -/
def bat (t : Fin cfg0.N) : Fin 8 := ⟨t.val / 4, by have := lt32 t; omega⟩
/-- Row `r` of the chunk of a grid point. -/
def rowOf (t : Fin cfg0.N) (r : Fin 512) : Fin 2048 := ⟨512 * (t.val % 4) + r.val, by omega⟩

theorem index_2 : ∀ t : Fin cfg0.N, win0_2.index t 0 = t.val / 4 ∧ win0_2.index t 1 = t.val % 4 ∧ win0_2.index t 2 = 0 := by decide +kernel
theorem index_3 : ∀ t : Fin cfg0.N, win0_3.index t 0 = t.val / 4 ∧ win0_3.index t 1 = t.val % 4 ∧ win0_3.index t 2 = 1 := by decide +kernel
theorem index_4 : ∀ t : Fin cfg0.N, win0_4.index t 0 = t.val / 4 ∧ win0_4.index t 1 = t.val % 4 ∧ win0_4.index t 2 = 0 := by decide +kernel
theorem index_5 : ∀ t : Fin cfg0.N, win0_5.index t 0 = t.val / 4 ∧ win0_5.index t 1 = t.val % 4 ∧ win0_5.index t 2 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_0 : ∀ t : Fin cfg0.N, win0_0.index t 0 = 0 := by decide +kernel
theorem index_1 : ∀ t : Fin cfg0.N, win0_1.index t 0 = 0 := by decide +kernel

/-- The queries: the first half of the columns. -/
theorem iblk_q (t : Fin cfg0.N) (r : Fin 512) (j : Fin 1024) :
    (iblk m c 2 t : Vec Ideal S1x512x1024 .bf16) (ix3 0 r j)
      = (m ((c : Thread nD τ).loc main_arg0) : Vec Ideal S8x2048x2048 .bf16) (ix3 (bat t) (rowOf t r) ⟨j.val, by omega⟩) := by
  obtain ⟨h0, h1, h2⟩ := index_2 t
  unfold iblk
  rw [View.read_apply]
  show V m c main_arg0 _ = _
  rw [V_main_arg0]
  refine congrArg _ (funext fun a => Fin.ext ?_)
  match a with
  | ⟨0, _⟩ => show win0_2.index t 0 * 1 + 1 * 0 = t.val / 4; rw [h0]; omega
  | ⟨1, _⟩ => show win0_2.index t 1 * 512 + 1 * r.val = 512 * (t.val % 4) + r.val; rw [h1]; omega
  | ⟨2, _⟩ => show win0_2.index t 2 * 1024 + 1 * j.val = j.val; rw [h2]; omega

/-- The keys: the second half of the columns. -/
theorem iblk_k (t : Fin cfg0.N) (r : Fin 512) (j : Fin 1024) :
    (iblk m c 3 t : Vec Ideal S1x512x1024 .bf16) (ix3 0 r j)
      = (m ((c : Thread nD τ).loc main_arg0) : Vec Ideal S8x2048x2048 .bf16) (ix3 (bat t) (rowOf t r) ⟨1024 + j.val, by omega⟩) := by
  obtain ⟨h0, h1, h2⟩ := index_3 t
  unfold iblk
  rw [View.read_apply]
  show V m c main_arg0 _ = _
  rw [V_main_arg0]
  refine congrArg _ (funext fun a => Fin.ext ?_)
  match a with
  | ⟨0, _⟩ => show win0_3.index t 0 * 1 + 1 * 0 = t.val / 4; rw [h0]; omega
  | ⟨1, _⟩ => show win0_3.index t 1 * 512 + 1 * r.val = 512 * (t.val % 4) + r.val; rw [h1]; omega
  | ⟨2, _⟩ => show win0_3.index t 2 * 1024 + 1 * j.val = 1024 + j.val; rw [h2]; omega

/-- The values. -/
theorem iblk_v (t : Fin cfg0.N) (r : Fin 512) (j : Fin 2048) :
    (iblk m c 4 t : Vec Ideal S1x512x2048 .bf16) (ix3 0 r j)
      = (m ((c : Thread nD τ).loc main_arg1) : Vec Ideal S8x2048x2048 .bf16) (ix3 (bat t) (rowOf t r) j) := by
  obtain ⟨h0, h1, h2⟩ := index_4 t
  unfold iblk
  rw [View.read_apply]
  show V m c main_arg1 _ = _
  rw [V_main_arg1]
  refine congrArg _ (funext fun a => Fin.ext ?_)
  match a with
  | ⟨0, _⟩ => show win0_4.index t 0 * 1 + 1 * 0 = t.val / 4; rw [h0]; omega
  | ⟨1, _⟩ => show win0_4.index t 1 * 512 + 1 * r.val = 512 * (t.val % 4) + r.val; rw [h1]; omega
  | ⟨2, _⟩ => show win0_4.index t 2 * 2048 + 1 * j.val = j.val; rw [h2]; omega

/-- The gate. -/
theorem iblk_g (t : Fin cfg0.N) (r : Fin 512) (j : Fin 2048) :
    (iblk m c 5 t : Vec Ideal S1x512x2048 .bf16) (ix3 0 r j)
      = (m ((c : Thread nD τ).loc main_arg2) : Vec Ideal S8x2048x2048 .bf16) (ix3 (bat t) (rowOf t r) j) := by
  obtain ⟨h0, h1, h2⟩ := index_5 t
  unfold iblk
  rw [View.read_apply]
  show V m c main_arg2 _ = _
  rw [V_main_arg2]
  refine congrArg _ (funext fun a => Fin.ext ?_)
  match a with
  | ⟨0, _⟩ => show win0_5.index t 0 * 1 + 1 * 0 = t.val / 4; rw [h0]; omega
  | ⟨1, _⟩ => show win0_5.index t 1 * 512 + 1 * r.val = 512 * (t.val % 4) + r.val; rw [h1]; omega
  | ⟨2, _⟩ => show win0_5.index t 2 * 2048 + 1 * j.val = j.val; rw [h2]; omega

/-- The meta rows' keys. -/
theorem iblk_km (t : Fin cfg0.N) : (iblk m c 6 t : Vec Ideal S16x1024 .bf16) = (m ((c : Thread nD τ).loc main_arg3) : Vec Ideal S16x1024 .bf16) := by
  obtain ⟨h0, h1⟩ := index_6 t
  funext i
  unfold iblk
  rw [View.read_apply]
  show V m c main_arg3 _ = _
  rw [V_main_arg3]
  refine congrArg _ (funext fun a => Fin.ext ?_)
  match a with
  | ⟨0, _⟩ => show win0_6.index t 0 * 16 + 1 * (i 0).val = (i 0).val; rw [h0]; omega
  | ⟨1, _⟩ => show win0_6.index t 1 * 1024 + 1 * (i 1).val = (i 1).val; rw [h1]; omega

/-- The meta rows' values. -/
theorem iblk_vm (t : Fin cfg0.N) : (iblk m c 7 t : Vec Ideal S16x2048 .bf16) = (m ((c : Thread nD τ).loc main_arg4) : Vec Ideal S16x2048 .bf16) := by
  obtain ⟨h0, h1⟩ := index_7 t
  funext i
  unfold iblk
  rw [View.read_apply]
  show V m c main_arg4 _ = _
  rw [V_main_arg4]
  refine congrArg _ (funext fun a => Fin.ext ?_)
  match a with
  | ⟨0, _⟩ => show win0_7.index t 0 * 16 + 1 * (i 0).val = (i 0).val; rw [h0]; omega
  | ⟨1, _⟩ => show win0_7.index t 1 * 2048 + 1 * (i 1).val = (i 1).val; rw [h1]; omega

theorem iblk_lg_eq (t : Fin cfg0.N) : (iblk m c 0 t : Vec Ideal S4 .f32) = (V m c main_v6 : Vec Ideal S4 .f32) := by
  have h0 := index_0 t
  funext i
  unfold iblk
  rw [View.read_apply]
  show V m c main_v6 _ = _
  refine congrArg _ (funext fun a => Fin.ext ?_)
  match a with
  | ⟨0, _⟩ => show win0_0.index t 0 * 4 + 1 * (i 0).val = (i 0).val; rw [h0]; omega

theorem iblk_gc_eq (t : Fin cfg0.N) : (iblk m c 1 t : Vec Ideal S4 .f32) = (V m c main_v9 : Vec Ideal S4 .f32) := by
  have h0 := index_1 t
  funext i
  unfold iblk
  rw [View.read_apply]
  show V m c main_v9 _ = _
  refine congrArg _ (funext fun a => Fin.ext ?_)
  match a with
  | ⟨0, _⟩ => show win0_1.index t 0 * 4 + 1 * (i 0).val = (i 0).val; rw [h0]; omega

/-- The decay rate of a head, as the kernel finds it. -/
theorem iblk_lg (t : Fin cfg0.N) (h : Fin 4) : @Eq EReal ((iblk m c 0 t : Vec Ideal S4 .f32) (ix1 h)) ((Ret.lg h : ℝ) : EReal) := by
  rw [iblk_lg_eq]
  have e : @Eq (Vec Ideal S4 .f32) (V m c main_v6) (Host.log1p (Host.negf (Host.powf (broadcastInDim S4 ![] bcast_S_S4 (constant S_ .f32 0x40000000#32)) (subf (broadcastInDim S4 ![] bcast_S_S4 (constant S_ .f32 0xC0A00000#32)) (sitofp (F := Ideal) .f32 (iotaInDim S4 32 0)))))) := by
    unfold V hostOps0
    after_results_entrywise []
  rw [e, ← Ret.rate]
  pointwise

/-- The decay of a head over a whole chunk, as the kernel finds it. -/
theorem iblk_gc (t : Fin cfg0.N) (h : Fin 4) : @Eq EReal ((iblk m c 1 t : Vec Ideal S4 .f32) (ix1 h)) ((Real.exp (Ret.lg h * 512) : ℝ) : EReal) := by
  rw [iblk_gc_eq]
  have e : @Eq (Vec Ideal S4 .f32) (V m c main_v9) (Host.exp (mulf (Host.log1p (Host.negf (Host.powf (broadcastInDim S4 ![] bcast_S_S4 (constant S_ .f32 0x40000000#32)) (subf (broadcastInDim S4 ![] bcast_S_S4 (constant S_ .f32 0xC0A00000#32)) (sitofp (F := Ideal) .f32 (iotaInDim S4 32 0))))))
     (broadcastInDim S4 ![] bcast_S_S4 (constant S_ .f32 0x44000000#32)))) := by
    unfold V hostOps0
    after_results_entrywise []
  rw [e, ← Ret.exp_mul, ← Ret.rate, ← Ret.ofBits_512]
  pointwise

end Cert.KernelIdeal.Val
-- ==== Proof.RetSpec.lean ====
module
public import proofs.«01_k».proof.Proof.RetConst

/-!
# The layer's retention over the reals, on the arrays as they come

Queries and keys of head `h` are 256 columns of one array each, at `256 h` and `1024 + 256 h`; its values and its gate
are 512 columns at `512 h`. `out` is the layer's result: the row of the recurrence, normalised by its mean square over
the head's 512 columns, times the gate.
-/

@[expose] public section
noncomputable section
namespace Cert.Ret
open Idealize.ShloMosaic Idealize.ShloMosaic.TcCoe

variable (A0 A1 : Fin 8 → Fin 2048 → Fin 2048 → ℝ) (A3 : Fin 16 → Fin 1024 → ℝ) (A4 : Fin 16 → Fin 2048 → ℝ)

/-- Column `d` of head `h` among 1024. -/
def c256 (h : Fin 4) (d : Fin 256) : Fin 1024 := ⟨256 * h.val + d.val, by omega⟩
/-- Column `e` of head `h` among 2048. -/
def c512 (h : Fin 4) (e : Fin 512) : Fin 2048 := ⟨512 * h.val + e.val, by omega⟩

/-- Head `h`'s queries. -/
def qs (b : Fin 8) (h : Fin 4) (t : ℕ) (d : Fin 256) : ℝ :=
  if ht : t < 2048 then A0 b ⟨t, ht⟩ ⟨(c256 h d).val, by omega⟩ else 0
/-- Head `h`'s keys. -/
def ks (b : Fin 8) (h : Fin 4) (t : ℕ) (d : Fin 256) : ℝ :=
  if ht : t < 2048 then A0 b ⟨t, ht⟩ ⟨1024 + (c256 h d).val, by omega⟩ else 0
/-- Head `h`'s values. -/
def vs (b : Fin 8) (h : Fin 4) (t : ℕ) (e : Fin 512) : ℝ :=
  if ht : t < 2048 then A1 b ⟨t, ht⟩ (c512 h e) else 0

/-- Head `h`'s state before row `t`. -/
def state (b : Fin 8) (h : Fin 4) (t : ℕ) : Fin 256 → Fin 512 → ℝ :=
  St (lg h) (fun i d => A3 i (c256 h d)) (fun i e => A4 i (c512 h e)) (ks A0 b h) (vs A1 b h) t
/-- Head `h`'s row `t` before it is normalised. -/
def yrow (b : Fin 8) (h : Fin 4) (t : ℕ) : Fin 512 → ℝ :=
  Y (lg h) (fun i d => A3 i (c256 h d)) (fun i e => A4 i (c512 h e)) (qs A0 b h) (ks A0 b h) (vs A1 b h) t
/-- One entry of the result, of its gate. -/
def out (g : EReal) (b : Fin 8) (h : Fin 4) (t : ℕ) (e : Fin 512) : EReal :=
  g * ((yrow A0 A1 A3 A4 b h t e : EReal) * Ideal.rsqrt (Ideal.div (∑ x : Fin 512, (yrow A0 A1 A3 A4 b h t x : EReal) * (yrow A0 A1 A3 A4 b h t x : EReal))
    (Ideal.ofBits FTy.f32 0x44000000#32) + Ideal.ofBits FTy.f32 0x358637BD#32))

end Cert.Ret
-- ==== Proof.RetFold.lean ====
module
public import proofs.«01_k».proof.Proof.RetBlocks
public import proofs.«01_k».proof.Proof.RetSpec

/-!
# The kernel's result over the reals

By induction over the grid points: after point `t` the carried state is the recurrence's state before row
`512 * (t % 4) + 512` of batch row `t / 4`, the kept meta state is the state before row 0, and the kept triangle is the
triangle of decays. So the block written at point `t` holds the layer's rows.
-/

@[expose] public section
set_option maxRecDepth 16384
noncomputable section
namespace Cert.KernelIdeal.Val
open Idealize.ShloMosaic Idealize.ShloMosaic.TcCoe Idealize.SL.Sem
open Cert.KernelIdeal Cert.KernelIdeal.Gen Cert.Ret

variable (m : (ℓ : Loc nD τ sig) → Buf (Elt Ideal) ℓ) (c : Dev nD)
variable (A0 A1 : Fin 8 → Fin 2048 → Fin 2048 → ℝ) (A3 : Fin 16 → Fin 1024 → ℝ) (A4 : Fin 16 → Fin 2048 → ℝ)

/-- The queries, keys, values and meta rows of a memory are these real numbers. -/
structure IsReal : Prop where
  h0 : ∀ b r j, @Eq EReal ((m ((c : Thread nD τ).loc main_arg0) : Vec Ideal S8x2048x2048 .bf16) (ix3 b r j)) (A0 b r j : ℝ)
  h1 : ∀ b r j, @Eq EReal ((m ((c : Thread nD τ).loc main_arg1) : Vec Ideal S8x2048x2048 .bf16) (ix3 b r j)) (A1 b r j : ℝ)
  h3 : ∀ i j, @Eq EReal ((m ((c : Thread nD τ).loc main_arg3) : Vec Ideal S16x1024 .bf16) (ix2 i j)) (A3 i j : ℝ)
  h4 : ∀ i j, @Eq EReal ((m ((c : Thread nD τ).loc main_arg4) : Vec Ideal S16x2048 .bf16) (ix2 i j)) (A4 i j : ℝ)

variable {m c A0 A1 A3 A4} (H : IsReal m c A0 A1 A3 A4)
include H

theorem q_real (t : Fin cfg0.N) (h : Fin 4) (r : Fin 512) (d : Fin 256) :
    @Eq EReal (colq (iblk m c 2 t : Vec Ideal S1x512x1024 .bf16) h (ix3 0 r d)) (qs A0 (bat t) h (512 * (t.val % 4) + r.val) d : ℝ) := by
  rw [qs, dif_pos (by omega)]
  exact (iblk_q m c t r (c256 h d)).trans (H.h0 _ _ _)

theorem k_real (t : Fin cfg0.N) (h : Fin 4) (r : Fin 512) (d : Fin 256) :
    @Eq EReal (colq (iblk m c 3 t : Vec Ideal S1x512x1024 .bf16) h (ix3 0 r d)) (ks A0 (bat t) h (512 * (t.val % 4) + r.val) d : ℝ) := by
  rw [ks, dif_pos (by omega)]
  exact (iblk_k m c t r (c256 h d)).trans (H.h0 _ _ _)

theorem v_real (t : Fin cfg0.N) (h : Fin 4) (r : Fin 512) (e : Fin 512) :
    @Eq EReal (colb (iblk m c 4 t : Vec Ideal S1x512x2048 .bf16) h (ix3 0 r e)) (vs A1 (bat t) h (512 * (t.val % 4) + r.val) e : ℝ) := by
  rw [vs, dif_pos (by omega)]
  exact (iblk_v m c t r (c512 h e)).trans (H.h1 _ _ _)

/-- The meta rows' state is the state before row 0. -/
theorem metaSt_real (t : Fin cfg0.N) (b : Fin 8) (h : Fin 4) (d : Fin 256) (e : Fin 512) :
    @Eq EReal (metaSt (F := Ideal) (iblk m c 0 t) (iblk m c 6 t) (iblk m c 7 t) (ix3 h d e)) (state A0 A1 A3 A4 b h 0 d e : ℝ) := by
  rw [state, St_zero]
  show k0_pay5 (F := Ideal) ((iblk m c 0 t : Vec Ideal S4 .f32) (ix1 h)) (colk (iblk m c 6 t : Vec Ideal S16x1024 .bf16) h) (colv (iblk m c 7 t : Vec Ideal S16x2048 .bf16) h) (ix3 0 d e) = _
  rw [iblk_lg, iblk_km, iblk_vm]
  exact meta_real (lg h) (colk (m ((c : Thread nD τ).loc main_arg3) : Vec Ideal S16x1024 .bf16) h) (colv (m ((c : Thread nD τ).loc main_arg4) : Vec Ideal S16x2048 .bf16) h)
    (fun i d => A3 i (c256 h d)) (fun i e => A4 i (c512 h e)) (fun i d => H.h3 i (c256 h d)) (fun i e => H.h4 i (c512 h e)) d e

omit H in
/-- The kept triangle of decays. -/
theorem decays_real (t : Fin cfg0.N) (h : Fin 4) (r s : Fin 512) :
    @Eq EReal (decays (F := Ideal) (iblk m c 0 t) (ix3 h r s)) ((if (s : ℕ) ≤ r then Real.exp (lg h * ((r : ℕ) - (s : ℕ) : ℝ)) else 0 : ℝ)) := by
  show k0_pay6 (F := Ideal) ((iblk m c 0 t : Vec Ideal S4 .f32) (ix1 h)) (ix3 0 r s) = _
  rw [iblk_lg]
  exact dec_real _ r s

/-- One point takes the state before its chunk to the state after it. -/
theorem ptSt_real (t : Fin cfg0.N) (st : Vec Ideal S4x256x512 .f32)
    (hs : ∀ h d e, @Eq EReal (st (ix3 h d e)) (state A0 A1 A3 A4 (bat t) h (512 * (t.val % 4)) d e : ℝ)) (h : Fin 4) (d : Fin 256) (e : Fin 512) :
    @Eq EReal (ptSt (F := Ideal) (iblk m c 0 t) (iblk m c 1 t) st (iblk m c 3 t) (iblk m c 4 t) (ix3 h d e)) (state A0 A1 A3 A4 (bat t) h (512 * (t.val % 4) + 512) d e : ℝ) := by
  show hSt (F := Ideal) ((iblk m c 0 t : Vec Ideal S4 .f32) (ix1 h)) ((iblk m c 1 t : Vec Ideal S4 .f32) (ix1 h)) (slab st h)
    (colq (iblk m c 3 t : Vec Ideal S1x512x1024 .bf16) h) (colb (iblk m c 4 t : Vec Ideal S1x512x2048 .bf16) h) (ix3 0 d e) = _
  rw [iblk_lg, iblk_gc]
  refine (hSt_real _ _ _ _ _ _ _ _ (fun d e => hs h d e) (fun r d => k_real H t h r d) (fun r e => v_real H t h r e) d e).trans ?_
  unfold state
  rw [St_add]
  push_cast
  norm_num

/-- One point's block of the result. -/
theorem ptOut_real (t : Fin cfg0.N) (st : Vec Ideal S4x256x512 .f32) (dec : Vec Ideal S4x512x512 .f32)
    (hs : ∀ h d e, @Eq EReal (st (ix3 h d e)) (state A0 A1 A3 A4 (bat t) h (512 * (t.val % 4)) d e : ℝ))
    (hd : ∀ h r s, @Eq EReal (dec (ix3 h r s)) ((if (s : ℕ) ≤ r then Real.exp (lg h * ((r : ℕ) - (s : ℕ) : ℝ)) else 0 : ℝ)))
    (h : Fin 4) (r : Fin 512) (e : Fin 512) :
    @Eq EReal (ptOut (F := Ideal) (iblk m c 0 t) st (iblk m c 2 t) (iblk m c 3 t) (iblk m c 4 t) dec (iblk m c 5 t) (ix3 0 r (c512 h e)))
      (out A0 A1 A3 A4 ((m ((c : Thread nD τ).loc main_arg2) : Vec Ideal S8x2048x2048 .bf16) (ix3 (bat t) (rowOf t r) (c512 h e))) (bat t) h (512 * (t.val % 4) + r) e) := by
  have e1 : (⟨(c512 h e).val / 512, by omega⟩ : Fin 4) = h := Fin.ext (by simp only [c512]; omega)
  have e2 : (⟨(c512 h e).val % 512, Nat.mod_lt _ (by norm_num)⟩ : Fin 512) = e := Fin.ext (by simp only [c512]; omega)
  show hOut (F := Ideal) ((iblk m c 0 t : Vec Ideal S4 .f32) (ix1 (⟨(c512 h e).val / 512, by omega⟩ : Fin 4))) (slab st ⟨(c512 h e).val / 512, by omega⟩) (colq (iblk m c 2 t : Vec Ideal S1x512x1024 .bf16) ⟨(c512 h e).val / 512, by omega⟩)
    (colq (iblk m c 3 t : Vec Ideal S1x512x1024 .bf16) ⟨(c512 h e).val / 512, by omega⟩) (colb (iblk m c 4 t : Vec Ideal S1x512x2048 .bf16) ⟨(c512 h e).val / 512, by omega⟩) (slab dec ⟨(c512 h e).val / 512, by omega⟩)
    (colb (iblk m c 5 t : Vec Ideal S1x512x2048 .bf16) ⟨(c512 h e).val / 512, by omega⟩) (ix3 0 r (⟨(c512 h e).val % 512, Nat.mod_lt _ (by norm_num)⟩ : Fin 512)) = _
  rw [e1, e2, iblk_lg, hOut_apply]
  have hy : ∀ x, @Eq EReal (hY (lg h : EReal) (slab st h) (colq (iblk m c 2 t : Vec Ideal S1x512x1024 .bf16) h) (colq (iblk m c 3 t : Vec Ideal S1x512x1024 .bf16) h)
      (colb (iblk m c 4 t : Vec Ideal S1x512x2048 .bf16) h) (slab dec h) r x) (yrow A0 A1 A3 A4 (bat t) h (512 * (t.val % 4) + r) x : ℝ) := by
    intro x
    refine (hY_real _ _ _ _ _ _ _ _ _ _ _ (fun d e => hs h d e) (fun r d => q_real H t h r d) (fun r d => k_real H t h r d) (fun r e => v_real H t h r e)
      (fun r s => hd h r s) r x).trans ?_
    unfold yrow state
    rw [← Y_chunk (t := 512 * (t.val % 4)) (C := 512) (r := r)]
  simp only [hy]
  exact congrArg (· * _) (iblk_g m c t r (c512 h e))

omit H in
/-- The first point: the meta state and the triangle are made, and the chunk is taken from the meta state. -/
theorem outs_A (t : Fin cfg0.N) (h0 : t.val % 32 = 0) (h1 : t.val % 4 = 0) : outsAt0 m c t.val t.isLt =
    (ptOut (F := Ideal) (iblk m c 0 t) (metaSt (iblk m c 0 t) (iblk m c 6 t) (iblk m c 7 t)) (iblk m c 2 t) (iblk m c 3 t) (iblk m c 4 t) (decays (iblk m c 0 t)) (iblk m c 5 t),
      ptSt (F := Ideal) (iblk m c 0 t) (iblk m c 1 t) (metaSt (iblk m c 0 t) (iblk m c 6 t) (iblk m c 7 t)) (iblk m c 3 t) (iblk m c 4 t),
      metaSt (F := Ideal) (iblk m c 0 t) (iblk m c 6 t) (iblk m c 7 t), decays (F := Ideal) (iblk m c 0 t)) := by
  rw [outsAt0_A m c t h0 h1, out0_A_8_eq, sout0_A_0_eq, sout0_A_1_eq, sout0_A_2_eq]

/-- What the point before left. -/
abbrev before (m : (ℓ : Loc nD τ sig) → Buf (Elt Ideal) ℓ) (c : Dev nD) (t : Fin cfg0.N) := outsAt0 m c (t.val - 1) (Nat.lt_of_le_of_lt (Nat.sub_le _ _) t.isLt)

omit H in
/-- A later chunk of a batch row: taken from the carried state. -/
theorem outs_B (t : Fin cfg0.N) (h0 : ¬t.val % 32 = 0) (h1 : ¬t.val % 4 = 0) : outsAt0 m c t.val t.isLt =
    (ptOut (F := Ideal) (iblk m c 0 t) (before m c t).2.1 (iblk m c 2 t) (iblk m c 3 t) (iblk m c 4 t) (before m c t).2.2.2 (iblk m c 5 t),
      ptSt (F := Ideal) (iblk m c 0 t) (iblk m c 1 t) (before m c t).2.1 (iblk m c 3 t) (iblk m c 4 t),
      (before m c t).2.2.1, (before m c t).2.2.2) := by
  rw [outsAt0_B m c t h0 h1, out0_B_8_eq, sout0_B_0_eq]
  rfl

omit H in
/-- The first chunk of a later batch row: taken from the kept meta state. -/
theorem outs_C (t : Fin cfg0.N) (h0 : ¬t.val % 32 = 0) (h1 : t.val % 4 = 0) : outsAt0 m c t.val t.isLt =
    (ptOut (F := Ideal) (iblk m c 0 t) (before m c t).2.2.1 (iblk m c 2 t) (iblk m c 3 t) (iblk m c 4 t) (before m c t).2.2.2 (iblk m c 5 t),
      ptSt (F := Ideal) (iblk m c 0 t) (iblk m c 1 t) (before m c t).2.2.1 (iblk m c 3 t) (iblk m c 4 t),
      (before m c t).2.2.1, (before m c t).2.2.2) := by
  rw [outsAt0_C m c t h0 h1, out0_C_8_eq, sout0_C_0_eq]
  rfl

/-- What every point leaves. -/
theorem carried (n : ℕ) (hn : n < cfg0.N) :
    (∀ h r e, @Eq EReal ((outsAt0 m c n hn).1 (ix3 0 r (c512 h e))) (out A0 A1 A3 A4 ((m ((c : Thread nD τ).loc main_arg2) : Vec Ideal S8x2048x2048 .bf16) (ix3 (bat ⟨n, hn⟩) (rowOf ⟨n, hn⟩ r) (c512 h e))) (bat ⟨n, hn⟩) h (512 * (n % 4) + r) e))
    ∧ (∀ h d e, @Eq EReal ((outsAt0 m c n hn).2.1 (ix3 h d e)) (state A0 A1 A3 A4 (bat ⟨n, hn⟩) h (512 * (n % 4) + 512) d e : ℝ))
    ∧ (∀ b h d e, @Eq EReal ((outsAt0 m c n hn).2.2.1 (ix3 h d e)) (state A0 A1 A3 A4 b h 0 d e : ℝ))
    ∧ (∀ h r s, @Eq EReal ((outsAt0 m c n hn).2.2.2 (ix3 h r s)) ((if (s : ℕ) ≤ r then Real.exp (lg h * ((r : ℕ) - (s : ℕ) : ℝ)) else 0 : ℝ))) := by
  induction n with
  | zero =>
    have e := outs_A (m := m) (c := c) ⟨0, hn⟩ rfl rfl
    have hm := fun b => metaSt_real H ⟨0, hn⟩ b
    have hd := decays_real (m := m) (c := c) ⟨0, hn⟩
    dsimp only at e
    rw [e]
    exact ⟨ptOut_real H ⟨0, hn⟩ _ _ (hm _) hd, ptSt_real H ⟨0, hn⟩ _ (hm _), hm, hd⟩
  | succ n ih =>
    obtain ⟨_, ih1, ih2, ih3⟩ := ih (by omega)
    have hN : n + 1 < 32 := lt32 ⟨n + 1, hn⟩
    by_cases h1 : (n + 1) % 4 = 0
    · have e := outs_C (m := m) (c := c) ⟨n + 1, hn⟩ (by dsimp only; omega) h1
      dsimp only [before, Nat.add_sub_cancel] at e
      rw [e]
      have hs : ∀ h d e, @Eq EReal ((outsAt0 m c n (by omega)).2.2.1 (ix3 h d e)) (state A0 A1 A3 A4 (bat ⟨n + 1, hn⟩) h (512 * ((n + 1) % 4)) d e : ℝ) := by
        rw [h1]; exact ih2 _
      exact ⟨ptOut_real H ⟨n + 1, hn⟩ _ _ hs ih3, ptSt_real H ⟨n + 1, hn⟩ _ hs, ih2, ih3⟩
    · have e := outs_B (m := m) (c := c) ⟨n + 1, hn⟩ (by dsimp only; omega) h1
      dsimp only [before, Nat.add_sub_cancel] at e
      rw [e]
      have hb : bat ⟨n + 1, hn⟩ = bat ⟨n, by omega⟩ := Fin.ext (show (n + 1) / 4 = n / 4 by omega)
      have hs : ∀ h d e, @Eq EReal ((outsAt0 m c n (by omega)).2.1 (ix3 h d e)) (state A0 A1 A3 A4 (bat ⟨n + 1, hn⟩) h (512 * ((n + 1) % 4)) d e : ℝ) := by
        rw [hb, show 512 * ((n + 1) % 4) = 512 * (n % 4) + 512 by omega]; exact ih1
      exact ⟨ptOut_real H ⟨n + 1, hn⟩ _ _ hs ih3, ptSt_real H ⟨n + 1, hn⟩ _ hs, ih2, ih3⟩

/-- The kernel's result, entry by entry. -/
theorem G8_real (b : Fin 8) (t : Fin 2048) (h : Fin 4) (e : Fin 512) :
    @Eq EReal ((Cert.KernelIdeal.Value.G8 m c : Vec Ideal S8x2048x2048 .bf16) (ix3 b t (c512 h e)))
      (out A0 A1 A3 A4 ((m ((c : Thread nD τ).loc main_arg2) : Vec Ideal S8x2048x2048 .bf16) (ix3 b t (c512 h e))) b h t e) := by
  have hp : Cert.KernelIdeal.Value.pt8Of (ix3 b t (c512 h e)) = 4 * b.val + t.val / 512 := by
    show 4 * (b.val / 1 - 0) + 1 * (t.val / 512 - 0) + 1 * ((c512 h e).val / 2048 - 0) = _
    have := (c512 h e).isLt
    omega
  have hn : 4 * b.val + t.val / 512 < cfg0.N := lt_of_lt_of_eq (show 4 * b.val + t.val / 512 < 32 by omega) (by decide)
  have hl : Cert.KernelIdeal.Value.loc8Of (ix3 b t (c512 h e)) = ix3 0 (⟨t.val % 512, Nat.mod_lt _ (by norm_num)⟩ : Fin 512) (c512 h e) := by
    funext a; apply Fin.ext
    match a with
    | ⟨0, _⟩ => show b.val % 1 = 0; omega
    | ⟨1, _⟩ => rfl
    | ⟨2, _⟩ => show (c512 h e).val % 2048 = (c512 h e).val; have := (c512 h e).isLt; omega
  have hb : bat ⟨4 * b.val + t.val / 512, hn⟩ = b := Fin.ext (show (4 * b.val + t.val / 512) / 4 = b.val by omega)
  have hr : rowOf ⟨4 * b.val + t.val / 512, hn⟩ (⟨t.val % 512, Nat.mod_lt _ (by norm_num)⟩ : Fin 512) = t :=
    Fin.ext (show 512 * ((4 * b.val + t.val / 512) % 4) + t.val % 512 = t.val by omega)
  have key := (carried H (4 * b.val + t.val / 512) hn).1 h (⟨t.val % 512, Nat.mod_lt _ (by norm_num)⟩ : Fin 512) e
  rw [hb, hr, show 512 * ((4 * b.val + t.val / 512) % 4) + ((⟨t.val % 512, Nat.mod_lt _ (by norm_num)⟩ : Fin 512) : ℕ) = t.val by show 512 * ((4 * b.val + t.val / 512) % 4) + t.val % 512 = t.val; omega] at key
  rw [Cert.KernelIdeal.Value.outsAt0_sweep] at key
  unfold Cert.KernelIdeal.Value.G8
  rw [dif_pos (by rw [hp]; exact hn), hl, Cert.KernelIdeal.Value.fold0_congr m c _ _ _ _ hp]
  exact key

end Cert.KernelIdeal.Val
-- ==== Proof.RetSplit.lean ====
module
public import proofs.«01_k».proof.Proof.RetSpec
public import proofs.«01_k».proof.Proof.Gen.ReferenceIdeal.Run
public import Idealize.ShloMosaic.Lib.Pointwise

/-!
# How the plain statement splits its rows

The meta rows stand before the sequence's rows; heads become an axis, and the sequence is cut into 16 chunks of 128.
Each lemma reads one entry of such a rearranged array in the array it came from.
-/

@[expose] public section
set_option maxRecDepth 16384
noncomputable section
namespace Cert.ReferenceIdeal.Val
open Idealize.ShloMosaic Idealize.ShloMosaic.TcCoe
open Cert.ReferenceIdeal Cert.ReferenceIdeal.Gen Cert.Ret

/-- Row `r` of chunk `n`. -/
def trow (n : Fin 16) (r : Fin 128) : Fin 2048 := ⟨128 * n.val + r.val, by omega⟩

/-- The chunked keys: an entry after the meta rows. -/
theorem split_k (Z : Vec Ideal S8x2064x1024 .f32) (n : Fin 16) (b : Fin 8) (h : Fin 4) (r : Fin 128) (d : Fin 256) :
    transpose S16x8x4x128x256 [2, 0, 1, 3, 4] (shapeCast S8x4x16x128x256 (extractStridedSlice S8x4x2048x256 ![0, 0, 16, 0] (transpose S8x4x2064x256 [0, 2, 1, 3]
      (shapeCast S8x2064x4x256 Z shapeCasts_S8x2064x1024_S8x2064x4x256) transposes_S8x2064x4x256_S8x4x2064x256_0_2_1_3) slices_S8x4x2064x256_S8x4x2048x256_0_0_16_0) shapeCasts_S8x4x2048x256_S8x4x16x128x256)
      transposes_S8x4x16x128x256_S16x8x4x128x256_2_0_1_3_4 (ix5 n b h r d)
      = Z (ix3 b ⟨16 + (trow n r).val, by omega⟩ (c256 h d)) := by
  pointwise
  have e₁ : n.val * 128 = 128 * n.val := Nat.mul_comm _ _
  have e₂ : h.val * 256 = 256 * h.val := Nat.mul_comm _ _
  simp only [e₁, e₂, trow, c256]

/-- The keys of the meta rows. -/
theorem head_k (Z : Vec Ideal S8x2064x1024 .f32) (b : Fin 8) (h : Fin 4) (i : Fin 16) (d : Fin 256) :
    extractStridedSlice S8x4x16x256 ![0, 0, 0, 0] (transpose S8x4x2064x256 [0, 2, 1, 3]
      (shapeCast S8x2064x4x256 Z shapeCasts_S8x2064x1024_S8x2064x4x256) transposes_S8x2064x4x256_S8x4x2064x256_0_2_1_3) slices_S8x4x2064x256_S8x4x16x256_0_0_0_0 (ix4 b h i d)
      = Z (ix3 b ⟨i.val, by omega⟩ (c256 h d)) := by
  pointwise
  have e₂ : h.val * 256 = 256 * h.val := Nat.mul_comm _ _
  simp only [e₂, c256]

/-- A row after the meta rows is the sequence's. -/
theorem cat_k (A : Vec Ideal S8x16x1024 .f32) (B : Vec Ideal S8x2048x1024 .f32) (b : Fin 8) (t : Fin 2048) (j : Fin 1024) :
    concatenate S8x2064x1024 1 [⟨S8x16x1024, A⟩, ⟨S8x2048x1024, B⟩] concatenates_S8x16x1024_S8x2048x1024_S8x2064x1024_d1 (ix3 b (⟨16 + t.val, by omega⟩ : Fin 2064) j) = B (ix3 b t j) := by
  pointwise

/-- A row among the first 16 is a meta row. -/
theorem catm_k (A : Vec Ideal S8x16x1024 .f32) (B : Vec Ideal S8x2048x1024 .f32) (b : Fin 8) (i : Fin 16) (j : Fin 1024) :
    concatenate S8x2064x1024 1 [⟨S8x16x1024, A⟩, ⟨S8x2048x1024, B⟩] concatenates_S8x16x1024_S8x2048x1024_S8x2064x1024_d1 (ix3 b (⟨i.val, by omega⟩ : Fin 2064) j) = A (ix3 b i j) := by
  pointwise

/-- The chunked values: an entry after the meta rows. -/
theorem split_v (Z : Vec Ideal S8x2064x2048 .f32) (n : Fin 16) (b : Fin 8) (h : Fin 4) (r : Fin 128) (d : Fin 512) :
    transpose S16x8x4x128x512 [2, 0, 1, 3, 4] (shapeCast S8x4x16x128x512 (extractStridedSlice S8x4x2048x512 ![0, 0, 16, 0] (transpose S8x4x2064x512 [0, 2, 1, 3]
      (shapeCast S8x2064x4x512 Z shapeCasts_S8x2064x2048_S8x2064x4x512) transposes_S8x2064x4x512_S8x4x2064x512_0_2_1_3) slices_S8x4x2064x512_S8x4x2048x512_0_0_16_0) shapeCasts_S8x4x2048x512_S8x4x16x128x512)
      transposes_S8x4x16x128x512_S16x8x4x128x512_2_0_1_3_4 (ix5 n b h r d)
      = Z (ix3 b ⟨16 + (trow n r).val, by omega⟩ (c512 h d)) := by
  pointwise
  have e₁ : n.val * 128 = 128 * n.val := Nat.mul_comm _ _
  have e₂ : h.val * 512 = 512 * h.val := Nat.mul_comm _ _
  simp only [e₁, e₂, trow, c512]

/-- The values of the meta rows. -/
theorem head_v (Z : Vec Ideal S8x2064x2048 .f32) (b : Fin 8) (h : Fin 4) (i : Fin 16) (d : Fin 512) :
    extractStridedSlice S8x4x16x512 ![0, 0, 0, 0] (transpose S8x4x2064x512 [0, 2, 1, 3]
      (shapeCast S8x2064x4x512 Z shapeCasts_S8x2064x2048_S8x2064x4x512) transposes_S8x2064x4x512_S8x4x2064x512_0_2_1_3) slices_S8x4x2064x512_S8x4x16x512_0_0_0_0 (ix4 b h i d)
      = Z (ix3 b ⟨i.val, by omega⟩ (c512 h d)) := by
  pointwise
  have e₂ : h.val * 512 = 512 * h.val := Nat.mul_comm _ _
  simp only [e₂, c512]

/-- A row after the meta rows is the sequence's. -/
theorem cat_v (A : Vec Ideal S8x16x2048 .f32) (B : Vec Ideal S8x2048x2048 .f32) (b : Fin 8) (t : Fin 2048) (j : Fin 2048) :
    concatenate S8x2064x2048 1 [⟨S8x16x2048, A⟩, ⟨S8x2048x2048, B⟩] concatenates_S8x16x2048_S8x2048x2048_S8x2064x2048_d1 (ix3 b (⟨16 + t.val, by omega⟩ : Fin 2064) j) = B (ix3 b t j) := by
  pointwise

/-- A row among the first 16 is a meta row. -/
theorem catm_v (A : Vec Ideal S8x16x2048 .f32) (B : Vec Ideal S8x2048x2048 .f32) (b : Fin 8) (i : Fin 16) (j : Fin 2048) :
    concatenate S8x2064x2048 1 [⟨S8x16x2048, A⟩, ⟨S8x2048x2048, B⟩] concatenates_S8x16x2048_S8x2048x2048_S8x2064x2048_d1 (ix3 b (⟨i.val, by omega⟩ : Fin 2064) j) = A (ix3 b i j) := by
  pointwise

/-- The chunked queries. -/
theorem split_q (Z : Vec Ideal S8x2048x1024 .f32) (n : Fin 16) (b : Fin 8) (h : Fin 4) (r : Fin 128) (d : Fin 256) :
    transpose S16x8x4x128x256 [2, 0, 1, 3, 4] (shapeCast S8x4x16x128x256 (transpose S8x4x2048x256 [0, 2, 1, 3]
      (shapeCast S8x2048x4x256 Z shapeCasts_S8x2048x1024_S8x2048x4x256) transposes_S8x2048x4x256_S8x4x2048x256_0_2_1_3) shapeCasts_S8x4x2048x256_S8x4x16x128x256)
      transposes_S8x4x16x128x256_S16x8x4x128x256_2_0_1_3_4 (ix5 n b h r d)
      = Z (ix3 b (trow n r) (c256 h d)) := by
  pointwise
  have e₁ : n.val * 128 = 128 * n.val := Nat.mul_comm _ _
  have e₂ : h.val * 256 = 256 * h.val := Nat.mul_comm _ _
  simp only [e₁, e₂, trow, c256]

end Cert.ReferenceIdeal.Val
-- ==== Proof.RetRefEntry.lean ====
module
public import proofs.«01_k».proof.Proof.RetSplit
public import Idealize.ShloMosaic.Lib.StableHlo.RunClose

/-!
# What the plain statement's loop starts from

The chunked queries, keys and values, the decays, and the state after the meta rows: each as a composition of array
operations of the arguments, and each entry as a real number.
-/

@[expose] public section
set_option maxRecDepth 16384
noncomputable section
namespace Cert.ReferenceIdeal.Val
open Idealize.ShloMosaic Idealize.ShloMosaic.TcCoe Idealize.SL.Sem Idealize.ShloMosaic.StableHlo
open Cert.ReferenceIdeal Cert.ReferenceIdeal.Gen Cert.ReferenceIdeal.Value Cert.Ret

variable (m : (ℓ : Loc nD τ sig) → Buf (Elt Ideal) ℓ) (c : Dev nD)

/-- What the loop starts from. -/
abbrev E := entryContents preI m c

/-- The queries and keys. -/
abbrev a0 : Vec Ideal S8x2048x2048 .bf16 := launchContents m c (Proc.devRef .tc main_arg0)
/-- The values. -/
abbrev a1 : Vec Ideal S8x2048x2048 .bf16 := launchContents m c (Proc.devRef .tc main_arg1)
/-- The meta rows' keys. -/
abbrev a3 : Vec Ideal S16x1024 .bf16 := launchContents m c (Proc.devRef .tc main_arg3)
/-- The meta rows' values. -/
abbrev a4 : Vec Ideal S16x2048 .bf16 := launchContents m c (Proc.devRef .tc main_arg4)

/-- The queries' half. -/
def qseq : Vec Ideal S8x2048x1024 .f32 := extf (F := Ideal) .f32 (extractStridedSlice S8x2048x1024 ![0, 0, 0] (a0 m c) slices_S8x2048x2048_S8x2048x1024_0_0_0) bitsLt_bf16_f32
/-- The keys' half. -/
def kseq : Vec Ideal S8x2048x1024 .f32 := extf (F := Ideal) .f32 (extractStridedSlice S8x2048x1024 ![0, 0, 1024] (a0 m c) slices_S8x2048x2048_S8x2048x1024_0_0_1024) bitsLt_bf16_f32
/-- The values. -/
def vseq : Vec Ideal S8x2048x2048 .f32 := extf (F := Ideal) .f32 (a1 m c) bitsLt_bf16_f32
/-- The meta rows, once per batch row. -/
def kmeta : Vec Ideal S8x16x1024 .f32 := broadcastInDim S8x16x1024 ![0, 1, 2] bcast_S1x16x1024_S8x16x1024_0_1_2 (broadcastInDim S1x16x1024 ![1, 2] bcast_S16x1024_S1x16x1024_1_2 (extf (F := Ideal) .f32 (a3 m c) bitsLt_bf16_f32))
/-- The meta rows and the sequence's. -/
def kcat : Vec Ideal S8x2064x1024 .f32 := concatenate S8x2064x1024 1
  [⟨S8x16x1024, kmeta m c⟩, ⟨S8x2048x1024, kseq m c⟩] concatenates_S8x16x1024_S8x2048x1024_S8x2064x1024_d1
/-- The meta rows, once per batch row. -/
def vmeta : Vec Ideal S8x16x2048 .f32 := broadcastInDim S8x16x2048 ![0, 1, 2] bcast_S1x16x2048_S8x16x2048_0_1_2 (broadcastInDim S1x16x2048 ![1, 2] bcast_S16x2048_S1x16x2048_1_2 (extf (F := Ideal) .f32 (a4 m c) bitsLt_bf16_f32))
/-- The meta rows and the sequence's. -/
def vcat : Vec Ideal S8x2064x2048 .f32 := concatenate S8x2064x2048 1
  [⟨S8x16x2048, vmeta m c⟩, ⟨S8x2048x2048, vseq m c⟩] concatenates_S8x16x2048_S8x2048x2048_S8x2064x2048_d1

/-- The decay rates. -/
def lgv : Vec Ideal S4 .f32 := Host.log1p (Host.negf (Host.powf (broadcastInDim S4 ![] bcast_S_S4 (constant S_ .f32 0x40000000#32))
  (subf (broadcastInDim S4 ![] bcast_S_S4 (constant S_ .f32 0xC0A00000#32)) (sitofp (F := Ideal) .f32 (iotaInDim S4 32 0)))))
/-- Row against column within a chunk. -/
def dif : Vec Ideal S128x128 .f32 := subf
  (broadcastInDim S128x128 ![0, 1] bcast_S128x1_S128x128_0_1 (broadcastInDim S128x1 ![0] bcast_S128_S128x1_0 (sitofp (F := Ideal) .f32 (iotaInDim S128 32 0))))
  (broadcastInDim S128x128 ![0, 1] bcast_S1x128_S128x128_0_1 (broadcastInDim S1x128 ![1] bcast_S128_S1x128_1 (sitofp (F := Ideal) .f32 (iotaInDim S128 32 0))))
/-- The decays within a chunk. -/
def dmat : Vec Ideal S4x128x128 .f32 := select
  (broadcastInDim S4x128x128 ![1, 2] bcast_S128x128_S4x128x128_1_2 (cmpf .oge dif (broadcastInDim S128x128 ![] bcast_S_S128x128 (constant (F := Ideal) S_ .f32 0x00000000#32))))
  (Host.exp (mulf (broadcastInDim S4x128x128 ![0, 1, 2] bcast_S4x1x1_S4x128x128_0_1_2 (broadcastInDim S4x1x1 ![0] bcast_S4_S4x1x1_0 lgv))
    (broadcastInDim S4x128x128 ![0, 1, 2] bcast_S1x128x128_S4x128x128_0_1_2 (broadcastInDim S1x128x128 ![1, 2] bcast_S128x128_S1x128x128_1_2
      (maximumf dif (broadcastInDim S128x128 ![] bcast_S_S128x128 (constant (F := Ideal) S_ .f32 0x00000000#32)))))))
  (broadcastInDim S4x128x128 ![] bcast_S_S4x128x128 (constant (F := Ideal) S_ .f32 0x00000000#32))
/-- The state's decay up to a row of a chunk. -/
def xiv : Vec Ideal S4x128x1 .f32 := broadcastInDim S4x128x1 ![0, 1] bcast_S4x128_S4x128x1_0_1 (Host.exp (mulf
  (broadcastInDim S4x128 ![0, 1] bcast_S4x1_S4x128_0_1 (broadcastInDim S4x1 ![0] bcast_S4_S4x1_0 lgv))
  (broadcastInDim S4x128 ![0, 1] bcast_S1x128_S4x128_0_1 (broadcastInDim S1x128 ![1] bcast_S128_S1x128_1
    (addf (sitofp (F := Ideal) .f32 (iotaInDim S128 32 0)) (broadcastInDim S128 ![] bcast_S_S128 (constant S_ .f32 0x3F800000#32)))))))
/-- A row's decay up to its chunk's end. -/
def zev : Vec Ideal S4x128x1 .f32 := broadcastInDim S4x128x1 ![0, 1] bcast_S4x128_S4x128x1_0_1 (Host.exp (mulf
  (broadcastInDim S4x128 ![0, 1] bcast_S4x1_S4x128_0_1 (broadcastInDim S4x1 ![0] bcast_S4_S4x1_0 lgv))
  (broadcastInDim S4x128 ![0, 1] bcast_S1x128_S4x128_0_1 (broadcastInDim S1x128 ![1] bcast_S128_S1x128_1
    (subf (broadcastInDim S128 ![] bcast_S_S128 (constant S_ .f32 0x42FE0000#32)) (sitofp (F := Ideal) .f32 (iotaInDim S128 32 0)))))))
/-- A whole chunk's decay. -/
def gcv : Vec Ideal S4x1x1 .f32 := broadcastInDim S4x1x1 ![0] bcast_S4_S4x1x1_0 (Host.exp (F := Ideal) (φ := .f32) (mulf (F := Ideal) (φ := .f32) lgv (broadcastInDim S4 ![] bcast_S_S4 (constant S_ .f32 0x43000000#32))))
/-- The meta rows' decays up to the sequence's first row. -/
def zmv : Vec Ideal S8x4x16x256 .f32 := broadcastInDim S8x4x16x256 ![0, 1, 2, 3] bcast_S1x4x16x1_S8x4x16x256_0_1_2_3 (broadcastInDim S1x4x16x1 ![1, 2, 3] bcast_S4x16x1_S1x4x16x1_1_2_3
  (broadcastInDim S4x16x1 ![0, 1] bcast_S4x16_S4x16x1_0_1 (Host.exp (mulf
  (broadcastInDim S4x16 ![0, 1] bcast_S4x1_S4x16_0_1 (broadcastInDim S4x1 ![0] bcast_S4_S4x1_0 lgv))
  (broadcastInDim S4x16 ![0, 1] bcast_S1x16_S4x16_0_1 (broadcastInDim S1x16 ![1] bcast_S16_S1x16_1
    (subf (broadcastInDim S16 ![] bcast_S_S16 (constant S_ .f32 0x41700000#32)) (sitofp (F := Ideal) .f32 (iotaInDim S16 32 0)))))))))
/-- The state after the meta rows. -/
def st0 : Vec Ideal S8x4x256x512 .f32 := Host.dotGeneral (F := Ideal) (φ₁ := .f32) (φ₂ := .f32) dot_S8x4x16x256_S8x4x16x512_S8x4x256x512_2_2_3_3_01_01 none
  (mulf (F := Ideal) (φ := .f32) (extractStridedSlice S8x4x16x256 ![0, 0, 0, 0] (transpose S8x4x2064x256 [0, 2, 1, 3]
      (shapeCast S8x2064x4x256 (kcat m c) shapeCasts_S8x2064x1024_S8x2064x4x256) transposes_S8x2064x4x256_S8x4x2064x256_0_2_1_3) slices_S8x4x2064x256_S8x4x16x256_0_0_0_0) zmv)
  ((extractStridedSlice S8x4x16x512 ![0, 0, 0, 0] (transpose S8x4x2064x512 [0, 2, 1, 3]
      (shapeCast S8x2064x4x512 (vcat m c) shapeCasts_S8x2064x2048_S8x2064x4x512) transposes_S8x2064x4x512_S8x4x2064x512_0_2_1_3) slices_S8x4x2064x512_S8x4x16x512_0_0_0_0) : Vec Ideal S8x4x16x512 .f32)

theorem E_q : @Eq (Vec Ideal S16x8x4x128x256 .f32) (E m c (Proc.devRef .tc main_v91_0))
    (transpose S16x8x4x128x256 [2, 0, 1, 3, 4] (shapeCast S8x4x16x128x256 (transpose S8x4x2048x256 [0, 2, 1, 3]
      (shapeCast S8x2048x4x256 (qseq m c) shapeCasts_S8x2048x1024_S8x2048x4x256) transposes_S8x2048x4x256_S8x4x2048x256_0_2_1_3) shapeCasts_S8x4x2048x256_S8x4x16x128x256)
      transposes_S8x4x16x128x256_S16x8x4x128x256_2_0_1_3_4) := by
  unfold qseq a0
  simp only [E, entryContents, afterL_cons, afterL_nil]
  after_results_entrywise []

theorem E_k : @Eq (Vec Ideal S16x8x4x128x256 .f32) (E m c (Proc.devRef .tc main_v91_1))
    (transpose S16x8x4x128x256 [2, 0, 1, 3, 4] (shapeCast S8x4x16x128x256 (extractStridedSlice S8x4x2048x256 ![0, 0, 16, 0] (transpose S8x4x2064x256 [0, 2, 1, 3]
      (shapeCast S8x2064x4x256 (kcat m c) shapeCasts_S8x2064x1024_S8x2064x4x256) transposes_S8x2064x4x256_S8x4x2064x256_0_2_1_3) slices_S8x4x2064x256_S8x4x2048x256_0_0_16_0) shapeCasts_S8x4x2048x256_S8x4x16x128x256)
      transposes_S8x4x16x128x256_S16x8x4x128x256_2_0_1_3_4) := by
  unfold kcat kmeta kseq a0 a3
  simp only [E, entryContents, afterL_cons, afterL_nil]
  after_results_entrywise []

theorem E_v : @Eq (Vec Ideal S16x8x4x128x512 .f32) (E m c (Proc.devRef .tc main_v91_2))
    (transpose S16x8x4x128x512 [2, 0, 1, 3, 4] (shapeCast S8x4x16x128x512 (extractStridedSlice S8x4x2048x512 ![0, 0, 16, 0] (transpose S8x4x2064x512 [0, 2, 1, 3]
      (shapeCast S8x2064x4x512 (vcat m c) shapeCasts_S8x2064x2048_S8x2064x4x512) transposes_S8x2064x4x512_S8x4x2064x512_0_2_1_3) slices_S8x4x2064x512_S8x4x2048x512_0_0_16_0) shapeCasts_S8x4x2048x512_S8x4x16x128x512)
      transposes_S8x4x16x128x512_S16x8x4x128x512_2_0_1_3_4) := by
  unfold vcat vmeta vseq a1 a4
  simp only [E, entryContents, afterL_cons, afterL_nil]
  after_results_entrywise []

theorem E_d : @Eq (Vec Ideal S4x128x128 .f32) (E m c (Proc.devRef .tc main_v91_3)) dmat := by
  unfold dmat dif lgv
  simp only [E, entryContents, afterL_cons, afterL_nil]
  after_results_entrywise []

theorem E_x : @Eq (Vec Ideal S4x128x1 .f32) (E m c (Proc.devRef .tc main_v91_4)) xiv := by
  unfold xiv lgv
  simp only [E, entryContents, afterL_cons, afterL_nil]
  after_results_entrywise []

theorem E_g : @Eq (Vec Ideal S4x1x1 .f32) (E m c (Proc.devRef .tc main_v91_5)) gcv := by
  unfold gcv lgv
  simp only [E, entryContents, afterL_cons, afterL_nil]
  after_results_entrywise []

theorem E_z : @Eq (Vec Ideal S4x128x1 .f32) (E m c (Proc.devRef .tc main_v91_6)) zev := by
  unfold zev lgv
  simp only [E, entryContents, afterL_cons, afterL_nil]
  after_results_entrywise []

theorem E_s : @Eq (Vec Ideal S8x4x256x512 .f32) (E m c (Proc.devRef .tc main_v91_8)) (st0 m c) := by
  unfold st0 zmv kcat kmeta kseq a0 a3 vcat vmeta vseq a1 a4 lgv
  simp only [E, entryContents, afterL_cons, afterL_nil]
  after_results_entrywise []

end Cert.ReferenceIdeal.Val
-- ==== Proof.RetRefReal.lean ====
module
public import proofs.«01_k».proof.Proof.RetRefEntry

/-!
# The plain statement's chunks, decays and first state as real numbers

The same queries, keys, values, decays and state that the kernel's side is told in.
-/

@[expose] public section
set_option maxRecDepth 16384
noncomputable section
namespace Cert.ReferenceIdeal.Val
open Idealize.ShloMosaic Idealize.ShloMosaic.TcCoe Idealize.SL.Sem Idealize.ShloMosaic.StableHlo
open Cert.ReferenceIdeal Cert.ReferenceIdeal.Gen Cert.ReferenceIdeal.Value Cert.Ret

variable (m : (ℓ : Loc nD τ sig) → Buf (Elt Ideal) ℓ) (c : Dev nD)

theorem lgv_real (h : Fin 4) : @Eq EReal (lgv (ix1 h)) (lg h : ℝ) := by
  rw [← rate h]; pointwise [lgv]

theorem xiv_real (h : Fin 4) (r : Fin 128) : @Eq EReal (xiv (ix3 h r 0)) (Real.exp (lg h * ((r : ℕ) + 1)) : ℝ) := by
  have e : xiv (ix3 h r 0) = Ideal.exp (lgv (ix1 h) * (FloatOps.sitofp (F := Ideal) FTy.f32 (BitVec.ofNat 32 r.val) + Ideal.ofBits .f32 0x3F800000#32)) := by pointwise [xiv]
  rw [e, lgv_real, word_real (by omega), Ideal.ofBits_one_f32, ← exp_mul]
  simp only [EReal.coe_add, EReal.coe_one]

theorem zev_real (h : Fin 4) (r : Fin 128) : @Eq EReal (zev (ix3 h r 0)) (Real.exp (lg h * (((128 : ℕ) : ℝ) - 1 - (r : ℕ))) : ℝ) := by
  have e : zev (ix3 h r 0) = Ideal.exp (lgv (ix1 h) * (Ideal.ofBits .f32 0x42FE0000#32 - FloatOps.sitofp (F := Ideal) FTy.f32 (BitVec.ofNat 32 r.val))) := by pointwise [zev]
  rw [e, lgv_real, word_real (by omega), ofBits_127, ← EReal.coe_sub, exp_mul]
  norm_num

theorem gcv_real (h : Fin 4) : @Eq EReal (gcv (ix3 h 0 0)) (Real.exp (lg h * ((128 : ℕ) : ℝ)) : ℝ) := by
  have e : gcv (ix3 h 0 0) = Ideal.exp (lgv (ix1 h) * Ideal.ofBits .f32 0x43000000#32) := by pointwise [gcv]
  rw [e, lgv_real, ofBits_128, exp_mul]
  norm_num

theorem zmv_real (b : Fin 8) (h : Fin 4) (i : Fin 16) (d : Fin 256) : @Eq EReal (zmv (ix4 b h i d)) (Real.exp (lg h * (15 - (i : ℕ))) : ℝ) := by
  have e : zmv (ix4 b h i d) = Ideal.exp (lgv (ix1 h) * (Ideal.ofBits .f32 0x41700000#32 - FloatOps.sitofp (F := Ideal) FTy.f32 (BitVec.ofNat 32 i.val))) := by pointwise [zmv]
  rw [e, lgv_real, word_real (by omega), ofBits_15, ← EReal.coe_sub, exp_mul]

theorem dif_real (r s : Fin 128) : @Eq EReal (dif (ix2 r s)) (((r : ℕ) : ℝ) - ((s : ℕ) : ℝ) : ℝ) := by
  have e : dif (ix2 r s) = FloatOps.sitofp (F := Ideal) FTy.f32 (BitVec.ofNat 32 r.val) - FloatOps.sitofp (F := Ideal) FTy.f32 (BitVec.ofNat 32 s.val) := by pointwise [dif]
  rw [e, word_real (by omega), word_real (by omega), ← EReal.coe_sub]

theorem dmat_real (h : Fin 4) (r s : Fin 128) : @Eq EReal (dmat (ix3 h r s)) ((if (s : ℕ) ≤ r then Real.exp (lg h * ((r : ℕ) - (s : ℕ) : ℝ)) else 0 : ℝ) : ℝ) := by
  pointwise [dmat]
  rw [dif_real, lgv_real]
  by_cases h : (s : ℕ) ≤ r
  · have h0 : (0 : ℝ) ≤ (r : ℕ) - (s : ℕ) := by have : ((s : ℕ) : ℝ) ≤ (r : ℕ) := by exact_mod_cast h
                                                linarith
    rw [if_pos h, if_pos (by exact_mod_cast h0), max_eq_left (by exact_mod_cast h0), exp_mul]
  · have h0 : ¬ (0 : ℝ) ≤ (r : ℕ) - (s : ℕ) := by
      have : ((r : ℕ) : ℝ) < (s : ℕ) := by exact_mod_cast (not_le.1 h)
      linarith
    rw [if_neg h, if_neg (by rw [← EReal.coe_zero, EReal.coe_le_coe_iff]; exact h0)]; rfl

variable (A0 A1 : Fin 8 → Fin 2048 → Fin 2048 → ℝ) (A3 : Fin 16 → Fin 1024 → ℝ) (A4 : Fin 16 → Fin 2048 → ℝ)

/-- The first state's product, one entry. -/
theorem dot0 (K Z : Vec Ideal S8x4x16x256 .f32) (V : Vec Ideal S8x4x16x512 .f32) (b : Fin 8) (h : Fin 4) (d : Fin 256) (e : Fin 512) :
    @Eq EReal ((Host.dotGeneral (F := Ideal) (φ₁ := .f32) (φ₂ := .f32) dot_S8x4x16x256_S8x4x16x512_S8x4x256x512_2_2_3_3_01_01 none (mulf (F := Ideal) (φ := .f32) K Z) V : Vec Ideal S8x4x256x512 .f32) (ix4 b h d e))
      (∑ i : Fin 16, ((K (ix4 b h i d) * Z (ix4 b h i d) : EReal) * V (ix4 b h i e))) := by
  pointwise

/-- The queries, keys, values and meta rows of a memory are these real numbers. -/
structure IsReal : Prop where
  h0 : ∀ b r j, @Eq EReal ((m ((c : Thread nD τ).loc main_arg0) : Vec Ideal S8x2048x2048 .bf16) (ix3 b r j)) (A0 b r j : ℝ)
  h1 : ∀ b r j, @Eq EReal ((m ((c : Thread nD τ).loc main_arg1) : Vec Ideal S8x2048x2048 .bf16) (ix3 b r j)) (A1 b r j : ℝ)
  h3 : ∀ i j, @Eq EReal ((m ((c : Thread nD τ).loc main_arg3) : Vec Ideal S16x1024 .bf16) (ix2 i j)) (A3 i j : ℝ)
  h4 : ∀ i j, @Eq EReal ((m ((c : Thread nD τ).loc main_arg4) : Vec Ideal S16x2048 .bf16) (ix2 i j)) (A4 i j : ℝ)

theorem qseq_apply (b : Fin 8) (t : Fin 2048) (j : Fin 1024) : @Eq EReal (qseq m c (ix3 b t j)) (a0 m c (ix3 b t ⟨j.val, by omega⟩)) := by pointwise [qseq]
theorem kseq_apply (b : Fin 8) (t : Fin 2048) (j : Fin 1024) : @Eq EReal (kseq m c (ix3 b t j)) (a0 m c (ix3 b t ⟨1024 + j.val, by omega⟩)) := by pointwise [kseq]
theorem vseq_apply (b : Fin 8) (t : Fin 2048) (j : Fin 2048) : @Eq EReal (vseq m c (ix3 b t j)) (a1 m c (ix3 b t j)) := by pointwise [vseq]
theorem kmeta_apply (b : Fin 8) (i : Fin 16) (j : Fin 1024) : @Eq EReal (kmeta m c (ix3 b i j)) (a3 m c (ix2 i j)) := by pointwise [kmeta]
theorem vmeta_apply (b : Fin 8) (i : Fin 16) (j : Fin 2048) : @Eq EReal (vmeta m c (ix3 b i j)) (a4 m c (ix2 i j)) := by pointwise [vmeta]

variable {m c A0 A1 A3 A4} (H : IsReal m c A0 A1 A3 A4)
include H

theorem q_real (n : Fin 16) (b : Fin 8) (h : Fin 4) (r : Fin 128) (d : Fin 256) :
    @Eq EReal ((E m c (Proc.devRef .tc main_v91_0) : Vec Ideal S16x8x4x128x256 .f32) (ix5 n b h r d)) (qs A0 b h (128 * n.val + r.val) d : ℝ) := by
  rw [qs, dif_pos (by omega)]
  exact (congrFun (E_q m c) _).trans ((split_q _ n b h r d).trans ((qseq_apply m c _ _ _).trans (H.h0 _ _ _)))

theorem k_real (n : Fin 16) (b : Fin 8) (h : Fin 4) (r : Fin 128) (d : Fin 256) :
    @Eq EReal ((E m c (Proc.devRef .tc main_v91_1) : Vec Ideal S16x8x4x128x256 .f32) (ix5 n b h r d)) (ks A0 b h (128 * n.val + r.val) d : ℝ) := by
  rw [ks, dif_pos (by omega)]
  exact (congrFun (E_k m c) _).trans ((split_k _ n b h r d).trans ((cat_k _ _ b (trow n r) _).trans ((kseq_apply m c _ _ _).trans (H.h0 _ _ _))))

theorem v_real (n : Fin 16) (b : Fin 8) (h : Fin 4) (r : Fin 128) (e : Fin 512) :
    @Eq EReal ((E m c (Proc.devRef .tc main_v91_2) : Vec Ideal S16x8x4x128x512 .f32) (ix5 n b h r e)) (vs A1 b h (128 * n.val + r.val) e : ℝ) := by
  rw [vs, dif_pos (by omega)]
  exact (congrFun (E_v m c) _).trans ((split_v _ n b h r e).trans ((cat_v _ _ b (trow n r) _).trans ((vseq_apply m c _ _ _).trans (H.h1 _ _ _))))

theorem km_real (b : Fin 8) (h : Fin 4) (i : Fin 16) (d : Fin 256) :
    @Eq EReal (kcat m c (ix3 b ⟨i.val, by omega⟩ (c256 h d))) (A3 i (c256 h d) : ℝ) :=
  (catm_k _ _ b i _).trans ((kmeta_apply m c _ _ _).trans (H.h3 _ _))
theorem vm_real (b : Fin 8) (h : Fin 4) (i : Fin 16) (e : Fin 512) :
    @Eq EReal (vcat m c (ix3 b ⟨i.val, by omega⟩ (c512 h e))) (A4 i (c512 h e) : ℝ) :=
  (catm_v _ _ b i _).trans ((vmeta_apply m c _ _ _).trans (H.h4 _ _))

theorem s_real (b : Fin 8) (h : Fin 4) (d : Fin 256) (e : Fin 512) :
    @Eq EReal ((E m c (Proc.devRef .tc main_v91_8) : Vec Ideal S8x4x256x512 .f32) (ix4 b h d e)) (state A0 A1 A3 A4 b h 0 d e : ℝ) := by
  refine (congrFun (E_s m c) _).trans ?_
  rw [state, St_zero, ← Ret.coe_sum]
  refine (dot0 _ _ _ b h d e).trans ?_
  refine Finset.sum_congr rfl fun i _ => ?_
  rw [head_k, head_v, zmv_real, km_real H, vm_real H, ← EReal.coe_mul, ← EReal.coe_mul]

end Cert.ReferenceIdeal.Val
-- ==== Proof.RetStep.lean ====
module
public import proofs.«01_k».proof.Proof.RetSplit
public import Idealize.ShloMosaic.Lib.WordCmp

/-!
# One trip of the plain statement's loop, on any arrays

A trip takes chunk `n` of the queries, keys and values, forms the chunk's rows from the state and the chunk, writes them
as chunk `n` of the result, and carries the state on.
-/

@[expose] public section
set_option maxRecDepth 16384
noncomputable section
namespace Cert.ReferenceIdeal.Val
open Idealize.ShloMosaic Idealize.ShloMosaic.TcCoe
open Cert.ReferenceIdeal Cert.ReferenceIdeal.Gen Cert.Ret

/-- The loop's index and four zeros. -/
abbrev starts (w : Vec Ideal S_ .i32) : Fin 5 → Int := fun k => (((![w, constantI S_ 32 0#32, constantI S_ 32 0#32, constantI S_ 32 0#32, constantI S_ 32 0#32] : Fin 5 → Vec Ideal S_ .i32)) k (Shape.Idx.first h_S_)).toInt

/-- The starts as numbers. -/
theorem starts_eq (w : Vec Ideal S_ .i32) (n : ℕ) (hw : (w (Shape.Idx.first h_S_) : BitVec 32).toInt = n) (a : Fin 5) :
    starts w a = ((![n, 0, 0, 0, 0] : Fin 5 → ℕ) a : Int) := by
  fin_cases a
  · exact hw
  all_goals rfl

/-- Chunk `n` of an array of chunks. -/
theorem chunk256 (X : Vec Ideal S16x8x4x128x256 .f32) (w : Vec Ideal S_ .i32) (n : Fin 16) (hw : (w (Shape.Idx.first h_S_) : BitVec 32).toInt = (n.val : Int))
    (b : Fin 8) (h : Fin 4) (r : Fin 128) (d : Fin 256) :
    shapeCast S8x4x128x256 (Host.dynamicSlice S1x8x4x128x256 X (starts w) sliceFits_S16x8x4x128x256_S1x8x4x128x256) shapeCasts_S1x8x4x128x256_S8x4x128x256 (ix4 b h r d)
      = X (ix5 n b h r d) := by
  rw [WordCmp.dynamicSlice_eq_extract S1x8x4x128x256 X _ _ ![n.val, 0, 0, 0, 0] ⟨rfl, fun a => by fin_cases a <;> simp <;> omega⟩ (starts_eq w n hw)]
  pointwise

/-- Chunk `n` of an array of chunks. -/
theorem chunk512 (X : Vec Ideal S16x8x4x128x512 .f32) (w : Vec Ideal S_ .i32) (n : Fin 16) (hw : (w (Shape.Idx.first h_S_) : BitVec 32).toInt = (n.val : Int))
    (b : Fin 8) (h : Fin 4) (r : Fin 128) (d : Fin 512) :
    shapeCast S8x4x128x512 (Host.dynamicSlice S1x8x4x128x512 X (starts w) sliceFits_S16x8x4x128x512_S1x8x4x128x512) shapeCasts_S1x8x4x128x512_S8x4x128x512 (ix4 b h r d)
      = X (ix5 n b h r d) := by
  rw [WordCmp.dynamicSlice_eq_extract S1x8x4x128x512 X _ _ ![n.val, 0, 0, 0, 0] ⟨rfl, fun a => by fin_cases a <;> simp <;> omega⟩ (starts_eq w n hw)]
  pointwise

/-- Chunk `k` written, one entry. -/
theorem update512 (X : Vec Ideal S16x8x4x128x512 .f32) (U : Vec Ideal S8x4x128x512 .f32) (w : Vec Ideal S_ .i32) (n k : Fin 16) (hw : (w (Shape.Idx.first h_S_) : BitVec 32).toInt = (k.val : Int))
    (b : Fin 8) (h : Fin 4) (r : Fin 128) (d : Fin 512) :
    Host.dynamicUpdateSlice X (broadcastInDim S1x8x4x128x512 ![1, 2, 3, 4] bcast_S8x4x128x512_S1x8x4x128x512_1_2_3_4 U) (starts w) updateFits_S16x8x4x128x512_S1x8x4x128x512 (ix5 n b h r d)
      = if n = k then U (ix4 b h r d) else X (ix5 n b h r d) := by
  have hk : S16x8x4x128x512.Slices ![k.val, 0, 0, 0, 0] S1x8x4x128x512 := ⟨rfl, fun a => by fin_cases a <;> simp <;> omega⟩
  refine (congrFun (WordCmp.dynamicUpdateSlice_eq_update (s := S16x8x4x128x512) (u := S1x8x4x128x512) X
    (broadcastInDim S1x8x4x128x512 ![1, 2, 3, 4] bcast_S8x4x128x512_S1x8x4x128x512_1_2_3_4 U) (starts w) updateFits_S16x8x4x128x512_S1x8x4x128x512 ![k.val, 0, 0, 0, 0] hk (starts_eq w k hw)) _).trans ?_
  pointwise
  by_cases hn : n = k
  · rw [if_pos hn, dif_pos (by subst hn; omega)]
  · rw [if_neg hn, dif_neg (by rw [Fin.ext_iff] at hn; omega)]

/-- A chunk's rows, of its queries, keys and values, the decays and the state before it. -/
def rows (Q K : Vec Ideal S8x4x128x256 .f32) (V : Vec Ideal S8x4x128x512 .f32) (D : Vec Ideal S4x128x128 .f32) (X : Vec Ideal S4x128x1 .f32) (S : Vec Ideal S8x4x256x512 .f32) : Vec Ideal S8x4x128x512 .f32 :=
  addf (F := Ideal) (φ := .f32) (Host.dotGeneral (F := Ideal) (φ₁ := .f32) (φ₂ := .f32) dot_S8x4x128x128_S8x4x128x512_S8x4x128x512_3_2_2_3_01_01 none
    (mulf (F := Ideal) (φ := .f32) (Host.dotGeneral (F := Ideal) (φ₁ := .f32) (φ₂ := .f32) dot_S8x4x128x256_S8x4x128x256_S8x4x128x128_3_3_2_2_01_01 none Q K)
      (broadcastInDim S8x4x128x128 ![0, 1, 2, 3] bcast_S1x4x128x128_S8x4x128x128_0_1_2_3 (broadcastInDim S1x4x128x128 ![1, 2, 3] bcast_S4x128x128_S1x4x128x128_1_2_3 D))) V)
    (mulf (F := Ideal) (φ := .f32) (Host.dotGeneral (F := Ideal) (φ₁ := .f32) (φ₂ := .f32) dot_S8x4x128x256_S8x4x256x512_S8x4x128x512_3_2_2_3_01_01 none Q S)
      (broadcastInDim S8x4x128x512 ![0, 1, 2, 3] bcast_S1x4x128x1_S8x4x128x512_0_1_2_3 (broadcastInDim S1x4x128x1 ![1, 2, 3] bcast_S4x128x1_S1x4x128x1_1_2_3 X)))

theorem rows_apply (Q K : Vec Ideal S8x4x128x256 .f32) (V : Vec Ideal S8x4x128x512 .f32) (D : Vec Ideal S4x128x128 .f32) (X : Vec Ideal S4x128x1 .f32) (S : Vec Ideal S8x4x256x512 .f32)
    (b : Fin 8) (h : Fin 4) (r : Fin 128) (e : Fin 512) : @Eq EReal (rows Q K V D X S (ix4 b h r e))
      ((∑ s : Fin 128, ((∑ d : Fin 256, Q (ix4 b h r d) * K (ix4 b h s d)) * D (ix3 h r s) : EReal) * V (ix4 b h s e)) + (∑ d : Fin 256, Q (ix4 b h r d) * S (ix4 b h d e) : EReal) * X (ix3 h r 0)) := by
  pointwise [rows]

/-- The state after a chunk. -/
def next (K : Vec Ideal S8x4x128x256 .f32) (V : Vec Ideal S8x4x128x512 .f32) (G : Vec Ideal S4x1x1 .f32) (Z : Vec Ideal S4x128x1 .f32) (S : Vec Ideal S8x4x256x512 .f32) : Vec Ideal S8x4x256x512 .f32 :=
  addf (F := Ideal) (φ := .f32) (mulf (F := Ideal) (φ := .f32) (broadcastInDim S8x4x256x512 ![0, 1, 2, 3] bcast_S1x4x1x1_S8x4x256x512_0_1_2_3 (broadcastInDim S1x4x1x1 ![1, 2, 3] bcast_S4x1x1_S1x4x1x1_1_2_3 G)) S)
    (Host.dotGeneral (F := Ideal) (φ₁ := .f32) (φ₂ := .f32) dot_S8x4x128x256_S8x4x128x512_S8x4x256x512_2_2_3_3_01_01 none
      (mulf (F := Ideal) (φ := .f32) K (broadcastInDim S8x4x128x256 ![0, 1, 2, 3] bcast_S1x4x128x1_S8x4x128x256_0_1_2_3 (broadcastInDim S1x4x128x1 ![1, 2, 3] bcast_S4x128x1_S1x4x128x1_1_2_3 Z))) V)

theorem next_apply (K : Vec Ideal S8x4x128x256 .f32) (V : Vec Ideal S8x4x128x512 .f32) (G : Vec Ideal S4x1x1 .f32) (Z : Vec Ideal S4x128x1 .f32) (S : Vec Ideal S8x4x256x512 .f32)
    (b : Fin 8) (h : Fin 4) (d : Fin 256) (e : Fin 512) : @Eq EReal (next K V G Z S (ix4 b h d e))
      ((G (ix3 h 0 0) * S (ix4 b h d e) : EReal) + ∑ s : Fin 128, ((K (ix4 b h s d) * Z (ix3 h s 0) : EReal) * V (ix4 b h s e))) := by
  pointwise [next]

/-- The chunks' rows in order. -/
def flat (Y : Vec Ideal S16x8x4x128x512 .f32) : Vec Ideal S8x4x2048x512 .f32 :=
  shapeCast S8x4x2048x512 (transpose S8x4x16x128x512 [1, 2, 0, 3, 4] Y transposes_S16x8x4x128x512_S8x4x16x128x512_1_2_0_3_4) shapeCasts_S8x4x16x128x512_S8x4x2048x512

theorem flat_apply (Y : Vec Ideal S16x8x4x128x512 .f32) (b : Fin 8) (h : Fin 4) (n : Fin 16) (r : Fin 128) (e : Fin 512) :
    flat Y (ix4 b h (trow n r) e) = Y (ix5 n b h r e) := by
  unfold flat trow
  pointwise

/-- The normalised rows, gated. -/
def fin (G : Vec Ideal S8x2048x2048 .bf16) (W : Vec Ideal S8x4x2048x512 .f32) : Vec Ideal S8x2048x2048 .bf16 :=
  truncf (F := Ideal) .bf16 (mulf (F := Ideal) (φ := .f32) (extf (F := Ideal) (φ := .bf16) .f32 G bitsLt_bf16_f32) (shapeCast S8x2048x2048 (transpose S8x2048x4x512 [0, 2, 1, 3] (mulf (F := Ideal) (φ := .f32) W
    (broadcastInDim S8x4x2048x512 ![0, 1, 2, 3] bcast_S8x4x2048x1_S8x4x2048x512_0_1_2_3 (Host.rsqrt (F := Ideal) (φ := .f32) (addf (F := Ideal) (φ := .f32)
      (Host.divf (F := Ideal) (φ := .f32) (broadcastInDim S8x4x2048x1 ![0, 1, 2] bcast_S8x4x2048_S8x4x2048x1_0_1_2 (Host.reduceAdd (F := Ideal) (φ := .f32) (mulf (F := Ideal) (φ := .f32) W W) (constant S_ .f32 0x00000000#32) reducesTo_S8x4x2048x512_S8x4x2048_d3 h_S_))
        (broadcastInDim S8x4x2048x1 ![] bcast_S_S8x4x2048x1 (constant S_ .f32 0x44000000#32))) (broadcastInDim S8x4x2048x1 ![] bcast_S_S8x4x2048x1 (constant S_ .f32 0x358637BD#32))))))
    transposes_S8x4x2048x512_S8x2048x4x512_0_2_1_3) shapeCasts_S8x2048x4x512_S8x2048x2048)) bitsLt_bf16_f32

theorem fin_apply (G : Vec Ideal S8x2048x2048 .bf16) (W : Vec Ideal S8x4x2048x512 .f32) (b : Fin 8) (t : Fin 2048) (h : Fin 4) (e : Fin 512) :
    @Eq EReal (fin G W (ix3 b t (c512 h e))) (G (ix3 b t (c512 h e)) * (W (ix4 b h t e) * Ideal.rsqrt (Ideal.div (∑ x : Fin 512, (W (ix4 b h t x) * W (ix4 b h t x) : EReal)) (Ideal.ofBits FTy.f32 0x44000000#32) + Ideal.ofBits FTy.f32 0x358637BD#32))) := by
  unfold fin c512
  pointwise

end Cert.ReferenceIdeal.Val
-- ==== Proof.RetRef.lean ====
module
public import proofs.«01_k».proof.Proof.RetRefReal
public import proofs.«01_k».proof.Proof.RetStep

/-!
# The plain statement computes the layer's retention

After `k` trips the loop holds the recurrence's state before row `128 k` and, in the first `k` chunks of its result,
the recurrence's rows.
-/

@[expose] public section
set_option maxRecDepth 16384
noncomputable section
namespace Cert.ReferenceIdeal.Val
open Idealize.ShloMosaic Idealize.ShloMosaic.TcCoe Idealize.SL.Sem Idealize.ShloMosaic.StableHlo
open Cert.ReferenceIdeal Cert.ReferenceIdeal.Gen Cert.ReferenceIdeal.Value Cert.Ret

variable (m : (ℓ : Loc nD τ sig) → Buf (Elt Ideal) ℓ) (c : Dev nD)

/-- What the loop holds after `k` trips. -/
abbrev T (k : ℕ) := STEP^[k] (E m c)

theorem T_succ (k : ℕ) : T m c (k + 1) = STEP (T m c k) := Function.iterate_succ_apply' _ _ _

/-- A buffer no trip changes. -/
theorem T_keep (r : DevRef τ sig) (hr : ∀ V0 : Valuation τ sig (Elt Ideal), STEP V0 r = V0 r) : ∀ k, T m c k r = E m c r
  | 0 => rfl
  | k + 1 => by rw [T_succ, hr, T_keep r hr k]

/-- The loop's counter. -/
theorem T_ctr : ∀ k, @Eq (Vec Ideal S_ .i32) (T m c k (Proc.devRef .tc main_v91_7)) (fun _ => Scf.iv 0#32 1#32 k)
  | 0 => (ctr_entry m c).trans (by rw [Scf.iv_zero]; rfl)
  | k + 1 => by
    have ih := T_ctr k
    rw [T_succ, STEP_main_v91_7]
    unfold step_main_v91_7
    rw [show (T m c k (Proc.devRef .tc main_v91_7) : Vec Ideal S_ .i32) = _ from ih, Scf.iv_succ]
    rfl

theorem ctr_int (n : Fin 16) : ((T m c n.val (Proc.devRef .tc main_v91_7) : Vec Ideal S_ .i32) (Shape.Idx.first h_S_) : BitVec 32).toInt = (n.val : Int) := by
  rw [show (T m c n.val (Proc.devRef .tc main_v91_7) : Vec Ideal S_ .i32) = _ from T_ctr m c n.val]
  revert n; decide

variable {m c} {A0 A1 : Fin 8 → Fin 2048 → Fin 2048 → ℝ} {A3 : Fin 16 → Fin 1024 → ℝ} {A4 : Fin 16 → Fin 2048 → ℝ} (H : IsReal m c A0 A1 A3 A4)
include H

theorem tq (n : Fin 16) (b : Fin 8) (h : Fin 4) (r : Fin 128) (d : Fin 256) :
    @Eq EReal ((res_main_while0b_v109 (T m c n.val) : Vec Ideal S8x4x128x256 .f32) (ix4 b h r d)) (qs A0 b h (128 * n.val + r.val) d : ℝ) := by
  refine (chunk256 _ _ n (ctr_int m c n) b h r d).trans ?_
  exact (congrFun (T_keep m c _ STEP_main_v91_0 n.val) _).trans (q_real H n b h r d)

theorem tk (n : Fin 16) (b : Fin 8) (h : Fin 4) (r : Fin 128) (d : Fin 256) :
    @Eq EReal ((res_main_while0b_v110 (T m c n.val) : Vec Ideal S8x4x128x256 .f32) (ix4 b h r d)) (ks A0 b h (128 * n.val + r.val) d : ℝ) := by
  refine (chunk256 _ _ n (ctr_int m c n) b h r d).trans ?_
  exact (congrFun (T_keep m c _ STEP_main_v91_1 n.val) _).trans (k_real H n b h r d)

theorem tv (n : Fin 16) (b : Fin 8) (h : Fin 4) (r : Fin 128) (e : Fin 512) :
    @Eq EReal ((res_main_while0b_v111 (T m c n.val) : Vec Ideal S8x4x128x512 .f32) (ix4 b h r e)) (vs A1 b h (128 * n.val + r.val) e : ℝ) := by
  refine (chunk512 _ _ n (ctr_int m c n) b h r e).trans ?_
  exact (congrFun (T_keep m c _ STEP_main_v91_2 n.val) _).trans (v_real H n b h r e)

/-- The state after `k` trips. -/
theorem t_state : ∀ k ≤ 16, ∀ (b : Fin 8) (h : Fin 4) (d : Fin 256) (e : Fin 512),
    @Eq EReal ((T m c k (Proc.devRef .tc main_v91_8) : Vec Ideal S8x4x256x512 .f32) (ix4 b h d e)) (state A0 A1 A3 A4 b h (128 * k) d e : ℝ)
  | 0, _, b, h, d, e => s_real H b h d e
  | k + 1, hk, b, h, d, e => by
    have ih := t_state k (by omega) b h d e
    have hK := fun s => tk H ⟨k, by omega⟩ b h s d
    have hV := fun s => tv H ⟨k, by omega⟩ b h s e
    rw [T_succ, STEP_main_v91_8]
    refine (next_apply (res_main_while0b_v110 (T m c k)) (res_main_while0b_v111 (T m c k)) (T m c k (Proc.devRef .tc main_v91_5)) (T m c k (Proc.devRef .tc main_v91_6))
      (T m c k (Proc.devRef .tc main_v91_8)) b h d e).trans ?_
    rw [T_keep m c _ STEP_main_v91_5 k, T_keep m c _ STEP_main_v91_6 k]
    rw [show (E m c (Proc.devRef .tc main_v91_5) : Vec Ideal S4x1x1 .f32) = _ from E_g m c, show (E m c (Proc.devRef .tc main_v91_6) : Vec Ideal S4x128x1 .f32) = _ from E_z m c]
    simp only [hK, hV, ih, gcv_real, zev_real, ← EReal.coe_mul, Ret.coe_sum, ← EReal.coe_add]
    rw [state, state, show 128 * (k + 1) = 128 * k + 128 by omega, St_add]

/-- The rows of chunk `k`. -/
theorem t_rows (k : Fin 16) (b : Fin 8) (h : Fin 4) (r : Fin 128) (e : Fin 512) :
    @Eq EReal (rows (res_main_while0b_v109 (T m c k.val)) (res_main_while0b_v110 (T m c k.val)) (res_main_while0b_v111 (T m c k.val)) (T m c k.val (Proc.devRef .tc main_v91_3))
      (T m c k.val (Proc.devRef .tc main_v91_4)) (T m c k.val (Proc.devRef .tc main_v91_8)) (ix4 b h r e)) (yrow A0 A1 A3 A4 b h (128 * k.val + r.val) e : ℝ) := by
  refine (rows_apply _ _ _ _ _ _ b h r e).trans ?_
  have hS := fun d => t_state H k.val (by omega) b h d e
  have hQ := fun d => tq H k b h r d
  have hK := fun s d => tk H k b h s d
  have hV := fun s => tv H k b h s e
  rw [T_keep m c _ STEP_main_v91_3 k.val, T_keep m c _ STEP_main_v91_4 k.val]
  rw [show (E m c (Proc.devRef .tc main_v91_3) : Vec Ideal S4x128x128 .f32) = _ from E_d m c, show (E m c (Proc.devRef .tc main_v91_4) : Vec Ideal S4x128x1 .f32) = _ from E_x m c]
  simp only [hQ, hK, hV, hS, dmat_real, xiv_real, ← EReal.coe_mul, Ret.coe_sum, ← EReal.coe_add]
  rw [yrow, ← Y_chunk]
  rfl

/-- The result's first `k` chunks after `k` trips. -/
theorem t_out : ∀ k ≤ 16, ∀ (n : Fin 16), n.val < k → ∀ (b : Fin 8) (h : Fin 4) (r : Fin 128) (e : Fin 512),
    @Eq EReal ((T m c k (Proc.devRef .tc main_v91_9) : Vec Ideal S16x8x4x128x512 .f32) (ix5 n b h r e)) (yrow A0 A1 A3 A4 b h (128 * n.val + r.val) e : ℝ)
  | 0, _, n, hn, _, _, _, _ => absurd hn (by omega)
  | k + 1, hk, n, hn, b, h, r, e => by
    rw [T_succ, STEP_main_v91_9]
    refine (update512 (T m c k (Proc.devRef .tc main_v91_9)) (rows (res_main_while0b_v109 (T m c k)) (res_main_while0b_v110 (T m c k)) (res_main_while0b_v111 (T m c k)) (T m c k (Proc.devRef .tc main_v91_3))
      (T m c k (Proc.devRef .tc main_v91_4)) (T m c k (Proc.devRef .tc main_v91_8))) (T m c k (Proc.devRef .tc main_v91_7)) n ⟨k, by omega⟩ (ctr_int m c ⟨k, by omega⟩) b h r e).trans ?_
    by_cases hnk : n = ⟨k, by omega⟩
    · rw [if_pos hnk, hnk]
      exact t_rows H ⟨k, by omega⟩ b h r e
    · rw [if_neg hnk]
      exact t_out k (by omega) n (by rw [Fin.ext_iff] at hnk; simp only at hnk; omega) b h r e

/-- The plain statement's result, one entry. -/
theorem R_real (b : Fin 8) (t : Fin 2048) (h : Fin 4) (e : Fin 512) :
    @Eq EReal ((out_main_v108 (STEP^[16] (entryContents preI m c)) : Vec Ideal S8x2048x2048 .bf16) (ix3 b t (c512 h e)))
      (out A0 A1 A3 A4 ((m ((c : Thread nD τ).loc main_arg2) : Vec Ideal S8x2048x2048 .bf16) (ix3 b t (c512 h e))) b h t.val e) := by
  refine (fin_apply (T m c 16 (Proc.devRef .tc main_arg2)) (flat (T m c 16 (Proc.devRef .tc main_v91_9))) b t h e).trans ?_
  rw [show (T m c 16 (Proc.devRef .tc main_arg2) : Vec Ideal S8x2048x2048 .bf16) = _ from iter_main_arg2 m c 16]
  have ht : t = trow ⟨t.val / 128, by omega⟩ ⟨t.val % 128, by omega⟩ := by apply Fin.ext; simp only [trow]; omega
  have hv : 128 * (t.val / 128) + t.val % 128 = t.val := by omega
  have hy : ∀ x : Fin 512, @Eq EReal (flat (T m c 16 (Proc.devRef .tc main_v91_9)) (ix4 b h t x)) (yrow A0 A1 A3 A4 b h t.val x : ℝ) := fun x => by
    refine (congrArg (fun t => flat (T m c 16 (Proc.devRef .tc main_v91_9)) (ix4 b h t x)) ht).trans ?_
    refine (flat_apply _ b h _ _ x).trans ?_
    refine (t_out H 16 le_rfl _ (by simp only; omega) b h _ x).trans ?_
    simp only [hv]
  simp only [hy]
  rfl

end Cert.ReferenceIdeal.Val
-- ==== Proof.RetPre.lean ====
module
public import proofs.«01_k».proof.Pre_finite
public import Idealize.ShloMosaic.PureOps.Ideal
public import Idealize.ShloMosaic.Lib.Pointwise

/-!
# What the precondition says

An array whose entries' absolute values all compare below infinity holds real numbers.
-/

@[expose] public section
noncomputable section
namespace Cert.Pre_finite
open Idealize.ShloMosaic

/-- The precondition's side conditions. -/
theorem facts : Facts := ⟨by decide, by decide, by decide, by decide⟩

/-- An extended real whose absolute value is below infinity is a real. -/
theorem real_of_abs {φ : FTy} {x : Ideal φ} (h : BitVec.ofBool (decide ((FloatOps.absf x : EReal) < Ideal.ofBits FTy.f32 0x7F800000#32)) = 1#1) :
    @Eq EReal x ((EReal.toReal x : ℝ) : EReal) := by
  have h' : max (x : EReal) (-(x : EReal)) < Ideal.ofBits FTy.f32 0x7F800000#32 := by
    by_contra hn
    rw [show (FloatOps.absf x : EReal) = max (x : EReal) (-(x : EReal)) from rfl, decide_eq_false hn] at h
    exact absurd h (by decide)
  have ht : max (x : EReal) (-(x : EReal)) ≠ ⊤ := fun e => not_top_lt (e ▸ h')
  refine (EReal.coe_toReal ?_ ?_).symm
  · intro e
    exact ht (by rw [e]; exact max_eq_left le_top)
  · intro e
    exact ht (by rw [e]; exact max_eq_right le_top)

variable [Facts]
open Facts

theorem real3 (x : FVec Ideal S8x2048x2048 .bf16)
    (h : cmpf .olt (Host.absf (extf .f32 x bitsLt_bf16_f32)) (broadcastInDim S8x2048x2048 ![] bcast_S_S8x2048x2048 (constant (F := Ideal) S_ .f32 0x7F800000#32)) = fun _ => 1#1)
    (b : Fin 8) (r j : Fin 2048) : @Eq EReal (x (ix3 b r j)) ((EReal.toReal (x (ix3 b r j)) : ℝ) : EReal) := by
  have e := congrFun h (ix3 b r j)
  pointwise at e
  exact real_of_abs e

theorem real2k (x : FVec Ideal S16x1024 .bf16)
    (h : cmpf .olt (Host.absf (extf .f32 x bitsLt_bf16_f32)) (broadcastInDim S16x1024 ![] bcast_S_S16x1024 (constant (F := Ideal) S_ .f32 0x7F800000#32)) = fun _ => 1#1)
    (i : Fin 16) (j : Fin 1024) : @Eq EReal (x (ix2 i j)) ((EReal.toReal (x (ix2 i j)) : ℝ) : EReal) := by
  have e := congrFun h (ix2 i j)
  pointwise at e
  exact real_of_abs e

theorem real2v (x : FVec Ideal S16x2048 .bf16)
    (h : cmpf .olt (Host.absf (extf .f32 x bitsLt_bf16_f32)) (broadcastInDim S16x2048 ![] bcast_S_S16x2048 (constant (F := Ideal) S_ .f32 0x7F800000#32)) = fun _ => 1#1)
    (i : Fin 16) (j : Fin 2048) : @Eq EReal (x (ix2 i j)) ((EReal.toReal (x (ix2 i j)) : ℝ) : EReal) := by
  have e := congrFun h (ix2 i j)
  pointwise at e
  exact real_of_abs e

end Cert.Pre_finite
-- ==== Proof.RetTie.lean ====
module
public import proofs.«01_k».proof.Defs
public import proofs.«01_k».proof.Proof.RetFold
public import proofs.«01_k».proof.Proof.RetRef
public import proofs.«01_k».proof.Proof.RetPre

/-!
# The kernel's retention is the plain statement's

Both were read as the recurrence over the real numbers that a finite memory holds; equal memories hold the same.
-/

@[expose] public section
noncomputable section
namespace Cert.Tie
open Idealize.ShloMosaic Idealize.ShloMosaic.TcCoe Idealize.SL.Sem Cert.Ret

attribute [local instance] Cert.Pre_finite.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- A finite memory holds these real numbers. -/
theorem isReal (h : Cert.Pre_KernelIdeal_finite m) : Cert.KernelIdeal.Val.IsReal m c
    (fun b r j => EReal.toReal ((m ((c.tc : Thread Cert.KernelIdeal.nD Cert.KernelIdeal.τ).loc Cert.KernelIdeal.main_arg0) : Vec Ideal Cert.KernelIdeal.S8x2048x2048 .bf16) (ix3 b r j)))
    (fun b r j => EReal.toReal ((m ((c.tc : Thread Cert.KernelIdeal.nD Cert.KernelIdeal.τ).loc Cert.KernelIdeal.main_arg1) : Vec Ideal Cert.KernelIdeal.S8x2048x2048 .bf16) (ix3 b r j)))
    (fun i j => EReal.toReal ((m ((c.tc : Thread Cert.KernelIdeal.nD Cert.KernelIdeal.τ).loc Cert.KernelIdeal.main_arg3) : Vec Ideal Cert.KernelIdeal.S16x1024 .bf16) (ix2 i j)))
    (fun i j => EReal.toReal ((m ((c.tc : Thread Cert.KernelIdeal.nD Cert.KernelIdeal.τ).loc Cert.KernelIdeal.main_arg4) : Vec Ideal Cert.KernelIdeal.S16x2048 .bf16) (ix2 i j))) :=
  ⟨fun b r j => Cert.Pre_finite.real3 _ (h c).1 b r j, fun b r j => Cert.Pre_finite.real3 _ (h c).2.1 b r j,
   fun i j => Cert.Pre_finite.real2k _ (h c).2.2.1 i j, fun i j => Cert.Pre_finite.real2v _ (h c).2.2.2 i j⟩

/-- Equal memories hold the same real numbers. -/
theorem isReal' {A0 A1 : Fin 8 → Fin 2048 → Fin 2048 → ℝ} {A3 : Fin 16 → Fin 1024 → ℝ} {A4 : Fin 16 → Fin 2048 → ℝ} (H : Cert.KernelIdeal.Val.IsReal m c A0 A1 A3 A4)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.IsReal m' c A0 A1 A3 A4 :=
  ⟨fun b r j => (congrFun e0 _).trans (H.h0 b r j), fun b r j => (congrFun e1 _).trans (H.h1 b r j),
   fun i j => (congrFun e3 _).trans (H.h3 i j), fun i j => (congrFun e4 _).trans (H.h4 i j)⟩

/-- The two results are one array. -/
theorem tie {A0 A1 : Fin 8 → Fin 2048 → Fin 2048 → ℝ} {A3 : Fin 16 → Fin 1024 → ℝ} {A4 : Fin 16 → Fin 2048 → ℝ} (H : Cert.KernelIdeal.Val.IsReal m c A0 A1 A3 A4)
    (H' : Cert.ReferenceIdeal.Val.IsReal m' c A0 A1 A3 A4)
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    @Eq (Vec Ideal Cert.KernelIdeal.S8x2048x2048 .bf16)
      (Cert.ReferenceIdeal.Value.out_main_v108 (Cert.ReferenceIdeal.Value.STEP^[16] (StableHlo.entryContents Cert.ReferenceIdeal.Value.preI m' c)))
      (Cert.KernelIdeal.Value.G8 m c) := by
  funext i
  obtain ⟨b, t, j, rfl⟩ : ∃ b t j, i = ix3 b t j := ⟨i 0, i 1, i 2, by funext a; fin_cases a <;> rfl⟩
  have hj : j = c512 ⟨j.val / 512, by omega⟩ ⟨j.val % 512, by omega⟩ := by apply Fin.ext; simp only [c512]; omega
  rw [hj]
  refine (Cert.ReferenceIdeal.Val.R_real H' b t _ _).trans (Eq.trans ?_ (Cert.KernelIdeal.Val.G8_real H b t _ _).symm)
  exact congrArg (fun g : EReal => out A0 A1 A3 A4 g b _ t.val _) (congrFun e2 _)

end Cert.Tie
-- ==== Proof.FfnSpec.lean ====
module
public import Idealize.ShloMosaic.Lib.Pointwise
public import Idealize.ShloMosaic.Lib.IdealHost
public import Idealize.ShloMosaic.PureOps.Ideal

/-!
# The feed-forward block on one row, over the extended reals

A row is normed, passed through the gated product of 2816 hidden columns, halved and added back. The kernel takes the
hidden columns 256 at a time and adds the eleven parts up; addition of extended reals is commutative and associative, so
the order does not matter, whatever the numbers are. The kernel's gate is written with the hyperbolic tangent, the plain
statement's with the exponential; they are one function, at the infinities too.
-/

@[expose] public section
noncomputable section
namespace Cert.FfnSpec
open Idealize.ShloMosaic Idealize.ShloMosaic.TcCoe

/-- The sigmoid as both programs can be read: one over one plus the exponential of the negative. -/
def sig (x : EReal) : EReal := Ideal.div (Ideal.ofBits .f32 0x3F800000#32) (Ideal.ofBits .f32 0x3F800000#32 + Ideal.exp (-x))

theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = 0 := by
  simp [Ideal.ofBits, Ideal.ieee]

/-- Half of the hyperbolic tangent of half, plus a half, is the sigmoid. -/
theorem half_tanh (x : EReal) : Ideal.ofBits .f32 0x3F000000#32 * Ideal.tanh (Ideal.ofBits .f32 0x3F000000#32 * x) + Ideal.ofBits .f32 0x3F000000#32 = sig x := by
  unfold sig
  rw [ofBits_half, ofBits_one]
  induction x with
  | bot =>
    rw [EReal.coe_mul_bot_of_pos (by norm_num), Ideal.tanh_bot, EReal.neg_bot]
    show _ = Ideal.div _ (_ + ⊤)
    rw [EReal.coe_add_top, Ideal.div, if_neg (by simp), EReal.inv_top, mul_zero, mul_neg, mul_one, ← EReal.coe_neg, ← EReal.coe_add]
    norm_num
  | top =>
    rw [EReal.coe_mul_top_of_pos (by norm_num), Ideal.tanh_top, EReal.neg_top]
    show _ = Ideal.div _ (_ + 0)
    rw [add_zero, Ideal.div, if_neg (by simp), mul_one, ← EReal.coe_add, ← EReal.coe_inv, ← EReal.coe_mul]
    norm_num
  | coe r =>
    rw [← EReal.coe_mul, Ideal.tanh_coe, ← EReal.coe_mul, ← EReal.coe_add, ← EReal.coe_neg, Ideal.exp_coe, ← EReal.coe_add]
    have hp : (0 : ℝ) < 1 + Real.exp (-r) := by positivity
    rw [Ideal.div, if_neg (by rw [← EReal.coe_zero, EReal.coe_eq_coe_iff]; exact hp.ne'), ← EReal.coe_inv, ← EReal.coe_mul, EReal.coe_eq_coe_iff]
    rw [Real.tanh_eq_sinh_div_cosh, Real.sinh_eq, Real.cosh_eq]
    have e : Real.exp (-r) = Real.exp (-(1 / 2 * r)) * Real.exp (-(1 / 2 * r)) := by rw [← Real.exp_add]; ring_nf
    have e1 : Real.exp (1 / 2 * r) * Real.exp (-(1 / 2 * r)) = 1 := by rw [← Real.exp_add]; simp
    have h1 := Real.exp_pos (1 / 2 * r)
    have h2 := Real.exp_pos (-(1 / 2 * r))
    rw [e]
    have h3 : Real.exp (1 / 2 * r) + Real.exp (-(1 / 2 * r)) ≠ 0 := by positivity
    have h4 : 1 + Real.exp (-(1 / 2 * r)) * Real.exp (-(1 / 2 * r)) ≠ 0 := by positivity
    generalize Real.exp (1 / 2 * r) = a at *
    generalize Real.exp (-(1 / 2 * r)) = b at *
    field_simp
    linear_combination (2 * b) * e1

/-- The root-mean-square norm of a row, with its gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- One hidden column of the gated product. -/
def hid (u : Fin 1024 → EReal) (wg wu : Fin 1024 → Fin 2816 → EReal) (q : Fin 2816) : EReal :=
  ((∑ k, u k * wg k q) * sig (∑ k, u k * wg k q)) * ∑ k, u k * wu k q

/-- The feed-forward block: the row and half of the gated product of the normed row. -/
def ffn (x g : Fin 1024 → EReal) (wg wu : Fin 1024 → Fin 2816 → EReal) (wd : Fin 2816 → Fin 1024 → EReal) (j : Fin 1024) : EReal :=
  x j + Ideal.ofBits .f32 0x3F000000#32 * ∑ q, hid (rms x g) wg wu q * wd q j

/-- Column `s` of the `f`-th 256 hidden columns. -/
def hcol (f : ℕ) (hf : f < 11) (s : Fin 256) : Fin 2816 := ⟨256 * f + s.val, by omega⟩

theorem sum_eleven (G : Fin 11 → EReal) : ∑ f, G f = 0 + G 0 + G 1 + G 2 + G 3 + G 4 + G 5 + G 6 + G 7 + G 8 + G 9 + G 10 := by
  simp only [Fin.sum_univ_succ, Fin.sum_univ_zero, add_zero, zero_add, add_assoc]
  rfl

/-- A sum over the hidden columns is the sum of its eleven parts, in the order the kernel adds them. -/
theorem sum_parts (F : Fin 2816 → EReal) : ∑ q, F q =
    0 + (∑ s, F (hcol 0 (by decide) s)) + (∑ s, F (hcol 1 (by decide) s)) + (∑ s, F (hcol 2 (by decide) s)) + (∑ s, F (hcol 3 (by decide) s))
      + (∑ s, F (hcol 4 (by decide) s)) + (∑ s, F (hcol 5 (by decide) s)) + (∑ s, F (hcol 6 (by decide) s)) + (∑ s, F (hcol 7 (by decide) s))
      + (∑ s, F (hcol 8 (by decide) s)) + (∑ s, F (hcol 9 (by decide) s)) + (∑ s, F (hcol 10 (by decide) s)) := by
  rw [← Equiv.sum_comp (finProdFinEquiv (m := 11) (n := 256)) F, Fintype.sum_prod_type]
  have e : ∀ f : Fin 11, (∑ s : Fin 256, F (finProdFinEquiv (f, s))) = ∑ s : Fin 256, F (hcol f.val f.isLt s) := by
    intro f
    refine Finset.sum_congr rfl fun s _ => congrArg F (Fin.ext ?_)
    simp only [finProdFinEquiv_apply_val, hcol]
    omega
  simp only [e]
  exact sum_eleven fun f => ∑ s, F (hcol f.val f.isLt s)

end Cert.FfnSpec
-- ==== Proof.FfnPieces.lean ====
module
public import proofs.«01_k».proof.Proof.Gen.FfnIdeal.Value
public import proofs.«01_k».proof.Proof.FfnSpec
public import Idealize.ShloMosaic.Lib.Tactic
public import Idealize.ShloMosaic.Lib.Pipeline.ReadBack
public import Idealize.ShloMosaic.Lib.Pipeline.ValueKit.Tiles

/-!
# What one point of the second feed-forward kernel leaves

The eleven turns of the kernel's loop work on eleven blocks of 256 hidden columns. The reads of the three scratch
buffers between the stores are resolved: the block written is the norm of the rows plus half of the added products.
-/

@[expose] public section
set_option maxRecDepth 16384
set_option maxHeartbeats 1000000
noncomputable section
namespace Cert.FfnIdeal.Val
open Idealize.ShloMosaic Idealize.ShloMosaic.TcCoe Idealize.SL.Sem
open Cert.FfnIdeal Cert.FfnIdeal.Gen
variable {F : FTy → Type} [FloatOps F]

/-- The gated product of the normed rows on 256 hidden columns. -/
def act (xn : Vec F S1024x1024 .bf16) (g u : Vec F S1024x256 .bf16) : Vec F S1024x256 .bf16 := k0_pay31 xn g u
/-- One more part of the second product, added up. -/
def step (a : Vec F S1024x1024 .f32) (h : Vec F S1024x256 .bf16) (w : Vec F S256x1024 .bf16) : Vec F S1024x1024 .f32 := k0_pay8 a h w
/-- The `f`-th 256 columns. -/
def colsF {X : Type} (w : S1024x2816.Idx → X) (f : ℕ) (hf : f < 11) : S1024x256.Idx → X :=
  fun i => w (ix2 (i 0) (Cert.FfnSpec.hcol f hf (i 1)))
/-- The `f`-th 256 rows. -/
def rowsF {X : Type} (w : S2816x1024.Idx → X) (f : ℕ) (hf : f < 11) : S256x1024.Idx → X :=
  fun i => w (ix2 (Cert.FfnSpec.hcol f hf (i 0)) (i 1))

theorem ld_cols {Val : EltTy → Type} {e : EltTy} (w : S1024x2816.Idx → Val e) (f : ℕ) (hf : f < 11) (inb : ∀ a, (![0, 256 * f] : Fin 2 → ℕ) a + (![1024, 256] : Fin 2 → ℕ) a ≤ S1024x2816.size a) :
    View.ld w (Rect.unit (s := S1024x2816) ![0, 256 * f] ![1024, 256] inb) = colsF w f hf := by
  funext i
  refine View.ld_unit_apply_of w _ _ inb i _ fun d => ?_
  match d with
  | ⟨0, _⟩ => show (i 0).val = 0 + (i 0).val; omega
  | ⟨1, _⟩ => rfl
theorem ld_rows {Val : EltTy → Type} {e : EltTy} (w : S2816x1024.Idx → Val e) (f : ℕ) (hf : f < 11) (inb : ∀ a, (![256 * f, 0] : Fin 2 → ℕ) a + (![256, 1024] : Fin 2 → ℕ) a ≤ S2816x1024.size a) :
    View.ld w (Rect.unit (s := S2816x1024) ![256 * f, 0] ![256, 1024] inb) = rowsF w f hf := by
  funext i
  refine View.ld_unit_apply_of w _ _ inb i _ fun d => ?_
  match d with
  | ⟨0, _⟩ => rfl
  | ⟨1, _⟩ => show (i 1).val = 0 + (i 1).val; omega
theorem ld_x {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem canon_x {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem ld_g {Val : EltTy → Type} {e : EltTy} (w : S1x1024.Idx → Val e) (inb : ∀ a, (![0, 0] : Fin 2 → ℕ) a + (![1, 1024] : Fin 2 → ℕ) a ≤ S1x1024.size a) :
    View.ld w (Rect.unit (s := S1x1024) ![0, 0] ![1, 1024] inb) = w :=
  View.ld_unit_zero (S := S1x1024) (by funext d; match d with | ⟨0, _⟩ => rfl | ⟨1, _⟩ => rfl) inb w
theorem ldc_0 {Val : EltTy → Type} {e : EltTy} (w : S1024x2816.Idx → Val e) (inb : ∀ a, (![0, 0] : Fin 2 → ℕ) a + (![1024, 256] : Fin 2 → ℕ) a ≤ S1024x2816.size a) :
    View.ld w (Rect.unit (s := S1024x2816) ![0, 0] ![1024, 256] inb) = colsF w 0 (by decide) := ld_cols w 0 (by decide) inb
theorem ldr_0 {Val : EltTy → Type} {e : EltTy} (w : S2816x1024.Idx → Val e) (inb : ∀ a, (![0, 0] : Fin 2 → ℕ) a + (![256, 1024] : Fin 2 → ℕ) a ≤ S2816x1024.size a) :
    View.ld w (Rect.unit (s := S2816x1024) ![0, 0] ![256, 1024] inb) = rowsF w 0 (by decide) := ld_rows w 0 (by decide) inb
theorem ldc_1 {Val : EltTy → Type} {e : EltTy} (w : S1024x2816.Idx → Val e) (inb : ∀ a, (![0, 256] : Fin 2 → ℕ) a + (![1024, 256] : Fin 2 → ℕ) a ≤ S1024x2816.size a) :
    View.ld w (Rect.unit (s := S1024x2816) ![0, 256] ![1024, 256] inb) = colsF w 1 (by decide) := ld_cols w 1 (by decide) inb
theorem ldr_1 {Val : EltTy → Type} {e : EltTy} (w : S2816x1024.Idx → Val e) (inb : ∀ a, (![256, 0] : Fin 2 → ℕ) a + (![256, 1024] : Fin 2 → ℕ) a ≤ S2816x1024.size a) :
    View.ld w (Rect.unit (s := S2816x1024) ![256, 0] ![256, 1024] inb) = rowsF w 1 (by decide) := ld_rows w 1 (by decide) inb
theorem ldc_2 {Val : EltTy → Type} {e : EltTy} (w : S1024x2816.Idx → Val e) (inb : ∀ a, (![0, 512] : Fin 2 → ℕ) a + (![1024, 256] : Fin 2 → ℕ) a ≤ S1024x2816.size a) :
    View.ld w (Rect.unit (s := S1024x2816) ![0, 512] ![1024, 256] inb) = colsF w 2 (by decide) := ld_cols w 2 (by decide) inb
theorem ldr_2 {Val : EltTy → Type} {e : EltTy} (w : S2816x1024.Idx → Val e) (inb : ∀ a, (![512, 0] : Fin 2 → ℕ) a + (![256, 1024] : Fin 2 → ℕ) a ≤ S2816x1024.size a) :
    View.ld w (Rect.unit (s := S2816x1024) ![512, 0] ![256, 1024] inb) = rowsF w 2 (by decide) := ld_rows w 2 (by decide) inb
theorem ldc_3 {Val : EltTy → Type} {e : EltTy} (w : S1024x2816.Idx → Val e) (inb : ∀ a, (![0, 768] : Fin 2 → ℕ) a + (![1024, 256] : Fin 2 → ℕ) a ≤ S1024x2816.size a) :
    View.ld w (Rect.unit (s := S1024x2816) ![0, 768] ![1024, 256] inb) = colsF w 3 (by decide) := ld_cols w 3 (by decide) inb
theorem ldr_3 {Val : EltTy → Type} {e : EltTy} (w : S2816x1024.Idx → Val e) (inb : ∀ a, (![768, 0] : Fin 2 → ℕ) a + (![256, 1024] : Fin 2 → ℕ) a ≤ S2816x1024.size a) :
    View.ld w (Rect.unit (s := S2816x1024) ![768, 0] ![256, 1024] inb) = rowsF w 3 (by decide) := ld_rows w 3 (by decide) inb
theorem ldc_4 {Val : EltTy → Type} {e : EltTy} (w : S1024x2816.Idx → Val e) (inb : ∀ a, (![0, 1024] : Fin 2 → ℕ) a + (![1024, 256] : Fin 2 → ℕ) a ≤ S1024x2816.size a) :
    View.ld w (Rect.unit (s := S1024x2816) ![0, 1024] ![1024, 256] inb) = colsF w 4 (by decide) := ld_cols w 4 (by decide) inb
theorem ldr_4 {Val : EltTy → Type} {e : EltTy} (w : S2816x1024.Idx → Val e) (inb : ∀ a, (![1024, 0] : Fin 2 → ℕ) a + (![256, 1024] : Fin 2 → ℕ) a ≤ S2816x1024.size a) :
    View.ld w (Rect.unit (s := S2816x1024) ![1024, 0] ![256, 1024] inb) = rowsF w 4 (by decide) := ld_rows w 4 (by decide) inb
theorem ldc_5 {Val : EltTy → Type} {e : EltTy} (w : S1024x2816.Idx → Val e) (inb : ∀ a, (![0, 1280] : Fin 2 → ℕ) a + (![1024, 256] : Fin 2 → ℕ) a ≤ S1024x2816.size a) :
    View.ld w (Rect.unit (s := S1024x2816) ![0, 1280] ![1024, 256] inb) = colsF w 5 (by decide) := ld_cols w 5 (by decide) inb
theorem ldr_5 {Val : EltTy → Type} {e : EltTy} (w : S2816x1024.Idx → Val e) (inb : ∀ a, (![1280, 0] : Fin 2 → ℕ) a + (![256, 1024] : Fin 2 → ℕ) a ≤ S2816x1024.size a) :
    View.ld w (Rect.unit (s := S2816x1024) ![1280, 0] ![256, 1024] inb) = rowsF w 5 (by decide) := ld_rows w 5 (by decide) inb
theorem ldc_6 {Val : EltTy → Type} {e : EltTy} (w : S1024x2816.Idx → Val e) (inb : ∀ a, (![0, 1536] : Fin 2 → ℕ) a + (![1024, 256] : Fin 2 → ℕ) a ≤ S1024x2816.size a) :
    View.ld w (Rect.unit (s := S1024x2816) ![0, 1536] ![1024, 256] inb) = colsF w 6 (by decide) := ld_cols w 6 (by decide) inb
theorem ldr_6 {Val : EltTy → Type} {e : EltTy} (w : S2816x1024.Idx → Val e) (inb : ∀ a, (![1536, 0] : Fin 2 → ℕ) a + (![256, 1024] : Fin 2 → ℕ) a ≤ S2816x1024.size a) :
    View.ld w (Rect.unit (s := S2816x1024) ![1536, 0] ![256, 1024] inb) = rowsF w 6 (by decide) := ld_rows w 6 (by decide) inb
theorem ldc_7 {Val : EltTy → Type} {e : EltTy} (w : S1024x2816.Idx → Val e) (inb : ∀ a, (![0, 1792] : Fin 2 → ℕ) a + (![1024, 256] : Fin 2 → ℕ) a ≤ S1024x2816.size a) :
    View.ld w (Rect.unit (s := S1024x2816) ![0, 1792] ![1024, 256] inb) = colsF w 7 (by decide) := ld_cols w 7 (by decide) inb
theorem ldr_7 {Val : EltTy → Type} {e : EltTy} (w : S2816x1024.Idx → Val e) (inb : ∀ a, (![1792, 0] : Fin 2 → ℕ) a + (![256, 1024] : Fin 2 → ℕ) a ≤ S2816x1024.size a) :
    View.ld w (Rect.unit (s := S2816x1024) ![1792, 0] ![256, 1024] inb) = rowsF w 7 (by decide) := ld_rows w 7 (by decide) inb
theorem ldc_8 {Val : EltTy → Type} {e : EltTy} (w : S1024x2816.Idx → Val e) (inb : ∀ a, (![0, 2048] : Fin 2 → ℕ) a + (![1024, 256] : Fin 2 → ℕ) a ≤ S1024x2816.size a) :
    View.ld w (Rect.unit (s := S1024x2816) ![0, 2048] ![1024, 256] inb) = colsF w 8 (by decide) := ld_cols w 8 (by decide) inb
theorem ldr_8 {Val : EltTy → Type} {e : EltTy} (w : S2816x1024.Idx → Val e) (inb : ∀ a, (![2048, 0] : Fin 2 → ℕ) a + (![256, 1024] : Fin 2 → ℕ) a ≤ S2816x1024.size a) :
    View.ld w (Rect.unit (s := S2816x1024) ![2048, 0] ![256, 1024] inb) = rowsF w 8 (by decide) := ld_rows w 8 (by decide) inb
theorem ldc_9 {Val : EltTy → Type} {e : EltTy} (w : S1024x2816.Idx → Val e) (inb : ∀ a, (![0, 2304] : Fin 2 → ℕ) a + (![1024, 256] : Fin 2 → ℕ) a ≤ S1024x2816.size a) :
    View.ld w (Rect.unit (s := S1024x2816) ![0, 2304] ![1024, 256] inb) = colsF w 9 (by decide) := ld_cols w 9 (by decide) inb
theorem ldr_9 {Val : EltTy → Type} {e : EltTy} (w : S2816x1024.Idx → Val e) (inb : ∀ a, (![2304, 0] : Fin 2 → ℕ) a + (![256, 1024] : Fin 2 → ℕ) a ≤ S2816x1024.size a) :
    View.ld w (Rect.unit (s := S2816x1024) ![2304, 0] ![256, 1024] inb) = rowsF w 9 (by decide) := ld_rows w 9 (by decide) inb
theorem ldc_10 {Val : EltTy → Type} {e : EltTy} (w : S1024x2816.Idx → Val e) (inb : ∀ a, (![0, 2560] : Fin 2 → ℕ) a + (![1024, 256] : Fin 2 → ℕ) a ≤ S1024x2816.size a) :
    View.ld w (Rect.unit (s := S1024x2816) ![0, 2560] ![1024, 256] inb) = colsF w 10 (by decide) := ld_cols w 10 (by decide) inb
theorem ldr_10 {Val : EltTy → Type} {e : EltTy} (w : S2816x1024.Idx → Val e) (inb : ∀ a, (![2560, 0] : Fin 2 → ℕ) a + (![256, 1024] : Fin 2 → ℕ) a ≤ S2816x1024.size a) :
    View.ld w (Rect.unit (s := S2816x1024) ![2560, 0] ![256, 1024] inb) = rowsF w 10 (by decide) := ld_rows w 10 (by decide) inb

theorem act_0 (xn : Vec F S1024x1024 .bf16) (g u : Vec F S1024x256 .bf16) : k0_pay7 (k0_pay4 xn g) (k0_pay5 xn u) (k0_pay6 xn g) = act xn g u := rfl
theorem act_1 (xn : Vec F S1024x1024 .bf16) (g u : Vec F S1024x256 .bf16) : k0_pay12 (k0_pay9 xn g) (k0_pay10 xn u) (k0_pay11 (F := F)) = act xn g u := rfl
theorem act_2 (xn : Vec F S1024x1024 .bf16) (g u : Vec F S1024x256 .bf16) : k0_pay16 (k0_pay14 xn g) (k0_pay15 xn u) = act xn g u := rfl
theorem act_3 (xn : Vec F S1024x1024 .bf16) (g u : Vec F S1024x256 .bf16) : k0_pay20 xn (k0_pay18 xn g) (k0_pay19 u) = act xn g u := rfl
theorem act_4 (xn : Vec F S1024x1024 .bf16) (g u : Vec F S1024x256 .bf16) : k0_pay23 xn (k0_pay22 xn g) u = act xn g u := rfl
theorem act_5 (xn : Vec F S1024x1024 .bf16) (g u : Vec F S1024x256 .bf16) : k0_pay26 xn (k0_pay25 xn g) u = act xn g u := rfl
theorem act_6 (xn : Vec F S1024x1024 .bf16) (g u : Vec F S1024x256 .bf16) : k0_pay29 xn (k0_pay28 g) u = act xn g u := rfl
theorem act_7 (xn : Vec F S1024x1024 .bf16) (g u : Vec F S1024x256 .bf16) : k0_pay31 xn g u = act xn g u := rfl
theorem act_8 (xn : Vec F S1024x1024 .bf16) (g u : Vec F S1024x256 .bf16) : k0_pay33 xn g u = act xn g u := rfl
theorem act_9 (xn : Vec F S1024x1024 .bf16) (g u : Vec F S1024x256 .bf16) : k0_pay35 xn g u = act xn g u := rfl
theorem act_10 (xn : Vec F S1024x1024 .bf16) (g u : Vec F S1024x256 .bf16) : k0_pay37 xn g u = act xn g u := rfl
theorem step_1 (a : Vec F S1024x1024 .f32) (h : Vec F S1024x256 .bf16) (w : Vec F S256x1024 .bf16) : k0_pay8 a h w = step a h w := rfl
theorem step_2 (a : Vec F S1024x1024 .f32) (h : Vec F S1024x256 .bf16) (w : Vec F S256x1024 .bf16) : k0_pay13 a h w = step a h w := rfl
theorem step_3 (a : Vec F S1024x1024 .f32) (h : Vec F S1024x256 .bf16) (w : Vec F S256x1024 .bf16) : k0_pay17 a h w = step a h w := rfl
theorem step_4 (a : Vec F S1024x1024 .f32) (h : Vec F S1024x256 .bf16) (w : Vec F S256x1024 .bf16) : k0_pay21 a h w = step a h w := rfl
theorem step_5 (a : Vec F S1024x1024 .f32) (h : Vec F S1024x256 .bf16) (w : Vec F S256x1024 .bf16) : k0_pay24 a h w = step a h w := rfl
theorem step_6 (a : Vec F S1024x1024 .f32) (h : Vec F S1024x256 .bf16) (w : Vec F S256x1024 .bf16) : k0_pay27 a h w = step a h w := rfl
theorem step_7 (a : Vec F S1024x1024 .f32) (h : Vec F S1024x256 .bf16) (w : Vec F S256x1024 .bf16) : k0_pay30 a h w = step a h w := rfl
theorem step_8 (a : Vec F S1024x1024 .f32) (h : Vec F S1024x256 .bf16) (w : Vec F S256x1024 .bf16) : k0_pay32 a h w = step a h w := rfl
theorem step_9 (a : Vec F S1024x1024 .f32) (h : Vec F S1024x256 .bf16) (w : Vec F S256x1024 .bf16) : k0_pay34 a h w = step a h w := rfl
theorem step_10 (a : Vec F S1024x1024 .f32) (h : Vec F S1024x256 .bf16) (w : Vec F S256x1024 .bf16) : k0_pay36 a h w = step a h w := rfl

/-- The added products of the eleven parts but the last. -/
def added (x0 : Vec F S1024x1024 .f32) (x1 : Vec F S1x1024 .f32) (x2 x3 : Vec F S1024x2816 .bf16) (x4 : Vec F S2816x1024 .bf16) : Vec F S1024x1024 .f32 :=
  step (step (step (step (step (step (step (step (step (step (k0_pay3 (F := F)) (act (k0_pay2 x0 x1) (colsF x2 0 (by decide)) (colsF x3 0 (by decide))) (rowsF x4 0 (by decide))) (act (k0_pay2 x0 x1) (colsF x2 1 (by decide)) (colsF x3 1 (by decide))) (rowsF x4 1 (by decide))) (act (k0_pay2 x0 x1) (colsF x2 2 (by decide)) (colsF x3 2 (by decide))) (rowsF x4 2 (by decide))) (act (k0_pay2 x0 x1) (colsF x2 3 (by decide)) (colsF x3 3 (by decide))) (rowsF x4 3 (by decide))) (act (k0_pay2 x0 x1) (colsF x2 4 (by decide)) (colsF x3 4 (by decide))) (rowsF x4 4 (by decide))) (act (k0_pay2 x0 x1) (colsF x2 5 (by decide)) (colsF x3 5 (by decide))) (rowsF x4 5 (by decide))) (act (k0_pay2 x0 x1) (colsF x2 6 (by decide)) (colsF x3 6 (by decide))) (rowsF x4 6 (by decide))) (act (k0_pay2 x0 x1) (colsF x2 7 (by decide)) (colsF x3 7 (by decide))) (rowsF x4 7 (by decide))) (act (k0_pay2 x0 x1) (colsF x2 8 (by decide)) (colsF x3 8 (by decide))) (rowsF x4 8 (by decide))) (act (k0_pay2 x0 x1) (colsF x2 9 (by decide)) (colsF x3 9 (by decide))) (rowsF x4 9 (by decide))

/-- The rows after the block. -/
def hrows (x0 : Vec F S1024x1024 .f32) (x1 : Vec F S1x1024 .f32) (x2 x3 : Vec F S1024x2816 .bf16) (x4 : Vec F S2816x1024 .bf16) : Vec F S1024x1024 .f32 :=
  k0_pay38 x0 (added x0 x1 x2 x3 x4) (act (k0_pay2 x0 x1) (colsF x2 10 (by decide)) (colsF x3 10 (by decide))) (rowsF x4 10 (by decide))

theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (arg10 : Memref sig .tc .vmem S1024x256 .bf16) (harg10 : arg10.IsWhole)
    (x0 : Vec F S1024x1024 .f32) (x1 : Vec F S1x1024 .f32) (x2 : Vec F S1024x2816 .bf16) (x3 : Vec F S1024x2816 .bf16) (x4 : Vec F S2816x1024 .bf16) (x5 : Vec F S1x1024 .f32) :
    out0_A_6 c i arg1 harg1 arg2 harg2 arg3 harg3 arg4 harg4 arg5 harg5 arg6 harg6 arg7 harg7 arg8 harg8 arg9 harg9 arg10 harg10 x0 x1 x2 x3 x4 x5 = k0_pay1 (hrows x0 x1 x2 x3 x4) x5 := by
  unfold out0_A_6
  rw [View.read_writes_junk_eq_canon]
  unfold kernelRun0_A
  dsimp only
  sl_unfold_words
  simp (disch := rfl) only [↓View.readCov_cons_toLoadRect, View.readAt_eq_ld, harg1.read_unread, harg2.read_unread, harg3.read_unread, harg4.read_unread, harg5.read_unread, harg6.read_unread, harg7.read_unread, harg8.read_unread, harg9.read_unread, harg10.read_unread,
    ↓canon_x, ld_x, ld_g, act_0, act_1, act_2, act_3, act_4, act_5, act_6, act_7, act_8, act_9, act_10, step_1, step_2, step_3, step_4, step_5, step_6, step_7, step_8, step_9, step_10, ldc_0, ldc_1, ldc_2, ldc_3, ldc_4, ldc_5, ldc_6, ldc_7, ldc_8, ldc_9, ldc_10, ldr_0, ldr_1, ldr_2, ldr_3, ldr_4, ldr_5, ldr_6, ldr_7, ldr_8, ldr_9, ldr_10]
  erw [ldr_0 x4, ldc_1 x2, ldc_1 x3, ldr_1 x4, ldc_2 x2, ldc_2 x3, ldr_2 x4, ldc_3 x2, ldc_3 x3, ldr_3 x4, ldc_4 x2, ldc_4 x3, ldr_4 x4, ldc_5 x2, ldc_5 x3, ldr_5 x4, ldc_6 x2, ldc_6 x3, ldr_6 x4, ldc_7 x2, ldc_7 x3, ldr_7 x4, ldc_8 x2, ldc_8 x3, ldr_8 x4, ldc_9 x2, ldc_9 x3, ldr_9 x4, ldc_10 x2, ldc_10 x3]
  rfl

end Cert.FfnIdeal.Val
-- ==== Proof.FfnRows.lean ====
module
public import proofs.«01_k».proof.Proof.FfnPieces

/-!
# The block written at a point, row by row

Every operation of the second feed-forward kernel's body read at a row and a column: the rows written are the feed-forward
block of the rows read, normed.
-/

@[expose] public section
set_option maxRecDepth 16384
noncomputable section
namespace Cert.FfnIdeal.Val
open Idealize.ShloMosaic Idealize.ShloMosaic.TcCoe Idealize.SL.Sem
open Cert.FfnIdeal Cert.FfnIdeal.Gen Cert.FfnSpec

theorem xn_apply (x : Vec Ideal S1024x1024 .f32) (g : Vec Ideal S1x1024 .f32) (r j : Fin 1024) :
    @Eq EReal (k0_pay2 (F := Ideal) x g (ix2 r j)) (rms (fun k => x (ix2 r k)) (fun k => g (ix2 0 k)) j) := by
  pointwise [k0_pay2, rms]

theorem out_apply (x : Vec Ideal S1024x1024 .f32) (g : Vec Ideal S1x1024 .f32) (r j : Fin 1024) :
    @Eq EReal (k0_pay1 (F := Ideal) x g (ix2 r j)) (rms (fun k => x (ix2 r k)) (fun k => g (ix2 0 k)) j) := by
  pointwise [k0_pay1, rms]

theorem act_apply (x : Vec Ideal S1024x1024 .bf16) (g u : Vec Ideal S1024x256 .bf16) (r : Fin 1024) (s : Fin 256) :
    @Eq EReal (act (F := Ideal) x g u (ix2 r s)) (((∑ k, x (ix2 r k) * g (ix2 k s)) * (Ideal.ofBits .f32 0x3F000000#32 * Ideal.tanh (Ideal.ofBits .f32 0x3F000000#32 * (∑ k, x (ix2 r k) * g (ix2 k s))) + Ideal.ofBits .f32 0x3F000000#32))
      * ∑ k, x (ix2 r k) * u (ix2 k s)) := by
  pointwise [act, k0_pay31]

theorem step_apply (a : Vec Ideal S1024x1024 .f32) (h : Vec Ideal S1024x256 .bf16) (w : Vec Ideal S256x1024 .bf16) (r j : Fin 1024) :
    @Eq EReal (step (F := Ideal) a h w (ix2 r j)) (a (ix2 r j) + ∑ s, h (ix2 r s) * w (ix2 s j)) := by
  pointwise [step, k0_pay8]

theorem last_apply (x a : Vec Ideal S1024x1024 .f32) (h : Vec Ideal S1024x256 .bf16) (w : Vec Ideal S256x1024 .bf16) (r j : Fin 1024) :
    @Eq EReal (k0_pay38 (F := Ideal) x a h w (ix2 r j)) (x (ix2 r j) + Ideal.ofBits .f32 0x3F000000#32 * (a (ix2 r j) + ∑ s, h (ix2 r s) * w (ix2 s j))) := by
  pointwise [k0_pay38]

theorem zero_apply (r j : Fin 1024) : @Eq EReal (k0_pay3 (F := Ideal) (ix2 r j)) 0 := by
  pointwise [k0_pay3]

/-- One part: the normed rows' hidden columns. -/
theorem part_apply (x0 : Vec Ideal S1024x1024 .f32) (x1 : Vec Ideal S1x1024 .f32) (x2 x3 : Vec Ideal S1024x2816 .bf16) (f : ℕ) (hf : f < 11) (r : Fin 1024) (s : Fin 256) :
    @Eq EReal (act (F := Ideal) (k0_pay2 x0 x1) (colsF x2 f hf) (colsF x3 f hf) (ix2 r s))
      (hid (rms (fun k => x0 (ix2 r k)) (fun k => x1 (ix2 0 k))) (fun k q => x2 (ix2 k q)) (fun k q => x3 (ix2 k q)) (hcol f hf s)) := by
  refine (act_apply _ _ _ r s).trans ?_
  rw [half_tanh]
  simp only [xn_apply]
  rfl

theorem psum (x0 : Vec Ideal S1024x1024 .f32) (x1 : Vec Ideal S1x1024 .f32) (x2 x3 : Vec Ideal S1024x2816 .bf16) (x4 : Vec Ideal S2816x1024 .bf16) (f : ℕ) (hf : f < 11) (r j : Fin 1024) :
    @Eq EReal (∑ s : Fin 256, (act (F := Ideal) (k0_pay2 x0 x1) (colsF x2 f hf) (colsF x3 f hf) (ix2 r s) : EReal) * (rowsF x4 f hf (ix2 s j) : EReal))
      (∑ s, hid (rms (fun k => x0 (ix2 r k)) (fun k => x1 (ix2 0 k))) (fun k q => x2 (ix2 k q)) (fun k q => x3 (ix2 k q)) (hcol f hf s) * x4 (ix2 (hcol f hf s) j)) :=
  Finset.sum_congr rfl fun s _ => congrArg (· * (x4 (ix2 (hcol f hf s) j) : EReal)) (part_apply x0 x1 x2 x3 f hf r s)

/-- The rows after the block are the feed-forward block of the rows before it. -/
theorem hrows_apply (x0 : Vec Ideal S1024x1024 .f32) (x1 : Vec Ideal S1x1024 .f32) (x2 x3 : Vec Ideal S1024x2816 .bf16) (x4 : Vec Ideal S2816x1024 .bf16) (r j : Fin 1024) :
    @Eq EReal (hrows (F := Ideal) x0 x1 x2 x3 x4 (ix2 r j))
      (ffn (fun k => x0 (ix2 r k)) (fun k => x1 (ix2 0 k)) (fun k q => x2 (ix2 k q)) (fun k q => x3 (ix2 k q)) (fun q k => x4 (ix2 q k)) j) := by
  unfold hrows added ffn
  rw [sum_parts]
  simp only [last_apply, step_apply, zero_apply]
  refine congrArg (fun z : EReal => (x0 (ix2 r j) : EReal) + Ideal.ofBits .f32 0x3F000000#32 * z) ?_
  iterate 11 refine congrArg₂ (· + ·) ?_ (psum x0 x1 x2 x3 x4 _ _ r j)
  rfl

end Cert.FfnIdeal.Val
-- ==== Proof.FfnBlocks.lean ====
module
public import proofs.«01_k».proof.Proof.FfnRows
public import Idealize.ShloMosaic.Lib.StableHlo.RunClose
public import Idealize.ShloMosaic.Lib.Pipeline.Value

/-!
# The rows a grid point reads and writes

The point `t` of the grid takes rows `1024 t` to `1024 t + 1023` of all rows and every weight whole; what it reads is what
the host prepared of the arguments, and what it writes is the same rows of the result.
-/

@[expose] public section
set_option maxRecDepth 16384
noncomputable section
namespace Cert.FfnIdeal.Val
open Idealize.ShloMosaic Idealize.ShloMosaic.TcCoe Idealize.SL.Sem
open Cert.FfnIdeal Cert.FfnIdeal.Gen Cert.FfnSpec

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 1024) : Fin 16384 := ⟨1024 * t.val + r.val, by have := grid_lt t; omega⟩
/-- The batch row of a row of all rows. -/
abbrev bOf (R : Fin 16384) : Fin 8 := ⟨R.val / 2048, by omega⟩
/-- Its place in that batch row. -/
abbrev sOf (R : Fin 16384) : Fin 2048 := ⟨R.val % 2048, by omega⟩

theorem index_rows : ∀ t : Fin cfg0.N, win0_0.index t 0 = t.val ∧ win0_0.index t 1 = 0 ∧ win0_6.index t 0 = t.val ∧ win0_6.index t 1 = 0 :=
  (by decide +kernel : ∀ t : Fin grid0.N, win0_0.index t 0 = t.val ∧ win0_0.index t 1 = 0 ∧ win0_6.index t 0 = t.val ∧ win0_6.index t 1 = 0)

theorem index_whole : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

theorem iblk0_eq (t : Fin cfg0.N) (r j : Fin 1024) : @Eq EReal ((iblk m c 0 t : Vec Ideal S1024x1024 .f32) (ix2 r j)) ((V m c main_v9 : Vec Ideal S16384x1024 .f32) (ix2 (rowOf t r) j)) := by
  obtain ⟨h0, h1, -, -⟩ := index_rows t
  unfold iblk
  rw [View.read_apply]
  show V m c main_v9 _ = _
  refine congrArg _ (funext fun a => Fin.ext ?_)
  match a with
  | ⟨0, _⟩ => show win0_0.index t 0 * 1024 + 1 * r.val = 1024 * t.val + r.val; rw [h0]; omega
  | ⟨1, _⟩ => show win0_0.index t 1 * 1024 + 1 * j.val = j.val; rw [h1]; omega

theorem iblk1_eq (t : Fin cfg0.N) (i : Fin 1) (j : Fin 1024) : @Eq EReal ((iblk m c 1 t : Vec Ideal S1x1024 .f32) (ix2 i j)) ((V m c main_v1 : Vec Ideal S1x1024 .f32) (ix2 i j)) := by
  obtain ⟨⟨h0, h1⟩, -, -, -, -⟩ := index_whole t
  unfold iblk
  rw [View.read_apply]
  show V m c main_v1 _ = _
  refine congrArg _ (funext fun a => Fin.ext ?_)
  match a with
  | ⟨0, _⟩ => show win0_1.index t 0 * 1 + 1 * i.val = i.val; rw [h0]; omega
  | ⟨1, _⟩ => show win0_1.index t 1 * 1024 + 1 * j.val = j.val; rw [h1]; omega

theorem iblk2_eq (t : Fin cfg0.N) (i : Fin 1024) (j : Fin 2816) : @Eq EReal ((iblk m c 2 t : Vec Ideal S1024x2816 .bf16) (ix2 i j)) ((V m c main_v3 : Vec Ideal S1024x2816 .bf16) (ix2 i j)) := by
  obtain ⟨-, ⟨h0, h1⟩, -, -, -⟩ := index_whole t
  unfold iblk
  rw [View.read_apply]
  show V m c main_v3 _ = _
  refine congrArg _ (funext fun a => Fin.ext ?_)
  match a with
  | ⟨0, _⟩ => show win0_2.index t 0 * 1024 + 1 * i.val = i.val; rw [h0]; omega
  | ⟨1, _⟩ => show win0_2.index t 1 * 2816 + 1 * j.val = j.val; rw [h1]; omega

theorem iblk3_eq (t : Fin cfg0.N) (i : Fin 1024) (j : Fin 2816) : @Eq EReal ((iblk m c 3 t : Vec Ideal S1024x2816 .bf16) (ix2 i j)) ((V m c main_v5 : Vec Ideal S1024x2816 .bf16) (ix2 i j)) := by
  obtain ⟨-, -, ⟨h0, h1⟩, -, -⟩ := index_whole t
  unfold iblk
  rw [View.read_apply]
  show V m c main_v5 _ = _
  refine congrArg _ (funext fun a => Fin.ext ?_)
  match a with
  | ⟨0, _⟩ => show win0_3.index t 0 * 1024 + 1 * i.val = i.val; rw [h0]; omega
  | ⟨1, _⟩ => show win0_3.index t 1 * 2816 + 1 * j.val = j.val; rw [h1]; omega

theorem iblk4_eq (t : Fin cfg0.N) (i : Fin 2816) (j : Fin 1024) : @Eq EReal ((iblk m c 4 t : Vec Ideal S2816x1024 .bf16) (ix2 i j)) ((V m c main_v7 : Vec Ideal S2816x1024 .bf16) (ix2 i j)) := by
  obtain ⟨-, -, -, ⟨h0, h1⟩, -⟩ := index_whole t
  unfold iblk
  rw [View.read_apply]
  show V m c main_v7 _ = _
  refine congrArg _ (funext fun a => Fin.ext ?_)
  match a with
  | ⟨0, _⟩ => show win0_4.index t 0 * 2816 + 1 * i.val = i.val; rw [h0]; omega
  | ⟨1, _⟩ => show win0_4.index t 1 * 1024 + 1 * j.val = j.val; rw [h1]; omega

theorem iblk5_eq (t : Fin cfg0.N) (i : Fin 1) (j : Fin 1024) : @Eq EReal ((iblk m c 5 t : Vec Ideal S1x1024 .f32) (ix2 i j)) ((V m c main_v8 : Vec Ideal S1x1024 .f32) (ix2 i j)) := by
  obtain ⟨-, -, -, -, ⟨h0, h1⟩⟩ := index_whole t
  unfold iblk
  rw [View.read_apply]
  show V m c main_v8 _ = _
  refine congrArg _ (funext fun a => Fin.ext ?_)
  match a with
  | ⟨0, _⟩ => show win0_5.index t 0 * 1 + 1 * i.val = i.val; rw [h0]; omega
  | ⟨1, _⟩ => show win0_5.index t 1 * 1024 + 1 * j.val = j.val; rw [h1]; omega

theorem wide_cast (w : Vec Ideal S1x1024x2816 .f32) (i : Fin 1024) (j : Fin 2816) :
    @Eq EReal (truncf (F := Ideal) .bf16 (shapeCast S1024x2816 w shapeCasts_S1x1024x2816_S1024x2816) bitsLt_bf16_f32 (ix2 i j)) (w (ix3 0 i j)) := by
  pointwise

theorem narrow_cast (w : Vec Ideal S1x2816x1024 .f32) (i : Fin 2816) (j : Fin 1024) :
    @Eq EReal (truncf (F := Ideal) .bf16 (shapeCast S2816x1024 w shapeCasts_S1x2816x1024_S2816x1024) bitsLt_bf16_f32 (ix2 i j)) (w (ix3 0 i j)) := by
  pointwise

theorem gain_cast (g : Vec Ideal S1024 .f32) (j : Fin 1024) : @Eq EReal (shapeCast S1x1024 g shapeCasts_S1024_S1x1024 (ix2 0 j)) (g (ix1 j)) := by
  pointwise

theorem row_cast (g : Vec Ideal S1x1024 .f32) (j : Fin 1024) : @Eq EReal (shapeCast S1024 g shapeCasts_S1x1024_S1024 (ix1 j)) (g (ix2 0 j)) := by
  pointwise

/-- The rows the point reads are the argument's. -/
theorem iblk0 (t : Fin cfg0.N) (r j : Fin 1024) : @Eq EReal ((iblk m c 0 t : Vec Ideal S1024x1024 .f32) (ix2 r j))
    ((m ((c : Thread nD τ).loc main_arg0) : Vec Ideal S8x2048x1024 .f32) (ix3 (bOf (rowOf t r)) (sOf (rowOf t r)) j)) := by
  have e : @Eq (Vec Ideal S16384x1024 .f32) (V m c main_v9) (shapeCast S16384x1024 (m ((c : Thread nD τ).loc main_arg0) : Vec Ideal S8x2048x1024 .f32) shapeCasts_S8x2048x1024_S16384x1024) := by
    unfold V hostOps0
    after_results_entrywise []
  have h := grid_lt t
  refine (iblk0_eq m c t r j).trans ((congrFun e _).trans ?_)
  exact shapeCast_apply _ _ _ _ ((Shape.rowMajor_val_three (d := ![8, 2048, 1024]) (ix3 (bOf (rowOf t r)) (sOf (rowOf t r)) j)).trans (Eq.trans
    (show ((1024 * t.val + r.val) / 2048 * 2048 + (1024 * t.val + r.val) % 2048) * 1024 + j.val = (1024 * t.val + r.val) * 1024 + j.val by omega) (Shape.rowMajor_val_two (d := ![16384, 1024]) (ix2 (rowOf t r) j)).symm))

/-- The first norm's gain. -/
theorem iblk1 (t : Fin cfg0.N) (j : Fin 1024) : @Eq EReal ((iblk m c 1 t : Vec Ideal S1x1024 .f32) (ix2 0 j)) ((m ((c : Thread nD τ).loc main_arg1) : Vec Ideal S1x1024 .f32) (ix2 0 j)) := by
  have e : @Eq (Vec Ideal S1x1024 .f32) (V m c main_v1) (shapeCast S1x1024 (shapeCast S1024 (m ((c : Thread nD τ).loc main_arg1) : Vec Ideal S1x1024 .f32) shapeCasts_S1x1024_S1024) shapeCasts_S1024_S1x1024) := by
    unfold V hostOps0
    after_results_entrywise []
  exact (iblk1_eq m c t 0 j).trans ((congrFun e _).trans ((gain_cast _ j).trans (row_cast _ j)))

/-- The gate's matrix. -/
theorem iblk2 (t : Fin cfg0.N) (i : Fin 1024) (j : Fin 2816) : @Eq EReal ((iblk m c 2 t : Vec Ideal S1024x2816 .bf16) (ix2 i j)) ((m ((c : Thread nD τ).loc main_arg2) : Vec Ideal S1x1024x2816 .f32) (ix3 0 i j)) := by
  have e : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold V hostOps0
    after_results_entrywise []
  exact (iblk2_eq m c t i j).trans ((congrFun e _).trans (wide_cast _ i j))

/-- The other widening matrix. -/
theorem iblk3 (t : Fin cfg0.N) (i : Fin 1024) (j : Fin 2816) : @Eq EReal ((iblk m c 3 t : Vec Ideal S1024x2816 .bf16) (ix2 i j)) ((m ((c : Thread nD τ).loc main_arg3) : Vec Ideal S1x1024x2816 .f32) (ix3 0 i j)) := by
  have e : @Eq (Vec Ideal S1024x2816 .bf16) (V m c main_v5) (truncf (F := Ideal) .bf16 (shapeCast S1024x2816 (m ((c : Thread nD τ).loc main_arg3) : Vec Ideal S1x1024x2816 .f32) shapeCasts_S1x1024x2816_S1024x2816) bitsLt_bf16_f32) := by
    unfold V hostOps0
    after_results_entrywise []
  exact (iblk3_eq m c t i j).trans ((congrFun e _).trans (wide_cast _ i j))

/-- The narrowing matrix. -/
theorem iblk4 (t : Fin cfg0.N) (i : Fin 2816) (j : Fin 1024) : @Eq EReal ((iblk m c 4 t : Vec Ideal S2816x1024 .bf16) (ix2 i j)) ((m ((c : Thread nD τ).loc main_arg4) : Vec Ideal S1x2816x1024 .f32) (ix3 0 i j)) := by
  have e : @Eq (Vec Ideal S2816x1024 .bf16) (V m c main_v7) (truncf (F := Ideal) .bf16 (shapeCast S2816x1024 (m ((c : Thread nD τ).loc main_arg4) : Vec Ideal S1x2816x1024 .f32) shapeCasts_S1x2816x1024_S2816x1024) bitsLt_bf16_f32) := by
    unfold V hostOps0
    after_results_entrywise []
  exact (iblk4_eq m c t i j).trans ((congrFun e _).trans (narrow_cast _ i j))

/-- The last norm's gain. -/
theorem iblk5 (t : Fin cfg0.N) (j : Fin 1024) : @Eq EReal ((iblk m c 5 t : Vec Ideal S1x1024 .f32) (ix2 0 j)) ((m ((c : Thread nD τ).loc main_arg5) : Vec Ideal S1024 .f32) (ix1 j)) := by
  have e : @Eq (Vec Ideal S1x1024 .f32) (V m c main_v8) (shapeCast S1x1024 (m ((c : Thread nD τ).loc main_arg5) : Vec Ideal S1024 .f32) shapeCasts_S1024_S1x1024) := by
    unfold V hostOps0
    after_results_entrywise []
  exact (iblk5_eq m c t 0 j).trans ((congrFun e _).trans (gain_cast _ j))

/-- A row's feed-forward block, from the arguments. -/
def rowFfn (R : Fin 16384) : Fin 1024 → EReal :=
  ffn (fun k => (m ((c : Thread nD τ).loc main_arg0) : Vec Ideal S8x2048x1024 .f32) (ix3 (bOf R) (sOf R) k))
    (fun k => (m ((c : Thread nD τ).loc main_arg1) : Vec Ideal S1x1024 .f32) (ix2 0 k))
    (fun k q => (m ((c : Thread nD τ).loc main_arg2) : Vec Ideal S1x1024x2816 .f32) (ix3 0 k q))
    (fun k q => (m ((c : Thread nD τ).loc main_arg3) : Vec Ideal S1x1024x2816 .f32) (ix3 0 k q))
    (fun q k => (m ((c : Thread nD τ).loc main_arg4) : Vec Ideal S1x2816x1024 .f32) (ix3 0 q k))

/-- The rows after the block, at a point. -/
theorem hrows_iblk (t : Fin cfg0.N) (r j : Fin 1024) :
    @Eq EReal (hrows (F := Ideal) (iblk m c 0 t) (iblk m c 1 t) (iblk m c 2 t) (iblk m c 3 t) (iblk m c 4 t) (ix2 r j)) (rowFfn m c (rowOf t r) j) := by
  refine (hrows_apply _ _ _ _ _ r j).trans ?_
  unfold rowFfn
  rw [funext fun k => iblk0 m c t r k, funext fun k => iblk1 m c t k, funext fun k => funext fun q => iblk2 m c t k q,
    funext fun k => funext fun q => iblk3 m c t k q, funext fun q => funext fun k => iblk4 m c t q k]

end Cert.FfnIdeal.Val
-- ==== Proof.FfnRef.lean ====
module
public import proofs.«01_k».proof.Proof.FfnSpec
public import proofs.«01_k».proof.Proof.Gen.FfnReferenceIdeal.Run
public import Idealize.ShloMosaic.Lib.Pointwise
public import Idealize.ShloMosaic.Lib.Pipeline.Value

/-!
# The plain feed-forward, entry by entry

The reference's layer is a composition of array operations; each is read at one entry, and together they are the
feed-forward block of one row, normed.
-/

@[expose] public section
noncomputable section
namespace Cert.FfnReferenceIdeal.Val
open Idealize.ShloMosaic Idealize.ShloMosaic.TcCoe Idealize.SL.Sem
open Cert.FfnReferenceIdeal Cert.FfnReferenceIdeal.Gen Cert.FfnReferenceIdeal.Value Cert.FfnSpec

/-- Every row divided by its root mean square and scaled. -/
def nrm (X : Vec Ideal S8x2048x1024 .f32) (g : Vec Ideal S1024 .f32) : Vec Ideal S8x2048x1024 .f32 :=
  mulf (F := Ideal) (φ := .f32) (mulf (F := Ideal) (φ := .f32) X (broadcastInDim S8x2048x1024 ![0, 1, 2] bcast_S8x2048x1_S8x2048x1024_0_1_2 (Host.rsqrt (F := Ideal) (φ := .f32) (addf (F := Ideal) (φ := .f32) (Host.divf (F := Ideal) (φ := .f32) (broadcastInDim S8x2048x1 ![0, 1] bcast_S8x2048_S8x2048x1_0_1
    (Host.reduceAdd (F := Ideal) (φ := .f32) (mulf (F := Ideal) (φ := .f32) X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The product with one of the two widening matrices. -/
def wide (U : Vec Ideal S8x2048x1024 .f32) (w : Vec Ideal S1x1024x2816 .f32) : Vec Ideal S8x2048x2816 .f32 :=
  Host.dotGeneral (F := Ideal) (φ₁ := .f32) (φ₂ := .f32) dot_S8x2048x1024_S1024x2816_S8x2048x2816_2_0_01_1_n_n none U (shapeCast S1024x2816 w shapeCasts_S1x1024x2816_S1024x2816)

/-- A number times its logistic function. -/
def silu (Z : Vec Ideal S8x2048x2816 .f32) : Vec Ideal S8x2048x2816 .f32 :=
  mulf (F := Ideal) (φ := .f32) Z (Host.divf (F := Ideal) (φ := .f32) (broadcastInDim S8x2048x2816 ![] bcast_S_S8x2048x2816 (constant S_ .f32 0x3F800000#32)) (addf (F := Ideal) (φ := .f32) (broadcastInDim S8x2048x2816 ![] bcast_S_S8x2048x2816 (constant S_ .f32 0x3F800000#32)) (Host.exp (F := Ideal) (φ := .f32) (Host.negf (F := Ideal) (φ := .f32) Z))))

/-- The rows and half of the gated product narrowed again. -/
def half (X : Vec Ideal S8x2048x1024 .f32) (H : Vec Ideal S8x2048x2816 .f32) (w : Vec Ideal S1x2816x1024 .f32) : Vec Ideal S8x2048x1024 .f32 :=
  addf (F := Ideal) (φ := .f32) X (mulf (F := Ideal) (φ := .f32) (broadcastInDim S8x2048x1024 ![] bcast_S_S8x2048x1024 (constant S_ .f32 0x3F000000#32))
    (Host.dotGeneral (F := Ideal) (φ₁ := .f32) (φ₂ := .f32) dot_S8x2048x2816_S2816x1024_S8x2048x1024_2_0_01_1_n_n none H (shapeCast S2816x1024 w shapeCasts_S1x2816x1024_S2816x1024)))

/-- The feed-forward block of every row. -/
def block (X : Vec Ideal S8x2048x1024 .f32) (g : Vec Ideal S1x1024 .f32) (wg wu : Vec Ideal S1x1024x2816 .f32) (wd : Vec Ideal S1x2816x1024 .f32) : Vec Ideal S8x2048x1024 .f32 :=
  half X (mulf (F := Ideal) (φ := .f32) (silu (wide (nrm X (shapeCast S1024 g shapeCasts_S1x1024_S1024)) wg)) (wide (nrm X (shapeCast S1024 g shapeCasts_S1x1024_S1024)) wu)) wd

theorem nrm_apply (X : Vec Ideal S8x2048x1024 .f32) (g : Vec Ideal S1024 .f32) (b : Fin 8) (s : Fin 2048) (j : Fin 1024) :
    @Eq EReal (nrm X g (ix3 b s j)) (rms (fun k => X (ix3 b s k)) (fun k => g (ix1 k)) j) := by
  unfold rms
  pointwise [nrm]

theorem wide_apply (U : Vec Ideal S8x2048x1024 .f32) (w : Vec Ideal S1x1024x2816 .f32) (b : Fin 8) (s : Fin 2048) (q : Fin 2816) :
    @Eq EReal (wide U w (ix3 b s q)) (∑ k, U (ix3 b s k) * w (ix3 0 k q)) := by
  pointwise [wide]

theorem silu_apply (Z : Vec Ideal S8x2048x2816 .f32) (b : Fin 8) (s : Fin 2048) (q : Fin 2816) :
    @Eq EReal (silu Z (ix3 b s q)) (Z (ix3 b s q) * FfnSpec.sig (Z (ix3 b s q))) := by
  unfold FfnSpec.sig
  pointwise [silu]

theorem half_apply (X : Vec Ideal S8x2048x1024 .f32) (H : Vec Ideal S8x2048x2816 .f32) (w : Vec Ideal S1x2816x1024 .f32) (b : Fin 8) (s : Fin 2048) (j : Fin 1024) :
    @Eq EReal (half X H w (ix3 b s j)) (X (ix3 b s j) + Ideal.ofBits .f32 0x3F000000#32 * ∑ q, H (ix3 b s q) * w (ix3 0 q j)) := by
  pointwise [half]

theorem gain_apply (g : Vec Ideal S1x1024 .f32) (k : Fin 1024) : @Eq EReal (shapeCast S1024 g shapeCasts_S1x1024_S1024 (ix1 k)) (g (ix2 0 k)) := by
  pointwise

/-- The batch row of a row of all rows. -/
abbrev bOf (R : Fin 16384) : Fin 8 := ⟨R.val / 2048, by omega⟩
/-- Its place in that batch row. -/
abbrev sOf (R : Fin 16384) : Fin 2048 := ⟨R.val % 2048, by omega⟩

theorem rows_apply (Y : Vec Ideal S8x2048x1024 .f32) (R : Fin 16384) (j : Fin 1024) :
    @Eq EReal (shapeCast S16384x1024 Y shapeCasts_S8x2048x1024_S16384x1024 (ix2 R j)) (Y (ix3 (bOf R) (sOf R) j)) :=
  shapeCast_apply _ _ _ _ ((Shape.rowMajor_val_three (d := ![8, 2048, 1024]) (ix3 (bOf R) (sOf R) j)).trans (Eq.trans
    (show (R.val / 2048 * 2048 + R.val % 2048) * 1024 + j.val = R.val * 1024 + j.val by omega) (Shape.rowMajor_val_two (d := ![16384, 1024]) (ix2 R j)).symm))

theorem block_apply (X : Vec Ideal S8x2048x1024 .f32) (g : Vec Ideal S1x1024 .f32) (wg wu : Vec Ideal S1x1024x2816 .f32) (wd : Vec Ideal S1x2816x1024 .f32) (b : Fin 8) (s : Fin 2048) (j : Fin 1024) :
    @Eq EReal (block X g wg wu wd (ix3 b s j))
      (ffn (fun k => X (ix3 b s k)) (fun k => g (ix2 0 k)) (fun k q => wg (ix3 0 k q)) (fun k q => wu (ix3 0 k q)) (fun q k => wd (ix3 0 q k)) j) := by
  unfold block ffn
  refine (half_apply _ _ _ b s j).trans (congrArg (fun z : EReal => (X (ix3 b s j) : EReal) + Ideal.ofBits .f32 0x3F000000#32 * z) (Finset.sum_congr rfl fun q _ => congrArg (· * (wd (ix3 0 q j) : EReal)) ?_))
  have hn : (fun k => (nrm X (shapeCast S1024 g shapeCasts_S1x1024_S1024) (ix3 b s k) : EReal)) = rms (fun k => X (ix3 b s k)) (fun k => g (ix2 0 k)) :=
    funext fun k => (nrm_apply X _ b s k).trans (congrArg (fun g' => rms (fun k => X (ix3 b s k)) g' k) (funext fun k => gain_apply g k))
  have hw (w : Vec Ideal S1x1024x2816 .f32) : @Eq EReal (wide (nrm X (shapeCast S1024 g shapeCasts_S1x1024_S1024)) w (ix3 b s q))
      (∑ k, rms (fun k => X (ix3 b s k)) (fun k => g (ix2 0 k)) k * w (ix3 0 k q)) :=
    (wide_apply _ w b s q).trans (Finset.sum_congr rfl fun k _ => congrArg (· * (w (ix3 0 k q) : EReal)) (congrFun hn k))
  show @Eq EReal ((silu _ (ix3 b s q) : EReal) * (wide _ wu (ix3 b s q) : EReal)) _
  rw [hw wu]
  refine congrArg (· * _) ((silu_apply _ b s q).trans ?_)
  rw [hw wg]

/-- The reference's result, entry by entry. -/
theorem res_apply (m : (ℓ : Loc nD τ sig) → Buf (Elt Ideal) ℓ) (c : Dev nD) (R : Fin 16384) (j : Fin 1024) :
    @Eq EReal ((res_out0 m c : Vec Ideal S16384x1024 .f32) (ix2 R j))
      (rms (ffn (fun k => (m ((c.tc : Thread nD τ).loc main_arg0) : Vec Ideal S8x2048x1024 .f32) (ix3 (bOf R) (sOf R) k))
          (fun k => (m ((c.tc : Thread nD τ).loc main_arg1) : Vec Ideal S1x1024 .f32) (ix2 0 k))
          (fun k q => (m ((c.tc : Thread nD τ).loc main_arg2) : Vec Ideal S1x1024x2816 .f32) (ix3 0 k q))
          (fun k q => (m ((c.tc : Thread nD τ).loc main_arg3) : Vec Ideal S1x1024x2816 .f32) (ix3 0 k q))
          (fun q k => (m ((c.tc : Thread nD τ).loc main_arg4) : Vec Ideal S1x2816x1024 .f32) (ix3 0 q k)))
        (fun k => (m ((c.tc : Thread nD τ).loc main_arg5) : Vec Ideal S1024 .f32) (ix1 k)) j) := by
  have e : @Eq (Vec Ideal S16384x1024 .f32) (res_out0 m c) (shapeCast S16384x1024
      (nrm (block (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (m ((c.tc : Thread nD τ).loc main_arg5))) shapeCasts_S8x2048x1024_S16384x1024) := rfl
  refine (congrFun e _).trans ((rows_apply _ R j).trans ((nrm_apply _ _ _ _ j).trans ?_))
  exact congrArg (fun x => rms x _ j) (funext fun k => block_apply _ _ _ _ _ _ _ k)

end Cert.FfnReferenceIdeal.Val
-- ==== Proof.FfnTie.lean ====
module
public import proofs.«01_k».proof.Defs
public import proofs.«01_k».proof.Proof.FfnBlocks
public import proofs.«01_k».proof.Proof.FfnRef

/-!
# The second feed-forward call is the plain statement's

The array the kernel leaves, read at a row through the point that wrote it, is the row's feed-forward block, normed; so is
the reference's.
-/

@[expose] public section
set_option maxRecDepth 16384
noncomputable section
namespace Cert.FfnIdeal.Val
open Idealize.ShloMosaic Idealize.ShloMosaic.TcCoe Idealize.SL.Sem
open Cert.FfnIdeal Cert.FfnIdeal.Gen Cert.FfnSpec

variable (m : (ℓ : Loc nD τ sig) → Buf (Elt Ideal) ℓ) (c : Dev nD)

theorem flush_rows : ∀ t : Fin cfg0.N, (cfg0.win 6).flush t = true :=
  (by decide +kernel : ∀ t : Fin grid0.N, win0_6.flush t = true)

/-- What a point writes back, at a row and a column. -/
theorem flushed_apply (t : Fin cfg0.N) (r j : Fin 1024) :
    @Eq EReal (((dats m 0 c).flushed 6 t : Vec Ideal S1024x1024 .f32) (ix2 r j))
      (rms (rowFfn m c (rowOf t r)) (fun k => (m ((c : Thread nD τ).loc main_arg5) : Vec Ideal S1024 .f32) (ix1 k)) j) := by
  rw [Cert.FfnIdeal.Value.flushed6_A]
  rw [out_eq]
  refine Eq.trans (show _ = (k0_pay1 (F := Ideal) (hrows (iblk m c 0 t) (iblk m c 1 t) (iblk m c 2 t) (iblk m c 3 t) (iblk m c 4 t)) (iblk m c 5 t) : Vec Ideal S1024x1024 .f32) (ix2 r j) from rfl) ?_
  refine (out_apply _ _ r j).trans ?_
  rw [funext fun k => hrows_iblk m c t r k, funext fun k => iblk5 m c t k]

/-- The array the kernel leaves, at a row and a column. -/
theorem final_apply (R : Fin 16384) (j : Fin 1024) :
    @Eq EReal (((dats m 0 c).arrAt 6 cfg0.N : Vec Ideal S16384x1024 .f32) (ix2 R j))
      (rms (rowFfn m c R) (fun k => (m ((c : Thread nD τ).loc main_arg5) : Vec Ideal S1024 .f32) (ix1 k)) j) := by
  have ht : R.val / 1024 < cfg0.N := lt_of_lt_of_eq (show R.val / 1024 < 16 by omega) (by decide)
  have hb := congrFun (Cert.FfnIdeal.Value.blocks6 m c ⟨R.val / 1024, ht⟩ (flush_rows _)) (ix2 (⟨R.val % 1024, by omega⟩ : Fin 1024) j)
  have hR : rowOf ⟨R.val / 1024, ht⟩ (⟨R.val % 1024, by omega⟩ : Fin 1024) = R := Fin.ext (show 1024 * (R.val / 1024) + R.val % 1024 = R.val by omega)
  have key := flushed_apply m c ⟨R.val / 1024, ht⟩ (⟨R.val % 1024, by omega⟩ : Fin 1024) j
  rw [hR] at key
  refine Eq.trans ?_ (hb.trans key)
  obtain ⟨-, -, h0, h1⟩ := index_rows ⟨R.val / 1024, ht⟩
  rw [View.read_apply]
  show (dats m 0 c).arrAt 6 cfg0.N _ = (dats m 0 c).arrAt 6 cfg0.N _
  refine congrArg _ (funext fun a => Fin.ext ?_)
  match a with
  | ⟨0, _⟩ => show R.val = win0_6.index ⟨R.val / 1024, ht⟩ 0 * 1024 + 1 * (R.val % 1024); rw [h0]; show R.val = R.val / 1024 * 1024 + 1 * (R.val % 1024); omega
  | ⟨1, _⟩ => show j.val = win0_6.index ⟨R.val / 1024, ht⟩ 1 * 1024 + 1 * j.val; rw [h1]; omega

end Cert.FfnIdeal.Val

namespace Cert.FfnTie
open Idealize.ShloMosaic Idealize.ShloMosaic.TcCoe Idealize.SL.Sem Cert.FfnSpec

variable (m : (ℓ : Loc Cert.FfnIdeal.nD Cert.FfnIdeal.τ Cert.FfnIdeal.sig) → Buf (Elt Ideal) ℓ)
  (m' : (ℓ : Loc Cert.FfnReferenceIdeal.nD Cert.FfnReferenceIdeal.τ Cert.FfnReferenceIdeal.sig) → Buf (Elt Ideal) ℓ) (c : Dev Cert.FfnIdeal.nD)

/-- The two results are one array. -/
theorem tie
    (e0 : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0))
    (e1 : m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1))
    (e2 : m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2))
    (e3 : m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3))
    (e4 : m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4))
    (e5 : m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) :
    @Eq (Vec Ideal Cert.FfnIdeal.S16384x1024 .f32) (Cert.FfnReferenceIdeal.Value.res_out0 m' c)
      ((Cert.FfnIdeal.Gen.dats m 0 c).arrAt 6 Cert.FfnIdeal.cfg0.N) := by
  funext i
  obtain ⟨R, j, rfl⟩ : ∃ R j, i = ix2 R j := ⟨i 0, i 1, by funext a; fin_cases a <;> rfl⟩
  refine (Cert.FfnReferenceIdeal.Val.res_apply m' c R j).trans (Eq.trans ?_ (Cert.FfnIdeal.Val.final_apply m c R j).symm)
  unfold Cert.FfnIdeal.Val.rowFfn
  rw [e0, e1, e2, e3, e4, e5]

end Cert.FfnTie
-- ==== Proof.FfnOnePieces.lean ====
module
public import proofs.«01_k».proof.Proof.Gen.FfnOneIdeal.Value
public import proofs.«01_k».proof.Proof.FfnRows
public import Idealize.ShloMosaic.Lib.Tactic
public import Idealize.ShloMosaic.Lib.Pipeline.ReadBack
public import Idealize.ShloMosaic.Lib.Pipeline.ValueKit.Tiles

/-!
# What one point of the first feed-forward kernel leaves

The eleven turns of the kernel's loop work on eleven blocks of 256 hidden columns. The reads of the three scratch
buffers between the stores are resolved: the two blocks written are the rows plus half of the added products, and their norm.
-/

@[expose] public section
set_option maxRecDepth 16384
set_option maxHeartbeats 1000000
noncomputable section
namespace Cert.FfnOneIdeal.Val
open Idealize.ShloMosaic Idealize.ShloMosaic.TcCoe Idealize.SL.Sem
open Cert.FfnOneIdeal Cert.FfnOneIdeal.Gen
open Cert.FfnIdeal.Val (act step colsF rowsF added hrows)
variable {F : FTy → Type} [FloatOps F]

theorem ld_cols {Val : EltTy → Type} {e : EltTy} (w : S1024x2816.Idx → Val e) (f : ℕ) (hf : f < 11) (inb : ∀ a, (![0, 256 * f] : Fin 2 → ℕ) a + (![1024, 256] : Fin 2 → ℕ) a ≤ S1024x2816.size a) :
    View.ld w (Rect.unit (s := S1024x2816) ![0, 256 * f] ![1024, 256] inb) = colsF w f hf := by
  funext i
  refine View.ld_unit_apply_of w _ _ inb i _ fun d => ?_
  match d with
  | ⟨0, _⟩ => show (i 0).val = 0 + (i 0).val; omega
  | ⟨1, _⟩ => rfl
theorem ld_rows {Val : EltTy → Type} {e : EltTy} (w : S2816x1024.Idx → Val e) (f : ℕ) (hf : f < 11) (inb : ∀ a, (![256 * f, 0] : Fin 2 → ℕ) a + (![256, 1024] : Fin 2 → ℕ) a ≤ S2816x1024.size a) :
    View.ld w (Rect.unit (s := S2816x1024) ![256 * f, 0] ![256, 1024] inb) = rowsF w f hf := by
  funext i
  refine View.ld_unit_apply_of w _ _ inb i _ fun d => ?_
  match d with
  | ⟨0, _⟩ => rfl
  | ⟨1, _⟩ => show (i 1).val = 0 + (i 1).val; omega
theorem ld_x {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem canon_x {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem ld_g {Val : EltTy → Type} {e : EltTy} (w : S1x1024.Idx → Val e) (inb : ∀ a, (![0, 0] : Fin 2 → ℕ) a + (![1, 1024] : Fin 2 → ℕ) a ≤ S1x1024.size a) :
    View.ld w (Rect.unit (s := S1x1024) ![0, 0] ![1, 1024] inb) = w :=
  View.ld_unit_zero (S := S1x1024) (by funext d; match d with | ⟨0, _⟩ => rfl | ⟨1, _⟩ => rfl) inb w
theorem ldc_0 {Val : EltTy → Type} {e : EltTy} (w : S1024x2816.Idx → Val e) (inb : ∀ a, (![0, 0] : Fin 2 → ℕ) a + (![1024, 256] : Fin 2 → ℕ) a ≤ S1024x2816.size a) :
    View.ld w (Rect.unit (s := S1024x2816) ![0, 0] ![1024, 256] inb) = colsF w 0 (by decide) := ld_cols w 0 (by decide) inb
theorem ldr_0 {Val : EltTy → Type} {e : EltTy} (w : S2816x1024.Idx → Val e) (inb : ∀ a, (![0, 0] : Fin 2 → ℕ) a + (![256, 1024] : Fin 2 → ℕ) a ≤ S2816x1024.size a) :
    View.ld w (Rect.unit (s := S2816x1024) ![0, 0] ![256, 1024] inb) = rowsF w 0 (by decide) := ld_rows w 0 (by decide) inb
theorem ldc_1 {Val : EltTy → Type} {e : EltTy} (w : S1024x2816.Idx → Val e) (inb : ∀ a, (![0, 256] : Fin 2 → ℕ) a + (![1024, 256] : Fin 2 → ℕ) a ≤ S1024x2816.size a) :
    View.ld w (Rect.unit (s := S1024x2816) ![0, 256] ![1024, 256] inb) = colsF w 1 (by decide) := ld_cols w 1 (by decide) inb
theorem ldr_1 {Val : EltTy → Type} {e : EltTy} (w : S2816x1024.Idx → Val e) (inb : ∀ a, (![256, 0] : Fin 2 → ℕ) a + (![256, 1024] : Fin 2 → ℕ) a ≤ S2816x1024.size a) :
    View.ld w (Rect.unit (s := S2816x1024) ![256, 0] ![256, 1024] inb) = rowsF w 1 (by decide) := ld_rows w 1 (by decide) inb
theorem ldc_2 {Val : EltTy → Type} {e : EltTy} (w : S1024x2816.Idx → Val e) (inb : ∀ a, (![0, 512] : Fin 2 → ℕ) a + (![1024, 256] : Fin 2 → ℕ) a ≤ S1024x2816.size a) :
    View.ld w (Rect.unit (s := S1024x2816) ![0, 512] ![1024, 256] inb) = colsF w 2 (by decide) := ld_cols w 2 (by decide) inb
theorem ldr_2 {Val : EltTy → Type} {e : EltTy} (w : S2816x1024.Idx → Val e) (inb : ∀ a, (![512, 0] : Fin 2 → ℕ) a + (![256, 1024] : Fin 2 → ℕ) a ≤ S2816x1024.size a) :
    View.ld w (Rect.unit (s := S2816x1024) ![512, 0] ![256, 1024] inb) = rowsF w 2 (by decide) := ld_rows w 2 (by decide) inb
theorem ldc_3 {Val : EltTy → Type} {e : EltTy} (w : S1024x2816.Idx → Val e) (inb : ∀ a, (![0, 768] : Fin 2 → ℕ) a + (![1024, 256] : Fin 2 → ℕ) a ≤ S1024x2816.size a) :
    View.ld w (Rect.unit (s := S1024x2816) ![0, 768] ![1024, 256] inb) = colsF w 3 (by decide) := ld_cols w 3 (by decide) inb
theorem ldr_3 {Val : EltTy → Type} {e : EltTy} (w : S2816x1024.Idx → Val e) (inb : ∀ a, (![768, 0] : Fin 2 → ℕ) a + (![256, 1024] : Fin 2 → ℕ) a ≤ S2816x1024.size a) :
    View.ld w (Rect.unit (s := S2816x1024) ![768, 0] ![256, 1024] inb) = rowsF w 3 (by decide) := ld_rows w 3 (by decide) inb
theorem ldc_4 {Val : EltTy → Type} {e : EltTy} (w : S1024x2816.Idx → Val e) (inb : ∀ a, (![0, 1024] : Fin 2 → ℕ) a + (![1024, 256] : Fin 2 → ℕ) a ≤ S1024x2816.size a) :
    View.ld w (Rect.unit (s := S1024x2816) ![0, 1024] ![1024, 256] inb) = colsF w 4 (by decide) := ld_cols w 4 (by decide) inb
theorem ldr_4 {Val : EltTy → Type} {e : EltTy} (w : S2816x1024.Idx → Val e) (inb : ∀ a, (![1024, 0] : Fin 2 → ℕ) a + (![256, 1024] : Fin 2 → ℕ) a ≤ S2816x1024.size a) :
    View.ld w (Rect.unit (s := S2816x1024) ![1024, 0] ![256, 1024] inb) = rowsF w 4 (by decide) := ld_rows w 4 (by decide) inb
theorem ldc_5 {Val : EltTy → Type} {e : EltTy} (w : S1024x2816.Idx → Val e) (inb : ∀ a, (![0, 1280] : Fin 2 → ℕ) a + (![1024, 256] : Fin 2 → ℕ) a ≤ S1024x2816.size a) :
    View.ld w (Rect.unit (s := S1024x2816) ![0, 1280] ![1024, 256] inb) = colsF w 5 (by decide) := ld_cols w 5 (by decide) inb
theorem ldr_5 {Val : EltTy → Type} {e : EltTy} (w : S2816x1024.Idx → Val e) (inb : ∀ a, (![1280, 0] : Fin 2 → ℕ) a + (![256, 1024] : Fin 2 → ℕ) a ≤ S2816x1024.size a) :
    View.ld w (Rect.unit (s := S2816x1024) ![1280, 0] ![256, 1024] inb) = rowsF w 5 (by decide) := ld_rows w 5 (by decide) inb
theorem ldc_6 {Val : EltTy → Type} {e : EltTy} (w : S1024x2816.Idx → Val e) (inb : ∀ a, (![0, 1536] : Fin 2 → ℕ) a + (![1024, 256] : Fin 2 → ℕ) a ≤ S1024x2816.size a) :
    View.ld w (Rect.unit (s := S1024x2816) ![0, 1536] ![1024, 256] inb) = colsF w 6 (by decide) := ld_cols w 6 (by decide) inb
theorem ldr_6 {Val : EltTy → Type} {e : EltTy} (w : S2816x1024.Idx → Val e) (inb : ∀ a, (![1536, 0] : Fin 2 → ℕ) a + (![256, 1024] : Fin 2 → ℕ) a ≤ S2816x1024.size a) :
    View.ld w (Rect.unit (s := S2816x1024) ![1536, 0] ![256, 1024] inb) = rowsF w 6 (by decide) := ld_rows w 6 (by decide) inb
theorem ldc_7 {Val : EltTy → Type} {e : EltTy} (w : S1024x2816.Idx → Val e) (inb : ∀ a, (![0, 1792] : Fin 2 → ℕ) a + (![1024, 256] : Fin 2 → ℕ) a ≤ S1024x2816.size a) :
    View.ld w (Rect.unit (s := S1024x2816) ![0, 1792] ![1024, 256] inb) = colsF w 7 (by decide) := ld_cols w 7 (by decide) inb
theorem ldr_7 {Val : EltTy → Type} {e : EltTy} (w : S2816x1024.Idx → Val e) (inb : ∀ a, (![1792, 0] : Fin 2 → ℕ) a + (![256, 1024] : Fin 2 → ℕ) a ≤ S2816x1024.size a) :
    View.ld w (Rect.unit (s := S2816x1024) ![1792, 0] ![256, 1024] inb) = rowsF w 7 (by decide) := ld_rows w 7 (by decide) inb
theorem ldc_8 {Val : EltTy → Type} {e : EltTy} (w : S1024x2816.Idx → Val e) (inb : ∀ a, (![0, 2048] : Fin 2 → ℕ) a + (![1024, 256] : Fin 2 → ℕ) a ≤ S1024x2816.size a) :
    View.ld w (Rect.unit (s := S1024x2816) ![0, 2048] ![1024, 256] inb) = colsF w 8 (by decide) := ld_cols w 8 (by decide) inb
theorem ldr_8 {Val : EltTy → Type} {e : EltTy} (w : S2816x1024.Idx → Val e) (inb : ∀ a, (![2048, 0] : Fin 2 → ℕ) a + (![256, 1024] : Fin 2 → ℕ) a ≤ S2816x1024.size a) :
    View.ld w (Rect.unit (s := S2816x1024) ![2048, 0] ![256, 1024] inb) = rowsF w 8 (by decide) := ld_rows w 8 (by decide) inb
theorem ldc_9 {Val : EltTy → Type} {e : EltTy} (w : S1024x2816.Idx → Val e) (inb : ∀ a, (![0, 2304] : Fin 2 → ℕ) a + (![1024, 256] : Fin 2 → ℕ) a ≤ S1024x2816.size a) :
    View.ld w (Rect.unit (s := S1024x2816) ![0, 2304] ![1024, 256] inb) = colsF w 9 (by decide) := ld_cols w 9 (by decide) inb
theorem ldr_9 {Val : EltTy → Type} {e : EltTy} (w : S2816x1024.Idx → Val e) (inb : ∀ a, (![2304, 0] : Fin 2 → ℕ) a + (![256, 1024] : Fin 2 → ℕ) a ≤ S2816x1024.size a) :
    View.ld w (Rect.unit (s := S2816x1024) ![2304, 0] ![256, 1024] inb) = rowsF w 9 (by decide) := ld_rows w 9 (by decide) inb
theorem ldc_10 {Val : EltTy → Type} {e : EltTy} (w : S1024x2816.Idx → Val e) (inb : ∀ a, (![0, 2560] : Fin 2 → ℕ) a + (![1024, 256] : Fin 2 → ℕ) a ≤ S1024x2816.size a) :
    View.ld w (Rect.unit (s := S1024x2816) ![0, 2560] ![1024, 256] inb) = colsF w 10 (by decide) := ld_cols w 10 (by decide) inb
theorem ldr_10 {Val : EltTy → Type} {e : EltTy} (w : S2816x1024.Idx → Val e) (inb : ∀ a, (![2560, 0] : Fin 2 → ℕ) a + (![256, 1024] : Fin 2 → ℕ) a ≤ S2816x1024.size a) :
    View.ld w (Rect.unit (s := S2816x1024) ![2560, 0] ![256, 1024] inb) = rowsF w 10 (by decide) := ld_rows w 10 (by decide) inb

theorem act_0 (xn : Vec F S1024x1024 .bf16) (g u : Vec F S1024x256 .bf16) : k0_pay7 (k0_pay4 xn g) (k0_pay5 xn u) (k0_pay6 xn g) = act xn g u := rfl
theorem act_1 (xn : Vec F S1024x1024 .bf16) (g u : Vec F S1024x256 .bf16) : k0_pay12 (k0_pay9 xn g) (k0_pay10 xn u) (k0_pay11 (F := F)) = act xn g u := rfl
theorem act_2 (xn : Vec F S1024x1024 .bf16) (g u : Vec F S1024x256 .bf16) : k0_pay16 (k0_pay14 xn g) (k0_pay15 xn u) = act xn g u := rfl
theorem act_3 (xn : Vec F S1024x1024 .bf16) (g u : Vec F S1024x256 .bf16) : k0_pay20 xn (k0_pay18 xn g) (k0_pay19 u) = act xn g u := rfl
theorem act_4 (xn : Vec F S1024x1024 .bf16) (g u : Vec F S1024x256 .bf16) : k0_pay23 xn (k0_pay22 xn g) u = act xn g u := rfl
theorem act_5 (xn : Vec F S1024x1024 .bf16) (g u : Vec F S1024x256 .bf16) : k0_pay26 xn (k0_pay25 xn g) u = act xn g u := rfl
theorem act_6 (xn : Vec F S1024x1024 .bf16) (g u : Vec F S1024x256 .bf16) : k0_pay29 xn (k0_pay28 g) u = act xn g u := rfl
theorem act_7 (xn : Vec F S1024x1024 .bf16) (g u : Vec F S1024x256 .bf16) : k0_pay31 xn g u = act xn g u := rfl
theorem act_8 (xn : Vec F S1024x1024 .bf16) (g u : Vec F S1024x256 .bf16) : k0_pay33 xn g u = act xn g u := rfl
theorem act_9 (xn : Vec F S1024x1024 .bf16) (g u : Vec F S1024x256 .bf16) : k0_pay35 xn g u = act xn g u := rfl
theorem act_10 (xn : Vec F S1024x1024 .bf16) (g u : Vec F S1024x256 .bf16) : k0_pay37 xn g u = act xn g u := rfl
theorem step_1 (a : Vec F S1024x1024 .f32) (h : Vec F S1024x256 .bf16) (w : Vec F S256x1024 .bf16) : k0_pay8 a h w = step a h w := rfl
theorem step_2 (a : Vec F S1024x1024 .f32) (h : Vec F S1024x256 .bf16) (w : Vec F S256x1024 .bf16) : k0_pay13 a h w = step a h w := rfl
theorem step_3 (a : Vec F S1024x1024 .f32) (h : Vec F S1024x256 .bf16) (w : Vec F S256x1024 .bf16) : k0_pay17 a h w = step a h w := rfl
theorem step_4 (a : Vec F S1024x1024 .f32) (h : Vec F S1024x256 .bf16) (w : Vec F S256x1024 .bf16) : k0_pay21 a h w = step a h w := rfl
theorem step_5 (a : Vec F S1024x1024 .f32) (h : Vec F S1024x256 .bf16) (w : Vec F S256x1024 .bf16) : k0_pay24 a h w = step a h w := rfl
theorem step_6 (a : Vec F S1024x1024 .f32) (h : Vec F S1024x256 .bf16) (w : Vec F S256x1024 .bf16) : k0_pay27 a h w = step a h w := rfl
theorem step_7 (a : Vec F S1024x1024 .f32) (h : Vec F S1024x256 .bf16) (w : Vec F S256x1024 .bf16) : k0_pay30 a h w = step a h w := rfl
theorem step_8 (a : Vec F S1024x1024 .f32) (h : Vec F S1024x256 .bf16) (w : Vec F S256x1024 .bf16) : k0_pay32 a h w = step a h w := rfl
theorem step_9 (a : Vec F S1024x1024 .f32) (h : Vec F S1024x256 .bf16) (w : Vec F S256x1024 .bf16) : k0_pay34 a h w = step a h w := rfl
theorem step_10 (a : Vec F S1024x1024 .f32) (h : Vec F S1024x256 .bf16) (w : Vec F S256x1024 .bf16) : k0_pay36 a h w = step a h w := rfl

/-- The rows written: the block's. -/
theorem out_eq6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x256 .bf16) (harg11 : arg11.IsWhole)
    (x0 : Vec F S1024x1024 .f32) (x1 : Vec F S1x1024 .f32) (x2 : Vec F S1024x2816 .bf16) (x3 : Vec F S1024x2816 .bf16) (x4 : Vec F S2816x1024 .bf16) (x5 : Vec F S1x1024 .f32) :
    out0_A_6 c i arg1 harg1 arg2 harg2 arg3 harg3 arg4 harg4 arg5 harg5 arg6 harg6 arg7 harg7 arg8 harg8 arg9 harg9 arg10 harg10 arg11 harg11 x0 x1 x2 x3 x4 x5 = hrows x0 x1 x2 x3 x4 := by
  unfold out0_A_6
  rw [View.read_writes_junk_eq_canon]
  unfold kernelRun0_A
  dsimp only
  sl_unfold_words
  simp (disch := rfl) only [↓View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread,
    ↓canon_x, ld_x, ld_g, act_0, act_1, act_2, act_3, act_4, act_5, act_6, act_7, act_8, act_9, act_10, step_1, step_2, step_3, step_4, step_5, step_6, step_7, step_8, step_9, step_10, ldc_0, ldc_1, ldc_2, ldc_3, ldc_4, ldc_5, ldc_6, ldc_7, ldc_8, ldc_9, ldc_10, ldr_0, ldr_1, ldr_2, ldr_3, ldr_4, ldr_5, ldr_6, ldr_7, ldr_8, ldr_9, ldr_10]
  erw [ldr_0 x4, ldc_1 x2, ldc_1 x3, ldr_1 x4, ldc_2 x2, ldc_2 x3, ldr_2 x4, ldc_3 x2, ldc_3 x3, ldr_3 x4, ldc_4 x2, ldc_4 x3, ldr_4 x4, ldc_5 x2, ldc_5 x3, ldr_5 x4, ldc_6 x2, ldc_6 x3, ldr_6 x4, ldc_7 x2, ldc_7 x3, ldr_7 x4, ldc_8 x2, ldc_8 x3, ldr_8 x4, ldc_9 x2, ldc_9 x3, ldr_9 x4, ldc_10 x2, ldc_10 x3]
  rfl

/-- The other array's rows: their norm. -/
theorem out_eq7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x256 .bf16) (harg11 : arg11.IsWhole)
    (x0 : Vec F S1024x1024 .f32) (x1 : Vec F S1x1024 .f32) (x2 : Vec F S1024x2816 .bf16) (x3 : Vec F S1024x2816 .bf16) (x4 : Vec F S2816x1024 .bf16) (x5 : Vec F S1x1024 .f32) :
    out0_A_7 c i arg1 harg1 arg2 harg2 arg3 harg3 arg4 harg4 arg5 harg5 arg6 harg6 arg7 harg7 arg8 harg8 arg9 harg9 arg10 harg10 arg11 harg11 x0 x1 x2 x3 x4 x5 = k0_pay1 (hrows x0 x1 x2 x3 x4) x5 := by
  unfold out0_A_7
  rw [View.read_writes_junk_eq_canon]
  unfold kernelRun0_A
  dsimp only
  sl_unfold_words
  simp (disch := rfl) only [↓View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread,
    ↓canon_x, ld_x, ld_g, act_0, act_1, act_2, act_3, act_4, act_5, act_6, act_7, act_8, act_9, act_10, step_1, step_2, step_3, step_4, step_5, step_6, step_7, step_8, step_9, step_10, ldc_0, ldc_1, ldc_2, ldc_3, ldc_4, ldc_5, ldc_6, ldc_7, ldc_8, ldc_9, ldc_10, ldr_0, ldr_1, ldr_2, ldr_3, ldr_4, ldr_5, ldr_6, ldr_7, ldr_8, ldr_9, ldr_10]
  erw [ldr_0 x4, ldc_1 x2, ldc_1 x3, ldr_1 x4, ldc_2 x2, ldc_2 x3, ldr_2 x4, ldc_3 x2, ldc_3 x3, ldr_3 x4, ldc_4 x2, ldc_4 x3, ldr_4 x4, ldc_5 x2, ldc_5 x3, ldr_5 x4, ldc_6 x2, ldc_6 x3, ldr_6 x4, ldc_7 x2, ldc_7 x3, ldr_7 x4, ldc_8 x2, ldc_8 x3, ldr_8 x4, ldc_9 x2, ldc_9 x3, ldr_9 x4, ldc_10 x2, ldc_10 x3]
  rfl

end Cert.FfnOneIdeal.Val
-- ==== Proof.FfnOneBlocks.lean ====
module
public import proofs.«01_k».proof.Proof.FfnOnePieces
public import proofs.«01_k».proof.Proof.FfnBlocks
public import Idealize.ShloMosaic.Lib.StableHlo.RunClose
public import Idealize.ShloMosaic.Lib.Pipeline.Value

/-!
# The rows a grid point reads and writes

The point `t` of the grid takes rows `1024 t` to `1024 t + 1023` of all rows and every weight whole; what it reads is what
the host prepared of the arguments, and what it writes is the same rows of both results.
-/

@[expose] public section
set_option maxRecDepth 16384
noncomputable section
namespace Cert.FfnOneIdeal.Val
open Idealize.ShloMosaic Idealize.ShloMosaic.TcCoe Idealize.SL.Sem
open Cert.FfnOneIdeal Cert.FfnOneIdeal.Gen Cert.FfnSpec
open Cert.FfnIdeal.Val (hrows hrows_apply wide_cast narrow_cast gain_cast row_cast)

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 1024) : Fin 16384 := ⟨1024 * t.val + r.val, by have := grid_lt t; omega⟩
/-- The batch row of a row of all rows. -/
abbrev bOf (R : Fin 16384) : Fin 8 := ⟨R.val / 2048, by omega⟩
/-- Its place in that batch row. -/
abbrev sOf (R : Fin 16384) : Fin 2048 := ⟨R.val % 2048, by omega⟩

theorem index_rows : ∀ t : Fin cfg0.N, win0_0.index t 0 = t.val ∧ win0_0.index t 1 = 0 ∧ win0_6.index t 0 = t.val ∧ win0_6.index t 1 = 0 ∧ win0_7.index t 0 = t.val ∧ win0_7.index t 1 = 0 :=
  (by decide +kernel : ∀ t : Fin grid0.N, win0_0.index t 0 = t.val ∧ win0_0.index t 1 = 0 ∧ win0_6.index t 0 = t.val ∧ win0_6.index t 1 = 0 ∧ win0_7.index t 0 = t.val ∧ win0_7.index t 1 = 0)

theorem index_whole : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

theorem iblk0_eq (t : Fin cfg0.N) (r j : Fin 1024) : @Eq EReal ((iblk m c 0 t : Vec Ideal S1024x1024 .f32) (ix2 r j)) ((V m c main_v10 : Vec Ideal S16384x1024 .f32) (ix2 (rowOf t r) j)) := by
  obtain ⟨h0, h1, -⟩ := index_rows t
  unfold iblk
  rw [View.read_apply]
  show V m c main_v10 _ = _
  refine congrArg _ (funext fun a => Fin.ext ?_)
  match a with
  | ⟨0, _⟩ => show win0_0.index t 0 * 1024 + 1 * r.val = 1024 * t.val + r.val; rw [h0]; omega
  | ⟨1, _⟩ => show win0_0.index t 1 * 1024 + 1 * j.val = j.val; rw [h1]; omega

theorem iblk1_eq (t : Fin cfg0.N) (i : Fin 1) (j : Fin 1024) : @Eq EReal ((iblk m c 1 t : Vec Ideal S1x1024 .f32) (ix2 i j)) ((V m c main_v1 : Vec Ideal S1x1024 .f32) (ix2 i j)) := by
  obtain ⟨⟨h0, h1⟩, -, -, -, -⟩ := index_whole t
  unfold iblk
  rw [View.read_apply]
  show V m c main_v1 _ = _
  refine congrArg _ (funext fun a => Fin.ext ?_)
  match a with
  | ⟨0, _⟩ => show win0_1.index t 0 * 1 + 1 * i.val = i.val; rw [h0]; omega
  | ⟨1, _⟩ => show win0_1.index t 1 * 1024 + 1 * j.val = j.val; rw [h1]; omega

theorem iblk2_eq (t : Fin cfg0.N) (i : Fin 1024) (j : Fin 2816) : @Eq EReal ((iblk m c 2 t : Vec Ideal S1024x2816 .bf16) (ix2 i j)) ((V m c main_v3 : Vec Ideal S1024x2816 .bf16) (ix2 i j)) := by
  obtain ⟨-, ⟨h0, h1⟩, -, -, -⟩ := index_whole t
  unfold iblk
  rw [View.read_apply]
  show V m c main_v3 _ = _
  refine congrArg _ (funext fun a => Fin.ext ?_)
  match a with
  | ⟨0, _⟩ => show win0_2.index t 0 * 1024 + 1 * i.val = i.val; rw [h0]; omega
  | ⟨1, _⟩ => show win0_2.index t 1 * 2816 + 1 * j.val = j.val; rw [h1]; omega

theorem iblk3_eq (t : Fin cfg0.N) (i : Fin 1024) (j : Fin 2816) : @Eq EReal ((iblk m c 3 t : Vec Ideal S1024x2816 .bf16) (ix2 i j)) ((V m c main_v5 : Vec Ideal S1024x2816 .bf16) (ix2 i j)) := by
  obtain ⟨-, -, ⟨h0, h1⟩, -, -⟩ := index_whole t
  unfold iblk
  rw [View.read_apply]
  show V m c main_v5 _ = _
  refine congrArg _ (funext fun a => Fin.ext ?_)
  match a with
  | ⟨0, _⟩ => show win0_3.index t 0 * 1024 + 1 * i.val = i.val; rw [h0]; omega
  | ⟨1, _⟩ => show win0_3.index t 1 * 2816 + 1 * j.val = j.val; rw [h1]; omega

theorem iblk4_eq (t : Fin cfg0.N) (i : Fin 2816) (j : Fin 1024) : @Eq EReal ((iblk m c 4 t : Vec Ideal S2816x1024 .bf16) (ix2 i j)) ((V m c main_v7 : Vec Ideal S2816x1024 .bf16) (ix2 i j)) := by
  obtain ⟨-, -, -, ⟨h0, h1⟩, -⟩ := index_whole t
  unfold iblk
  rw [View.read_apply]
  show V m c main_v7 _ = _
  refine congrArg _ (funext fun a => Fin.ext ?_)
  match a with
  | ⟨0, _⟩ => show win0_4.index t 0 * 2816 + 1 * i.val = i.val; rw [h0]; omega
  | ⟨1, _⟩ => show win0_4.index t 1 * 1024 + 1 * j.val = j.val; rw [h1]; omega

theorem iblk5_eq (t : Fin cfg0.N) (i : Fin 1) (j : Fin 1024) : @Eq EReal ((iblk m c 5 t : Vec Ideal S1x1024 .f32) (ix2 i j)) ((V m c main_v9 : Vec Ideal S1x1024 .f32) (ix2 i j)) := by
  obtain ⟨-, -, -, -, ⟨h0, h1⟩⟩ := index_whole t
  unfold iblk
  rw [View.read_apply]
  show V m c main_v9 _ = _
  refine congrArg _ (funext fun a => Fin.ext ?_)
  match a with
  | ⟨0, _⟩ => show win0_5.index t 0 * 1 + 1 * i.val = i.val; rw [h0]; omega
  | ⟨1, _⟩ => show win0_5.index t 1 * 1024 + 1 * j.val = j.val; rw [h1]; omega

/-- The rows the point reads are the argument's. -/
theorem iblk0 (t : Fin cfg0.N) (r j : Fin 1024) : @Eq EReal ((iblk m c 0 t : Vec Ideal S1024x1024 .f32) (ix2 r j))
    ((m ((c : Thread nD τ).loc main_arg0) : Vec Ideal S8x2048x1024 .f32) (ix3 (bOf (rowOf t r)) (sOf (rowOf t r)) j)) := by
  have e : @Eq (Vec Ideal S16384x1024 .f32) (V m c main_v10) (shapeCast S16384x1024 (m ((c : Thread nD τ).loc main_arg0) : Vec Ideal S8x2048x1024 .f32) shapeCasts_S8x2048x1024_S16384x1024) := by
    unfold V hostOps0
    after_results_entrywise []
  have h := grid_lt t
  refine (iblk0_eq m c t r j).trans ((congrFun e _).trans ?_)
  exact shapeCast_apply _ _ _ _ ((Shape.rowMajor_val_three (d := ![8, 2048, 1024]) (ix3 (bOf (rowOf t r)) (sOf (rowOf t r)) j)).trans (Eq.trans
    (show ((1024 * t.val + r.val) / 2048 * 2048 + (1024 * t.val + r.val) % 2048) * 1024 + j.val = (1024 * t.val + r.val) * 1024 + j.val by omega) (Shape.rowMajor_val_two (d := ![16384, 1024]) (ix2 (rowOf t r) j)).symm))

/-- The first norm's gain. -/
theorem iblk1 (t : Fin cfg0.N) (j : Fin 1024) : @Eq EReal ((iblk m c 1 t : Vec Ideal S1x1024 .f32) (ix2 0 j)) ((m ((c : Thread nD τ).loc main_arg1) : Vec Ideal S1x1024 .f32) (ix2 0 j)) := by
  have e : @Eq (Vec Ideal S1x1024 .f32) (V m c main_v1) (shapeCast S1x1024 (shapeCast S1024 (m ((c : Thread nD τ).loc main_arg1) : Vec Ideal S1x1024 .f32) shapeCasts_S1x1024_S1024) shapeCasts_S1024_S1x1024) := by
    unfold V hostOps0
    after_results_entrywise []
  exact (iblk1_eq m c t 0 j).trans ((congrFun e _).trans ((gain_cast _ j).trans (row_cast _ j)))

/-- The gate's matrix. -/
theorem iblk2 (t : Fin cfg0.N) (i : Fin 1024) (j : Fin 2816) : @Eq EReal ((iblk m c 2 t : Vec Ideal S1024x2816 .bf16) (ix2 i j)) ((m ((c : Thread nD τ).loc main_arg2) : Vec Ideal S1x1024x2816 .f32) (ix3 0 i j)) := by
  have e : @Eq (Vec Ideal S1024x2816 .bf16) (V m c main_v3) (truncf (F := Ideal) .bf16 (shapeCast S1024x2816 (m ((c : Thread nD τ).loc main_arg2) : Vec Ideal S1x1024x2816 .f32) shapeCasts_S1x1024x2816_S1024x2816) bitsLt_bf16_f32) := by
    unfold V hostOps0
    after_results_entrywise []
  exact (iblk2_eq m c t i j).trans ((congrFun e _).trans (wide_cast _ i j))

/-- The other widening matrix. -/
theorem iblk3 (t : Fin cfg0.N) (i : Fin 1024) (j : Fin 2816) : @Eq EReal ((iblk m c 3 t : Vec Ideal S1024x2816 .bf16) (ix2 i j)) ((m ((c : Thread nD τ).loc main_arg3) : Vec Ideal S1x1024x2816 .f32) (ix3 0 i j)) := by
  have e : @Eq (Vec Ideal S1024x2816 .bf16) (V m c main_v5) (truncf (F := Ideal) .bf16 (shapeCast S1024x2816 (m ((c : Thread nD τ).loc main_arg3) : Vec Ideal S1x1024x2816 .f32) shapeCasts_S1x1024x2816_S1024x2816) bitsLt_bf16_f32) := by
    unfold V hostOps0
    after_results_entrywise []
  exact (iblk3_eq m c t i j).trans ((congrFun e _).trans (wide_cast _ i j))

/-- The narrowing matrix. -/
theorem iblk4 (t : Fin cfg0.N) (i : Fin 2816) (j : Fin 1024) : @Eq EReal ((iblk m c 4 t : Vec Ideal S2816x1024 .bf16) (ix2 i j)) ((m ((c : Thread nD τ).loc main_arg4) : Vec Ideal S1x2816x1024 .f32) (ix3 0 i j)) := by
  have e : @Eq (Vec Ideal S2816x1024 .bf16) (V m c main_v7) (truncf (F := Ideal) .bf16 (shapeCast S2816x1024 (m ((c : Thread nD τ).loc main_arg4) : Vec Ideal S1x2816x1024 .f32) shapeCasts_S1x2816x1024_S2816x1024) bitsLt_bf16_f32) := by
    unfold V hostOps0
    after_results_entrywise []
  exact (iblk4_eq m c t i j).trans ((congrFun e _).trans (narrow_cast _ i j))

/-- The other norm's gain. -/
theorem iblk5 (t : Fin cfg0.N) (j : Fin 1024) : @Eq EReal ((iblk m c 5 t : Vec Ideal S1x1024 .f32) (ix2 0 j)) ((m ((c : Thread nD τ).loc main_arg5) : Vec Ideal S1x1024 .f32) (ix2 0 j)) := by
  have e : @Eq (Vec Ideal S1x1024 .f32) (V m c main_v9) (shapeCast S1x1024 (shapeCast S1024 (m ((c : Thread nD τ).loc main_arg5) : Vec Ideal S1x1024 .f32) shapeCasts_S1x1024_S1024) shapeCasts_S1024_S1x1024) := by
    unfold V hostOps0
    after_results_entrywise []
  exact (iblk5_eq m c t 0 j).trans ((congrFun e _).trans ((gain_cast _ j).trans (row_cast _ j)))

/-- A row's feed-forward block, from the arguments. -/
def rowFfn (R : Fin 16384) : Fin 1024 → EReal :=
  ffn (fun k => (m ((c : Thread nD τ).loc main_arg0) : Vec Ideal S8x2048x1024 .f32) (ix3 (bOf R) (sOf R) k))
    (fun k => (m ((c : Thread nD τ).loc main_arg1) : Vec Ideal S1x1024 .f32) (ix2 0 k))
    (fun k q => (m ((c : Thread nD τ).loc main_arg2) : Vec Ideal S1x1024x2816 .f32) (ix3 0 k q))
    (fun k q => (m ((c : Thread nD τ).loc main_arg3) : Vec Ideal S1x1024x2816 .f32) (ix3 0 k q))
    (fun q k => (m ((c : Thread nD τ).loc main_arg4) : Vec Ideal S1x2816x1024 .f32) (ix3 0 q k))

/-- The rows after the block, at a point. -/
theorem hrows_iblk (t : Fin cfg0.N) (r j : Fin 1024) :
    @Eq EReal (hrows (F := Ideal) (iblk m c 0 t) (iblk m c 1 t) (iblk m c 2 t) (iblk m c 3 t) (iblk m c 4 t) (ix2 r j)) (rowFfn m c (rowOf t r) j) := by
  refine (hrows_apply _ _ _ _ _ r j).trans ?_
  unfold rowFfn
  rw [funext fun k => iblk0 m c t r k, funext fun k => iblk1 m c t k, funext fun k => funext fun q => iblk2 m c t k q,
    funext fun k => funext fun q => iblk3 m c t k q, funext fun q => funext fun k => iblk4 m c t q k]

/-- The other rows written: each row normed. -/
theorem norm_apply (h : Vec Ideal S1024x1024 .f32) (g : Vec Ideal S1x1024 .f32) (r j : Fin 1024) :
    @Eq EReal (k0_pay1 (F := Ideal) h g (ix2 r j)) (rms (fun k => h (ix2 r k)) (fun k => g (ix2 0 k)) j) := by
  pointwise [k0_pay1, rms]

end Cert.FfnOneIdeal.Val
-- ==== Proof.FfnOneRef.lean ====
module
public import proofs.«01_k».proof.Proof.FfnRef
public import proofs.«01_k».proof.Proof.Gen.FfnOneReferenceIdeal.Run

/-!
# The plain first feed-forward, entry by entry

Its two results are made of the same array operations as the second feed-forward's: the block of every row, and the
block normed with the mixers' gain.
-/

@[expose] public section
noncomputable section
namespace Cert.FfnOneReferenceIdeal.Val
open Idealize.ShloMosaic Idealize.ShloMosaic.TcCoe Idealize.SL.Sem
open Cert.FfnOneReferenceIdeal Cert.FfnOneReferenceIdeal.Gen Cert.FfnOneReferenceIdeal.Value Cert.FfnSpec
open Cert.FfnReferenceIdeal.Val (block nrm bOf sOf rows_apply nrm_apply block_apply gain_apply)

variable (m : (ℓ : Loc nD τ sig) → Buf (Elt Ideal) ℓ) (c : Dev nD)

/-- The block of every row, of the arguments. -/
def hid3 : Vec Ideal S8x2048x1024 .f32 := block (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- The first result. -/
def resH : Vec Ideal S16384x1024 .f32 := shapeCast S16384x1024 (hid3 m c) shapeCasts_S8x2048x1024_S16384x1024

/-- A row's feed-forward block, from the arguments. -/
def rowFfn (R : Fin 16384) : Fin 1024 → EReal :=
  ffn (fun k => (m ((c.tc : Thread nD τ).loc main_arg0) : Vec Ideal S8x2048x1024 .f32) (ix3 (bOf R) (sOf R) k))
    (fun k => (m ((c.tc : Thread nD τ).loc main_arg1) : Vec Ideal S1x1024 .f32) (ix2 0 k))
    (fun k q => (m ((c.tc : Thread nD τ).loc main_arg2) : Vec Ideal S1x1024x2816 .f32) (ix3 0 k q))
    (fun k q => (m ((c.tc : Thread nD τ).loc main_arg3) : Vec Ideal S1x1024x2816 .f32) (ix3 0 k q))
    (fun q k => (m ((c.tc : Thread nD τ).loc main_arg4) : Vec Ideal S1x2816x1024 .f32) (ix3 0 q k))

theorem resH_apply (R : Fin 16384) (j : Fin 1024) : @Eq EReal (resH m c (ix2 R j)) (rowFfn m c R j) :=
  (rows_apply _ R j).trans (block_apply _ _ _ _ _ _ _ j)

/-- The second result, entry by entry. -/
theorem resN_apply (R : Fin 16384) (j : Fin 1024) :
    @Eq EReal ((res_main_v41 m c : Vec Ideal S16384x1024 .bf16) (ix2 R j))
      (rms (rowFfn m c R) (fun k => (m ((c.tc : Thread nD τ).loc main_arg5) : Vec Ideal S1x1024 .f32) (ix2 0 k)) j) := by
  have e : @Eq (Vec Ideal S16384x1024 .bf16) (res_main_v41 m c) (truncf (F := Ideal) (φ := .f32) .bf16 (shapeCast S16384x1024
      (nrm (hid3 m c) (shapeCast S1024 (m ((c.tc : Thread nD τ).loc main_arg5) : Vec Ideal S1x1024 .f32) shapeCasts_S1x1024_S1024)) shapeCasts_S8x2048x1024_S16384x1024) bitsLt_bf16_f32) := rfl
  refine (congrFun e _).trans ((rows_apply _ R j).trans ((nrm_apply _ _ _ _ j).trans ?_))
  rw [funext fun k => gain_apply _ k]
  exact congrArg (fun x => rms x _ j) (funext fun k => block_apply _ _ _ _ _ _ _ k)

end Cert.FfnOneReferenceIdeal.Val
-- ==== Proof.FfnOneTie.lean ====
module
public import proofs.«01_k».proof.Defs
public import proofs.«01_k».proof.Proof.FfnOneBlocks
public import proofs.«01_k».proof.Proof.FfnOneRef

/-!
# The first feed-forward call is the plain statement's

The two arrays the kernel leaves, read at a row through the point that wrote it, are the row's feed-forward block and
that block normed; so are the reference's.
-/

@[expose] public section
set_option maxRecDepth 16384
noncomputable section
namespace Cert.FfnOneIdeal.Val
open Idealize.ShloMosaic Idealize.ShloMosaic.TcCoe Idealize.SL.Sem
open Cert.FfnOneIdeal Cert.FfnOneIdeal.Gen Cert.FfnSpec
open Cert.FfnIdeal.Val (hrows)

variable (m : (ℓ : Loc nD τ sig) → Buf (Elt Ideal) ℓ) (c : Dev nD)

theorem flush6 : ∀ t : Fin cfg0.N, (cfg0.win 6).flush t = true :=
  (by decide +kernel : ∀ t : Fin grid0.N, win0_6.flush t = true)

theorem flush7 : ∀ t : Fin cfg0.N, (cfg0.win 7).flush t = true :=
  (by decide +kernel : ∀ t : Fin grid0.N, win0_7.flush t = true)

/-- What a point writes back to the first result, at a row and a column. -/
theorem flushed6_apply (t : Fin cfg0.N) (r j : Fin 1024) :
    @Eq EReal (((dats m 0 c).flushed 6 t : Vec Ideal S1024x1024 .f32) (ix2 r j)) (rowFfn m c (rowOf t r) j) := by
  rw [Cert.FfnOneIdeal.Value.flushed6_A]
  rw [out_eq6]
  refine Eq.trans (show _ = (hrows (F := Ideal) (iblk m c 0 t) (iblk m c 1 t) (iblk m c 2 t) (iblk m c 3 t) (iblk m c 4 t) : Vec Ideal S1024x1024 .f32) (ix2 r j) from rfl) ?_
  exact hrows_iblk m c t r j

/-- What a point writes back to the second result, at a row and a column. -/
theorem flushed7_apply (t : Fin cfg0.N) (r j : Fin 1024) :
    @Eq EReal (((dats m 0 c).flushed 7 t : Vec Ideal S1024x1024 .bf16) (ix2 r j))
      (rms (rowFfn m c (rowOf t r)) (fun k => (m ((c : Thread nD τ).loc main_arg5) : Vec Ideal S1x1024 .f32) (ix2 0 k)) j) := by
  rw [Cert.FfnOneIdeal.Value.flushed7_A]
  rw [out_eq7]
  refine Eq.trans (show _ = (k0_pay1 (F := Ideal) (hrows (iblk m c 0 t) (iblk m c 1 t) (iblk m c 2 t) (iblk m c 3 t) (iblk m c 4 t)) (iblk m c 5 t) : Vec Ideal S1024x1024 .bf16) (ix2 r j) from rfl) ?_
  refine (norm_apply _ _ r j).trans ?_
  rw [funext fun k => hrows_iblk m c t r k, funext fun k => iblk5 m c t k]

/-- The first array the kernel leaves, at a row and a column. -/
theorem final6_apply (R : Fin 16384) (j : Fin 1024) :
    @Eq EReal (((dats m 0 c).arrAt 6 cfg0.N : Vec Ideal S16384x1024 .f32) (ix2 R j))
      (rowFfn m c R j) := by
  have ht : R.val / 1024 < cfg0.N := lt_of_lt_of_eq (show R.val / 1024 < 16 by omega) (by decide)
  have hb := congrFun (Cert.FfnOneIdeal.Value.blocks6 m c ⟨R.val / 1024, ht⟩ (flush6 _)) (ix2 (⟨R.val % 1024, by omega⟩ : Fin 1024) j)
  have hR : rowOf ⟨R.val / 1024, ht⟩ (⟨R.val % 1024, by omega⟩ : Fin 1024) = R := Fin.ext (show 1024 * (R.val / 1024) + R.val % 1024 = R.val by omega)
  have key := flushed6_apply m c ⟨R.val / 1024, ht⟩ (⟨R.val % 1024, by omega⟩ : Fin 1024) j
  rw [hR] at key
  refine Eq.trans ?_ (hb.trans key)
  obtain ⟨-, -, h0, h1, -, -⟩ := index_rows ⟨R.val / 1024, ht⟩
  rw [View.read_apply]
  show (dats m 0 c).arrAt 6 cfg0.N _ = (dats m 0 c).arrAt 6 cfg0.N _
  refine congrArg _ (funext fun a => Fin.ext ?_)
  match a with
  | ⟨0, _⟩ => show R.val = win0_6.index ⟨R.val / 1024, ht⟩ 0 * 1024 + 1 * (R.val % 1024); rw [h0]; show R.val = R.val / 1024 * 1024 + 1 * (R.val % 1024); omega
  | ⟨1, _⟩ => show j.val = win0_6.index ⟨R.val / 1024, ht⟩ 1 * 1024 + 1 * j.val; rw [h1]; omega

/-- The second array the kernel leaves, at a row and a column. -/
theorem final7_apply (R : Fin 16384) (j : Fin 1024) :
    @Eq EReal (((dats m 0 c).arrAt 7 cfg0.N : Vec Ideal S16384x1024 .bf16) (ix2 R j))
      (rms (rowFfn m c R) (fun k => (m ((c : Thread nD τ).loc main_arg5) : Vec Ideal S1x1024 .f32) (ix2 0 k)) j) := by
  have ht : R.val / 1024 < cfg0.N := lt_of_lt_of_eq (show R.val / 1024 < 16 by omega) (by decide)
  have hb := congrFun (Cert.FfnOneIdeal.Value.blocks7 m c ⟨R.val / 1024, ht⟩ (flush7 _)) (ix2 (⟨R.val % 1024, by omega⟩ : Fin 1024) j)
  have hR : rowOf ⟨R.val / 1024, ht⟩ (⟨R.val % 1024, by omega⟩ : Fin 1024) = R := Fin.ext (show 1024 * (R.val / 1024) + R.val % 1024 = R.val by omega)
  have key := flushed7_apply m c ⟨R.val / 1024, ht⟩ (⟨R.val % 1024, by omega⟩ : Fin 1024) j
  rw [hR] at key
  refine Eq.trans ?_ (hb.trans key)
  obtain ⟨-, -, -, -, h0, h1⟩ := index_rows ⟨R.val / 1024, ht⟩
  rw [View.read_apply]
  show (dats m 0 c).arrAt 7 cfg0.N _ = (dats m 0 c).arrAt 7 cfg0.N _
  refine congrArg _ (funext fun a => Fin.ext ?_)
  match a with
  | ⟨0, _⟩ => show R.val = win0_7.index ⟨R.val / 1024, ht⟩ 0 * 1024 + 1 * (R.val % 1024); rw [h0]; show R.val = R.val / 1024 * 1024 + 1 * (R.val % 1024); omega
  | ⟨1, _⟩ => show j.val = win0_7.index ⟨R.val / 1024, ht⟩ 1 * 1024 + 1 * j.val; rw [h1]; omega

end Cert.FfnOneIdeal.Val

namespace Cert.FfnOneTie
open Idealize.ShloMosaic Idealize.ShloMosaic.TcCoe Idealize.SL.Sem Cert.FfnSpec

variable (m : (ℓ : Loc Cert.FfnOneIdeal.nD Cert.FfnOneIdeal.τ Cert.FfnOneIdeal.sig) → Buf (Elt Ideal) ℓ)
  (m' : (ℓ : Loc Cert.FfnOneReferenceIdeal.nD Cert.FfnOneReferenceIdeal.τ Cert.FfnOneReferenceIdeal.sig) → Buf (Elt Ideal) ℓ) (c : Dev Cert.FfnOneIdeal.nD)

/-- First results: one array. -/
theorem tie6
    (e0 : m' ((c.tc : Thread Cert.FfnOneReferenceIdeal.nD Cert.FfnOneReferenceIdeal.τ).loc Cert.FfnOneReferenceIdeal.main_arg0) = m ((c.tc : Thread Cert.FfnOneIdeal.nD Cert.FfnOneIdeal.τ).loc Cert.FfnOneIdeal.main_arg0))
    (e1 : m' ((c.tc : Thread Cert.FfnOneReferenceIdeal.nD Cert.FfnOneReferenceIdeal.τ).loc Cert.FfnOneReferenceIdeal.main_arg1) = m ((c.tc : Thread Cert.FfnOneIdeal.nD Cert.FfnOneIdeal.τ).loc Cert.FfnOneIdeal.main_arg1))
    (e2 : m' ((c.tc : Thread Cert.FfnOneReferenceIdeal.nD Cert.FfnOneReferenceIdeal.τ).loc Cert.FfnOneReferenceIdeal.main_arg2) = m ((c.tc : Thread Cert.FfnOneIdeal.nD Cert.FfnOneIdeal.τ).loc Cert.FfnOneIdeal.main_arg2))
    (e3 : m' ((c.tc : Thread Cert.FfnOneReferenceIdeal.nD Cert.FfnOneReferenceIdeal.τ).loc Cert.FfnOneReferenceIdeal.main_arg3) = m ((c.tc : Thread Cert.FfnOneIdeal.nD Cert.FfnOneIdeal.τ).loc Cert.FfnOneIdeal.main_arg3))
    (e4 : m' ((c.tc : Thread Cert.FfnOneReferenceIdeal.nD Cert.FfnOneReferenceIdeal.τ).loc Cert.FfnOneReferenceIdeal.main_arg4) = m ((c.tc : Thread Cert.FfnOneIdeal.nD Cert.FfnOneIdeal.τ).loc Cert.FfnOneIdeal.main_arg4)) :
    @Eq (Vec Ideal Cert.FfnOneIdeal.S16384x1024 .f32) (Cert.FfnOneReferenceIdeal.Val.resH m' c)
      ((Cert.FfnOneIdeal.Gen.dats m 0 c).arrAt 6 Cert.FfnOneIdeal.cfg0.N) := by
  funext i
  obtain ⟨R, j, rfl⟩ : ∃ R j, i = ix2 R j := ⟨i 0, i 1, by funext a; fin_cases a <;> rfl⟩
  refine (Cert.FfnOneReferenceIdeal.Val.resH_apply m' c R j).trans (Eq.trans ?_ (Cert.FfnOneIdeal.Val.final6_apply m c R j).symm)
  unfold Cert.FfnOneIdeal.Val.rowFfn Cert.FfnOneReferenceIdeal.Val.rowFfn
  rw [e0, e1, e2, e3, e4]

/-- Second results: one array. -/
theorem tie7
    (e0 : m' ((c.tc : Thread Cert.FfnOneReferenceIdeal.nD Cert.FfnOneReferenceIdeal.τ).loc Cert.FfnOneReferenceIdeal.main_arg0) = m ((c.tc : Thread Cert.FfnOneIdeal.nD Cert.FfnOneIdeal.τ).loc Cert.FfnOneIdeal.main_arg0))
    (e1 : m' ((c.tc : Thread Cert.FfnOneReferenceIdeal.nD Cert.FfnOneReferenceIdeal.τ).loc Cert.FfnOneReferenceIdeal.main_arg1) = m ((c.tc : Thread Cert.FfnOneIdeal.nD Cert.FfnOneIdeal.τ).loc Cert.FfnOneIdeal.main_arg1))
    (e2 : m' ((c.tc : Thread Cert.FfnOneReferenceIdeal.nD Cert.FfnOneReferenceIdeal.τ).loc Cert.FfnOneReferenceIdeal.main_arg2) = m ((c.tc : Thread Cert.FfnOneIdeal.nD Cert.FfnOneIdeal.τ).loc Cert.FfnOneIdeal.main_arg2))
    (e3 : m' ((c.tc : Thread Cert.FfnOneReferenceIdeal.nD Cert.FfnOneReferenceIdeal.τ).loc Cert.FfnOneReferenceIdeal.main_arg3) = m ((c.tc : Thread Cert.FfnOneIdeal.nD Cert.FfnOneIdeal.τ).loc Cert.FfnOneIdeal.main_arg3))
    (e4 : m' ((c.tc : Thread Cert.FfnOneReferenceIdeal.nD Cert.FfnOneReferenceIdeal.τ).loc Cert.FfnOneReferenceIdeal.main_arg4) = m ((c.tc : Thread Cert.FfnOneIdeal.nD Cert.FfnOneIdeal.τ).loc Cert.FfnOneIdeal.main_arg4))
    (e5 : m' ((c.tc : Thread Cert.FfnOneReferenceIdeal.nD Cert.FfnOneReferenceIdeal.τ).loc Cert.FfnOneReferenceIdeal.main_arg5) = m ((c.tc : Thread Cert.FfnOneIdeal.nD Cert.FfnOneIdeal.τ).loc Cert.FfnOneIdeal.main_arg5)) :
    @Eq (Vec Ideal Cert.FfnOneIdeal.S16384x1024 .bf16) (Cert.FfnOneReferenceIdeal.Value.res_main_v41 m' c)
      ((Cert.FfnOneIdeal.Gen.dats m 0 c).arrAt 7 Cert.FfnOneIdeal.cfg0.N) := by
  funext i
  obtain ⟨R, j, rfl⟩ : ∃ R j, i = ix2 R j := ⟨i 0, i 1, by funext a; fin_cases a <;> rfl⟩
  refine (Cert.FfnOneReferenceIdeal.Val.resN_apply m' c R j).trans (Eq.trans ?_ (Cert.FfnOneIdeal.Val.final7_apply m c R j).symm)
  unfold Cert.FfnOneIdeal.Val.rowFfn Cert.FfnOneReferenceIdeal.Val.rowFfn
  rw [e0, e1, e2, e3, e4, e5]

end Cert.FfnOneTie
-- ==== Proof.MergeSpec.lean ====
module
public import proofs.«01_k».proof.Proof.FfnSpec

/-!
# The merge of the two mixers, one row

The two branches' outputs are projected, each weighed by the logistic function of its gate, added, projected and added to
the residual row.
-/

@[expose] public section
noncomputable section
namespace Cert.MergeSpec
open Idealize.ShloMosaic Cert.FfnSpec

/-- The weighed sum of the two projected branches. -/
def mid (yr : Fin 2048 → EReal) (ya gr ga : Fin 1024 → EReal) (wr : Fin 2048 → Fin 1024 → EReal) (wa : Fin 1024 → Fin 1024 → EReal) (q : Fin 1024) : EReal :=
  sig (gr q) * (∑ k, yr k * wr k q) + sig (ga q) * ∑ k, ya k * wa k q

/-- The merged row. -/
def row (h : Fin 1024 → EReal) (yr : Fin 2048 → EReal) (ya gr ga : Fin 1024 → EReal) (wr : Fin 2048 → Fin 1024 → EReal) (wa wm : Fin 1024 → Fin 1024 → EReal) (j : Fin 1024) : EReal :=
  h j + ∑ q, mid yr ya gr ga wr wa q * wm q j

end Cert.MergeSpec
-- ==== Proof.MergeRows.lean ====
module
public import proofs.«01_k».proof.Proof.MergeSpec
public import proofs.«01_k».proof.Proof.Gen.MergeIdeal.Value
public import Idealize.ShloMosaic.Lib.Pointwise
public import Idealize.ShloMosaic.Lib.StableHlo.RunClose
public import Idealize.ShloMosaic.Lib.Pipeline.Value

/-!
# The merge kernel, row by row

The body's one product of products read at a row and a column, the rows a grid point reads of the arguments, and the
array that the points' blocks make together.
-/

@[expose] public section
set_option maxRecDepth 16384
noncomputable section
namespace Cert.MergeIdeal.Val
open Idealize.ShloMosaic Idealize.ShloMosaic.TcCoe Idealize.SL.Sem
open Cert.MergeIdeal Cert.MergeIdeal.Gen Cert.FfnSpec Cert.MergeSpec

variable (m : (ℓ : Loc nD τ sig) → Buf (Elt Ideal) ℓ) (c : Dev nD)

theorem body_apply (yr : Vec Ideal S512x2048 .bf16) (wr : Vec Ideal S2048x1024 .bf16) (ya : Vec Ideal S512x1024 .bf16) (wa : Vec Ideal S1024x1024 .bf16) (gr ga : Vec Ideal S512x1024 .bf16) (wm : Vec Ideal S1024x1024 .bf16) (r : Fin 512) (j : Fin 1024) :
    @Eq EReal (k0_pay2 (F := Ideal) yr wr ya wa gr ga wm (ix2 r j))
      (∑ q, mid (fun k => yr (ix2 r k)) (fun k => ya (ix2 r k)) (fun k => gr (ix2 r k)) (fun k => ga (ix2 r k)) (fun k q => wr (ix2 k q)) (fun k q => wa (ix2 k q)) q * wm (ix2 q j)) := by
  unfold mid
  simp only [← half_tanh]
  pointwise [k0_pay2]

/-- What the body writes, at a row and a column. -/
theorem out_apply (h : Vec Ideal S512x1024 .f32) (yr : Vec Ideal S512x2048 .bf16) (ya gr ga : Vec Ideal S512x1024 .bf16) (wr : Vec Ideal S2048x1024 .bf16) (wa wm : Vec Ideal S1024x1024 .bf16) (r : Fin 512) (j : Fin 1024) :
    @Eq EReal (out0_8 (F := Ideal) h yr ya gr ga wr wa wm (ix2 r j))
      (row (fun k => h (ix2 r k)) (fun k => yr (ix2 r k)) (fun k => ya (ix2 r k)) (fun k => gr (ix2 r k)) (fun k => ga (ix2 r k)) (fun k q => wr (ix2 k q)) (fun k q => wa (ix2 k q)) (fun q k => wm (ix2 q k)) j) := by
  have hz : (![0, 0] : Fin 2 → ℕ) = fun _ => 0 := funext fun a => by fin_cases a <;> rfl
  have e : out0_8 (F := Ideal) h yr ya gr ga wr wa wm = k0_pay1 h (k0_pay2 yr wr ya wa gr ga wm) := by
    unfold out0_8
    rw [View.ld_unit_zero (S := S512x1024) hz, View.ld_unit_zero (S := S512x2048) hz, View.ld_unit_zero (S := S2048x1024) hz, View.ld_unit_zero (S := S1024x1024) hz, View.ld_unit_zero (S := S512x1024) hz, View.ld_unit_zero (S := S512x1024) hz, View.ld_unit_zero (S := S512x1024) hz, View.ld_unit_zero (S := S1024x1024) hz]
    exact View.canon_unit_zero (S := S512x1024) hz _ _
  rw [e]
  exact congrArg (fun z : EReal => (h (ix2 r j) : EReal) + z) (body_apply yr wr ya wa gr ga wm r j)

theorem grid_lt (t : Fin cfg0.N) : t.val < 32 := lt_of_lt_of_eq t.isLt (by decide)

/-- The row of all rows that is row `r` of point `t`'s block. -/
abbrev rowOf (t : Fin cfg0.N) (r : Fin 512) : Fin 16384 := ⟨512 * t.val + r.val, by have := grid_lt t; omega⟩
/-- A gate's column: the first half for one branch. -/
abbrev lo (k : Fin 1024) : Fin 2048 := ⟨k.val, by omega⟩
/-- A gate's column: the second half for the other. -/
abbrev hi (k : Fin 1024) : Fin 2048 := ⟨1024 + k.val, by omega⟩

theorem index_all : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 1) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = t.val ∧ win0_8.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 1) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = t.val ∧ win0_8.index t 1 = 0))

theorem iblk0 (t : Fin cfg0.N) (r : Fin 512) (j : Fin 1024) : @Eq EReal ((iblk m c 0 t : Vec Ideal S512x1024 .f32) (ix2 r j)) ((m ((c : Thread nD τ).loc main_arg0) : Vec Ideal S16384x1024 .f32) (ix2 (rowOf t r) j)) := by
  obtain ⟨⟨h0, h1⟩, -, -, -, -, -, -, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 512 + 1 * r.val = 512 * t.val + r.val; rw [h0]; omega
  | ⟨1, _⟩ => show win0_0.index t 1 * 1024 + 1 * j.val = j.val; rw [h1]; omega

theorem iblk1 (t : Fin cfg0.N) (r : Fin 512) (j : Fin 2048) : @Eq EReal ((iblk m c 1 t : Vec Ideal S512x2048 .bf16) (ix2 r j)) ((m ((c : Thread nD τ).loc main_arg1) : Vec Ideal S16384x2048 .bf16) (ix2 (rowOf t r) j)) := by
  obtain ⟨-, ⟨h0, h1⟩, -, -, -, -, -, -, -⟩ := index_all t
  refine Eq.trans ?_ (congrFun (V_main_arg1 m c) _)
  unfold iblk
  rw [View.read_apply]
  show V m c main_arg1 _ = _
  refine congrArg _ (funext fun a => Fin.ext ?_)
  match a with
  | ⟨0, _⟩ => show win0_1.index t 0 * 512 + 1 * r.val = 512 * t.val + r.val; rw [h0]; omega
  | ⟨1, _⟩ => show win0_1.index t 1 * 2048 + 1 * j.val = j.val; rw [h1]; omega

theorem iblk2 (t : Fin cfg0.N) (r : Fin 512) (j : Fin 1024) : @Eq EReal ((iblk m c 2 t : Vec Ideal S512x1024 .bf16) (ix2 r j)) ((m ((c : Thread nD τ).loc main_arg2) : Vec Ideal S16384x1024 .bf16) (ix2 (rowOf t r) j)) := by
  obtain ⟨-, -, ⟨h0, h1⟩, -, -, -, -, -, -⟩ := index_all t
  refine Eq.trans ?_ (congrFun (V_main_arg2 m c) _)
  unfold iblk
  rw [View.read_apply]
  show V m c main_arg2 _ = _
  refine congrArg _ (funext fun a => Fin.ext ?_)
  match a with
  | ⟨0, _⟩ => show win0_2.index t 0 * 512 + 1 * r.val = 512 * t.val + r.val; rw [h0]; omega
  | ⟨1, _⟩ => show win0_2.index t 1 * 1024 + 1 * j.val = j.val; rw [h1]; omega

theorem iblk3 (t : Fin cfg0.N) (r : Fin 512) (j : Fin 1024) : @Eq EReal ((iblk m c 3 t : Vec Ideal S512x1024 .bf16) (ix2 r j)) ((m ((c : Thread nD τ).loc main_arg3) : Vec Ideal S16384x2048 .bf16) (ix2 (rowOf t r) (lo j))) := by
  obtain ⟨-, -, -, ⟨h0, h1⟩, -, -, -, -, -⟩ := index_all t
  refine Eq.trans ?_ (congrFun (V_main_arg3 m c) _)
  unfold iblk
  rw [View.read_apply]
  show V m c main_arg3 _ = _
  refine congrArg _ (funext fun a => Fin.ext ?_)
  match a with
  | ⟨0, _⟩ => show win0_3.index t 0 * 512 + 1 * r.val = 512 * t.val + r.val; rw [h0]; omega
  | ⟨1, _⟩ => show win0_3.index t 1 * 1024 + 1 * j.val = j.val; rw [h1]; omega

theorem iblk4 (t : Fin cfg0.N) (r : Fin 512) (j : Fin 1024) : @Eq EReal ((iblk m c 4 t : Vec Ideal S512x1024 .bf16) (ix2 r j)) ((m ((c : Thread nD τ).loc main_arg3) : Vec Ideal S16384x2048 .bf16) (ix2 (rowOf t r) (hi j))) := by
  obtain ⟨-, -, -, -, ⟨h0, h1⟩, -, -, -, -⟩ := index_all t
  refine Eq.trans ?_ (congrFun (V_main_arg3 m c) _)
  unfold iblk
  rw [View.read_apply]
  show V m c main_arg3 _ = _
  refine congrArg _ (funext fun a => Fin.ext ?_)
  match a with
  | ⟨0, _⟩ => show win0_4.index t 0 * 512 + 1 * r.val = 512 * t.val + r.val; rw [h0]; omega
  | ⟨1, _⟩ => show win0_4.index t 1 * 1024 + 1 * j.val = 1024 + j.val; rw [h1]; omega

theorem cast_2048 (w : Vec Ideal S1x2048x1024 .f32) (i : Fin 2048) (j : Fin 1024) :
    @Eq EReal (truncf (F := Ideal) .bf16 (shapeCast S2048x1024 w shapeCasts_S1x2048x1024_S2048x1024) bitsLt_bf16_f32 (ix2 i j)) (w (ix3 0 i j)) := by
  pointwise

theorem cast_1024 (w : Vec Ideal S1x1024x1024 .f32) (i : Fin 1024) (j : Fin 1024) :
    @Eq EReal (truncf (F := Ideal) .bf16 (shapeCast S1024x1024 w shapeCasts_S1x1024x1024_S1024x1024) bitsLt_bf16_f32 (ix2 i j)) (w (ix3 0 i j)) := by
  pointwise

theorem iblk5 (t : Fin cfg0.N) (i : Fin 2048) (j : Fin 1024) : @Eq EReal ((iblk m c 5 t : Vec Ideal S2048x1024 .bf16) (ix2 i j)) ((m ((c : Thread nD τ).loc main_arg4) : Vec Ideal S1x2048x1024 .f32) (ix3 0 i j)) := by
  have e : @Eq (Vec Ideal S2048x1024 .bf16) (V m c main_v1) (truncf (F := Ideal) .bf16 (shapeCast S2048x1024 (m ((c : Thread nD τ).loc main_arg4) : Vec Ideal S1x2048x1024 .f32) shapeCasts_S1x2048x1024_S2048x1024) bitsLt_bf16_f32) := by
    unfold V hostOps0
    after_results_entrywise []
  obtain ⟨-, -, -, -, -, ⟨h0, h1⟩, -, -, -⟩ := index_all t
  refine Eq.trans ?_ ((congrFun e (ix2 i j)).trans (cast_2048 _ i j))
  unfold iblk
  rw [View.read_apply]
  show V m c main_v1 _ = _
  refine congrArg _ (funext fun a => Fin.ext ?_)
  match a with
  | ⟨0, _⟩ => show win0_5.index t 0 * 2048 + 1 * i.val = i.val; rw [h0]; omega
  | ⟨1, _⟩ => show win0_5.index t 1 * 1024 + 1 * j.val = j.val; rw [h1]; omega

theorem iblk6 (t : Fin cfg0.N) (i : Fin 1024) (j : Fin 1024) : @Eq EReal ((iblk m c 6 t : Vec Ideal S1024x1024 .bf16) (ix2 i j)) ((m ((c : Thread nD τ).loc main_arg5) : Vec Ideal S1x1024x1024 .f32) (ix3 0 i j)) := by
  have e : @Eq (Vec Ideal S1024x1024 .bf16) (V m c main_v3) (truncf (F := Ideal) .bf16 (shapeCast S1024x1024 (m ((c : Thread nD τ).loc main_arg5) : Vec Ideal S1x1024x1024 .f32) shapeCasts_S1x1024x1024_S1024x1024) bitsLt_bf16_f32) := by
    unfold V hostOps0
    after_results_entrywise []
  obtain ⟨-, -, -, -, -, -, ⟨h0, h1⟩, -, -⟩ := index_all t
  refine Eq.trans ?_ ((congrFun e (ix2 i j)).trans (cast_1024 _ i j))
  unfold iblk
  rw [View.read_apply]
  show V m c main_v3 _ = _
  refine congrArg _ (funext fun a => Fin.ext ?_)
  match a with
  | ⟨0, _⟩ => show win0_6.index t 0 * 1024 + 1 * i.val = i.val; rw [h0]; omega
  | ⟨1, _⟩ => show win0_6.index t 1 * 1024 + 1 * j.val = j.val; rw [h1]; omega

theorem iblk7 (t : Fin cfg0.N) (i : Fin 1024) (j : Fin 1024) : @Eq EReal ((iblk m c 7 t : Vec Ideal S1024x1024 .bf16) (ix2 i j)) ((m ((c : Thread nD τ).loc main_arg6) : Vec Ideal S1x1024x1024 .f32) (ix3 0 i j)) := by
  have e : @Eq (Vec Ideal S1024x1024 .bf16) (V m c main_v5) (truncf (F := Ideal) .bf16 (shapeCast S1024x1024 (m ((c : Thread nD τ).loc main_arg6) : Vec Ideal S1x1024x1024 .f32) shapeCasts_S1x1024x1024_S1024x1024) bitsLt_bf16_f32) := by
    unfold V hostOps0
    after_results_entrywise []
  obtain ⟨-, -, -, -, -, -, -, ⟨h0, h1⟩, -⟩ := index_all t
  refine Eq.trans ?_ ((congrFun e (ix2 i j)).trans (cast_1024 _ i j))
  unfold iblk
  rw [View.read_apply]
  show V m c main_v5 _ = _
  refine congrArg _ (funext fun a => Fin.ext ?_)
  match a with
  | ⟨0, _⟩ => show win0_7.index t 0 * 1024 + 1 * i.val = i.val; rw [h0]; omega
  | ⟨1, _⟩ => show win0_7.index t 1 * 1024 + 1 * j.val = j.val; rw [h1]; omega

/-- A merged row, from the arguments. -/
def rowMerge (R : Fin 16384) : Fin 1024 → EReal :=
  row (fun k => (m ((c : Thread nD τ).loc main_arg0) : Vec Ideal S16384x1024 .f32) (ix2 R k))
    (fun k => (m ((c : Thread nD τ).loc main_arg1) : Vec Ideal S16384x2048 .bf16) (ix2 R k))
    (fun k => (m ((c : Thread nD τ).loc main_arg2) : Vec Ideal S16384x1024 .bf16) (ix2 R k))
    (fun k => (m ((c : Thread nD τ).loc main_arg3) : Vec Ideal S16384x2048 .bf16) (ix2 R (lo k)))
    (fun k => (m ((c : Thread nD τ).loc main_arg3) : Vec Ideal S16384x2048 .bf16) (ix2 R (hi k)))
    (fun k q => (m ((c : Thread nD τ).loc main_arg4) : Vec Ideal S1x2048x1024 .f32) (ix3 0 k q))
    (fun k q => (m ((c : Thread nD τ).loc main_arg5) : Vec Ideal S1x1024x1024 .f32) (ix3 0 k q))
    (fun q k => (m ((c : Thread nD τ).loc main_arg6) : Vec Ideal S1x1024x1024 .f32) (ix3 0 q k))

theorem flush8 : ∀ t : Fin cfg0.N, (cfg0.win 8).flush t = true :=
  (by decide +kernel : ∀ t : Fin grid0.N, win0_8.flush t = true)

/-- What a point writes back, at a row and a column. -/
theorem flushed_apply (t : Fin cfg0.N) (r : Fin 512) (j : Fin 1024) :
    @Eq EReal (((dats m 0 c).flushed 8 t : Vec Ideal S512x1024 .f32) (ix2 r j)) (rowMerge m c (rowOf t r) j) := by
  rw [Cert.MergeIdeal.Value.flushed8]
  refine Eq.trans (show _ = (out0_8 (F := Ideal) (iblk m c 0 t) (iblk m c 1 t) (iblk m c 2 t) (iblk m c 3 t) (iblk m c 4 t) (iblk m c 5 t) (iblk m c 6 t) (iblk m c 7 t) : Vec Ideal S512x1024 .f32) (ix2 r j) from rfl) ?_
  refine (out_apply _ _ _ _ _ _ _ _ r j).trans ?_
  unfold rowMerge
  rw [funext fun k => iblk0 m c t r k, funext fun k => iblk1 m c t r k, funext fun k => iblk2 m c t r k, funext fun k => iblk3 m c t r k, funext fun k => iblk4 m c t r k,
    funext fun k => funext fun q => iblk5 m c t k q, funext fun k => funext fun q => iblk6 m c t k q, funext fun q => funext fun k => iblk7 m c t q k]

/-- The array the kernel leaves, at a row and a column. -/
theorem final_apply (R : Fin 16384) (j : Fin 1024) :
    @Eq EReal (((dats m 0 c).arrAt 8 cfg0.N : Vec Ideal S16384x1024 .f32) (ix2 R j)) (rowMerge m c R j) := by
  have ht : R.val / 512 < cfg0.N := lt_of_lt_of_eq (show R.val / 512 < 32 by omega) (by decide)
  have hb := congrFun (Cert.MergeIdeal.Value.blocks8 m c ⟨R.val / 512, ht⟩ (flush8 _)) (ix2 (⟨R.val % 512, by omega⟩ : Fin 512) j)
  have hR : rowOf ⟨R.val / 512, ht⟩ (⟨R.val % 512, by omega⟩ : Fin 512) = R := Fin.ext (show 512 * (R.val / 512) + R.val % 512 = R.val by omega)
  have key := flushed_apply m c ⟨R.val / 512, ht⟩ (⟨R.val % 512, by omega⟩ : Fin 512) j
  rw [hR] at key
  refine Eq.trans ?_ (hb.trans key)
  obtain ⟨-, -, -, -, -, -, -, -, ⟨h0, h1⟩⟩ := index_all ⟨R.val / 512, ht⟩
  rw [View.read_apply]
  show (dats m 0 c).arrAt 8 cfg0.N _ = (dats m 0 c).arrAt 8 cfg0.N _
  refine congrArg _ (funext fun a => Fin.ext ?_)
  match a with
  | ⟨0, _⟩ => show R.val = win0_8.index ⟨R.val / 512, ht⟩ 0 * 512 + 1 * (R.val % 512); rw [h0]; show R.val = R.val / 512 * 512 + 1 * (R.val % 512); omega
  | ⟨1, _⟩ => show j.val = win0_8.index ⟨R.val / 512, ht⟩ 1 * 1024 + 1 * j.val; rw [h1]; omega

end Cert.MergeIdeal.Val
-- ==== Proof.MergeTie.lean ====
module
public import proofs.«01_k».proof.Proof.MergeRows
public import proofs.«01_k».proof.Proof.Gen.MergeReferenceIdeal.Run

/-!
# The merge call is the plain statement's

The reference's operations read at a row and a column are the same merged row that the kernel's array holds there.
-/

@[expose] public section
set_option maxRecDepth 16384
noncomputable section
namespace Cert.MergeReferenceIdeal.Val
open Idealize.ShloMosaic Idealize.ShloMosaic.TcCoe Idealize.SL.Sem
open Cert.MergeReferenceIdeal Cert.MergeReferenceIdeal.Gen Cert.FfnSpec Cert.MergeSpec
open Cert.MergeIdeal.Val (lo hi)

/-- The logistic function of every entry. -/
def sigm (X : Vec Ideal S16384x1024 .f32) : Vec Ideal S16384x1024 .f32 :=
  Host.divf (F := Ideal) (φ := .f32) (broadcastInDim S16384x1024 ![] bcast_S_S16384x1024 (constant S_ .f32 0x3F800000#32)) (addf (F := Ideal) (φ := .f32) (broadcastInDim S16384x1024 ![] bcast_S_S16384x1024 (constant S_ .f32 0x3F800000#32)) (Host.exp (F := Ideal) (φ := .f32) (Host.negf (F := Ideal) (φ := .f32) X)))

/-- One branch's projection. -/
def projR (y : Vec Ideal S16384x2048 .bf16) (w : Vec Ideal S1x2048x1024 .f32) : Vec Ideal S16384x1024 .f32 :=
  Host.dotGeneral (F := Ideal) (φ₁ := .f32) (φ₂ := .f32) dot_S16384x2048_S2048x1024_S16384x1024_1_0_0_1_n_n none (extf (F := Ideal) (φ := .bf16) .f32 y bitsLt_bf16_f32) (shapeCast S2048x1024 w shapeCasts_S1x2048x1024_S2048x1024)
/-- The other's. -/
def projA (y : Vec Ideal S16384x1024 .bf16) (w : Vec Ideal S1x1024x1024 .f32) : Vec Ideal S16384x1024 .f32 :=
  Host.dotGeneral (F := Ideal) (φ₁ := .f32) (φ₂ := .f32) dot_S16384x1024_S1024x1024_S16384x1024_1_0_0_1_n_n none (extf (F := Ideal) (φ := .bf16) .f32 y bitsLt_bf16_f32) (shapeCast S1024x1024 w shapeCasts_S1x1024x1024_S1024x1024)
/-- The first gates. -/
def gateR (g : Vec Ideal S16384x2048 .bf16) : Vec Ideal S16384x1024 .f32 := extractStridedSlice S16384x1024 ![0, 0] (extf (F := Ideal) (φ := .bf16) .f32 g bitsLt_bf16_f32) slices_S16384x2048_S16384x1024_0_0
/-- The second gates. -/
def gateA (g : Vec Ideal S16384x2048 .bf16) : Vec Ideal S16384x1024 .f32 := extractStridedSlice S16384x1024 ![0, 1024] (extf (F := Ideal) (φ := .bf16) .f32 g bitsLt_bf16_f32) slices_S16384x2048_S16384x1024_0_1024
/-- The residual rows and the projected sum. -/
def last (h M : Vec Ideal S16384x1024 .f32) (w : Vec Ideal S1x1024x1024 .f32) : Vec Ideal S16384x1024 .f32 :=
  addf (F := Ideal) (φ := .f32) h (Host.dotGeneral (F := Ideal) (φ₁ := .f32) (φ₂ := .f32) dot_S16384x1024_S1024x1024_S16384x1024_1_0_0_1_n_n none M (shapeCast S1024x1024 w shapeCasts_S1x1024x1024_S1024x1024))
/-- The merge of every row. -/
def merged (h : Vec Ideal S16384x1024 .f32) (yr : Vec Ideal S16384x2048 .bf16) (ya : Vec Ideal S16384x1024 .bf16) (g : Vec Ideal S16384x2048 .bf16) (wr : Vec Ideal S1x2048x1024 .f32) (wa wm : Vec Ideal S1x1024x1024 .f32) : Vec Ideal S16384x1024 .f32 :=
  last h (addf (F := Ideal) (φ := .f32) (mulf (F := Ideal) (φ := .f32) (sigm (gateR g)) (projR yr wr)) (mulf (F := Ideal) (φ := .f32) (sigm (gateA g)) (projA ya wa))) wm

theorem sigm_apply (X : Vec Ideal S16384x1024 .f32) (R : Fin 16384) (j : Fin 1024) : @Eq EReal (sigm X (ix2 R j)) (FfnSpec.sig (X (ix2 R j))) := by
  unfold FfnSpec.sig
  pointwise [sigm]
theorem projR_apply (y : Vec Ideal S16384x2048 .bf16) (w : Vec Ideal S1x2048x1024 .f32) (R : Fin 16384) (j : Fin 1024) : @Eq EReal (projR y w (ix2 R j)) (∑ k, y (ix2 R k) * w (ix3 0 k j)) := by
  pointwise [projR]
theorem projA_apply (y : Vec Ideal S16384x1024 .bf16) (w : Vec Ideal S1x1024x1024 .f32) (R : Fin 16384) (j : Fin 1024) : @Eq EReal (projA y w (ix2 R j)) (∑ k, y (ix2 R k) * w (ix3 0 k j)) := by
  pointwise [projA]
theorem gateR_apply (g : Vec Ideal S16384x2048 .bf16) (R : Fin 16384) (j : Fin 1024) : @Eq EReal (gateR g (ix2 R j)) (g (ix2 R (lo j))) := by
  pointwise [gateR]
theorem gateA_apply (g : Vec Ideal S16384x2048 .bf16) (R : Fin 16384) (j : Fin 1024) : @Eq EReal (gateA g (ix2 R j)) (g (ix2 R (hi j))) := by
  pointwise [gateA]
theorem last_apply (h M : Vec Ideal S16384x1024 .f32) (w : Vec Ideal S1x1024x1024 .f32) (R : Fin 16384) (j : Fin 1024) : @Eq EReal (last h M w (ix2 R j)) (h (ix2 R j) + ∑ q, M (ix2 R q) * w (ix3 0 q j)) := by
  pointwise [last]

/-- The reference's array at a row and a column. -/
theorem merged_apply (h : Vec Ideal S16384x1024 .f32) (yr : Vec Ideal S16384x2048 .bf16) (ya : Vec Ideal S16384x1024 .bf16) (g : Vec Ideal S16384x2048 .bf16) (wr : Vec Ideal S1x2048x1024 .f32) (wa wm : Vec Ideal S1x1024x1024 .f32) (R : Fin 16384) (j : Fin 1024) :
    @Eq EReal (merged h yr ya g wr wa wm (ix2 R j))
      (row (fun k => h (ix2 R k)) (fun k => yr (ix2 R k)) (fun k => ya (ix2 R k)) (fun k => g (ix2 R (lo k))) (fun k => g (ix2 R (hi k))) (fun k q => wr (ix3 0 k q)) (fun k q => wa (ix3 0 k q)) (fun q k => wm (ix3 0 q k)) j) := by
  unfold merged row mid
  refine (last_apply _ _ _ R j).trans (congrArg (fun z : EReal => (h (ix2 R j) : EReal) + z) (Finset.sum_congr rfl fun q _ => congrArg (· * (wm (ix3 0 q j) : EReal)) ?_))
  show @Eq EReal ((sigm (gateR g) (ix2 R q) : EReal) * (projR yr wr (ix2 R q) : EReal) + (sigm (gateA g) (ix2 R q) : EReal) * (projA ya wa (ix2 R q) : EReal)) _
  rw [sigm_apply, sigm_apply, gateR_apply, gateA_apply, projR_apply, projA_apply]

end Cert.MergeReferenceIdeal.Val

namespace Cert.MergeTie
open Idealize.ShloMosaic Idealize.ShloMosaic.TcCoe Idealize.SL.Sem

variable (m : (ℓ : Loc Cert.MergeIdeal.nD Cert.MergeIdeal.τ Cert.MergeIdeal.sig) → Buf (Elt Ideal) ℓ)
  (m' : (ℓ : Loc Cert.MergeReferenceIdeal.nD Cert.MergeReferenceIdeal.τ Cert.MergeReferenceIdeal.sig) → Buf (Elt Ideal) ℓ) (c : Dev Cert.MergeIdeal.nD)

/-- The two results are one array. -/
theorem tie
    (e0 : m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0))
    (e1 : m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1))
    (e2 : m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2))
    (e3 : m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3))
    (e4 : m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4))
    (e5 : m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5))
    (e6 : m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) :
    @Eq (Vec Ideal Cert.MergeIdeal.S16384x1024 .f32)
      (Cert.MergeReferenceIdeal.Val.merged (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)))
      ((Cert.MergeIdeal.Gen.dats m 0 c).arrAt 8 Cert.MergeIdeal.cfg0.N) := by
  funext i
  obtain ⟨R, j, rfl⟩ : ∃ R j, i = ix2 R j := ⟨i 0, i 1, by funext a; fin_cases a <;> rfl⟩
  refine (Cert.MergeReferenceIdeal.Val.merged_apply _ _ _ _ _ _ _ R j).trans (Eq.trans ?_ (Cert.MergeIdeal.Val.final_apply m c R j).symm)
  unfold Cert.MergeIdeal.Val.rowMerge
  rw [e0, e1, e2, e3, e4, e5, e6]

end Cert.MergeTie
-- ==== Proof.ProjSpec.lean ====
module
public import proofs.«01_k».proof.Proof.FfnSpec

/-!
# The input projection, one entry

One entry of the normalised rows' product with the one input weight: a row against a column.
-/

@[expose] public section
noncomputable section
namespace Cert.ProjSpec
open Idealize.ShloMosaic Cert.FfnSpec

/-- A row times a column. -/
def dot (x w : Fin 1024 → EReal) : EReal := ∑ k, x k * w k

/-- The entry times its logistic function. -/
def swish (y : EReal) : EReal := y * FfnSpec.sig y

end Cert.ProjSpec
-- ==== Proof.RvRows.lean ====
module
public import proofs.«01_k».proof.Proof.ProjSpec
public import proofs.«01_k».proof.Proof.Gen.RvIdeal.Value
public import Idealize.ShloMosaic.Lib.Pointwise
public import Idealize.ShloMosaic.Lib.StableHlo.RunClose
public import Idealize.ShloMosaic.Lib.Pipeline.Value

/-!
# The projection of the retention's values, row by row

The kernel turns a block of 1024 columns of the weight once, keeps it over the eight blocks of rows that follow, and
multiplies each of them by it. By induction over the points, the kept block is the one of the point's columns.
-/

@[expose] public section
set_option maxRecDepth 16384
noncomputable section
namespace Cert.RvIdeal.Val
open Idealize.ShloMosaic Idealize.ShloMosaic.TcCoe Idealize.SL.Sem
open Cert.RvIdeal Cert.RvIdeal.Gen Cert.FfnSpec Cert.ProjSpec

section pieces
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem ld_x {Val : EltTy → Type} {e : EltTy} (w : S2048x1024.Idx → Val e) (inb : ∀ a, (![0, 0] : Fin 2 → ℕ) a + (![2048, 1024] : Fin 2 → ℕ) a ≤ S2048x1024.size a) :
    View.ld w (Rect.unit (s := S2048x1024) ![0, 0] ![2048, 1024] inb) = w :=
  View.ld_unit_zero (S := S2048x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem canon_o {Val : EltTy → Type} {e : EltTy} [∀ e, Nonempty (Val e)] (inb : ∀ a, (![0, 0] : Fin 2 → ℕ) a + (![2048, 1024] : Fin 2 → ℕ) a ≤ S2048x1024.size a)
    (w : S2048x1024.Idx → Val e) (L : List (View.Piece Val S2048x1024 e)) :
    View.canon ((⟨Rect.unit (s := S2048x1024) ![0, 0] ![2048, 1024] inb, w⟩ : View.Piece Val S2048x1024 e) :: L) = w :=
  View.canon_cons_unit_zero (S := S2048x1024) (by funext d; match d with | ⟨0, _⟩ => rfl | ⟨1, _⟩ => rfl) inb w L

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : ¬cond0_0 i)
    (x0 : Vec F S2048x1024 .bf16) (x1 : Vec F S1024x1024 .f32) (xs0 : Vec F S1024x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, ↓canon_w, ↓canon_o, ld_w, ld_x]
end pieces

theorem turn_apply (v : Vec Ideal S1024x1024 .f32) (k j : Fin 1024) : @Eq EReal (k0_pay1 (F := Ideal) v (ix2 k j)) (v (ix2 j k)) := by
  pointwise [k0_pay1]

theorem body_apply (x : Vec Ideal S2048x1024 .bf16) (w : Vec Ideal S1024x1024 .bf16) (r : Fin 2048) (j : Fin 1024) :
    @Eq EReal (k0_pay2 (F := Ideal) x w (ix2 r j)) (dot (fun k => x (ix2 r k)) (fun k => w (ix2 k j))) := by
  unfold dot
  pointwise [k0_pay2]

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 2048) : Fin 11848 := ⟨2048 + j.val, by omega⟩
/-- The result's column that is column `j` of point `t`'s block. -/
abbrev colOf (t : Fin cfg0.N) (j : Fin 1024) : Fin 2048 := ⟨1024 * (t.val / 8) + j.val, by have := grid_lt t; omega⟩

theorem index_all : ∀ t : Fin cfg0.N, (win0_0.index t 0 = t.val % 8 ∧ win0_0.index t 1 = 0) ∧ (win0_1.index t 0 = 2 + t.val / 8 ∧ win0_1.index t 1 = 0) ∧ (win0_2.index t 0 = t.val % 8 ∧ win0_2.index t 1 = t.val / 8) :=
  (by decide +kernel : ∀ t : Fin grid0.N, (win0_0.index t 0 = t.val % 8 ∧ win0_0.index t 1 = 0) ∧ (win0_1.index t 0 = 2 + t.val / 8 ∧ win0_1.index t 1 = 0) ∧ (win0_2.index t 0 = t.val % 8 ∧ win0_2.index t 1 = t.val / 8))

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨h0, h1⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The weight as the host hands it over: turned. -/
theorem host_apply (w : Vec Ideal S1x1024x11848 .f32) (j : Fin 11848) (k : Fin 1024) :
    @Eq EReal (transpose S11848x1024 [1, 0] (shapeCast S1024x11848 w shapeCasts_S1x1024x11848_S1024x11848) transposes_S1024x11848_S11848x1024_1_0 (ix2 j k)) (w (ix3 0 k j)) := by
  pointwise

theorem wblk (t : Fin cfg0.N) (j k : Fin 1024) : @Eq EReal ((X0_1 m c t : Vec Ideal S1024x1024 .f32) (ix2 j k)) ((m ((c : Thread nD τ).loc main_arg1) : Vec Ideal S1x1024x11848 .f32) (ix3 0 k (wcol (colOf t j)))) := by
  have e : @Eq (Vec Ideal S11848x1024 .f32) (V m c main_v1) (transpose S11848x1024 [1, 0] (shapeCast S1024x11848 (m ((c : Thread nD τ).loc main_arg1) : Vec Ideal S1x1024x11848 .f32) shapeCasts_S1x1024x11848_S1024x11848) transposes_S1024x11848_S11848x1024_1_0) := by
    unfold V hostOps0
    after_results_entrywise []
  obtain ⟨-, ⟨h0, h1⟩, -⟩ := index_all t
  have hj : (⟨1024 * (2 + t.val / 8) + j.val, by have := grid_lt t; omega⟩ : Fin 11848) = wcol (colOf t j) := Fin.ext (by show 1024 * (2 + t.val / 8) + j.val = 2048 + (1024 * (t.val / 8) + j.val); omega)
  refine Eq.trans ?_ (((congrFun e (ix2 (⟨1024 * (2 + t.val / 8) + j.val, by have := grid_lt t; omega⟩ : Fin 11848) k)).trans (host_apply _ _ k)).trans (congrArg (fun q => (m ((c : Thread nD τ).loc main_arg1) : Vec Ideal S1x1024x11848 .f32) (ix3 0 k q)) hj))
  unfold X0_1 Pipeline.Window.fill
  rw [dif_pos (moved0_1 t _)]
  unfold iblk
  rw [View.read_apply]
  show V m c main_v1 _ = _
  refine congrArg _ (funext fun a => Fin.ext ?_)
  match a with
  | ⟨0, _⟩ => show win0_1.index t 0 * 1024 + 1 * j.val = 1024 * (2 + t.val / 8) + j.val; rw [h0]; omega
  | ⟨1, _⟩ => show win0_1.index t 1 * 1024 + 1 * k.val = k.val; rw [h1]; omega

/-- One entry of the result, from the arguments. -/
def entry (R : Fin 16384) (j : Fin 2048) : EReal :=
  dot (fun k => (m ((c : Thread nD τ).loc main_arg0) : Vec Ideal S16384x1024 .bf16) (ix2 R k)) (fun k => (m ((c : Thread nD τ).loc main_arg1) : Vec Ideal S1x1024x11848 .f32) (ix3 0 k (wcol j)))

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- What every point writes. -/
theorem written (t : Fin cfg0.N) (r : Fin 2048) (j : Fin 1024) :
    @Eq EReal ((outsAt0 m c t.val t.isLt).1 (ix2 r j)) (entry m c (rowOf t r) (colOf t j)) := by
  unfold entry
  by_cases h0 : t.val % 8 = 0
  · have e := congrArg Prod.fst (outsAt0_A m c t h0)
    rw [out_A_eq] at e
    refine (congrFun e (ix2 r j)).trans ((body_apply _ _ r j).trans ?_)
    rw [funext fun k => iblk0 m c t r k, funext fun k => (turn_apply (X0_1 m c t) k j).trans (wblk m c t j k)]
  · have e := congrArg Prod.fst (outsAt0_B m c t h0)
    rw [out_B_eq] at e
    refine (congrFun e (ix2 r j)).trans ((body_apply _ _ r j).trans ?_)
    have hl : t.val - 1 < cfg0.N := Nat.lt_of_le_of_lt (Nat.sub_le _ _) t.isLt
    have hc : colOf ⟨t.val - 1, hl⟩ j = colOf t j := Fin.ext (show 1024 * ((t.val - 1) / 8) + j.val = 1024 * (t.val / 8) + j.val by omega)
    rw [funext fun k => iblk0 m c t r k, funext fun k => kept m c (t.val - 1) hl k j, hc]

theorem flush2 : ∀ t : Fin cfg0.N, (cfg0.win 2).flush t = true :=
  (by decide +kernel : ∀ t : Fin grid0.N, win0_2.flush t = true)

/-- The array the kernel leaves, at a row and a column. -/
theorem final_apply (R : Fin 16384) (j : Fin 2048) :
    @Eq EReal (((dats m 0 c).arrAt 2 cfg0.N : Vec Ideal S16384x2048 .bf16) (ix2 R j)) (entry m c R j) := by
  have ht : 8 * (j.val / 1024) + R.val / 2048 < cfg0.N := lt_of_lt_of_eq (show 8 * (j.val / 1024) + R.val / 2048 < 16 by omega) (by decide)
  have hb := congrFun (Cert.RvIdeal.Value.blocks2 m c ⟨8 * (j.val / 1024) + R.val / 2048, ht⟩ (flush2 _)) (ix2 (⟨R.val % 2048, by omega⟩ : Fin 2048) (⟨j.val % 1024, by omega⟩ : Fin 1024))
  have hR : rowOf ⟨8 * (j.val / 1024) + R.val / 2048, ht⟩ (⟨R.val % 2048, by omega⟩ : Fin 2048) = R := Fin.ext (show 2048 * ((8 * (j.val / 1024) + R.val / 2048) % 8) + R.val % 2048 = R.val by omega)
  have hj : colOf ⟨8 * (j.val / 1024) + R.val / 2048, ht⟩ (⟨j.val % 1024, by omega⟩ : Fin 1024) = j := Fin.ext (show 1024 * ((8 * (j.val / 1024) + R.val / 2048) / 8) + j.val % 1024 = j.val by omega)
  have key := written m c ⟨8 * (j.val / 1024) + R.val / 2048, ht⟩ (⟨R.val % 2048, by omega⟩ : Fin 2048) (⟨j.val % 1024, by omega⟩ : Fin 1024)
  rw [hR, hj] at key
  rw [Cert.RvIdeal.Value.flushed2] at hb
  refine Eq.trans ?_ (hb.trans key)
  obtain ⟨-, -, ⟨h0, h1⟩⟩ := index_all ⟨8 * (j.val / 1024) + R.val / 2048, ht⟩
  rw [View.read_apply]
  show (dats m 0 c).arrAt 2 cfg0.N _ = (dats m 0 c).arrAt 2 cfg0.N _
  refine congrArg _ (funext fun a => Fin.ext ?_)
  match a with
  | ⟨0, _⟩ => show R.val = win0_2.index ⟨8 * (j.val / 1024) + R.val / 2048, ht⟩ 0 * 2048 + 1 * (R.val % 2048); rw [h0]; show R.val = (8 * (j.val / 1024) + R.val / 2048) % 8 * 2048 + 1 * (R.val % 2048); omega
  | ⟨1, _⟩ => show j.val = win0_2.index ⟨8 * (j.val / 1024) + R.val / 2048, ht⟩ 1 * 1024 + 1 * (j.val % 1024); rw [h1]; show j.val = (8 * (j.val / 1024) + R.val / 2048) / 8 * 1024 + 1 * (j.val % 1024); omega

end Cert.RvIdeal.Val
-- ==== Proof.RvTie.lean ====
module
public import proofs.«01_k».proof.Proof.RvRows
public import proofs.«01_k».proof.Proof.Gen.RvReferenceIdeal.Run

/-!
# The projection of the retention's values is the plain statement's

The reference multiplies the rows by the whole weight and takes the columns.
-/

@[expose] public section
set_option maxRecDepth 16384
noncomputable section
namespace Cert.RvReferenceIdeal.Val
open Idealize.ShloMosaic Idealize.ShloMosaic.TcCoe Idealize.SL.Sem
open Cert.RvReferenceIdeal Cert.RvReferenceIdeal.Gen Cert.FfnSpec Cert.ProjSpec
open Cert.RvIdeal.Val (wcol)

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)
/-- Its columns. -/
def cols (x : Vec Ideal S16384x1024 .bf16) (w : Vec Ideal S1x1024x11848 .f32) : Vec Ideal S16384x2048 .f32 :=
  extractStridedSlice S16384x2048 ![0, 2048] (whole x w) slices_S16384x11848_S16384x2048_0_2048

/-- The result. -/
def result (x : Vec Ideal S16384x1024 .bf16) (w : Vec Ideal S1x1024x11848 .f32) : Vec Ideal S16384x2048 .bf16 :=
  truncf (F := Ideal) .bf16 (cols x w) bitsLt_bf16_f32

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]
theorem cols_apply (x : Vec Ideal S16384x1024 .bf16) (w : Vec Ideal S1x1024x11848 .f32) (R : Fin 16384) (j : Fin 2048) :
    @Eq EReal (cols x w (ix2 R j)) (dot (fun k => x (ix2 R k)) (fun k => w (ix3 0 k (wcol j)))) := by
  unfold cols
  generalize hW : whole x w = W
  refine Eq.trans (b := (W (ix2 R (wcol j)) : EReal)) (by pointwise) ?_
  rw [← hW]
  exact whole_apply x w R _
theorem result_apply (x : Vec Ideal S16384x1024 .bf16) (w : Vec Ideal S1x1024x11848 .f32) (R : Fin 16384) (j : Fin 2048) :
    @Eq EReal (result x w (ix2 R j)) (dot (fun k => x (ix2 R k)) (fun k => w (ix3 0 k (wcol j)))) := by
  unfold result
  exact cols_apply x w R j

end Cert.RvReferenceIdeal.Val

namespace Cert.RvTie
open Idealize.ShloMosaic Idealize.ShloMosaic.TcCoe Idealize.SL.Sem

variable (m : (ℓ : Loc Cert.RvIdeal.nD Cert.RvIdeal.τ Cert.RvIdeal.sig) → Buf (Elt Ideal) ℓ)
  (m' : (ℓ : Loc Cert.RvReferenceIdeal.nD Cert.RvReferenceIdeal.τ Cert.RvReferenceIdeal.sig) → Buf (Elt Ideal) ℓ) (c : Dev Cert.RvIdeal.nD)

/-- The two results are one array. -/
theorem tie
    (e0 : m' ((c.tc : Thread Cert.RvReferenceIdeal.nD Cert.RvReferenceIdeal.τ).loc Cert.RvReferenceIdeal.main_arg0) = m ((c.tc : Thread Cert.RvIdeal.nD Cert.RvIdeal.τ).loc Cert.RvIdeal.main_arg0))
    (e1 : m' ((c.tc : Thread Cert.RvReferenceIdeal.nD Cert.RvReferenceIdeal.τ).loc Cert.RvReferenceIdeal.main_arg1) = m ((c.tc : Thread Cert.RvIdeal.nD Cert.RvIdeal.τ).loc Cert.RvIdeal.main_arg1)) :
    @Eq (Vec Ideal Cert.RvIdeal.S16384x2048 .bf16)
      (Cert.RvReferenceIdeal.Val.result (m' ((c.tc : Thread Cert.RvReferenceIdeal.nD Cert.RvReferenceIdeal.τ).loc Cert.RvReferenceIdeal.main_arg0)) (m' ((c.tc : Thread Cert.RvReferenceIdeal.nD Cert.RvReferenceIdeal.τ).loc Cert.RvReferenceIdeal.main_arg1)))
      ((Cert.RvIdeal.Gen.dats m 0 c).arrAt 2 Cert.RvIdeal.cfg0.N) := by
  funext i
  obtain ⟨R, j, rfl⟩ : ∃ R j, i = ix2 R j := ⟨i 0, i 1, by funext a; fin_cases a <;> rfl⟩
  refine (Cert.RvReferenceIdeal.Val.result_apply _ _ R j).trans (Eq.trans ?_ (Cert.RvIdeal.Val.final_apply m c R j).symm)
  unfold Cert.RvIdeal.Val.entry
  rw [e0, e1]

end Cert.RvTie
-- ==== Proof.RgRows.lean ====
module
public import proofs.«01_k».proof.Proof.ProjSpec
public import proofs.«01_k».proof.Proof.Gen.RgIdeal.Value
public import Idealize.ShloMosaic.Lib.Pointwise
public import Idealize.ShloMosaic.Lib.StableHlo.RunClose
public import Idealize.ShloMosaic.Lib.Pipeline.Value

/-!
# The projection of the retention's gate, row by row

The kernel turns a block of 1024 columns of the weight once, keeps it over the eight blocks of rows that follow, and
multiplies each of them by it. By induction over the points, the kept block is the one of the point's columns.
-/

@[expose] public section
set_option maxRecDepth 16384
noncomputable section
namespace Cert.RgIdeal.Val
open Idealize.ShloMosaic Idealize.ShloMosaic.TcCoe Idealize.SL.Sem
open Cert.RgIdeal Cert.RgIdeal.Gen Cert.FfnSpec Cert.ProjSpec

section pieces
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem ld_x {Val : EltTy → Type} {e : EltTy} (w : S2048x1024.Idx → Val e) (inb : ∀ a, (![0, 0] : Fin 2 → ℕ) a + (![2048, 1024] : Fin 2 → ℕ) a ≤ S2048x1024.size a) :
    View.ld w (Rect.unit (s := S2048x1024) ![0, 0] ![2048, 1024] inb) = w :=
  View.ld_unit_zero (S := S2048x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem canon_o {Val : EltTy → Type} {e : EltTy} [∀ e, Nonempty (Val e)] (inb : ∀ a, (![0, 0] : Fin 2 → ℕ) a + (![2048, 1024] : Fin 2 → ℕ) a ≤ S2048x1024.size a)
    (w : S2048x1024.Idx → Val e) (L : List (View.Piece Val S2048x1024 e)) :
    View.canon ((⟨Rect.unit (s := S2048x1024) ![0, 0] ![2048, 1024] inb, w⟩ : View.Piece Val S2048x1024 e) :: L) = w :=
  View.canon_cons_unit_zero (S := S2048x1024) (by funext d; match d with | ⟨0, _⟩ => rfl | ⟨1, _⟩ => rfl) inb w L

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : ¬cond0_0 i)
    (x0 : Vec F S2048x1024 .bf16) (x1 : Vec F S1024x1024 .f32) (xs0 : Vec F S1024x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, ↓canon_w, ↓canon_o, ld_w, ld_x]
end pieces

theorem turn_apply (v : Vec Ideal S1024x1024 .f32) (k j : Fin 1024) : @Eq EReal (k0_pay1 (F := Ideal) v (ix2 k j)) (v (ix2 j k)) := by
  pointwise [k0_pay1]

theorem body_apply (x : Vec Ideal S2048x1024 .bf16) (w : Vec Ideal S1024x1024 .bf16) (r : Fin 2048) (j : Fin 1024) :
    @Eq EReal (k0_pay2 (F := Ideal) x w (ix2 r j)) (swish (dot (fun k => x (ix2 r k)) (fun k => w (ix2 k j)))) := by
  unfold swish dot
  simp only [← half_tanh]
  pointwise [k0_pay2]

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 2048) : Fin 11848 := ⟨4096 + j.val, by omega⟩
/-- The result's column that is column `j` of point `t`'s block. -/
abbrev colOf (t : Fin cfg0.N) (j : Fin 1024) : Fin 2048 := ⟨1024 * (t.val / 8) + j.val, by have := grid_lt t; omega⟩

theorem index_all : ∀ t : Fin cfg0.N, (win0_0.index t 0 = t.val % 8 ∧ win0_0.index t 1 = 0) ∧ (win0_1.index t 0 = 4 + t.val / 8 ∧ win0_1.index t 1 = 0) ∧ (win0_2.index t 0 = t.val % 8 ∧ win0_2.index t 1 = t.val / 8) :=
  (by decide +kernel : ∀ t : Fin grid0.N, (win0_0.index t 0 = t.val % 8 ∧ win0_0.index t 1 = 0) ∧ (win0_1.index t 0 = 4 + t.val / 8 ∧ win0_1.index t 1 = 0) ∧ (win0_2.index t 0 = t.val % 8 ∧ win0_2.index t 1 = t.val / 8))

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨h0, h1⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The weight as the host hands it over: turned. -/
theorem host_apply (w : Vec Ideal S1x1024x11848 .f32) (j : Fin 11848) (k : Fin 1024) :
    @Eq EReal (transpose S11848x1024 [1, 0] (shapeCast S1024x11848 w shapeCasts_S1x1024x11848_S1024x11848) transposes_S1024x11848_S11848x1024_1_0 (ix2 j k)) (w (ix3 0 k j)) := by
  pointwise

theorem wblk (t : Fin cfg0.N) (j k : Fin 1024) : @Eq EReal ((X0_1 m c t : Vec Ideal S1024x1024 .f32) (ix2 j k)) ((m ((c : Thread nD τ).loc main_arg1) : Vec Ideal S1x1024x11848 .f32) (ix3 0 k (wcol (colOf t j)))) := by
  have e : @Eq (Vec Ideal S11848x1024 .f32) (V m c main_v1) (transpose S11848x1024 [1, 0] (shapeCast S1024x11848 (m ((c : Thread nD τ).loc main_arg1) : Vec Ideal S1x1024x11848 .f32) shapeCasts_S1x1024x11848_S1024x11848) transposes_S1024x11848_S11848x1024_1_0) := by
    unfold V hostOps0
    after_results_entrywise []
  obtain ⟨-, ⟨h0, h1⟩, -⟩ := index_all t
  have hj : (⟨1024 * (4 + t.val / 8) + j.val, by have := grid_lt t; omega⟩ : Fin 11848) = wcol (colOf t j) := Fin.ext (by show 1024 * (4 + t.val / 8) + j.val = 4096 + (1024 * (t.val / 8) + j.val); omega)
  refine Eq.trans ?_ (((congrFun e (ix2 (⟨1024 * (4 + t.val / 8) + j.val, by have := grid_lt t; omega⟩ : Fin 11848) k)).trans (host_apply _ _ k)).trans (congrArg (fun q => (m ((c : Thread nD τ).loc main_arg1) : Vec Ideal S1x1024x11848 .f32) (ix3 0 k q)) hj))
  unfold X0_1 Pipeline.Window.fill
  rw [dif_pos (moved0_1 t _)]
  unfold iblk
  rw [View.read_apply]
  show V m c main_v1 _ = _
  refine congrArg _ (funext fun a => Fin.ext ?_)
  match a with
  | ⟨0, _⟩ => show win0_1.index t 0 * 1024 + 1 * j.val = 1024 * (4 + t.val / 8) + j.val; rw [h0]; omega
  | ⟨1, _⟩ => show win0_1.index t 1 * 1024 + 1 * k.val = k.val; rw [h1]; omega

/-- One entry of the result, from the arguments. -/
def entry (R : Fin 16384) (j : Fin 2048) : EReal :=
  swish (dot (fun k => (m ((c : Thread nD τ).loc main_arg0) : Vec Ideal S16384x1024 .bf16) (ix2 R k)) (fun k => (m ((c : Thread nD τ).loc main_arg1) : Vec Ideal S1x1024x11848 .f32) (ix3 0 k (wcol j))))

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- What every point writes. -/
theorem written (t : Fin cfg0.N) (r : Fin 2048) (j : Fin 1024) :
    @Eq EReal ((outsAt0 m c t.val t.isLt).1 (ix2 r j)) (entry m c (rowOf t r) (colOf t j)) := by
  unfold entry
  by_cases h0 : t.val % 8 = 0
  · have e := congrArg Prod.fst (outsAt0_A m c t h0)
    rw [out_A_eq] at e
    refine (congrFun e (ix2 r j)).trans ((body_apply _ _ r j).trans ?_)
    rw [funext fun k => iblk0 m c t r k, funext fun k => (turn_apply (X0_1 m c t) k j).trans (wblk m c t j k)]
  · have e := congrArg Prod.fst (outsAt0_B m c t h0)
    rw [out_B_eq] at e
    refine (congrFun e (ix2 r j)).trans ((body_apply _ _ r j).trans ?_)
    have hl : t.val - 1 < cfg0.N := Nat.lt_of_le_of_lt (Nat.sub_le _ _) t.isLt
    have hc : colOf ⟨t.val - 1, hl⟩ j = colOf t j := Fin.ext (show 1024 * ((t.val - 1) / 8) + j.val = 1024 * (t.val / 8) + j.val by omega)
    rw [funext fun k => iblk0 m c t r k, funext fun k => kept m c (t.val - 1) hl k j, hc]

theorem flush2 : ∀ t : Fin cfg0.N, (cfg0.win 2).flush t = true :=
  (by decide +kernel : ∀ t : Fin grid0.N, win0_2.flush t = true)

/-- The array the kernel leaves, at a row and a column. -/
theorem final_apply (R : Fin 16384) (j : Fin 2048) :
    @Eq EReal (((dats m 0 c).arrAt 2 cfg0.N : Vec Ideal S16384x2048 .bf16) (ix2 R j)) (entry m c R j) := by
  have ht : 8 * (j.val / 1024) + R.val / 2048 < cfg0.N := lt_of_lt_of_eq (show 8 * (j.val / 1024) + R.val / 2048 < 16 by omega) (by decide)
  have hb := congrFun (Cert.RgIdeal.Value.blocks2 m c ⟨8 * (j.val / 1024) + R.val / 2048, ht⟩ (flush2 _)) (ix2 (⟨R.val % 2048, by omega⟩ : Fin 2048) (⟨j.val % 1024, by omega⟩ : Fin 1024))
  have hR : rowOf ⟨8 * (j.val / 1024) + R.val / 2048, ht⟩ (⟨R.val % 2048, by omega⟩ : Fin 2048) = R := Fin.ext (show 2048 * ((8 * (j.val / 1024) + R.val / 2048) % 8) + R.val % 2048 = R.val by omega)
  have hj : colOf ⟨8 * (j.val / 1024) + R.val / 2048, ht⟩ (⟨j.val % 1024, by omega⟩ : Fin 1024) = j := Fin.ext (show 1024 * ((8 * (j.val / 1024) + R.val / 2048) / 8) + j.val % 1024 = j.val by omega)
  have key := written m c ⟨8 * (j.val / 1024) + R.val / 2048, ht⟩ (⟨R.val % 2048, by omega⟩ : Fin 2048) (⟨j.val % 1024, by omega⟩ : Fin 1024)
  rw [hR, hj] at key
  rw [Cert.RgIdeal.Value.flushed2] at hb
  refine Eq.trans ?_ (hb.trans key)
  obtain ⟨-, -, ⟨h0, h1⟩⟩ := index_all ⟨8 * (j.val / 1024) + R.val / 2048, ht⟩
  rw [View.read_apply]
  show (dats m 0 c).arrAt 2 cfg0.N _ = (dats m 0 c).arrAt 2 cfg0.N _
  refine congrArg _ (funext fun a => Fin.ext ?_)
  match a with
  | ⟨0, _⟩ => show R.val = win0_2.index ⟨8 * (j.val / 1024) + R.val / 2048, ht⟩ 0 * 2048 + 1 * (R.val % 2048); rw [h0]; show R.val = (8 * (j.val / 1024) + R.val / 2048) % 8 * 2048 + 1 * (R.val % 2048); omega
  | ⟨1, _⟩ => show j.val = win0_2.index ⟨8 * (j.val / 1024) + R.val / 2048, ht⟩ 1 * 1024 + 1 * (j.val % 1024); rw [h1]; show j.val = (8 * (j.val / 1024) + R.val / 2048) / 8 * 1024 + 1 * (j.val % 1024); omega

end Cert.RgIdeal.Val
-- ==== Proof.RgTie.lean ====
module
public import proofs.«01_k».proof.Proof.RgRows
public import proofs.«01_k».proof.Proof.Gen.RgReferenceIdeal.Run

/-!
# The projection of the retention's gate is the plain statement's

The reference multiplies the rows by the whole weight and takes the columns.
-/

@[expose] public section
set_option maxRecDepth 16384
noncomputable section
namespace Cert.RgReferenceIdeal.Val
open Idealize.ShloMosaic Idealize.ShloMosaic.TcCoe Idealize.SL.Sem
open Cert.RgReferenceIdeal Cert.RgReferenceIdeal.Gen Cert.FfnSpec Cert.ProjSpec
open Cert.RgIdeal.Val (wcol)

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)
/-- Its columns. -/
def cols (x : Vec Ideal S16384x1024 .bf16) (w : Vec Ideal S1x1024x11848 .f32) : Vec Ideal S16384x2048 .f32 :=
  extractStridedSlice S16384x2048 ![0, 4096] (whole x w) slices_S16384x11848_S16384x2048_0_4096

/-- Every entry times its logistic function. -/
def swishes (X : Vec Ideal S16384x2048 .f32) : Vec Ideal S16384x2048 .f32 :=
  mulf (F := Ideal) (φ := .f32) X (Host.divf (F := Ideal) (φ := .f32) (broadcastInDim S16384x2048 ![] bcast_S_S16384x2048 (constant S_ .f32 0x3F800000#32)) (addf (F := Ideal) (φ := .f32) (broadcastInDim S16384x2048 ![] bcast_S_S16384x2048 (constant S_ .f32 0x3F800000#32)) (Host.exp (F := Ideal) (φ := .f32) (Host.negf (F := Ideal) (φ := .f32) X))))
theorem swishes_apply (X : Vec Ideal S16384x2048 .f32) (R : Fin 16384) (j : Fin 2048) : @Eq EReal (swishes X (ix2 R j)) (swish (X (ix2 R j))) := by
  unfold swish FfnSpec.sig
  pointwise [swishes]

/-- The result. -/
def result (x : Vec Ideal S16384x1024 .bf16) (w : Vec Ideal S1x1024x11848 .f32) : Vec Ideal S16384x2048 .bf16 :=
  truncf (F := Ideal) .bf16 (swishes (cols x w)) bitsLt_bf16_f32

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]
theorem cols_apply (x : Vec Ideal S16384x1024 .bf16) (w : Vec Ideal S1x1024x11848 .f32) (R : Fin 16384) (j : Fin 2048) :
    @Eq EReal (cols x w (ix2 R j)) (dot (fun k => x (ix2 R k)) (fun k => w (ix3 0 k (wcol j)))) := by
  unfold cols
  generalize hW : whole x w = W
  refine Eq.trans (b := (W (ix2 R (wcol j)) : EReal)) (by pointwise) ?_
  rw [← hW]
  exact whole_apply x w R _
theorem result_apply (x : Vec Ideal S16384x1024 .bf16) (w : Vec Ideal S1x1024x11848 .f32) (R : Fin 16384) (j : Fin 2048) :
    @Eq EReal (result x w (ix2 R j)) (swish (dot (fun k => x (ix2 R k)) (fun k => w (ix3 0 k (wcol j))))) := by
  unfold result
  exact (swishes_apply _ R j).trans (congrArg swish (cols_apply x w R j))

end Cert.RgReferenceIdeal.Val

namespace Cert.RgTie
open Idealize.ShloMosaic Idealize.ShloMosaic.TcCoe Idealize.SL.Sem

variable (m : (ℓ : Loc Cert.RgIdeal.nD Cert.RgIdeal.τ Cert.RgIdeal.sig) → Buf (Elt Ideal) ℓ)
  (m' : (ℓ : Loc Cert.RgReferenceIdeal.nD Cert.RgReferenceIdeal.τ Cert.RgReferenceIdeal.sig) → Buf (Elt Ideal) ℓ) (c : Dev Cert.RgIdeal.nD)

/-- The two results are one array. -/
theorem tie
    (e0 : m' ((c.tc : Thread Cert.RgReferenceIdeal.nD Cert.RgReferenceIdeal.τ).loc Cert.RgReferenceIdeal.main_arg0) = m ((c.tc : Thread Cert.RgIdeal.nD Cert.RgIdeal.τ).loc Cert.RgIdeal.main_arg0))
    (e1 : m' ((c.tc : Thread Cert.RgReferenceIdeal.nD Cert.RgReferenceIdeal.τ).loc Cert.RgReferenceIdeal.main_arg1) = m ((c.tc : Thread Cert.RgIdeal.nD Cert.RgIdeal.τ).loc Cert.RgIdeal.main_arg1)) :
    @Eq (Vec Ideal Cert.RgIdeal.S16384x2048 .bf16)
      (Cert.RgReferenceIdeal.Val.result (m' ((c.tc : Thread Cert.RgReferenceIdeal.nD Cert.RgReferenceIdeal.τ).loc Cert.RgReferenceIdeal.main_arg0)) (m' ((c.tc : Thread Cert.RgReferenceIdeal.nD Cert.RgReferenceIdeal.τ).loc Cert.RgReferenceIdeal.main_arg1)))
      ((Cert.RgIdeal.Gen.dats m 0 c).arrAt 2 Cert.RgIdeal.cfg0.N) := by
  funext i
  obtain ⟨R, j, rfl⟩ : ∃ R j, i = ix2 R j := ⟨i 0, i 1, by funext a; fin_cases a <;> rfl⟩
  refine (Cert.RgReferenceIdeal.Val.result_apply _ _ R j).trans (Eq.trans ?_ (Cert.RgIdeal.Val.final_apply m c R j).symm)
  unfold Cert.RgIdeal.Val.entry
  rw [e0, e1]

end Cert.RgTie
-- ==== Proof.GatesRows.lean ====
module
public import proofs.«01_k».proof.Proof.ProjSpec
public import proofs.«01_k».proof.Proof.Gen.GatesIdeal.Value
public import Idealize.ShloMosaic.Lib.Pointwise
public import Idealize.ShloMosaic.Lib.StableHlo.RunClose
public import Idealize.ShloMosaic.Lib.Pipeline.Value

/-!
# The projection of the branch gates, row by row

The kernel turns a block of 1024 columns of the weight once, keeps it over the eight blocks of rows that follow, and
multiplies each of them by it. By induction over the points, the kept block is the one of the point's columns.
-/

@[expose] public section
set_option maxRecDepth 16384
noncomputable section
namespace Cert.GatesIdeal.Val
open Idealize.ShloMosaic Idealize.ShloMosaic.TcCoe Idealize.SL.Sem
open Cert.GatesIdeal Cert.GatesIdeal.Gen Cert.FfnSpec Cert.ProjSpec

section pieces
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem ld_x {Val : EltTy → Type} {e : EltTy} (w : S2048x1024.Idx → Val e) (inb : ∀ a, (![0, 0] : Fin 2 → ℕ) a + (![2048, 1024] : Fin 2 → ℕ) a ≤ S2048x1024.size a) :
    View.ld w (Rect.unit (s := S2048x1024) ![0, 0] ![2048, 1024] inb) = w :=
  View.ld_unit_zero (S := S2048x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem canon_o {Val : EltTy → Type} {e : EltTy} [∀ e, Nonempty (Val e)] (inb : ∀ a, (![0, 0] : Fin 2 → ℕ) a + (![2048, 1024] : Fin 2 → ℕ) a ≤ S2048x1024.size a)
    (w : S2048x1024.Idx → Val e) (L : List (View.Piece Val S2048x1024 e)) :
    View.canon ((⟨Rect.unit (s := S2048x1024) ![0, 0] ![2048, 1024] inb, w⟩ : View.Piece Val S2048x1024 e) :: L) = w :=
  View.canon_cons_unit_zero (S := S2048x1024) (by funext d; match d with | ⟨0, _⟩ => rfl | ⟨1, _⟩ => rfl) inb w L

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : ¬cond0_0 i)
    (x0 : Vec F S2048x1024 .bf16) (x1 : Vec F S1024x1024 .f32) (xs0 : Vec F S1024x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, ↓canon_w, ↓canon_o, ld_w, ld_x]
end pieces

theorem turn_apply (v : Vec Ideal S1024x1024 .f32) (k j : Fin 1024) : @Eq EReal (k0_pay1 (F := Ideal) v (ix2 k j)) (v (ix2 j k)) := by
  pointwise [k0_pay1]

theorem body_apply (x : Vec Ideal S2048x1024 .bf16) (w : Vec Ideal S1024x1024 .bf16) (r : Fin 2048) (j : Fin 1024) :
    @Eq EReal (k0_pay2 (F := Ideal) x w (ix2 r j)) (dot (fun k => x (ix2 r k)) (fun k => w (ix2 k j))) := by
  unfold dot
  pointwise [k0_pay2]

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 2048) : Fin 11848 := ⟨9800 + j.val, by omega⟩
/-- The result's column that is column `j` of point `t`'s block. -/
abbrev colOf (t : Fin cfg0.N) (j : Fin 1024) : Fin 2048 := ⟨1024 * (t.val / 8) + j.val, by have := grid_lt t; omega⟩

theorem index_all : ∀ t : Fin cfg0.N, (win0_0.index t 0 = t.val % 8 ∧ win0_0.index t 1 = 0) ∧ (win0_1.index t 0 = t.val / 8 ∧ win0_1.index t 1 = 0) ∧ (win0_2.index t 0 = t.val % 8 ∧ win0_2.index t 1 = t.val / 8) :=
  (by decide +kernel : ∀ t : Fin grid0.N, (win0_0.index t 0 = t.val % 8 ∧ win0_0.index t 1 = 0) ∧ (win0_1.index t 0 = t.val / 8 ∧ win0_1.index t 1 = 0) ∧ (win0_2.index t 0 = t.val % 8 ∧ win0_2.index t 1 = t.val / 8))

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨h0, h1⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The weight as the host hands it over: turned. -/
theorem host_apply (w : Vec Ideal S1x1024x11848 .f32) (j : Fin 2048) (k : Fin 1024) :
    @Eq EReal (extractStridedSlice S2048x1024 ![9800, 0] (transpose S11848x1024 [1, 0] (shapeCast S1024x11848 w shapeCasts_S1x1024x11848_S1024x11848) transposes_S1024x11848_S11848x1024_1_0) slices_S11848x1024_S2048x1024_9800_0 (ix2 j k)) (w (ix3 0 k ⟨9800 + j.val, by omega⟩)) := by
  pointwise

theorem wblk (t : Fin cfg0.N) (j k : Fin 1024) : @Eq EReal ((iblk m c 1 t : Vec Ideal S1024x1024 .f32) (ix2 j k)) ((m ((c : Thread nD τ).loc main_arg1) : Vec Ideal S1x1024x11848 .f32) (ix3 0 k (wcol (colOf t j)))) := by
  have e : @Eq (Vec Ideal S2048x1024 .f32) (V m c main_v2) (extractStridedSlice S2048x1024 ![9800, 0] (transpose S11848x1024 [1, 0] (shapeCast S1024x11848 (m ((c : Thread nD τ).loc main_arg1) : Vec Ideal S1x1024x11848 .f32) shapeCasts_S1x1024x11848_S1024x11848) transposes_S1024x11848_S11848x1024_1_0) slices_S11848x1024_S2048x1024_9800_0) := by
    unfold V hostOps0
    after_results_entrywise []
  obtain ⟨-, ⟨h0, h1⟩, -⟩ := index_all t
  have hj : (⟨9800 + (1024 * (t.val / 8) + j.val), by have := grid_lt t; omega⟩ : Fin 11848) = wcol (colOf t j) := Fin.ext (by show 9800 + (1024 * (t.val / 8) + j.val) = 9800 + (1024 * (t.val / 8) + j.val); omega)
  refine Eq.trans ?_ (((congrFun e (ix2 (⟨1024 * (t.val / 8) + j.val, by have := grid_lt t; omega⟩ : Fin 2048) k)).trans (host_apply _ _ k)).trans (congrArg (fun q => (m ((c : Thread nD τ).loc main_arg1) : Vec Ideal S1x1024x11848 .f32) (ix3 0 k q)) hj))
  unfold iblk
  rw [View.read_apply]
  show V m c main_v2 _ = _
  refine congrArg _ (funext fun a => Fin.ext ?_)
  match a with
  | ⟨0, _⟩ => show win0_1.index t 0 * 1024 + 1 * j.val = 1024 * (t.val / 8) + j.val; rw [h0]; omega
  | ⟨1, _⟩ => show win0_1.index t 1 * 1024 + 1 * k.val = k.val; rw [h1]; omega

/-- One entry of the result, from the arguments. -/
def entry (R : Fin 16384) (j : Fin 2048) : EReal :=
  dot (fun k => (m ((c : Thread nD τ).loc main_arg0) : Vec Ideal S16384x1024 .bf16) (ix2 R k)) (fun k => (m ((c : Thread nD τ).loc main_arg1) : Vec Ideal S1x1024x11848 .f32) (ix3 0 k (wcol j)))

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- What every point writes. -/
theorem written (t : Fin cfg0.N) (r : Fin 2048) (j : Fin 1024) :
    @Eq EReal ((outsAt0 m c t.val t.isLt).1 (ix2 r j)) (entry m c (rowOf t r) (colOf t j)) := by
  unfold entry
  by_cases h0 : t.val % 8 = 0
  · have e := congrArg Prod.fst (outsAt0_A m c t h0)
    rw [out_A_eq] at e
    refine (congrFun e (ix2 r j)).trans ((body_apply _ _ r j).trans ?_)
    rw [funext fun k => iblk0 m c t r k, funext fun k => (turn_apply (iblk m c 1 t) k j).trans (wblk m c t j k)]
  · have e := congrArg Prod.fst (outsAt0_B m c t h0)
    rw [out_B_eq] at e
    refine (congrFun e (ix2 r j)).trans ((body_apply _ _ r j).trans ?_)
    have hl : t.val - 1 < cfg0.N := Nat.lt_of_le_of_lt (Nat.sub_le _ _) t.isLt
    have hc : colOf ⟨t.val - 1, hl⟩ j = colOf t j := Fin.ext (show 1024 * ((t.val - 1) / 8) + j.val = 1024 * (t.val / 8) + j.val by omega)
    rw [funext fun k => iblk0 m c t r k, funext fun k => kept m c (t.val - 1) hl k j, hc]

theorem flush2 : ∀ t : Fin cfg0.N, (cfg0.win 2).flush t = true :=
  (by decide +kernel : ∀ t : Fin grid0.N, win0_2.flush t = true)

/-- The array the kernel leaves, at a row and a column. -/
theorem final_apply (R : Fin 16384) (j : Fin 2048) :
    @Eq EReal (((dats m 0 c).arrAt 2 cfg0.N : Vec Ideal S16384x2048 .bf16) (ix2 R j)) (entry m c R j) := by
  have ht : 8 * (j.val / 1024) + R.val / 2048 < cfg0.N := lt_of_lt_of_eq (show 8 * (j.val / 1024) + R.val / 2048 < 16 by omega) (by decide)
  have hb := congrFun (Cert.GatesIdeal.Value.blocks2 m c ⟨8 * (j.val / 1024) + R.val / 2048, ht⟩ (flush2 _)) (ix2 (⟨R.val % 2048, by omega⟩ : Fin 2048) (⟨j.val % 1024, by omega⟩ : Fin 1024))
  have hR : rowOf ⟨8 * (j.val / 1024) + R.val / 2048, ht⟩ (⟨R.val % 2048, by omega⟩ : Fin 2048) = R := Fin.ext (show 2048 * ((8 * (j.val / 1024) + R.val / 2048) % 8) + R.val % 2048 = R.val by omega)
  have hj : colOf ⟨8 * (j.val / 1024) + R.val / 2048, ht⟩ (⟨j.val % 1024, by omega⟩ : Fin 1024) = j := Fin.ext (show 1024 * ((8 * (j.val / 1024) + R.val / 2048) / 8) + j.val % 1024 = j.val by omega)
  have key := written m c ⟨8 * (j.val / 1024) + R.val / 2048, ht⟩ (⟨R.val % 2048, by omega⟩ : Fin 2048) (⟨j.val % 1024, by omega⟩ : Fin 1024)
  rw [hR, hj] at key
  rw [Cert.GatesIdeal.Value.flushed2] at hb
  refine Eq.trans ?_ (hb.trans key)
  obtain ⟨-, -, ⟨h0, h1⟩⟩ := index_all ⟨8 * (j.val / 1024) + R.val / 2048, ht⟩
  rw [View.read_apply]
  show (dats m 0 c).arrAt 2 cfg0.N _ = (dats m 0 c).arrAt 2 cfg0.N _
  refine congrArg _ (funext fun a => Fin.ext ?_)
  match a with
  | ⟨0, _⟩ => show R.val = win0_2.index ⟨8 * (j.val / 1024) + R.val / 2048, ht⟩ 0 * 2048 + 1 * (R.val % 2048); rw [h0]; show R.val = (8 * (j.val / 1024) + R.val / 2048) % 8 * 2048 + 1 * (R.val % 2048); omega
  | ⟨1, _⟩ => show j.val = win0_2.index ⟨8 * (j.val / 1024) + R.val / 2048, ht⟩ 1 * 1024 + 1 * (j.val % 1024); rw [h1]; show j.val = (8 * (j.val / 1024) + R.val / 2048) / 8 * 1024 + 1 * (j.val % 1024); omega

end Cert.GatesIdeal.Val
-- ==== Proof.GatesTie.lean ====
module
public import proofs.«01_k».proof.Proof.GatesRows
public import proofs.«01_k».proof.Proof.Gen.GatesReferenceIdeal.Run

/-!
# The projection of the branch gates is the plain statement's

The reference multiplies the rows by the whole weight and takes the columns.
-/

@[expose] public section
set_option maxRecDepth 16384
noncomputable section
namespace Cert.GatesReferenceIdeal.Val
open Idealize.ShloMosaic Idealize.ShloMosaic.TcCoe Idealize.SL.Sem
open Cert.GatesReferenceIdeal Cert.GatesReferenceIdeal.Gen Cert.FfnSpec Cert.ProjSpec
open Cert.GatesIdeal.Val (wcol)

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)
/-- Its columns. -/
def cols (x : Vec Ideal S16384x1024 .bf16) (w : Vec Ideal S1x1024x11848 .f32) : Vec Ideal S16384x2048 .f32 :=
  extractStridedSlice S16384x2048 ![0, 9800] (whole x w) slices_S16384x11848_S16384x2048_0_9800

/-- The result. -/
def result (x : Vec Ideal S16384x1024 .bf16) (w : Vec Ideal S1x1024x11848 .f32) : Vec Ideal S16384x2048 .bf16 :=
  truncf (F := Ideal) .bf16 (cols x w) bitsLt_bf16_f32

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]
theorem cols_apply (x : Vec Ideal S16384x1024 .bf16) (w : Vec Ideal S1x1024x11848 .f32) (R : Fin 16384) (j : Fin 2048) :
    @Eq EReal (cols x w (ix2 R j)) (dot (fun k => x (ix2 R k)) (fun k => w (ix3 0 k (wcol j)))) := by
  unfold cols
  generalize hW : whole x w = W
  refine Eq.trans (b := (W (ix2 R (wcol j)) : EReal)) (by pointwise) ?_
  rw [← hW]
  exact whole_apply x w R _
theorem result_apply (x : Vec Ideal S16384x1024 .bf16) (w : Vec Ideal S1x1024x11848 .f32) (R : Fin 16384) (j : Fin 2048) :
    @Eq EReal (result x w (ix2 R j)) (dot (fun k => x (ix2 R k)) (fun k => w (ix3 0 k (wcol j)))) := by
  unfold result
  exact cols_apply x w R j

end Cert.GatesReferenceIdeal.Val

namespace Cert.GatesTie
open Idealize.ShloMosaic Idealize.ShloMosaic.TcCoe Idealize.SL.Sem

variable (m : (ℓ : Loc Cert.GatesIdeal.nD Cert.GatesIdeal.τ Cert.GatesIdeal.sig) → Buf (Elt Ideal) ℓ)
  (m' : (ℓ : Loc Cert.GatesReferenceIdeal.nD Cert.GatesReferenceIdeal.τ Cert.GatesReferenceIdeal.sig) → Buf (Elt Ideal) ℓ) (c : Dev Cert.GatesIdeal.nD)

/-- The two results are one array. -/
theorem tie
    (e0 : m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0))
    (e1 : m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) :
    @Eq (Vec Ideal Cert.GatesIdeal.S16384x2048 .bf16)
      (Cert.GatesReferenceIdeal.Val.result (m' ((c.tc : Thread Cert.GatesReferenceIdeal.nD Cert.GatesReferenceIdeal.τ).loc Cert.GatesReferenceIdeal.main_arg0)) (m' ((c.tc : Thread Cert.GatesReferenceIdeal.nD Cert.GatesReferenceIdeal.τ).loc Cert.GatesReferenceIdeal.main_arg1)))
      ((Cert.GatesIdeal.Gen.dats m 0 c).arrAt 2 Cert.GatesIdeal.cfg0.N) := by
  funext i
  obtain ⟨R, j, rfl⟩ : ∃ R j, i = ix2 R j := ⟨i 0, i 1, by funext a; fin_cases a <;> rfl⟩
  refine (Cert.GatesReferenceIdeal.Val.result_apply _ _ R j).trans (Eq.trans ?_ (Cert.GatesIdeal.Val.final_apply m c R j).symm)
  unfold Cert.GatesIdeal.Val.entry
  rw [e0, e1]

end Cert.GatesTie
-- ==== Proof.AvRows.lean ====
module
public import proofs.«01_k».proof.Proof.ProjSpec
public import proofs.«01_k».proof.Proof.Gen.AvIdeal.Value
public import Idealize.ShloMosaic.Lib.Pointwise
public import Idealize.ShloMosaic.Lib.StableHlo.RunClose
public import Idealize.ShloMosaic.Lib.Pipeline.Value

/-!
# The projection of the attention's values, row by row

The kernel turns a block of 1024 columns of the weight once, keeps it over the eight blocks of rows that follow, and
multiplies each of them by it. By induction over the points, the kept block is the one of the point's columns.
-/

@[expose] public section
set_option maxRecDepth 16384
noncomputable section
namespace Cert.AvIdeal.Val
open Idealize.ShloMosaic Idealize.ShloMosaic.TcCoe Idealize.SL.Sem
open Cert.AvIdeal Cert.AvIdeal.Gen Cert.FfnSpec Cert.ProjSpec

section pieces
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem ld_x {Val : EltTy → Type} {e : EltTy} (w : S2048x1024.Idx → Val e) (inb : ∀ a, (![0, 0] : Fin 2 → ℕ) a + (![2048, 1024] : Fin 2 → ℕ) a ≤ S2048x1024.size a) :
    View.ld w (Rect.unit (s := S2048x1024) ![0, 0] ![2048, 1024] inb) = w :=
  View.ld_unit_zero (S := S2048x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem canon_o {Val : EltTy → Type} {e : EltTy} [∀ e, Nonempty (Val e)] (inb : ∀ a, (![0, 0] : Fin 2 → ℕ) a + (![2048, 1024] : Fin 2 → ℕ) a ≤ S2048x1024.size a)
    (w : S2048x1024.Idx → Val e) (L : List (View.Piece Val S2048x1024 e)) :
    View.canon ((⟨Rect.unit (s := S2048x1024) ![0, 0] ![2048, 1024] inb, w⟩ : View.Piece Val S2048x1024 e) :: L) = w :=
  View.canon_cons_unit_zero (S := S2048x1024) (by funext d; match d with | ⟨0, _⟩ => rfl | ⟨1, _⟩ => rfl) inb w L

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : cond0_0 i)
    (x0 : Vec F S2048x1024 .bf16) (x1 : Vec F S1024x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, ↓canon_w, ↓canon_o, ld_w, ld_x]

/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x1024 .bf16) (harg4 : arg4.IsWhole) (arg5 : Memref sig .tc .vmem S1024x1024 .bf16) (harg5 : arg5.IsWhole) (hc0 : ¬cond0_0 i)
    (x0 : Vec F S2048x1024 .bf16) (x1 : Vec F S1024x1024 .f32) (xs0 : Vec F S1024x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, ↓canon_w, ↓canon_o, ld_w, ld_x]
end pieces

theorem turn_apply (v : Vec Ideal S1024x1024 .f32) (k j : Fin 1024) : @Eq EReal (k0_pay1 (F := Ideal) v (ix2 k j)) (v (ix2 j k)) := by
  pointwise [k0_pay1]

theorem body_apply (x : Vec Ideal S2048x1024 .bf16) (w : Vec Ideal S1024x1024 .bf16) (r : Fin 2048) (j : Fin 1024) :
    @Eq EReal (k0_pay2 (F := Ideal) x w (ix2 r j)) (dot (fun k => x (ix2 r k)) (fun k => w (ix2 k j))) := by
  unfold dot
  pointwise [k0_pay2]

variable (m : (ℓ : Loc nD τ sig) → Buf (Elt Ideal) ℓ) (c : Dev nD)

theorem grid_lt (t : Fin cfg0.N) : t.val < 8 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 1024) : Fin 11848 := ⟨8192 + j.val, by omega⟩
/-- The result's column that is column `j` of point `t`'s block. -/
abbrev colOf (t : Fin cfg0.N) (j : Fin 1024) : Fin 1024 := ⟨1024 * (t.val / 8) + j.val, by have := grid_lt t; omega⟩

theorem index_all : ∀ t : Fin cfg0.N, (win0_0.index t 0 = t.val % 8 ∧ win0_0.index t 1 = 0) ∧ (win0_1.index t 0 = 8 + t.val / 8 ∧ win0_1.index t 1 = 0) ∧ (win0_2.index t 0 = t.val % 8 ∧ win0_2.index t 1 = t.val / 8) :=
  (by decide +kernel : ∀ t : Fin grid0.N, (win0_0.index t 0 = t.val % 8 ∧ win0_0.index t 1 = 0) ∧ (win0_1.index t 0 = 8 + t.val / 8 ∧ win0_1.index t 1 = 0) ∧ (win0_2.index t 0 = t.val % 8 ∧ win0_2.index t 1 = t.val / 8))

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨h0, h1⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The weight as the host hands it over: turned. -/
theorem host_apply (w : Vec Ideal S1x1024x11848 .f32) (j : Fin 11848) (k : Fin 1024) :
    @Eq EReal (transpose S11848x1024 [1, 0] (shapeCast S1024x11848 w shapeCasts_S1x1024x11848_S1024x11848) transposes_S1024x11848_S11848x1024_1_0 (ix2 j k)) (w (ix3 0 k j)) := by
  pointwise

theorem wblk (t : Fin cfg0.N) (j k : Fin 1024) : @Eq EReal ((X0_1 m c t : Vec Ideal S1024x1024 .f32) (ix2 j k)) ((m ((c : Thread nD τ).loc main_arg1) : Vec Ideal S1x1024x11848 .f32) (ix3 0 k (wcol (colOf t j)))) := by
  have e : @Eq (Vec Ideal S11848x1024 .f32) (V m c main_v1) (transpose S11848x1024 [1, 0] (shapeCast S1024x11848 (m ((c : Thread nD τ).loc main_arg1) : Vec Ideal S1x1024x11848 .f32) shapeCasts_S1x1024x11848_S1024x11848) transposes_S1024x11848_S11848x1024_1_0) := by
    unfold V hostOps0
    after_results_entrywise []
  obtain ⟨-, ⟨h0, h1⟩, -⟩ := index_all t
  have hj : (⟨1024 * (8 + t.val / 8) + j.val, by have := grid_lt t; omega⟩ : Fin 11848) = wcol (colOf t j) := Fin.ext (by show 1024 * (8 + t.val / 8) + j.val = 8192 + (1024 * (t.val / 8) + j.val); omega)
  refine Eq.trans ?_ (((congrFun e (ix2 (⟨1024 * (8 + t.val / 8) + j.val, by have := grid_lt t; omega⟩ : Fin 11848) k)).trans (host_apply _ _ k)).trans (congrArg (fun q => (m ((c : Thread nD τ).loc main_arg1) : Vec Ideal S1x1024x11848 .f32) (ix3 0 k q)) hj))
  unfold X0_1 Pipeline.Window.fill
  rw [dif_pos (moved0_1 t _)]
  unfold iblk
  rw [View.read_apply]
  show V m c main_v1 _ = _
  refine congrArg _ (funext fun a => Fin.ext ?_)
  match a with
  | ⟨0, _⟩ => show win0_1.index t 0 * 1024 + 1 * j.val = 1024 * (8 + t.val / 8) + j.val; rw [h0]; omega
  | ⟨1, _⟩ => show win0_1.index t 1 * 1024 + 1 * k.val = k.val; rw [h1]; omega

/-- One entry of the result, from the arguments. -/
def entry (R : Fin 16384) (j : Fin 1024) : EReal :=
  dot (fun k => (m ((c : Thread nD τ).loc main_arg0) : Vec Ideal S16384x1024 .bf16) (ix2 R k)) (fun k => (m ((c : Thread nD τ).loc main_arg1) : Vec Ideal S1x1024x11848 .f32) (ix3 0 k (wcol j)))

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- What every point writes. -/
theorem written (t : Fin cfg0.N) (r : Fin 2048) (j : Fin 1024) :
    @Eq EReal ((outsAt0 m c t.val t.isLt).1 (ix2 r j)) (entry m c (rowOf t r) (colOf t j)) := by
  unfold entry
  by_cases h0 : t.val % 8 = 0
  · have e := congrArg Prod.fst (outsAt0_A m c t h0)
    rw [out_A_eq] at e
    refine (congrFun e (ix2 r j)).trans ((body_apply _ _ r j).trans ?_)
    rw [funext fun k => iblk0 m c t r k, funext fun k => (turn_apply (X0_1 m c t) k j).trans (wblk m c t j k)]
  · have e := congrArg Prod.fst (outsAt0_B m c t h0)
    rw [out_B_eq] at e
    refine (congrFun e (ix2 r j)).trans ((body_apply _ _ r j).trans ?_)
    have hl : t.val - 1 < cfg0.N := Nat.lt_of_le_of_lt (Nat.sub_le _ _) t.isLt
    have hc : colOf ⟨t.val - 1, hl⟩ j = colOf t j := Fin.ext (show 1024 * ((t.val - 1) / 8) + j.val = 1024 * (t.val / 8) + j.val by omega)
    rw [funext fun k => iblk0 m c t r k, funext fun k => kept m c (t.val - 1) hl k j, hc]

theorem flush2 : ∀ t : Fin cfg0.N, (cfg0.win 2).flush t = true :=
  (by decide +kernel : ∀ t : Fin grid0.N, win0_2.flush t = true)

/-- The array the kernel leaves, at a row and a column. -/
theorem final_apply (R : Fin 16384) (j : Fin 1024) :
    @Eq EReal (((dats m 0 c).arrAt 2 cfg0.N : Vec Ideal S16384x1024 .bf16) (ix2 R j)) (entry m c R j) := by
  have ht : 8 * (j.val / 1024) + R.val / 2048 < cfg0.N := lt_of_lt_of_eq (show 8 * (j.val / 1024) + R.val / 2048 < 8 by omega) (by decide)
  have hb := congrFun (Cert.AvIdeal.Value.blocks2 m c ⟨8 * (j.val / 1024) + R.val / 2048, ht⟩ (flush2 _)) (ix2 (⟨R.val % 2048, by omega⟩ : Fin 2048) (⟨j.val % 1024, by omega⟩ : Fin 1024))
  have hR : rowOf ⟨8 * (j.val / 1024) + R.val / 2048, ht⟩ (⟨R.val % 2048, by omega⟩ : Fin 2048) = R := Fin.ext (show 2048 * ((8 * (j.val / 1024) + R.val / 2048) % 8) + R.val % 2048 = R.val by omega)
  have hj : colOf ⟨8 * (j.val / 1024) + R.val / 2048, ht⟩ (⟨j.val % 1024, by omega⟩ : Fin 1024) = j := Fin.ext (show 1024 * ((8 * (j.val / 1024) + R.val / 2048) / 8) + j.val % 1024 = j.val by omega)
  have key := written m c ⟨8 * (j.val / 1024) + R.val / 2048, ht⟩ (⟨R.val % 2048, by omega⟩ : Fin 2048) (⟨j.val % 1024, by omega⟩ : Fin 1024)
  rw [hR, hj] at key
  rw [Cert.AvIdeal.Value.flushed2] at hb
  refine Eq.trans ?_ (hb.trans key)
  obtain ⟨-, -, ⟨h0, h1⟩⟩ := index_all ⟨8 * (j.val / 1024) + R.val / 2048, ht⟩
  rw [View.read_apply]
  show (dats m 0 c).arrAt 2 cfg0.N _ = (dats m 0 c).arrAt 2 cfg0.N _
  refine congrArg _ (funext fun a => Fin.ext ?_)
  match a with
  | ⟨0, _⟩ => show R.val = win0_2.index ⟨8 * (j.val / 1024) + R.val / 2048, ht⟩ 0 * 2048 + 1 * (R.val % 2048); rw [h0]; show R.val = (8 * (j.val / 1024) + R.val / 2048) % 8 * 2048 + 1 * (R.val % 2048); omega
  | ⟨1, _⟩ => show j.val = win0_2.index ⟨8 * (j.val / 1024) + R.val / 2048, ht⟩ 1 * 1024 + 1 * (j.val % 1024); rw [h1]; show j.val = (8 * (j.val / 1024) + R.val / 2048) / 8 * 1024 + 1 * (j.val % 1024); omega

end Cert.AvIdeal.Val
-- ==== Proof.AvTie.lean ====
module
public import proofs.«01_k».proof.Proof.AvRows
public import proofs.«01_k».proof.Proof.Gen.AvReferenceIdeal.Run

/-!
# The projection of the attention's values is the plain statement's

The reference multiplies the rows by the whole weight and takes the columns.
-/

@[expose] public section
set_option maxRecDepth 16384
noncomputable section
namespace Cert.AvReferenceIdeal.Val
open Idealize.ShloMosaic Idealize.ShloMosaic.TcCoe Idealize.SL.Sem
open Cert.AvReferenceIdeal Cert.AvReferenceIdeal.Gen Cert.FfnSpec Cert.ProjSpec
open Cert.AvIdeal.Val (wcol)

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)
/-- Its columns. -/
def cols (x : Vec Ideal S16384x1024 .bf16) (w : Vec Ideal S1x1024x11848 .f32) : Vec Ideal S16384x1024 .f32 :=
  extractStridedSlice S16384x1024 ![0, 8192] (whole x w) slices_S16384x11848_S16384x1024_0_8192

/-- The result. -/
def result (x : Vec Ideal S16384x1024 .bf16) (w : Vec Ideal S1x1024x11848 .f32) : Vec Ideal S16384x1024 .bf16 :=
  truncf (F := Ideal) .bf16 (cols x w) bitsLt_bf16_f32

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]
theorem cols_apply (x : Vec Ideal S16384x1024 .bf16) (w : Vec Ideal S1x1024x11848 .f32) (R : Fin 16384) (j : Fin 1024) :
    @Eq EReal (cols x w (ix2 R j)) (dot (fun k => x (ix2 R k)) (fun k => w (ix3 0 k (wcol j)))) := by
  unfold cols
  generalize hW : whole x w = W
  refine Eq.trans (b := (W (ix2 R (wcol j)) : EReal)) (by pointwise) ?_
  rw [← hW]
  exact whole_apply x w R _
theorem result_apply (x : Vec Ideal S16384x1024 .bf16) (w : Vec Ideal S1x1024x11848 .f32) (R : Fin 16384) (j : Fin 1024) :
    @Eq EReal (result x w (ix2 R j)) (dot (fun k => x (ix2 R k)) (fun k => w (ix3 0 k (wcol j)))) := by
  unfold result
  exact cols_apply x w R j

end Cert.AvReferenceIdeal.Val

namespace Cert.AvTie
open Idealize.ShloMosaic Idealize.ShloMosaic.TcCoe Idealize.SL.Sem

variable (m : (ℓ : Loc Cert.AvIdeal.nD Cert.AvIdeal.τ Cert.AvIdeal.sig) → Buf (Elt Ideal) ℓ)
  (m' : (ℓ : Loc Cert.AvReferenceIdeal.nD Cert.AvReferenceIdeal.τ Cert.AvReferenceIdeal.sig) → Buf (Elt Ideal) ℓ) (c : Dev Cert.AvIdeal.nD)

/-- The two results are one array. -/
theorem tie
    (e0 : m' ((c.tc : Thread Cert.AvReferenceIdeal.nD Cert.AvReferenceIdeal.τ).loc Cert.AvReferenceIdeal.main_arg0) = m ((c.tc : Thread Cert.AvIdeal.nD Cert.AvIdeal.τ).loc Cert.AvIdeal.main_arg0))
    (e1 : m' ((c.tc : Thread Cert.AvReferenceIdeal.nD Cert.AvReferenceIdeal.τ).loc Cert.AvReferenceIdeal.main_arg1) = m ((c.tc : Thread Cert.AvIdeal.nD Cert.AvIdeal.τ).loc Cert.AvIdeal.main_arg1)) :
    @Eq (Vec Ideal Cert.AvIdeal.S16384x1024 .bf16)
      (Cert.AvReferenceIdeal.Val.result (m' ((c.tc : Thread Cert.AvReferenceIdeal.nD Cert.AvReferenceIdeal.τ).loc Cert.AvReferenceIdeal.main_arg0)) (m' ((c.tc : Thread Cert.AvReferenceIdeal.nD Cert.AvReferenceIdeal.τ).loc Cert.AvReferenceIdeal.main_arg1)))
      ((Cert.AvIdeal.Gen.dats m 0 c).arrAt 2 Cert.AvIdeal.cfg0.N) := by
  funext i
  obtain ⟨R, j, rfl⟩ : ∃ R j, i = ix2 R j := ⟨i 0, i 1, by funext a; fin_cases a <;> rfl⟩
  refine (Cert.AvReferenceIdeal.Val.result_apply _ _ R j).trans (Eq.trans ?_ (Cert.AvIdeal.Val.final_apply m c R j).symm)
  unfold Cert.AvIdeal.Val.entry
  rw [e0, e1]

end Cert.AvTie
-- ==== Proof.RotSpec.lean ====
module
public import proofs.«01_k».proof.Proof.ProjSpec
public import Idealize.ShloMosaic.Lib.Pipeline.Value
public import Idealize.ShloMosaic.Lib.Pipeline.ValueKit

/-!
# The rotated projection, one entry; rows stored eight blocks at a time

A head is turned by an angle per pair of columns: a column of the first half takes `y cos - y' sin`, one of the second
`y cos + y' sin`, with `y'` the column of the other half. The kernel stores a block of 2048 rows in eight of 256.
-/

@[expose] public section
noncomputable section
namespace Cert.RotSpec
open Idealize.ShloMosaic Cert.FfnSpec

/-- Turned by the angle: `first` says which half the column is of. -/
def turned (first : Prop) [Decidable first] (y y' c s : EReal) : EReal := if first then y * c - y' * s else y * c + y' * s

/-- With the sign in the table. -/
theorem turned_eq (first : Prop) [Decidable first] (y y' c s : EReal) : y * c + y' * (if first then -s else s) = turned first y y' c s := by
  unfold turned
  by_cases h : first
  · rw [if_pos h, if_pos h, mul_neg]; exact (sub_eq_add_neg _ _).symm
  · rw [if_neg h, if_neg h]

/-- 256 rows from a row on. -/
def rowsOf {b : ℕ} {α : Type} (w : (⟨2, ![2048, b]⟩ : Shape).Idx → α) (o : ℕ) : (⟨2, ![256, b]⟩ : Shape).Idx → α :=
  fun y => w (ix2 (⟨(o + (y 0).val) % 2048, Nat.mod_lt _ (by norm_num)⟩ : Fin 2048) (y 1))

theorem ld_rows {b : ℕ} {Val : EltTy → Type} {e : EltTy} (w : (⟨2, ![2048, b]⟩ : Shape).Idx → Val e) (o : ℕ)
    (inb : ∀ a, (![o, 0] : Fin 2 → ℕ) a + (![256, b] : Fin 2 → ℕ) a ≤ (⟨2, ![2048, b]⟩ : Shape).size a) :
    View.ld w (Rect.unit (s := ⟨2, ![2048, b]⟩) ![o, 0] ![256, b] inb) = rowsOf w o := by
  funext x
  have h0 : (x 0).val < 256 := (x 0).isLt
  have ho : o + 256 ≤ 2048 := inb 0
  refine View.ld_unit_apply_of w _ _ inb x _ fun d => ?_
  match d with
  | ⟨0, _⟩ => show (o + (x 0).val) % 2048 = o + (x 0).val; exact Nat.mod_eq_of_lt (by omega)
  | ⟨1, _⟩ => show (x 1).val = 0 + (x 1).val; omega

/-- A block of 2048 rows from its blocks of 256, each given by its first row. -/
def rows8 {α : Type} (f : ℕ → (⟨2, ![256, 1024]⟩ : Shape).Idx → α) : (⟨2, ![2048, 1024]⟩ : Shape).Idx → α :=
  fun y => f (256 * ((y 0).val / 256)) (ix2 (⟨(y 0).val % 256, Nat.mod_lt _ (by norm_num)⟩ : Fin 256) (y 1))

/-- Eight stores of 256 rows leave the block of the eight. -/
theorem canon_rows {Val : EltTy → Type} {e : EltTy} [∀ e, Nonempty (Val e)] (f : ℕ → (⟨2, ![256, 1024]⟩ : Shape).Idx → Val e)
    (i7 i6 i5 i4 i3 i2 i1 i0) (L : List (View.Piece Val (⟨2, ![2048, 1024]⟩ : Shape) e)) :
    View.canon (⟨Rect.unit (s := ⟨2, ![2048, 1024]⟩) ![1792, 0] ![256, 1024] i7, f 1792⟩ :: ⟨Rect.unit (s := ⟨2, ![2048, 1024]⟩) ![1536, 0] ![256, 1024] i6, f 1536⟩ ::
      ⟨Rect.unit (s := ⟨2, ![2048, 1024]⟩) ![1280, 0] ![256, 1024] i5, f 1280⟩ :: ⟨Rect.unit (s := ⟨2, ![2048, 1024]⟩) ![1024, 0] ![256, 1024] i4, f 1024⟩ ::
      ⟨Rect.unit (s := ⟨2, ![2048, 1024]⟩) ![768, 0] ![256, 1024] i3, f 768⟩ :: ⟨Rect.unit (s := ⟨2, ![2048, 1024]⟩) ![512, 0] ![256, 1024] i2, f 512⟩ ::
      ⟨Rect.unit (s := ⟨2, ![2048, 1024]⟩) ![256, 0] ![256, 1024] i1, f 256⟩ :: ⟨Rect.unit (s := ⟨2, ![2048, 1024]⟩) ![0, 0] ![256, 1024] i0, f 0⟩ :: L) = rows8 f := by
  have key : ∀ (o : ℕ) (ho : o % 256 = 0) (inb) (M : List (View.Piece Val (⟨2, ![2048, 1024]⟩ : Shape) e)) (y : (⟨2, ![2048, 1024]⟩ : Shape).Idx)
      (_ : 256 * ((y 0).val / 256) ≠ o → View.canon M y = rows8 f y),
      View.canon (⟨Rect.unit (s := ⟨2, ![2048, 1024]⟩) ![o, 0] ![256, 1024] inb, f o⟩ :: M) y = rows8 f y := by
    intro o ho inb M y hM
    by_cases hy : 256 * ((y 0).val / 256) = o
    · have e1 : (Rect.unit (s := ⟨2, ![2048, 1024]⟩) ![o, 0] ![256, 1024] inb).emb (ix2 (⟨(y 0).val % 256, Nat.mod_lt _ (by norm_num)⟩ : Fin 256) (y 1)) = y := by
        funext d
        refine Fin.ext ((Rect.idx_unit_val _ _ inb _ d).trans ?_)
        match d with
        | ⟨0, _⟩ => show o + (y 0).val % 256 = (y 0).val; omega
        | ⟨1, _⟩ => show 0 + (y 1).val = (y 1).val; omega
      have e2 := View.canon_cons_emb (Rect.unit (s := ⟨2, ![2048, 1024]⟩) ![o, 0] ![256, 1024] inb) (f o) M (ix2 (⟨(y 0).val % 256, Nat.mod_lt _ (by norm_num)⟩ : Fin 256) (y 1))
      rw [e1] at e2
      rw [e2]
      unfold rows8
      rw [hy]
    · rw [View.canon_cons_of_not_mem, hM hy]
      intro hm
      have h0 := (Rect.mem_set_unit (inb := inb)).mp hm ⟨0, by norm_num⟩
      have h1 : o ≤ (y 0).val := h0.1
      have h2 : (y 0).val < o + 256 := h0.2
      omega
  funext y
  refine key 1792 (by norm_num) i7 _ y fun h7 => key 1536 (by norm_num) i6 _ y fun h6 => key 1280 (by norm_num) i5 _ y fun h5 => key 1024 (by norm_num) i4 _ y fun h4 =>
    key 768 (by norm_num) i3 _ y fun h3 => key 512 (by norm_num) i2 _ y fun h2 => key 256 (by norm_num) i1 _ y fun h1 => key 0 (by norm_num) i0 _ y fun h0 => ?_
  have h : (y 0).val < 2048 := (y 0).isLt
  omega

end Cert.RotSpec
-- ==== Proof.RqkRot.lean ====
module
public import proofs.«01_k».proof.Proof.RotSpec
public import proofs.«01_k».proof.Proof.Gen.RqkIdeal.Value
public import Idealize.ShloMosaic.Lib.Pointwise

/-!
# The retention's queries and keys: the rotation of 256 rows, and its entries

The kernel turns each head's columns: times the cosines, plus the columns with the halves swapped times the signed sines.
-/

@[expose] public section
set_option maxRecDepth 16384
noncomputable section
namespace Cert.RqkIdeal.Val
open Idealize.ShloMosaic Idealize.ShloMosaic.TcCoe Idealize.SL.Sem
open Cert.RqkIdeal Cert.RqkIdeal.Gen Cert.FfnSpec Cert.ProjSpec Cert.RotSpec
section defs
variable {F : FTy → Type} [FloatOps F]

/-- One head's columns turned: times the cosines, plus the other halves times the signed sines. -/
def rotTile (y c s : FVec F S256x256 .f32) : FVec F S256x256 .f32 :=
  addf (mulf y c) (mulf (concatenate S256x256 1 [⟨S256x128, extractStridedSlice S256x128 ![0, 128] y slices_S256x256_o0_128_S256x128⟩, ⟨S256x128, extractStridedSlice S256x128 ![0, 0] y slices_S256x256_o0_0_S256x128⟩] concatenates_S256x128_S256x128_S256x256_d1) s)

/-- All heads of a block of columns. -/
def rotAll (Y : FVec F S256x1024 .f32) (c s : FVec F S256x256 .f32) : FVec F S256x1024 .f32 :=
  concatenate S256x1024 1 [⟨S256x256, rotTile (extractStridedSlice S256x256 ![0, 0] Y slices_S256x1024_o0_0_S256x256) c s⟩, ⟨S256x256, rotTile (extractStridedSlice S256x256 ![0, 256] Y slices_S256x1024_o0_256_S256x256) c s⟩, ⟨S256x256, rotTile (extractStridedSlice S256x256 ![0, 512] Y slices_S256x1024_o0_512_S256x256) c s⟩, ⟨S256x256, rotTile (extractStridedSlice S256x256 ![0, 768] Y slices_S256x1024_o0_768_S256x256) c s⟩] concatenates_S256x256_S256x256_S256x256_S256x256_S256x1024_d1

/-- The scale of a block of columns: of the queries or of the keys. -/
def scale (a : BitVec 32) : F .f32 := Scalar.select (Scalar.cmpi .sge a 1#32) (Scalar.ofBits .f32 0x3D800000#32) (Scalar.ofBits .f32 0x3F800000#32)

/-- The rows times the kept block of the weight. -/
def prod (x : Vec F S256x1024 .bf16) (w : Vec F S1024x1024 .bf16) : FVec F S256x1024 .f32 :=
  matmul dot_S256x1024_S1024x1024_S256x1024_1_0_0_1_n_n none x w (constant S256x1024 .f32 0x00000000#32)

/-- What is stored of 256 rows. -/
def rotBlk (a : BitVec 32) (x : Vec F S256x1024 .bf16) (w : Vec F S1024x1024 .bf16) (c s : Vec F S256x256 .f32) : FVec F S256x1024 .bf16 :=
  truncf .bf16 (mulf (rotAll (prod x w) (shapeCast S256x256 c shapeCasts_S256x256_S256x256) (shapeCast S256x256 s shapeCasts_S256x256_S256x256)) (broadcast S256x1024 (scale a))) bitsLt_bf16_f32

/-- What is stored of 2048 rows. -/
def rotRows (a : BitVec 32) (x : Vec F S2048x1024 .bf16) (w : Vec F S1024x1024 .bf16) (c s : Vec F S2048x256 .f32) : Vec F S2048x1024 .bf16 :=
  rows8 fun o => rotBlk a (rowsOf x o) w (rowsOf c o) (rowsOf s o)

end defs

/-- The column of the other half of the head. -/
def other (q : Fin 256) : Fin 256 := ⟨(q.val + 128) % 256, Nat.mod_lt _ (by norm_num)⟩
/-- A column of a block, from its head and its place there. -/
abbrev col (h : Fin 4) (q : Fin 256) : Fin 1024 := ⟨256 * h.val + q.val, by omega⟩

/-- A column of a head's second half. -/
abbrev hi (u : Fin 128) : Fin 256 := ⟨128 + u.val, by omega⟩

theorem tile_lo (y c s : Vec Ideal S256x256 .f32) (r : Fin 256) (q : Fin 128) :
    @Eq EReal (rotTile (F := Ideal) y c s (ix2 r (⟨q.val, by omega⟩ : Fin 256))) (y (ix2 r (⟨q.val, by omega⟩ : Fin 256)) * c (ix2 r (⟨q.val, by omega⟩ : Fin 256)) + y (ix2 r (⟨128 + q.val, by omega⟩ : Fin 256)) * s (ix2 r (⟨q.val, by omega⟩ : Fin 256))) := by
  pointwise [rotTile]

theorem tile_hi (y c s : Vec Ideal S256x256 .f32) (r : Fin 256) (q : Fin 128) :
    @Eq EReal (rotTile (F := Ideal) y c s (ix2 r (⟨128 + q.val, by omega⟩ : Fin 256))) (y (ix2 r (⟨128 + q.val, by omega⟩ : Fin 256)) * c (ix2 r (⟨128 + q.val, by omega⟩ : Fin 256)) + y (ix2 r (⟨q.val, by omega⟩ : Fin 256)) * s (ix2 r (⟨128 + q.val, by omega⟩ : Fin 256))) := by
  pointwise [rotTile]

theorem tile_apply (y c s : Vec Ideal S256x256 .f32) (r : Fin 256) (q : Fin 256) :
    @Eq EReal (rotTile (F := Ideal) y c s (ix2 r q)) (y (ix2 r q) * c (ix2 r q) + y (ix2 r (other q)) * s (ix2 r q)) := by
  by_cases h : q.val < 128
  · have e : (⟨128 + q.val, by omega⟩ : Fin 256) = other q := Fin.ext (by show 128 + q.val = (q.val + 128) % 256; omega)
    have := tile_lo y c s r ⟨q.val, h⟩
    rw [← e]
    exact this
  · obtain ⟨u, rfl⟩ : ∃ u : Fin 128, q = hi u := ⟨⟨q.val - 128, by omega⟩, Fin.ext (by show q.val = 128 + (q.val - 128); omega)⟩
    have e : (⟨u.val, by omega⟩ : Fin 256) = other (hi u) := Fin.ext (by show u.val = (128 + u.val + 128) % 256; omega)
    rw [← e]
    exact tile_hi y c s r u

theorem all_apply_0 (Y : Vec Ideal S256x1024 .f32) (c s : Vec Ideal S256x256 .f32) (r : Fin 256) (q : Fin 256) :
    @Eq EReal (rotAll (F := Ideal) Y c s (ix2 r (⟨0 + q.val, by omega⟩ : Fin 1024))) (Y (ix2 r (⟨0 + q.val, by omega⟩ : Fin 1024)) * c (ix2 r q) + Y (ix2 r (⟨0 + (other q).val, by have := (other q).isLt; omega⟩ : Fin 1024)) * s (ix2 r q)) := by
  have e : @Eq EReal (rotAll (F := Ideal) Y c s (ix2 r (⟨0 + q.val, by omega⟩ : Fin 1024))) (rotTile (F := Ideal) (extractStridedSlice S256x256 ![0, 0] Y slices_S256x1024_o0_0_S256x256) c s (ix2 r q)) := by
    unfold rotAll
    refine concatenate_apply_piece (α := EReal) (t := S256x1024) 1 [⟨S256x256, rotTile (F := Ideal) (extractStridedSlice S256x256 ![0, 0] Y slices_S256x1024_o0_0_S256x256) c s⟩, ⟨S256x256, rotTile (F := Ideal) (extractStridedSlice S256x256 ![0, 256] Y slices_S256x1024_o0_256_S256x256) c s⟩, ⟨S256x256, rotTile (F := Ideal) (extractStridedSlice S256x256 ![0, 512] Y slices_S256x1024_o0_512_S256x256) c s⟩, ⟨S256x256, rotTile (F := Ideal) (extractStridedSlice S256x256 ![0, 768] Y slices_S256x1024_o0_768_S256x256) c s⟩] concatenates_S256x256_S256x256_S256x256_S256x256_S256x1024_d1 _ 0 (by show 0 < 4; decide) S256x256 _ rfl rfl 0 rfl (ix2 r q) (fun b hb => ?_) ?_
    · match b with
      | ⟨0, _⟩ => rfl
      | ⟨1, _⟩ => exact absurd rfl hb
    · rfl
  refine e.trans ((tile_apply _ c s r q).trans ?_)
  have es : ∀ u : Fin 256, @Eq EReal (extractStridedSlice S256x256 ![0, 0] Y slices_S256x1024_o0_0_S256x256 (ix2 r u)) (Y (ix2 r (⟨0 + u.val, by omega⟩ : Fin 1024))) := fun u => by pointwise
  rw [es q, es (other q)]

theorem all_apply_1 (Y : Vec Ideal S256x1024 .f32) (c s : Vec Ideal S256x256 .f32) (r : Fin 256) (q : Fin 256) :
    @Eq EReal (rotAll (F := Ideal) Y c s (ix2 r (⟨256 + q.val, by omega⟩ : Fin 1024))) (Y (ix2 r (⟨256 + q.val, by omega⟩ : Fin 1024)) * c (ix2 r q) + Y (ix2 r (⟨256 + (other q).val, by have := (other q).isLt; omega⟩ : Fin 1024)) * s (ix2 r q)) := by
  have e : @Eq EReal (rotAll (F := Ideal) Y c s (ix2 r (⟨256 + q.val, by omega⟩ : Fin 1024))) (rotTile (F := Ideal) (extractStridedSlice S256x256 ![0, 256] Y slices_S256x1024_o0_256_S256x256) c s (ix2 r q)) := by
    unfold rotAll
    refine concatenate_apply_piece (α := EReal) (t := S256x1024) 1 [⟨S256x256, rotTile (F := Ideal) (extractStridedSlice S256x256 ![0, 0] Y slices_S256x1024_o0_0_S256x256) c s⟩, ⟨S256x256, rotTile (F := Ideal) (extractStridedSlice S256x256 ![0, 256] Y slices_S256x1024_o0_256_S256x256) c s⟩, ⟨S256x256, rotTile (F := Ideal) (extractStridedSlice S256x256 ![0, 512] Y slices_S256x1024_o0_512_S256x256) c s⟩, ⟨S256x256, rotTile (F := Ideal) (extractStridedSlice S256x256 ![0, 768] Y slices_S256x1024_o0_768_S256x256) c s⟩] concatenates_S256x256_S256x256_S256x256_S256x256_S256x1024_d1 _ 1 (by show 1 < 4; decide) S256x256 _ rfl rfl 256 rfl (ix2 r q) (fun b hb => ?_) ?_
    · match b with
      | ⟨0, _⟩ => rfl
      | ⟨1, _⟩ => exact absurd rfl hb
    · rfl
  refine e.trans ((tile_apply _ c s r q).trans ?_)
  have es : ∀ u : Fin 256, @Eq EReal (extractStridedSlice S256x256 ![0, 256] Y slices_S256x1024_o0_256_S256x256 (ix2 r u)) (Y (ix2 r (⟨256 + u.val, by omega⟩ : Fin 1024))) := fun u => by pointwise
  rw [es q, es (other q)]

theorem all_apply_2 (Y : Vec Ideal S256x1024 .f32) (c s : Vec Ideal S256x256 .f32) (r : Fin 256) (q : Fin 256) :
    @Eq EReal (rotAll (F := Ideal) Y c s (ix2 r (⟨512 + q.val, by omega⟩ : Fin 1024))) (Y (ix2 r (⟨512 + q.val, by omega⟩ : Fin 1024)) * c (ix2 r q) + Y (ix2 r (⟨512 + (other q).val, by have := (other q).isLt; omega⟩ : Fin 1024)) * s (ix2 r q)) := by
  have e : @Eq EReal (rotAll (F := Ideal) Y c s (ix2 r (⟨512 + q.val, by omega⟩ : Fin 1024))) (rotTile (F := Ideal) (extractStridedSlice S256x256 ![0, 512] Y slices_S256x1024_o0_512_S256x256) c s (ix2 r q)) := by
    unfold rotAll
    refine concatenate_apply_piece (α := EReal) (t := S256x1024) 1 [⟨S256x256, rotTile (F := Ideal) (extractStridedSlice S256x256 ![0, 0] Y slices_S256x1024_o0_0_S256x256) c s⟩, ⟨S256x256, rotTile (F := Ideal) (extractStridedSlice S256x256 ![0, 256] Y slices_S256x1024_o0_256_S256x256) c s⟩, ⟨S256x256, rotTile (F := Ideal) (extractStridedSlice S256x256 ![0, 512] Y slices_S256x1024_o0_512_S256x256) c s⟩, ⟨S256x256, rotTile (F := Ideal) (extractStridedSlice S256x256 ![0, 768] Y slices_S256x1024_o0_768_S256x256) c s⟩] concatenates_S256x256_S256x256_S256x256_S256x256_S256x1024_d1 _ 2 (by show 2 < 4; decide) S256x256 _ rfl rfl 512 rfl (ix2 r q) (fun b hb => ?_) ?_
    · match b with
      | ⟨0, _⟩ => rfl
      | ⟨1, _⟩ => exact absurd rfl hb
    · rfl
  refine e.trans ((tile_apply _ c s r q).trans ?_)
  have es : ∀ u : Fin 256, @Eq EReal (extractStridedSlice S256x256 ![0, 512] Y slices_S256x1024_o0_512_S256x256 (ix2 r u)) (Y (ix2 r (⟨512 + u.val, by omega⟩ : Fin 1024))) := fun u => by pointwise
  rw [es q, es (other q)]

theorem all_apply_3 (Y : Vec Ideal S256x1024 .f32) (c s : Vec Ideal S256x256 .f32) (r : Fin 256) (q : Fin 256) :
    @Eq EReal (rotAll (F := Ideal) Y c s (ix2 r (⟨768 + q.val, by omega⟩ : Fin 1024))) (Y (ix2 r (⟨768 + q.val, by omega⟩ : Fin 1024)) * c (ix2 r q) + Y (ix2 r (⟨768 + (other q).val, by have := (other q).isLt; omega⟩ : Fin 1024)) * s (ix2 r q)) := by
  have e : @Eq EReal (rotAll (F := Ideal) Y c s (ix2 r (⟨768 + q.val, by omega⟩ : Fin 1024))) (rotTile (F := Ideal) (extractStridedSlice S256x256 ![0, 768] Y slices_S256x1024_o0_768_S256x256) c s (ix2 r q)) := by
    unfold rotAll
    refine concatenate_apply_piece (α := EReal) (t := S256x1024) 1 [⟨S256x256, rotTile (F := Ideal) (extractStridedSlice S256x256 ![0, 0] Y slices_S256x1024_o0_0_S256x256) c s⟩, ⟨S256x256, rotTile (F := Ideal) (extractStridedSlice S256x256 ![0, 256] Y slices_S256x1024_o0_256_S256x256) c s⟩, ⟨S256x256, rotTile (F := Ideal) (extractStridedSlice S256x256 ![0, 512] Y slices_S256x1024_o0_512_S256x256) c s⟩, ⟨S256x256, rotTile (F := Ideal) (extractStridedSlice S256x256 ![0, 768] Y slices_S256x1024_o0_768_S256x256) c s⟩] concatenates_S256x256_S256x256_S256x256_S256x256_S256x1024_d1 _ 3 (by show 3 < 4; decide) S256x256 _ rfl rfl 768 rfl (ix2 r q) (fun b hb => ?_) ?_
    · match b with
      | ⟨0, _⟩ => rfl
      | ⟨1, _⟩ => exact absurd rfl hb
    · rfl
  refine e.trans ((tile_apply _ c s r q).trans ?_)
  have es : ∀ u : Fin 256, @Eq EReal (extractStridedSlice S256x256 ![0, 768] Y slices_S256x1024_o0_768_S256x256 (ix2 r u)) (Y (ix2 r (⟨768 + u.val, by omega⟩ : Fin 1024))) := fun u => by pointwise
  rw [es q, es (other q)]

theorem all_apply (Y : Vec Ideal S256x1024 .f32) (c s : Vec Ideal S256x256 .f32) (r : Fin 256) (h : Fin 4) (q : Fin 256) :
    @Eq EReal (rotAll (F := Ideal) Y c s (ix2 r (col h q))) (Y (ix2 r (col h q)) * c (ix2 r q) + Y (ix2 r (col h (other q))) * s (ix2 r q)) := by
  match h with
  | ⟨0, _⟩ => exact all_apply_0 Y c s r q
  | ⟨1, _⟩ => exact all_apply_1 Y c s r q
  | ⟨2, _⟩ => exact all_apply_2 Y c s r q
  | ⟨3, _⟩ => exact all_apply_3 Y c s r q

theorem prod_apply (x : Vec Ideal S256x1024 .bf16) (w : Vec Ideal S1024x1024 .bf16) (r : Fin 256) (j : Fin 1024) :
    @Eq EReal (prod (F := Ideal) x w (ix2 r j)) (dot (fun k => x (ix2 r k)) (fun k => w (ix2 k j))) := by
  unfold dot
  pointwise [prod]

theorem same_apply (c : Vec Ideal S256x256 .f32) (r : Fin 256) (q : Fin 256) : @Eq EReal (shapeCast S256x256 c shapeCasts_S256x256_S256x256 (ix2 r q)) (c (ix2 r q)) := by
  pointwise

theorem scaled_apply (Y : Vec Ideal S256x1024 .f32) (z : EReal) (r : Fin 256) (j : Fin 1024) :
    @Eq EReal (truncf (F := Ideal) .bf16 (mulf (F := Ideal) (φ := .f32) Y (broadcast S256x1024 (z : Ideal .f32))) bitsLt_bf16_f32 (ix2 r j)) (Y (ix2 r j) * z) := by
  pointwise

theorem blk_apply (a : BitVec 32) (x : Vec Ideal S256x1024 .bf16) (w : Vec Ideal S1024x1024 .bf16) (c s : Vec Ideal S256x256 .f32) (r : Fin 256) (h : Fin 4) (q : Fin 256) :
    @Eq EReal (rotBlk (F := Ideal) a x w c s (ix2 r (col h q)))
      ((dot (fun k => x (ix2 r k)) (fun k => w (ix2 k (col h q))) * c (ix2 r q) + dot (fun k => x (ix2 r k)) (fun k => w (ix2 k (col h (other q)))) * s (ix2 r q)) * scale (F := Ideal) a) := by
  unfold rotBlk
  refine (scaled_apply _ _ r _).trans (congrArg (· * (scale (F := Ideal) a : EReal)) ?_)
  refine (all_apply _ _ _ r h q).trans ?_
  rw [prod_apply, prod_apply, same_apply, same_apply]

theorem rowsOf_apply {b : ℕ} {α : Type} (w : (⟨2, ![2048, b]⟩ : Shape).Idx → α) (r : Fin 2048) (k : Fin b) :
    rowsOf w (256 * (r.val / 256)) (ix2 (⟨r.val % 256, Nat.mod_lt _ (by norm_num)⟩ : Fin 256) k) = w (ix2 r k) := by
  have e : (⟨(256 * (r.val / 256) + r.val % 256) % 2048, Nat.mod_lt _ (by norm_num)⟩ : Fin 2048) = r := Fin.ext (by show (256 * (r.val / 256) + r.val % 256) % 2048 = r.val; omega)
  exact congrArg (fun u => w (ix2 u k)) e

/-- One entry of what is stored. -/
theorem rows_apply (a : BitVec 32) (x : Vec Ideal S2048x1024 .bf16) (w : Vec Ideal S1024x1024 .bf16) (c s : Vec Ideal S2048x256 .f32) (r : Fin 2048) (h : Fin 4) (q : Fin 256) :
    @Eq EReal (rotRows (F := Ideal) a x w c s (ix2 r (col h q)))
      ((dot (fun k => x (ix2 r k)) (fun k => w (ix2 k (col h q))) * c (ix2 r q) + dot (fun k => x (ix2 r k)) (fun k => w (ix2 k (col h (other q)))) * s (ix2 r q)) * scale (F := Ideal) a) := by
  refine (blk_apply a (rowsOf x (256 * (r.val / 256))) w (rowsOf c (256 * (r.val / 256))) (rowsOf s (256 * (r.val / 256))) (⟨r.val % 256, Nat.mod_lt _ (by norm_num)⟩ : Fin 256) h q).trans ?_
  rw [rowsOf_apply c r q, rowsOf_apply s r q, funext fun k => rowsOf_apply x r k]

/-- The scale of each of the two blocks of columns. -/
theorem scale_apply (n : ℕ) (hn : n < 2) : @Eq EReal (scale (F := Ideal) (BitVec.ofNat 32 n)) (if n = 0 then Ideal.ofBits .f32 0x3F800000#32 else Ideal.ofBits .f32 0x3D800000#32) := by
  match n, hn with
  | 0, _ => rfl
  | 1, _ => rfl

end Cert.RqkIdeal.Val
-- ==== Proof.RqkTables.lean ====
module
public import proofs.«01_k».proof.Proof.RqkRot
public import Idealize.ShloMosaic.Lib.StableHlo.RunClose

/-!
# The retention's queries and keys: the tables of cosines and sines

The host makes the angles, their cosines twice over, and their sines once with the sign turned and once as they are.
-/

@[expose] public section
set_option maxRecDepth 16384
noncomputable section
namespace Cert.RqkIdeal.Val
open Idealize.ShloMosaic Idealize.ShloMosaic.TcCoe Idealize.SL.Sem
open Cert.RqkIdeal Cert.RqkIdeal.Gen Cert.FfnSpec Cert.ProjSpec Cert.RotSpec

/-- The angles. -/
def ang {F : FTy → Type} [FloatOps F] : Vec F S2048x128 .f32 :=
  (mulf (broadcastInDim S2048x128 ![0, 1] bcast_S2048x1_S2048x128_0_1 (broadcastInDim S2048x1 ![0] bcast_S2048_S2048x1_0 (sitofp .f32 (addi (broadcastInDim S2048 ![] bcast_S_S2048 (constantI S_ 32 16#32)) (iotaInDim S2048 32 0))))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (addf (broadcastInDim S128 ![] bcast_S_S128 (constant S_ .f32 0x00000000#32)) (mulf (broadcastInDim S128 ![] bcast_S_S128 (constant S_ .f32 0x40000000#32)) (sitofp .f32 (iotaInDim S128 32 0))))) (broadcastInDim S128 ![] bcast_S_S128 (constant S_ .f32 0x43800000#32)))))))

/-- Their cosines. -/
def cosT {F : FTy → Type} [FloatOps F] : Vec F S2048x128 .f32 := Host.cos (F := F) (φ := .f32) (ang (F := F))
/-- Their sines. -/
def sinT {F : FTy → Type} [FloatOps F] : Vec F S2048x128 .f32 := Host.sin (F := F) (φ := .f32) (ang (F := F))

/-- Two tables side by side, through the host's reshapes. -/
def two {F : FTy → Type} [FloatOps F] (a b : Vec F S2048x128 .f32) : Vec F S2048x256 .f32 :=
  shapeCast S2048x256 (broadcastInDim S1x2048x1x256 ![0, 1, 2, 3] bcast_S1x2048x1x256_S1x2048x1x256_0_1_2_3 (shapeCast S1x2048x1x256 (concatenate S2048x256 1 [⟨S2048x128, a⟩, ⟨S2048x128, b⟩] concatenates_S2048x128_S2048x128_S2048x256_d1) shapeCasts_S2048x256_S1x2048x1x256)) shapeCasts_S1x2048x1x256_S2048x256

theorem pass_apply (v : Vec Ideal S2048x256 .f32) (r : Fin 2048) (q : Fin 256) :
    @Eq EReal (shapeCast S2048x256 (broadcastInDim S1x2048x1x256 ![0, 1, 2, 3] bcast_S1x2048x1x256_S1x2048x1x256_0_1_2_3 (shapeCast S1x2048x1x256 v shapeCasts_S2048x256_S1x2048x1x256)) shapeCasts_S1x2048x1x256_S2048x256 (ix2 r q)) (v (ix2 r q)) := by
  pointwise

theorem two_lo (a b : Vec Ideal S2048x128 .f32) (r : Fin 2048) (u : Fin 128) : @Eq EReal (two (F := Ideal) a b (ix2 r (⟨u.val, by omega⟩ : Fin 256))) (a (ix2 r u)) := by
  refine (pass_apply _ r _).trans ?_
  pointwise

theorem two_hi (a b : Vec Ideal S2048x128 .f32) (r : Fin 2048) (u : Fin 128) : @Eq EReal (two (F := Ideal) a b (ix2 r (hi u))) (b (ix2 r u)) := by
  refine (pass_apply _ r _).trans ?_
  pointwise

/-- The pair of columns a column belongs to. -/
abbrev pair (q : Fin 256) : Fin 128 := ⟨q.val % 128, Nat.mod_lt _ (by norm_num)⟩

theorem two_apply (a b : Vec Ideal S2048x128 .f32) (r : Fin 2048) (q : Fin 256) :
    @Eq EReal (two (F := Ideal) a b (ix2 r q)) (if q.val < 128 then a (ix2 r (pair q)) else b (ix2 r (pair q))) := by
  by_cases h : q.val < 128
  · rw [if_pos h, show pair q = ⟨q.val, h⟩ from Fin.ext (Nat.mod_eq_of_lt h)]
    exact two_lo a b r ⟨q.val, h⟩
  · obtain ⟨u, rfl⟩ : ∃ u : Fin 128, q = hi u := ⟨⟨q.val - 128, by omega⟩, Fin.ext (by show q.val = 128 + (q.val - 128); omega)⟩
    rw [if_neg h, show pair (hi u) = u from Fin.ext (by show (128 + u.val) % 128 = u.val; omega)]
    exact two_hi a b r u

theorem neg_apply (a : Vec Ideal S2048x128 .f32) (r : Fin 2048) (u : Fin 128) : @Eq EReal (Host.negf (F := Ideal) (φ := .f32) a (ix2 r u)) (-(a (ix2 r u) : EReal)) := by
  pointwise

variable (m : (ℓ : Loc nD τ sig) → Buf (Elt Ideal) ℓ) (c : Dev nD)

theorem cos_eq : @Eq (Vec Ideal S2048x256 .f32) (V m c main_v28) (two (F := Ideal) (cosT (F := Ideal)) (cosT (F := Ideal))) := by
  unfold two cosT ang
  unfold V hostOps0
  after_results_entrywise []

theorem sin_eq : @Eq (Vec Ideal S2048x256 .f32) (V m c main_v31) (two (F := Ideal) (Host.negf (F := Ideal) (φ := .f32) (sinT (F := Ideal))) (sinT (F := Ideal))) := by
  unfold two sinT ang
  unfold V hostOps0
  after_results_entrywise []

end Cert.RqkIdeal.Val
-- ==== Proof.RqkPieces.lean ====
module
public import proofs.«01_k».proof.Proof.RqkRot

/-!
# The retention's queries and keys: what a point stores, as one function of 256 rows

The printed body spells the same function out for each of its eight blocks of rows.
-/

@[expose] public section
set_option maxRecDepth 16384
noncomputable section
namespace Cert.RqkIdeal.Val
open Idealize.ShloMosaic Idealize.ShloMosaic.TcCoe Idealize.SL.Sem
open Cert.RqkIdeal Cert.RqkIdeal.Gen Cert.RotSpec
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem ld_x {Val : EltTy → Type} {e : EltTy} (w : S2048x1024.Idx → Val e) (o : ℕ) (inb : ∀ a, (![o, 0] : Fin 2 → ℕ) a + (![256, 1024] : Fin 2 → ℕ) a ≤ S2048x1024.size a) :
    View.ld w (Rect.unit (s := S2048x1024) ![o, 0] ![256, 1024] inb) = rowsOf w o := ld_rows w o inb
theorem ld_t {Val : EltTy → Type} {e : EltTy} (w : S2048x256.Idx → Val e) (o : ℕ) (inb : ∀ a, (![o, 0] : Fin 2 → ℕ) a + (![256, 256] : Fin 2 → ℕ) a ≤ S2048x256.size a) :
    View.ld w (Rect.unit (s := S2048x256) ![o, 0] ![256, 256] inb) = rowsOf w o := ld_rows w o inb

/-! The eight spellings of it. -/

theorem pay_1792 (i : grid0.Coords) (x : Vec F S256x1024 .bf16) (w : Vec F S1024x1024 .bf16) (c s : Vec F S256x256 .f32) :
    k0_pay1 (BitVec.ofNat 32 (i 0).val) (k0_pay12 x w) (k0_pay13 c) s = rotBlk (BitVec.ofNat 32 (i 0).val) x w c s := rfl
theorem pay_1536 (i : grid0.Coords) (x : Vec F S256x1024 .bf16) (w : Vec F S1024x1024 .bf16) (c s : Vec F S256x256 .f32) :
    k0_pay11 (BitVec.ofNat 32 (i 0).val) (k0_pay10 x w) c s = rotBlk (BitVec.ofNat 32 (i 0).val) x w c s := rfl
theorem pay_1280 (i : grid0.Coords) (x : Vec F S256x1024 .bf16) (w : Vec F S1024x1024 .bf16) (c s : Vec F S256x256 .f32) :
    k0_pay9 (BitVec.ofNat 32 (i 0).val) x w (constant S256x1024 .f32 0#32) c s = rotBlk (BitVec.ofNat 32 (i 0).val) x w c s := rfl
theorem pay_1024 (i : grid0.Coords) (x : Vec F S256x1024 .bf16) (w : Vec F S1024x1024 .bf16) (c s : Vec F S256x256 .f32) :
    k0_pay8 (BitVec.ofNat 32 (i 0).val) x w c s = rotBlk (BitVec.ofNat 32 (i 0).val) x w c s := rfl
theorem pay_768 (i : grid0.Coords) (x : Vec F S256x1024 .bf16) (w : Vec F S1024x1024 .bf16) (c s : Vec F S256x256 .f32) :
    k0_pay7 (BitVec.ofNat 32 (i 0).val) x w c s = rotBlk (BitVec.ofNat 32 (i 0).val) x w c s := rfl
theorem pay_512 (i : grid0.Coords) (x : Vec F S256x1024 .bf16) (w : Vec F S1024x1024 .bf16) (c s : Vec F S256x256 .f32) :
    k0_pay6 (BitVec.ofNat 32 (i 0).val) x w c s = rotBlk (BitVec.ofNat 32 (i 0).val) x w c s := rfl
theorem pay_256 (i : grid0.Coords) (x : Vec F S256x1024 .bf16) (w : Vec F S1024x1024 .bf16) (c s : Vec F S256x256 .f32) :
    k0_pay5 (BitVec.ofNat 32 (i 0).val) x w c s = rotBlk (BitVec.ofNat 32 (i 0).val) x w c s := rfl
theorem pay_0 (i : grid0.Coords) (x : Vec F S256x1024 .bf16) (w : Vec F S1024x1024 .bf16) (c s : Vec F S256x256 .f32) :
    k0_pay4 (k0_pay3 i x w c s) = rotBlk (BitVec.ofNat 32 (i 0).val) x w c s := rfl

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1024 .bf16) (harg6 : arg6.IsWhole) (arg7 : Memref sig .tc .vmem S1024x1024 .bf16) (harg7 : arg7.IsWhole) (hc0 : cond0_0 i)
    (x0 : Vec F S2048x1024 .bf16) (x1 : Vec F S1024x1024 .f32) (x2 : Vec F S2048x256 .f32) (x3 : Vec F S2048x256 .f32) :
    sout0_A_0 c i arg2 harg2 arg3 harg3 arg4 harg4 arg5 harg5 arg6 harg6 arg7 harg7 hc0 x0 x1 x2 x3 = k0_pay2 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]

set_option maxHeartbeats 1600000 in
/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1024 .bf16) (harg6 : arg6.IsWhole) (arg7 : Memref sig .tc .vmem S1024x1024 .bf16) (harg7 : arg7.IsWhole) (hc0 : cond0_0 i)
    (x0 : Vec F S2048x1024 .bf16) (x1 : Vec F S1024x1024 .f32) (x2 : Vec F S2048x256 .f32) (x3 : Vec F S2048x256 .f32) :
    out0_A_4 c i arg2 harg2 arg3 harg3 arg4 harg4 arg5 harg5 arg6 harg6 arg7 harg7 hc0 x0 x1 x2 x3 = rotRows (BitVec.ofNat 32 (i 0).val) x0 (k0_pay2 x1) x2 x3 := by
  unfold out0_A_4
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]
  rw [pay_1792, pay_1536, pay_1280, pay_1024, pay_768, pay_512, pay_256, pay_0]
  unfold rotRows
  exact canon_rows (Val := Elt F) (e := .bf16) (fun o => rotBlk (BitVec.ofNat 32 (i 0).val) (rowsOf x0 o) (k0_pay2 x1) (rowsOf x2 o) (rowsOf x3 o)) _ _ _ _ _ _ _ _ []

set_option maxHeartbeats 1600000 in
/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x1024 .bf16) (harg6 : arg6.IsWhole) (arg7 : Memref sig .tc .vmem S1024x1024 .bf16) (harg7 : arg7.IsWhole) (hc0 : ¬cond0_0 i)
    (x0 : Vec F S2048x1024 .bf16) (x1 : Vec F S1024x1024 .f32) (x2 : Vec F S2048x256 .f32) (x3 : Vec F S2048x256 .f32) (xs0 : Vec F S1024x1024 .bf16) :
    out0_B_4 c i arg2 harg2 arg3 harg3 arg4 harg4 arg5 harg5 arg6 harg6 arg7 harg7 hc0 x0 x1 x2 x3 xs0 = rotRows (BitVec.ofNat 32 (i 0).val) x0 xs0 x2 x3 := by
  unfold out0_B_4
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]
  rw [pay_1792, pay_1536, pay_1280, pay_1024, pay_768, pay_512, pay_256, pay_0]
  unfold rotRows
  exact canon_rows (Val := Elt F) (e := .bf16) (fun o => rotBlk (BitVec.ofNat 32 (i 0).val) (rowsOf x0 o) xs0 (rowsOf x2 o) (rowsOf x3 o)) _ _ _ _ _ _ _ _ []

end Cert.RqkIdeal.Val
-- ==== Proof.RqkRows.lean ====
module
public import proofs.«01_k».proof.Proof.RqkTables
public import proofs.«01_k».proof.Proof.RqkPieces

/-!
# The retention's queries and keys, row by row

The kernel turns a block of 1024 columns of the weight once, keeps it over the eight blocks of rows that follow, multiplies
each of them by it and turns every head by its row's angles. By induction over the points, the kept block is the one of
the point's columns.
-/

@[expose] public section
set_option maxRecDepth 16384
noncomputable section
namespace Cert.RqkIdeal.Val
open Idealize.ShloMosaic Idealize.ShloMosaic.TcCoe Idealize.SL.Sem
open Cert.RqkIdeal Cert.RqkIdeal.Gen Cert.FfnSpec Cert.ProjSpec Cert.RotSpec

theorem turn_apply (v : Vec Ideal S1024x1024 .f32) (k j : Fin 1024) : @Eq EReal (k0_pay2 (F := Ideal) v (ix2 k j)) (v (ix2 j k)) := by
  pointwise [k0_pay2]

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 2048) : Fin 11848 := ⟨0 + j.val, by omega⟩
/-- The result's column that is column `j` of point `t`'s block. -/
abbrev colOf (t : Fin cfg0.N) (j : Fin 1024) : Fin 2048 := ⟨1024 * (t.val / 8) + j.val, by have := grid_lt t; omega⟩

theorem index_all : ∀ t : Fin cfg0.N, ((win0_0.index t 0 = t.val % 8 ∧ win0_0.index t 1 = 0) ∧ (win0_1.index t 0 = 0 + t.val / 8 ∧ win0_1.index t 1 = 0)) ∧ ((win0_2.index t 0 = 0 ∧ win0_2.index t 1 = 0) ∧ (win0_3.index t 0 = 0 ∧ win0_3.index t 1 = 0)) ∧ (win0_4.index t 0 = t.val % 8 ∧ win0_4.index t 1 = t.val / 8) ∧ (grid0.coords t 0).val = t.val / 8 :=
  (by decide +kernel : ∀ t : Fin grid0.N, ((win0_0.index t 0 = t.val % 8 ∧ win0_0.index t 1 = 0) ∧ (win0_1.index t 0 = 0 + t.val / 8 ∧ win0_1.index t 1 = 0)) ∧ ((win0_2.index t 0 = 0 ∧ win0_2.index t 1 = 0) ∧ (win0_3.index t 0 = 0 ∧ win0_3.index t 1 = 0)) ∧ (win0_4.index t 0 = t.val % 8 ∧ win0_4.index t 1 = t.val / 8) ∧ (grid0.coords t 0).val = t.val / 8)

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨⟨h0, h1⟩, -⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The cosines a point reads. -/
theorem iblk2 (t : Fin cfg0.N) (r : Fin 2048) (q : Fin 256) : @Eq EReal ((iblk m c 2 t : Vec Ideal S2048x256 .f32) (ix2 r q)) (cosT (F := Ideal) (ix2 r (pair q))) := by
  obtain ⟨-, ⟨⟨h0, h1⟩, -⟩, -⟩ := index_all t
  refine Eq.trans ?_ ((congrFun (cos_eq m c) (ix2 r q)).trans ((two_apply _ _ r q).trans (ite_self _)))
  unfold iblk
  rw [View.read_apply]
  show V m c main_v28 _ = _
  refine congrArg _ (funext fun a => Fin.ext ?_)
  match a with
  | ⟨0, _⟩ => show win0_2.index t 0 * 2048 + 1 * r.val = r.val; rw [h0]; omega
  | ⟨1, _⟩ => show win0_2.index t 1 * 256 + 1 * q.val = q.val; rw [h1]; omega

/-- The signed sines a point reads. -/
theorem iblk3 (t : Fin cfg0.N) (r : Fin 2048) (q : Fin 256) : @Eq EReal ((iblk m c 3 t : Vec Ideal S2048x256 .f32) (ix2 r q))
    (if q.val < 128 then -(sinT (F := Ideal) (ix2 r (pair q)) : EReal) else sinT (F := Ideal) (ix2 r (pair q))) := by
  obtain ⟨-, ⟨-, ⟨h0, h1⟩⟩, -⟩ := index_all t
  refine Eq.trans ?_ ((congrFun (sin_eq m c) (ix2 r q)).trans ((two_apply _ _ r q).trans (by rw [neg_apply])))
  unfold iblk
  rw [View.read_apply]
  show V m c main_v31 _ = _
  refine congrArg _ (funext fun a => Fin.ext ?_)
  match a with
  | ⟨0, _⟩ => show win0_3.index t 0 * 2048 + 1 * r.val = r.val; rw [h0]; omega
  | ⟨1, _⟩ => show win0_3.index t 1 * 256 + 1 * q.val = q.val; rw [h1]; omega

/-- The weight as the host hands it over: turned. -/
theorem host_apply (w : Vec Ideal S1x1024x11848 .f32) (j : Fin 11848) (k : Fin 1024) :
    @Eq EReal (transpose S11848x1024 [1, 0] (shapeCast S1024x11848 w shapeCasts_S1x1024x11848_S1024x11848) transposes_S1024x11848_S11848x1024_1_0 (ix2 j k)) (w (ix3 0 k j)) := by
  pointwise

theorem wblk (t : Fin cfg0.N) (j k : Fin 1024) : @Eq EReal ((X0_1 m c t : Vec Ideal S1024x1024 .f32) (ix2 j k)) ((m ((c : Thread nD τ).loc main_arg1) : Vec Ideal S1x1024x11848 .f32) (ix3 0 k (wcol (colOf t j)))) := by
  have e : @Eq (Vec Ideal S11848x1024 .f32) (V m c main_v4) (transpose S11848x1024 [1, 0] (shapeCast S1024x11848 (m ((c : Thread nD τ).loc main_arg1) : Vec Ideal S1x1024x11848 .f32) shapeCasts_S1x1024x11848_S1024x11848) transposes_S1024x11848_S11848x1024_1_0) := by
    unfold V hostOps0
    after_results_entrywise []
  obtain ⟨⟨-, ⟨h0, h1⟩⟩, -, -⟩ := index_all t
  have hj : (⟨1024 * (0 + t.val / 8) + j.val, by have := grid_lt t; omega⟩ : Fin 11848) = wcol (colOf t j) := Fin.ext (by show 1024 * (0 + t.val / 8) + j.val = 0 + (1024 * (t.val / 8) + j.val); omega)
  refine Eq.trans ?_ (((congrFun e (ix2 (⟨1024 * (0 + t.val / 8) + j.val, by have := grid_lt t; omega⟩ : Fin 11848) k)).trans (host_apply _ _ k)).trans (congrArg (fun q => (m ((c : Thread nD τ).loc main_arg1) : Vec Ideal S1x1024x11848 .f32) (ix3 0 k q)) hj))
  unfold X0_1 Pipeline.Window.fill
  rw [dif_pos (moved0_1 t _)]
  unfold iblk
  rw [View.read_apply]
  show V m c main_v4 _ = _
  refine congrArg _ (funext fun a => Fin.ext ?_)
  match a with
  | ⟨0, _⟩ => show win0_1.index t 0 * 1024 + 1 * j.val = 1024 * (0 + t.val / 8) + j.val; rw [h0]; omega
  | ⟨1, _⟩ => show win0_1.index t 1 * 1024 + 1 * k.val = k.val; rw [h1]; omega

/-- One entry of the rows' product with the weight, from the arguments. -/
def dotAt (t : Fin cfg0.N) (r : Fin 2048) (j : Fin 1024) : EReal :=
  dot (fun k => (m ((c : Thread nD τ).loc main_arg0) : Vec Ideal S16384x1024 .bf16) (ix2 (rowOf t r) k)) (fun k => (m ((c : Thread nD τ).loc main_arg1) : Vec Ideal S1x1024x11848 .f32) (ix3 0 k (wcol (colOf t j))))

/-- One entry of the result. -/
def entry (t : Fin cfg0.N) (r : Fin 2048) (h : Fin 4) (q : Fin 256) : EReal :=
  turned (q.val < 128) (dotAt m c t r (col h q)) (dotAt m c t r (col h (other q))) (cosT (F := Ideal) (ix2 r (pair q))) (sinT (F := Ideal) (ix2 r (pair q))) * (if t.val / 8 = 0 then Ideal.ofBits .f32 0x3F800000#32 else Ideal.ofBits .f32 0x3D800000#32)

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- The stored rows' entry, once the kept block is the point's columns. -/
theorem stored (t : Fin cfg0.N) (w : Vec Ideal S1024x1024 .bf16) (hw : ∀ k j : Fin 1024, @Eq EReal (w (ix2 k j)) ((m ((c : Thread nD τ).loc main_arg1) : Vec Ideal S1x1024x11848 .f32) (ix3 0 k (wcol (colOf t j)))))
    (r : Fin 2048) (h : Fin 4) (q : Fin 256) :
    @Eq EReal (rotRows (F := Ideal) (BitVec.ofNat 32 (grid0.coords t 0).val) (iblk m c 0 t) w (iblk m c 2 t) (iblk m c 3 t) (ix2 r (col h q))) (entry m c t r h q) := by
  obtain ⟨-, -, -, hi⟩ := index_all t
  refine (rows_apply _ _ w _ _ r h q).trans ?_
  unfold entry dotAt
  rw [← turned_eq, hi, scale_apply (t.val / 8) (by have := grid_lt t; omega), iblk2 m c t r q, iblk3 m c t r q, funext fun k => iblk0 m c t r k, funext fun k => hw k (col h q), funext fun k => hw k (col h (other q))]

/-- What every point writes. -/
theorem written (t : Fin cfg0.N) (r : Fin 2048) (h : Fin 4) (q : Fin 256) :
    @Eq EReal ((outsAt0 m c t.val t.isLt).1 (ix2 r (col h q))) (entry m c t r h q) := by
  by_cases h0 : t.val % 8 = 0
  · have e := congrArg Prod.fst (outsAt0_A m c t h0)
    rw [out_A_eq] at e
    exact (congrFun e (ix2 r (col h q))).trans (stored m c t _ (fun k j => (turn_apply (X0_1 m c t) k j).trans (wblk m c t j k)) r h q)
  · have e := congrArg Prod.fst (outsAt0_B m c t h0)
    rw [out_B_eq] at e
    have hl : t.val - 1 < cfg0.N := Nat.lt_of_le_of_lt (Nat.sub_le _ _) t.isLt
    have hc : ∀ j, colOf ⟨t.val - 1, hl⟩ j = colOf t j := fun j => Fin.ext (show 1024 * ((t.val - 1) / 8) + j.val = 1024 * (t.val / 8) + j.val by omega)
    exact (congrFun e (ix2 r (col h q))).trans (stored m c t _ (fun k j => (kept m c (t.val - 1) hl k j).trans (by rw [hc j])) r h q)

theorem flush4 : ∀ t : Fin cfg0.N, (cfg0.win 4).flush t = true :=
  (by decide +kernel : ∀ t : Fin grid0.N, win0_4.flush t = true)

/-- The array the kernel leaves, at a row and a column. -/
theorem final_apply (t : Fin cfg0.N) (r : Fin 2048) (h : Fin 4) (q : Fin 256) :
    @Eq EReal (((dats m 0 c).arrAt 4 cfg0.N : Vec Ideal S16384x2048 .bf16) (ix2 (rowOf t r) (colOf t (col h q)))) (entry m c t r h q) := by
  have hb := congrFun (Cert.RqkIdeal.Value.blocks4 m c t (flush4 _)) (ix2 r (col h q))
  rw [Cert.RqkIdeal.Value.flushed4] at hb
  refine Eq.trans ?_ (hb.trans (written m c t r h q))
  obtain ⟨-, -, ⟨h0, h1⟩, -⟩ := index_all t
  rw [View.read_apply]
  show (dats m 0 c).arrAt 4 cfg0.N _ = (dats m 0 c).arrAt 4 cfg0.N _
  refine congrArg _ (funext fun a => Fin.ext ?_)
  match a with
  | ⟨0, _⟩ => show 2048 * (t.val % 8) + r.val = win0_4.index t 0 * 2048 + 1 * r.val; rw [h0]; omega
  | ⟨1, _⟩ => show 1024 * (t.val / 8) + (256 * h.val + q.val) = win0_4.index t 1 * 1024 + 1 * (256 * h.val + q.val); rw [h1]; omega

end Cert.RqkIdeal.Val
-- ==== Proof.RqkTie.lean ====
module
public import proofs.«01_k».proof.Proof.RqkRows
public import proofs.«01_k».proof.Proof.Gen.RqkReferenceIdeal.Run

/-!
# The retention's queries and keys are the plain statement's

The reference multiplies the rows by the whole weight, takes the columns, splits them into heads and turns the halves.
-/

@[expose] public section
set_option maxRecDepth 16384
noncomputable section
namespace Cert.RqkReferenceIdeal.Val
open Idealize.ShloMosaic Idealize.ShloMosaic.TcCoe Idealize.SL.Sem
open Cert.RqkReferenceIdeal Cert.RqkReferenceIdeal.Gen Cert.FfnSpec Cert.ProjSpec Cert.RotSpec
open Cert.RqkIdeal.Val (wcol col other pair hi)

/-- A row from its sequence and its place there. -/
abbrev row (b : Fin 8) (r : Fin 2048) : Fin 16384 := ⟨2048 * b.val + r.val, by omega⟩

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]

/-- One entry of the columns taken. -/
def dotIn (x : Vec Ideal S16384x1024 .bf16) (w : Vec Ideal S1x1024x11848 .f32) (b : Fin 8) (r : Fin 2048) (j : Fin 2048) : EReal :=
  dot (fun k => x (ix2 (row b r) k)) (fun k => w (ix3 0 k (wcol j)))

/-- The columns of the queries. -/
def cols0 (x : Vec Ideal S16384x1024 .bf16) (w : Vec Ideal S1x1024x11848 .f32) : Vec Ideal S16384x1024 .f32 :=
  extractStridedSlice S16384x1024 ![0, 0] (whole x w) slices_S16384x11848_S16384x1024_0_0
theorem cols0_apply (x : Vec Ideal S16384x1024 .bf16) (w : Vec Ideal S1x1024x11848 .f32) (b : Fin 8) (r : Fin 2048) (j : Fin 1024) :
    @Eq EReal (cols0 x w (ix2 (row b r) j)) (dotIn x w b r (⟨0 + j.val, by omega⟩ : Fin 2048)) := by
  unfold cols0 dotIn
  generalize hW : whole x w = W
  have hq : (⟨0 + j.val, by omega⟩ : Fin 11848) = wcol (⟨0 + j.val, by omega⟩ : Fin 2048) := Fin.ext (by show 0 + j.val = 0 + (0 + j.val); omega)
  refine Eq.trans (b := (W (ix2 (row b r) (⟨0 + j.val, by omega⟩ : Fin 11848)) : EReal)) (by pointwise) ?_
  rw [← hW, hq]
  exact whole_apply x w _ _

/-- The columns of the keys. -/
def cols1 (x : Vec Ideal S16384x1024 .bf16) (w : Vec Ideal S1x1024x11848 .f32) : Vec Ideal S16384x1024 .f32 :=
  extractStridedSlice S16384x1024 ![0, 1024] (whole x w) slices_S16384x11848_S16384x1024_0_1024
theorem cols1_apply (x : Vec Ideal S16384x1024 .bf16) (w : Vec Ideal S1x1024x11848 .f32) (b : Fin 8) (r : Fin 2048) (j : Fin 1024) :
    @Eq EReal (cols1 x w (ix2 (row b r) j)) (dotIn x w b r (⟨1024 + j.val, by omega⟩ : Fin 2048)) := by
  unfold cols1 dotIn
  generalize hW : whole x w = W
  have hq : (⟨1024 + j.val, by omega⟩ : Fin 11848) = wcol (⟨1024 + j.val, by omega⟩ : Fin 2048) := Fin.ext (by show 1024 + j.val = 0 + (1024 + j.val); omega)
  refine Eq.trans (b := (W (ix2 (row b r) (⟨1024 + j.val, by omega⟩ : Fin 11848)) : EReal)) (by pointwise) ?_
  rw [← hW, hq]
  exact whole_apply x w _ _

/-- Into heads. -/
def split (Y : Vec Ideal S16384x1024 .f32) : Vec Ideal S8x2048x4x256 .f32 := shapeCast S8x2048x4x256 Y shapeCasts_S16384x1024_S8x2048x4x256
/-- And back. -/
def merge (z : Vec Ideal S8x2048x4x256 .f32) : Vec Ideal S16384x1024 .f32 := shapeCast S16384x1024 z shapeCasts_S8x2048x4x256_S16384x1024

theorem place (b : Fin 8) (r : Fin 2048) (h : Fin 4) (q : Fin 256) :
    ((⟨4, ![8, 2048, 4, 256]⟩ : Shape).rowMajor (ix4 b r h q)).val = ((⟨2, ![16384, 1024]⟩ : Shape).rowMajor (ix2 (row b r) (col h q))).val :=
  (Shape.rowMajor_val_four (d := ![8, 2048, 4, 256]) (ix4 b r h q)).trans (Eq.trans
    (by show ((b.val * 2048 + r.val) * 4 + h.val) * 256 + q.val = (2048 * b.val + r.val) * 1024 + (256 * h.val + q.val); omega)
    (Shape.rowMajor_val_two (d := ![16384, 1024]) (ix2 (row b r) (col h q))).symm)

theorem split_apply (Y : Vec Ideal S16384x1024 .f32) (b : Fin 8) (r : Fin 2048) (h : Fin 4) (q : Fin 256) :
    @Eq EReal (split Y (ix4 b r h q)) (Y (ix2 (row b r) (col h q))) :=
  shapeCast_apply _ _ _ _ (place b r h q).symm
theorem merge_apply (z : Vec Ideal S8x2048x4x256 .f32) (b : Fin 8) (r : Fin 2048) (h : Fin 4) (q : Fin 256) :
    @Eq EReal (merge z (ix2 (row b r) (col h q))) (z (ix4 b r h q)) :=
  shapeCast_apply _ _ _ _ (place b r h q)

/-- The angles, their cosines and sines. -/
def angR {F : FTy → Type} [FloatOps F] : Vec F S2048x128 .f32 :=
  (mulf (broadcastInDim S2048x128 ![0, 1] bcast_S2048x1_S2048x128_0_1 (broadcastInDim S2048x1 ![0] bcast_S2048_S2048x1_0 (sitofp .f32 (addi (broadcastInDim S2048 ![] bcast_S_S2048 (constantI S_ 32 16#32)) (iotaInDim S2048 32 0))))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (addf (broadcastInDim S128 ![] bcast_S_S128 (constant S_ .f32 0x00000000#32)) (mulf (broadcastInDim S128 ![] bcast_S_S128 (constant S_ .f32 0x40000000#32)) (sitofp .f32 (iotaInDim S128 32 0))))) (broadcastInDim S128 ![] bcast_S_S128 (constant S_ .f32 0x43800000#32)))))))
def cosR : Vec Ideal S2048x128 .f32 := Host.cos (F := Ideal) (φ := .f32) (angR (F := Ideal))
def sinR : Vec Ideal S2048x128 .f32 := Host.sin (F := Ideal) (φ := .f32) (angR (F := Ideal))

/-- Every head turned. -/
def rope (z : Vec Ideal S8x2048x4x256 .f32) (cs sn : Vec Ideal S2048x128 .f32) : Vec Ideal S8x2048x4x256 .f32 :=
  concatenate S8x2048x4x256 3 [⟨S8x2048x4x128, subf (F := Ideal) (φ := .f32) (mulf (F := Ideal) (φ := .f32) (extractStridedSlice S8x2048x4x128 ![0, 0, 0, 0] z slices_S8x2048x4x256_S8x2048x4x128_0_0_0_0) (broadcastInDim S8x2048x4x128 ![0, 1, 2, 3] bcast_S1x2048x1x128_S8x2048x4x128_0_1_2_3 (broadcastInDim S1x2048x1x128 ![1, 2, 3] bcast_S2048x1x128_S1x2048x1x128_1_2_3 (broadcastInDim S2048x1x128 ![0, 2] bcast_S2048x128_S2048x1x128_0_2 cs)))) (mulf (F := Ideal) (φ := .f32) (extractStridedSlice S8x2048x4x128 ![0, 0, 0, 128] z slices_S8x2048x4x256_S8x2048x4x128_0_0_0_128) (broadcastInDim S8x2048x4x128 ![0, 1, 2, 3] bcast_S1x2048x1x128_S8x2048x4x128_0_1_2_3 (broadcastInDim S1x2048x1x128 ![1, 2, 3] bcast_S2048x1x128_S1x2048x1x128_1_2_3 (broadcastInDim S2048x1x128 ![0, 2] bcast_S2048x128_S2048x1x128_0_2 sn))))⟩,
    ⟨S8x2048x4x128, addf (F := Ideal) (φ := .f32) (mulf (F := Ideal) (φ := .f32) (extractStridedSlice S8x2048x4x128 ![0, 0, 0, 128] z slices_S8x2048x4x256_S8x2048x4x128_0_0_0_128) (broadcastInDim S8x2048x4x128 ![0, 1, 2, 3] bcast_S1x2048x1x128_S8x2048x4x128_0_1_2_3 (broadcastInDim S1x2048x1x128 ![1, 2, 3] bcast_S2048x1x128_S1x2048x1x128_1_2_3 (broadcastInDim S2048x1x128 ![0, 2] bcast_S2048x128_S2048x1x128_0_2 cs)))) (mulf (F := Ideal) (φ := .f32) (extractStridedSlice S8x2048x4x128 ![0, 0, 0, 0] z slices_S8x2048x4x256_S8x2048x4x128_0_0_0_0) (broadcastInDim S8x2048x4x128 ![0, 1, 2, 3] bcast_S1x2048x1x128_S8x2048x4x128_0_1_2_3 (broadcastInDim S1x2048x1x128 ![1, 2, 3] bcast_S2048x1x128_S1x2048x1x128_1_2_3 (broadcastInDim S2048x1x128 ![0, 2] bcast_S2048x128_S2048x1x128_0_2 sn))))⟩] concatenates_S8x2048x4x128_S8x2048x4x128_S8x2048x4x256_d3

theorem rope_lo (z : Vec Ideal S8x2048x4x256 .f32) (cs sn : Vec Ideal S2048x128 .f32) (b : Fin 8) (r : Fin 2048) (h : Fin 4) (u : Fin 128) :
    @Eq EReal (rope z cs sn (ix4 b r h (⟨u.val, by omega⟩ : Fin 256))) (z (ix4 b r h (⟨u.val, by omega⟩ : Fin 256)) * cs (ix2 r u) - z (ix4 b r h (hi u)) * sn (ix2 r u)) := by
  pointwise [rope]
theorem rope_hi (z : Vec Ideal S8x2048x4x256 .f32) (cs sn : Vec Ideal S2048x128 .f32) (b : Fin 8) (r : Fin 2048) (h : Fin 4) (u : Fin 128) :
    @Eq EReal (rope z cs sn (ix4 b r h (hi u))) (z (ix4 b r h (hi u)) * cs (ix2 r u) + z (ix4 b r h (⟨u.val, by omega⟩ : Fin 256)) * sn (ix2 r u)) := by
  pointwise [rope]

theorem rope_apply (z : Vec Ideal S8x2048x4x256 .f32) (cs sn : Vec Ideal S2048x128 .f32) (b : Fin 8) (r : Fin 2048) (h : Fin 4) (q : Fin 256) :
    @Eq EReal (rope z cs sn (ix4 b r h q)) (turned (q.val < 128) (z (ix4 b r h q)) (z (ix4 b r h (other q))) (cs (ix2 r (pair q))) (sn (ix2 r (pair q)))) := by
  unfold turned
  by_cases hq : q.val < 128
  · have e : hi ⟨q.val, hq⟩ = other q := Fin.ext (by show 128 + q.val = (q.val + 128) % 256; omega)
    rw [if_pos hq, show pair q = ⟨q.val, hq⟩ from Fin.ext (Nat.mod_eq_of_lt hq), ← e]
    exact rope_lo z cs sn b r h ⟨q.val, hq⟩
  · obtain ⟨u, rfl⟩ : ∃ u : Fin 128, q = hi u := ⟨⟨q.val - 128, by omega⟩, Fin.ext (by show q.val = 128 + (q.val - 128); omega)⟩
    have e : (⟨u.val, by omega⟩ : Fin 256) = other (hi u) := Fin.ext (by show u.val = (128 + u.val + 128) % 256; omega)
    rw [if_neg hq, show pair (hi u) = u from Fin.ext (by show (128 + u.val) % 128 = u.val; omega), ← e]
    exact rope_hi z cs sn b r h u

/-- Times the keys' scale. -/
def scaled (z : Vec Ideal S8x2048x4x256 .f32) : Vec Ideal S8x2048x4x256 .f32 := mulf (F := Ideal) (φ := .f32) z (broadcastInDim S8x2048x4x256 ![] bcast_S_S8x2048x4x256 (constant S_ .f32 0x3D800000#32))
theorem scaled_apply (z : Vec Ideal S8x2048x4x256 .f32) (b : Fin 8) (r : Fin 2048) (h : Fin 4) (q : Fin 256) : @Eq EReal (scaled z (ix4 b r h q)) (z (ix4 b r h q) * Ideal.ofBits .f32 0x3D800000#32) := by
  pointwise [scaled]

/-- Two arrays side by side. -/
def beside (A B : Vec Ideal S16384x1024 .f32) : Vec Ideal S16384x2048 .bf16 :=
  truncf (F := Ideal) .bf16 (concatenate S16384x2048 1 [⟨S16384x1024, A⟩, ⟨S16384x1024, B⟩] concatenates_S16384x1024_S16384x1024_S16384x2048_d1) bitsLt_bf16_f32
theorem beside_0 (A B : Vec Ideal S16384x1024 .f32) (R : Fin 16384) (j : Fin 1024) : @Eq EReal (beside A B (ix2 R (⟨0 + j.val, by omega⟩ : Fin 2048))) (A (ix2 R j)) := by
  pointwise [beside]
theorem beside_1 (A B : Vec Ideal S16384x1024 .f32) (R : Fin 16384) (j : Fin 1024) : @Eq EReal (beside A B (ix2 R (⟨1024 + j.val, by omega⟩ : Fin 2048))) (B (ix2 R j)) := by
  pointwise [beside]

theorem part0_apply (x : Vec Ideal S16384x1024 .bf16) (w : Vec Ideal S1x1024x11848 .f32) (b : Fin 8) (r : Fin 2048) (h : Fin 4) (q : Fin 256) :
    @Eq EReal (merge (rope (split (cols0 x w)) cosR sinR) (ix2 (row b r) (col h q)))
      (turned (q.val < 128) (dotIn x w b r (⟨0 + (col h q).val, by have := (col h q).isLt; omega⟩ : Fin 2048)) (dotIn x w b r (⟨0 + (col h (other q)).val, by have := (col h (other q)).isLt; omega⟩ : Fin 2048)) (cosR (ix2 r (pair q))) (sinR (ix2 r (pair q))) * Ideal.ofBits .f32 0x3F800000#32) := by
  refine (merge_apply _ b r h q).trans ?_
  rw [show Ideal.ofBits .f32 0x3F800000#32 = (1 : EReal) from FfnSpec.ofBits_one.trans EReal.coe_one, mul_one]
  refine (rope_apply _ _ _ b r h q).trans ?_
  rw [split_apply, split_apply, cols0_apply, cols0_apply]

theorem part1_apply (x : Vec Ideal S16384x1024 .bf16) (w : Vec Ideal S1x1024x11848 .f32) (b : Fin 8) (r : Fin 2048) (h : Fin 4) (q : Fin 256) :
    @Eq EReal (merge (scaled (rope (split (cols1 x w)) cosR sinR)) (ix2 (row b r) (col h q)))
      (turned (q.val < 128) (dotIn x w b r (⟨1024 + (col h q).val, by have := (col h q).isLt; omega⟩ : Fin 2048)) (dotIn x w b r (⟨1024 + (col h (other q)).val, by have := (col h (other q)).isLt; omega⟩ : Fin 2048)) (cosR (ix2 r (pair q))) (sinR (ix2 r (pair q))) * Ideal.ofBits .f32 0x3D800000#32) := by
  refine (merge_apply _ b r h q).trans ?_
  refine (scaled_apply _ b r h q).trans (congrArg (· * Ideal.ofBits .f32 0x3D800000#32) ?_)
  refine (rope_apply _ _ _ b r h q).trans ?_
  rw [split_apply, split_apply, cols1_apply, cols1_apply]

/-- The result. -/
def result (x : Vec Ideal S16384x1024 .bf16) (w : Vec Ideal S1x1024x11848 .f32) : Vec Ideal S16384x2048 .bf16 :=
  beside (merge (rope (split (cols0 x w)) cosR sinR)) (merge (scaled (rope (split (cols1 x w)) cosR sinR)))

theorem result_apply (x : Vec Ideal S16384x1024 .bf16) (w : Vec Ideal S1x1024x11848 .f32) (a : Fin 2) (b : Fin 8) (r : Fin 2048) (h : Fin 4) (q : Fin 256) :
    @Eq EReal (result x w (ix2 (row b r) (⟨1024 * a.val + (col h q).val, by have := (col h q).isLt; omega⟩ : Fin 2048)))
      (turned (q.val < 128) (dotIn x w b r (⟨1024 * a.val + (col h q).val, by have := (col h q).isLt; omega⟩ : Fin 2048)) (dotIn x w b r (⟨1024 * a.val + (col h (other q)).val, by have := (col h (other q)).isLt; omega⟩ : Fin 2048)) (cosR (ix2 r (pair q))) (sinR (ix2 r (pair q))) * (if a.val = 0 then Ideal.ofBits .f32 0x3F800000#32 else Ideal.ofBits .f32 0x3D800000#32)) := by
  unfold result
  match a with
  | ⟨0, _⟩ => exact (beside_0 _ _ _ (col h q)).trans (part0_apply x w b r h q)
  | ⟨1, _⟩ => exact (beside_1 _ _ _ (col h q)).trans (part1_apply x w b r h q)

end Cert.RqkReferenceIdeal.Val

namespace Cert.RqkTie
open Idealize.ShloMosaic Idealize.ShloMosaic.TcCoe Idealize.SL.Sem
open Cert.RqkIdeal.Val (rowOf colOf wcol col other pair)

theorem cos_same : Cert.RqkReferenceIdeal.Val.cosR = Cert.RqkIdeal.Val.cosT (F := Ideal) := rfl
theorem sin_same : Cert.RqkReferenceIdeal.Val.sinR = Cert.RqkIdeal.Val.sinT (F := Ideal) := rfl

variable (m : (ℓ : Loc Cert.RqkIdeal.nD Cert.RqkIdeal.τ Cert.RqkIdeal.sig) → Buf (Elt Ideal) ℓ)
  (m' : (ℓ : Loc Cert.RqkReferenceIdeal.nD Cert.RqkReferenceIdeal.τ Cert.RqkReferenceIdeal.sig) → Buf (Elt Ideal) ℓ) (c : Dev Cert.RqkIdeal.nD)

/-- The two results are one array. -/
theorem tie
    (e0 : m' ((c.tc : Thread Cert.RqkReferenceIdeal.nD Cert.RqkReferenceIdeal.τ).loc Cert.RqkReferenceIdeal.main_arg0) = m ((c.tc : Thread Cert.RqkIdeal.nD Cert.RqkIdeal.τ).loc Cert.RqkIdeal.main_arg0))
    (e1 : m' ((c.tc : Thread Cert.RqkReferenceIdeal.nD Cert.RqkReferenceIdeal.τ).loc Cert.RqkReferenceIdeal.main_arg1) = m ((c.tc : Thread Cert.RqkIdeal.nD Cert.RqkIdeal.τ).loc Cert.RqkIdeal.main_arg1)) :
    @Eq (Vec Ideal Cert.RqkIdeal.S16384x2048 .bf16)
      (Cert.RqkReferenceIdeal.Val.result (m' ((c.tc : Thread Cert.RqkReferenceIdeal.nD Cert.RqkReferenceIdeal.τ).loc Cert.RqkReferenceIdeal.main_arg0)) (m' ((c.tc : Thread Cert.RqkReferenceIdeal.nD Cert.RqkReferenceIdeal.τ).loc Cert.RqkReferenceIdeal.main_arg1)))
      ((Cert.RqkIdeal.Gen.dats m 0 c).arrAt 4 Cert.RqkIdeal.cfg0.N) := by
  funext i
  obtain ⟨R, j, rfl⟩ : ∃ R j, i = ix2 R j := ⟨i 0, i 1, by funext a; fin_cases a <;> rfl⟩
  have ht : 8 * (j.val / 1024) + R.val / 2048 < Cert.RqkIdeal.cfg0.N := lt_of_lt_of_eq (show 8 * (j.val / 1024) + R.val / 2048 < 16 by omega) (by decide)
  obtain ⟨t, htv⟩ : ∃ t : Fin Cert.RqkIdeal.cfg0.N, t.val = 8 * (j.val / 1024) + R.val / 2048 := ⟨⟨_, ht⟩, rfl⟩
  obtain ⟨a, ha⟩ : ∃ a : Fin 2, a.val = t.val / 8 := ⟨⟨t.val / 8, by omega⟩, rfl⟩
  obtain ⟨b, hb⟩ : ∃ b : Fin 8, b.val = t.val % 8 := ⟨⟨t.val % 8, by omega⟩, rfl⟩
  obtain ⟨r, hr⟩ : ∃ r : Fin 2048, r.val = R.val % 2048 := ⟨⟨R.val % 2048, by omega⟩, rfl⟩
  obtain ⟨h, hh⟩ : ∃ h : Fin 4, h.val = j.val % 1024 / 256 := ⟨⟨j.val % 1024 / 256, by omega⟩, rfl⟩
  obtain ⟨q, hq⟩ : ∃ q : Fin 256, q.val = j.val % 256 := ⟨⟨j.val % 256, by omega⟩, rfl⟩
  have hR : R = rowOf t r := Fin.ext (by show R.val = 2048 * (t.val % 8) + r.val; omega)
  have hj : j = colOf t (col h q) := Fin.ext (by show j.val = 1024 * (t.val / 8) + (256 * h.val + q.val); omega)
  have hR2 : rowOf t r = Cert.RqkReferenceIdeal.Val.row b r := Fin.ext (by show 2048 * (t.val % 8) + r.val = 2048 * b.val + r.val; omega)
  have hc2 : ∀ k : Fin 1024, colOf t k = (⟨1024 * a.val + k.val, by omega⟩ : Fin 2048) := fun k => Fin.ext (by show 1024 * (t.val / 8) + k.val = 1024 * a.val + k.val; omega)
  have key := Cert.RqkIdeal.Val.final_apply m c t r h q
  unfold Cert.RqkIdeal.Val.entry Cert.RqkIdeal.Val.dotAt at key
  rw [hR2, hc2, hc2, ← ha, ← cos_same, ← sin_same] at key
  rw [hR, hj, hR2, hc2]
  refine (Cert.RqkReferenceIdeal.Val.result_apply _ _ a b r h q).trans (Eq.trans ?_ key.symm)
  unfold Cert.RqkReferenceIdeal.Val.dotIn
  rw [e0, e1]

end Cert.RqkTie
-- ==== Proof.AqkRot.lean ====
module
public import proofs.«01_k».proof.Proof.RotSpec
public import proofs.«01_k».proof.Proof.Gen.AqkIdeal.Value
public import Idealize.ShloMosaic.Lib.Pointwise

/-!
# The attention's queries and keys: the rotation of 256 rows, and its entries

The kernel turns each head's columns: times the cosines, plus the columns with the halves swapped times the signed sines.
-/

@[expose] public section
set_option maxRecDepth 16384
noncomputable section
namespace Cert.AqkIdeal.Val
open Idealize.ShloMosaic Idealize.ShloMosaic.TcCoe Idealize.SL.Sem
open Cert.AqkIdeal Cert.AqkIdeal.Gen Cert.FfnSpec Cert.ProjSpec Cert.RotSpec
section defs
variable {F : FTy → Type} [FloatOps F]

/-- One head's columns turned: times the cosines, plus the other halves times the signed sines. -/
def rotTile (y c s : FVec F S256x128 .f32) : FVec F S256x128 .f32 :=
  addf (mulf y c) (mulf (concatenate S256x128 1 [⟨S256x64, extractStridedSlice S256x64 ![0, 64] y slices_S256x128_o0_64_S256x64⟩, ⟨S256x64, extractStridedSlice S256x64 ![0, 0] y slices_S256x128_o0_0_S256x64⟩] concatenates_S256x64_S256x64_S256x128_d1) s)

/-- All heads of a block of columns. -/
def rotAll (Y : FVec F S256x1024 .f32) (c s : FVec F S256x128 .f32) : FVec F S256x1024 .f32 :=
  concatenate S256x1024 1 [⟨S256x128, rotTile (extractStridedSlice S256x128 ![0, 0] Y slices_S256x1024_o0_0_S256x128) c s⟩, ⟨S256x128, rotTile (extractStridedSlice S256x128 ![0, 128] Y slices_S256x1024_o0_128_S256x128) c s⟩, ⟨S256x128, rotTile (extractStridedSlice S256x128 ![0, 256] Y slices_S256x1024_o0_256_S256x128) c s⟩, ⟨S256x128, rotTile (extractStridedSlice S256x128 ![0, 384] Y slices_S256x1024_o0_384_S256x128) c s⟩, ⟨S256x128, rotTile (extractStridedSlice S256x128 ![0, 512] Y slices_S256x1024_o0_512_S256x128) c s⟩, ⟨S256x128, rotTile (extractStridedSlice S256x128 ![0, 640] Y slices_S256x1024_o0_640_S256x128) c s⟩, ⟨S256x128, rotTile (extractStridedSlice S256x128 ![0, 768] Y slices_S256x1024_o0_768_S256x128) c s⟩, ⟨S256x128, rotTile (extractStridedSlice S256x128 ![0, 896] Y slices_S256x1024_o0_896_S256x128) c s⟩] concatenates_S256x128_S256x128_S256x128_S256x128_S256x128_S256x128_S256x128_S256x128_S256x1024_d1

/-- The scale of a block of columns: of the queries or of the keys. -/
def scale (a : BitVec 32) : F .f32 := Scalar.select (Scalar.cmpi .sge a 1#32) (Scalar.ofBits .f32 0x3F800000#32) (Scalar.ofBits .f32 0x3E0293EE#32)

/-- The rows times the kept block of the weight. -/
def prod (x : Vec F S256x1024 .bf16) (w : Vec F S1024x1024 .bf16) : FVec F S256x1024 .f32 :=
  matmul dot_S256x1024_S1024x1024_S256x1024_1_0_0_1_n_n none x w (constant S256x1024 .f32 0x00000000#32)

/-- What is stored of 256 rows. -/
def rotBlk (a : BitVec 32) (x : Vec F S256x1024 .bf16) (w : Vec F S1024x1024 .bf16) (c s : Vec F S256x128 .f32) : FVec F S256x1024 .bf16 :=
  truncf .bf16 (mulf (rotAll (prod x w) (shapeCast S256x128 c shapeCasts_S256x128_S256x128) (shapeCast S256x128 s shapeCasts_S256x128_S256x128)) (broadcast S256x1024 (scale a))) bitsLt_bf16_f32

/-- What is stored of 2048 rows. -/
def rotRows (a : BitVec 32) (x : Vec F S2048x1024 .bf16) (w : Vec F S1024x1024 .bf16) (c s : Vec F S2048x128 .f32) : Vec F S2048x1024 .bf16 :=
  rows8 fun o => rotBlk a (rowsOf x o) w (rowsOf c o) (rowsOf s o)

end defs

/-- The column of the other half of the head. -/
def other (q : Fin 128) : Fin 128 := ⟨(q.val + 64) % 128, Nat.mod_lt _ (by norm_num)⟩
/-- A column of a block, from its head and its place there. -/
abbrev col (h : Fin 8) (q : Fin 128) : Fin 1024 := ⟨128 * h.val + q.val, by omega⟩

/-- A column of a head's second half. -/
abbrev hi (u : Fin 64) : Fin 128 := ⟨64 + u.val, by omega⟩

theorem tile_lo (y c s : Vec Ideal S256x128 .f32) (r : Fin 256) (q : Fin 64) :
    @Eq EReal (rotTile (F := Ideal) y c s (ix2 r (⟨q.val, by omega⟩ : Fin 128))) (y (ix2 r (⟨q.val, by omega⟩ : Fin 128)) * c (ix2 r (⟨q.val, by omega⟩ : Fin 128)) + y (ix2 r (⟨64 + q.val, by omega⟩ : Fin 128)) * s (ix2 r (⟨q.val, by omega⟩ : Fin 128))) := by
  pointwise [rotTile]

theorem tile_hi (y c s : Vec Ideal S256x128 .f32) (r : Fin 256) (q : Fin 64) :
    @Eq EReal (rotTile (F := Ideal) y c s (ix2 r (⟨64 + q.val, by omega⟩ : Fin 128))) (y (ix2 r (⟨64 + q.val, by omega⟩ : Fin 128)) * c (ix2 r (⟨64 + q.val, by omega⟩ : Fin 128)) + y (ix2 r (⟨q.val, by omega⟩ : Fin 128)) * s (ix2 r (⟨64 + q.val, by omega⟩ : Fin 128))) := by
  pointwise [rotTile]

theorem tile_apply (y c s : Vec Ideal S256x128 .f32) (r : Fin 256) (q : Fin 128) :
    @Eq EReal (rotTile (F := Ideal) y c s (ix2 r q)) (y (ix2 r q) * c (ix2 r q) + y (ix2 r (other q)) * s (ix2 r q)) := by
  by_cases h : q.val < 64
  · have e : (⟨64 + q.val, by omega⟩ : Fin 128) = other q := Fin.ext (by show 64 + q.val = (q.val + 64) % 128; omega)
    have := tile_lo y c s r ⟨q.val, h⟩
    rw [← e]
    exact this
  · obtain ⟨u, rfl⟩ : ∃ u : Fin 64, q = hi u := ⟨⟨q.val - 64, by omega⟩, Fin.ext (by show q.val = 64 + (q.val - 64); omega)⟩
    have e : (⟨u.val, by omega⟩ : Fin 128) = other (hi u) := Fin.ext (by show u.val = (64 + u.val + 64) % 128; omega)
    rw [← e]
    exact tile_hi y c s r u

theorem all_apply_0 (Y : Vec Ideal S256x1024 .f32) (c s : Vec Ideal S256x128 .f32) (r : Fin 256) (q : Fin 128) :
    @Eq EReal (rotAll (F := Ideal) Y c s (ix2 r (⟨0 + q.val, by omega⟩ : Fin 1024))) (Y (ix2 r (⟨0 + q.val, by omega⟩ : Fin 1024)) * c (ix2 r q) + Y (ix2 r (⟨0 + (other q).val, by have := (other q).isLt; omega⟩ : Fin 1024)) * s (ix2 r q)) := by
  have e : @Eq EReal (rotAll (F := Ideal) Y c s (ix2 r (⟨0 + q.val, by omega⟩ : Fin 1024))) (rotTile (F := Ideal) (extractStridedSlice S256x128 ![0, 0] Y slices_S256x1024_o0_0_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 0 (by show 0 < 8; decide) S256x128 _ rfl rfl 0 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 0] Y slices_S256x1024_o0_0_S256x128 (ix2 r u)) (Y (ix2 r (⟨0 + u.val, by omega⟩ : Fin 1024))) := fun u => by pointwise
  rw [es q, es (other q)]

theorem all_apply_1 (Y : Vec Ideal S256x1024 .f32) (c s : Vec Ideal S256x128 .f32) (r : Fin 256) (q : Fin 128) :
    @Eq EReal (rotAll (F := Ideal) Y c s (ix2 r (⟨128 + q.val, by omega⟩ : Fin 1024))) (Y (ix2 r (⟨128 + q.val, by omega⟩ : Fin 1024)) * c (ix2 r q) + Y (ix2 r (⟨128 + (other q).val, by have := (other q).isLt; omega⟩ : Fin 1024)) * s (ix2 r q)) := by
  have e : @Eq EReal (rotAll (F := Ideal) Y c s (ix2 r (⟨128 + q.val, by omega⟩ : Fin 1024))) (rotTile (F := Ideal) (extractStridedSlice S256x128 ![0, 128] Y slices_S256x1024_o0_128_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 1 (by show 1 < 8; decide) S256x128 _ rfl rfl 128 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 128] Y slices_S256x1024_o0_128_S256x128 (ix2 r u)) (Y (ix2 r (⟨128 + u.val, by omega⟩ : Fin 1024))) := fun u => by pointwise
  rw [es q, es (other q)]

theorem all_apply_2 (Y : Vec Ideal S256x1024 .f32) (c s : Vec Ideal S256x128 .f32) (r : Fin 256) (q : Fin 128) :
    @Eq EReal (rotAll (F := Ideal) Y c s (ix2 r (⟨256 + q.val, by omega⟩ : Fin 1024))) (Y (ix2 r (⟨256 + q.val, by omega⟩ : Fin 1024)) * c (ix2 r q) + Y (ix2 r (⟨256 + (other q).val, by have := (other q).isLt; omega⟩ : Fin 1024)) * s (ix2 r q)) := by
  have e : @Eq EReal (rotAll (F := Ideal) Y c s (ix2 r (⟨256 + q.val, by omega⟩ : Fin 1024))) (rotTile (F := Ideal) (extractStridedSlice S256x128 ![0, 256] Y slices_S256x1024_o0_256_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 2 (by show 2 < 8; decide) S256x128 _ rfl rfl 256 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 256] Y slices_S256x1024_o0_256_S256x128 (ix2 r u)) (Y (ix2 r (⟨256 + u.val, by omega⟩ : Fin 1024))) := fun u => by pointwise
  rw [es q, es (other q)]

theorem all_apply_3 (Y : Vec Ideal S256x1024 .f32) (c s : Vec Ideal S256x128 .f32) (r : Fin 256) (q : Fin 128) :
    @Eq EReal (rotAll (F := Ideal) Y c s (ix2 r (⟨384 + q.val, by omega⟩ : Fin 1024))) (Y (ix2 r (⟨384 + q.val, by omega⟩ : Fin 1024)) * c (ix2 r q) + Y (ix2 r (⟨384 + (other q).val, by have := (other q).isLt; omega⟩ : Fin 1024)) * s (ix2 r q)) := by
  have e : @Eq EReal (rotAll (F := Ideal) Y c s (ix2 r (⟨384 + q.val, by omega⟩ : Fin 1024))) (rotTile (F := Ideal) (extractStridedSlice S256x128 ![0, 384] Y slices_S256x1024_o0_384_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 3 (by show 3 < 8; decide) S256x128 _ rfl rfl 384 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 384] Y slices_S256x1024_o0_384_S256x128 (ix2 r u)) (Y (ix2 r (⟨384 + u.val, by omega⟩ : Fin 1024))) := fun u => by pointwise
  rw [es q, es (other q)]

theorem all_apply_4 (Y : Vec Ideal S256x1024 .f32) (c s : Vec Ideal S256x128 .f32) (r : Fin 256) (q : Fin 128) :
    @Eq EReal (rotAll (F := Ideal) Y c s (ix2 r (⟨512 + q.val, by omega⟩ : Fin 1024))) (Y (ix2 r (⟨512 + q.val, by omega⟩ : Fin 1024)) * c (ix2 r q) + Y (ix2 r (⟨512 + (other q).val, by have := (other q).isLt; omega⟩ : Fin 1024)) * s (ix2 r q)) := by
  have e : @Eq EReal (rotAll (F := Ideal) Y c s (ix2 r (⟨512 + q.val, by omega⟩ : Fin 1024))) (rotTile (F := Ideal) (extractStridedSlice S256x128 ![0, 512] Y slices_S256x1024_o0_512_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 4 (by show 4 < 8; decide) S256x128 _ rfl rfl 512 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 512] Y slices_S256x1024_o0_512_S256x128 (ix2 r u)) (Y (ix2 r (⟨512 + u.val, by omega⟩ : Fin 1024))) := fun u => by pointwise
  rw [es q, es (other q)]

theorem all_apply_5 (Y : Vec Ideal S256x1024 .f32) (c s : Vec Ideal S256x128 .f32) (r : Fin 256) (q : Fin 128) :
    @Eq EReal (rotAll (F := Ideal) Y c s (ix2 r (⟨640 + q.val, by omega⟩ : Fin 1024))) (Y (ix2 r (⟨640 + q.val, by omega⟩ : Fin 1024)) * c (ix2 r q) + Y (ix2 r (⟨640 + (other q).val, by have := (other q).isLt; omega⟩ : Fin 1024)) * s (ix2 r q)) := by
  have e : @Eq EReal (rotAll (F := Ideal) Y c s (ix2 r (⟨640 + q.val, by omega⟩ : Fin 1024))) (rotTile (F := Ideal) (extractStridedSlice S256x128 ![0, 640] Y slices_S256x1024_o0_640_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 5 (by show 5 < 8; decide) S256x128 _ rfl rfl 640 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 640] Y slices_S256x1024_o0_640_S256x128 (ix2 r u)) (Y (ix2 r (⟨640 + u.val, by omega⟩ : Fin 1024))) := fun u => by pointwise
  rw [es q, es (other q)]

theorem all_apply_6 (Y : Vec Ideal S256x1024 .f32) (c s : Vec Ideal S256x128 .f32) (r : Fin 256) (q : Fin 128) :
    @Eq EReal (rotAll (F := Ideal) Y c s (ix2 r (⟨768 + q.val, by omega⟩ : Fin 1024))) (Y (ix2 r (⟨768 + q.val, by omega⟩ : Fin 1024)) * c (ix2 r q) + Y (ix2 r (⟨768 + (other q).val, by have := (other q).isLt; omega⟩ : Fin 1024)) * s (ix2 r q)) := by
  have e : @Eq EReal (rotAll (F := Ideal) Y c s (ix2 r (⟨768 + q.val, by omega⟩ : Fin 1024))) (rotTile (F := Ideal) (extractStridedSlice S256x128 ![0, 768] Y slices_S256x1024_o0_768_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 6 (by show 6 < 8; decide) S256x128 _ rfl rfl 768 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 768] Y slices_S256x1024_o0_768_S256x128 (ix2 r u)) (Y (ix2 r (⟨768 + u.val, by omega⟩ : Fin 1024))) := fun u => by pointwise
  rw [es q, es (other q)]

theorem all_apply_7 (Y : Vec Ideal S256x1024 .f32) (c s : Vec Ideal S256x128 .f32) (r : Fin 256) (q : Fin 128) :
    @Eq EReal (rotAll (F := Ideal) Y c s (ix2 r (⟨896 + q.val, by omega⟩ : Fin 1024))) (Y (ix2 r (⟨896 + q.val, by omega⟩ : Fin 1024)) * c (ix2 r q) + Y (ix2 r (⟨896 + (other q).val, by have := (other q).isLt; omega⟩ : Fin 1024)) * s (ix2 r q)) := by
  have e : @Eq EReal (rotAll (F := Ideal) Y c s (ix2 r (⟨896 + q.val, by omega⟩ : Fin 1024))) (rotTile (F := Ideal) (extractStridedSlice S256x128 ![0, 896] Y slices_S256x1024_o0_896_S256x128) c s (ix2 r q)) := by
    unfold rotAll
    refine concatenate_apply_piece (α := EReal) (t := S256x1024) 1 [⟨S256x128, rotTile (F := Ideal) (extractStridedSlice S256x128 ![0, 0] Y slices_S256x1024_o0_0_S256x128) c s⟩, ⟨S256x128, rotTile (F := Ideal) (extractStridedSlice S256x128 ![0, 128] Y slices_S256x1024_o0_128_S256x128) c s⟩, ⟨S256x128, rotTile (F := Ideal) (extractStridedSlice S256x128 ![0, 256] Y slices_S256x1024_o0_256_S256x128) c s⟩, ⟨S256x128, rotTile (F := Ideal) (extractStridedSlice S256x128 ![0, 384] Y slices_S256x1024_o0_384_S256x128) c s⟩, ⟨S256x128, rotTile (F := Ideal) (extractStridedSlice S256x128 ![0, 512] Y slices_S256x1024_o0_512_S256x128) c s⟩, ⟨S256x128, rotTile (F := Ideal) (extractStridedSlice S256x128 ![0, 640] Y slices_S256x1024_o0_640_S256x128) c s⟩, ⟨S256x128, rotTile (F := Ideal) (extractStridedSlice S256x128 ![0, 768] Y slices_S256x1024_o0_768_S256x128) c s⟩, ⟨S256x128, rotTile (F := Ideal) (extractStridedSlice S256x128 ![0, 896] Y slices_S256x1024_o0_896_S256x128) c s⟩] concatenates_S256x128_S256x128_S256x128_S256x128_S256x128_S256x128_S256x128_S256x128_S256x1024_d1 _ 7 (by show 7 < 8; decide) S256x128 _ rfl rfl 896 rfl (ix2 r q) (fun b hb => ?_) ?_
    · match b with
      | ⟨0, _⟩ => rfl
      | ⟨1, _⟩ => exact absurd rfl hb
    · rfl
  refine e.trans ((tile_apply _ c s r q).trans ?_)
  have es : ∀ u : Fin 128, @Eq EReal (extractStridedSlice S256x128 ![0, 896] Y slices_S256x1024_o0_896_S256x128 (ix2 r u)) (Y (ix2 r (⟨896 + u.val, by omega⟩ : Fin 1024))) := fun u => by pointwise
  rw [es q, es (other q)]

theorem all_apply (Y : Vec Ideal S256x1024 .f32) (c s : Vec Ideal S256x128 .f32) (r : Fin 256) (h : Fin 8) (q : Fin 128) :
    @Eq EReal (rotAll (F := Ideal) Y c s (ix2 r (col h q))) (Y (ix2 r (col h q)) * c (ix2 r q) + Y (ix2 r (col h (other q))) * s (ix2 r q)) := by
  match h with
  | ⟨0, _⟩ => exact all_apply_0 Y c s r q
  | ⟨1, _⟩ => exact all_apply_1 Y c s r q
  | ⟨2, _⟩ => exact all_apply_2 Y c s r q
  | ⟨3, _⟩ => exact all_apply_3 Y c s r q
  | ⟨4, _⟩ => exact all_apply_4 Y c s r q
  | ⟨5, _⟩ => exact all_apply_5 Y c s r q
  | ⟨6, _⟩ => exact all_apply_6 Y c s r q
  | ⟨7, _⟩ => exact all_apply_7 Y c s r q

theorem prod_apply (x : Vec Ideal S256x1024 .bf16) (w : Vec Ideal S1024x1024 .bf16) (r : Fin 256) (j : Fin 1024) :
    @Eq EReal (prod (F := Ideal) x w (ix2 r j)) (dot (fun k => x (ix2 r k)) (fun k => w (ix2 k j))) := by
  unfold dot
  pointwise [prod]

theorem same_apply (c : Vec Ideal S256x128 .f32) (r : Fin 256) (q : Fin 128) : @Eq EReal (shapeCast S256x128 c shapeCasts_S256x128_S256x128 (ix2 r q)) (c (ix2 r q)) := by
  pointwise

theorem scaled_apply (Y : Vec Ideal S256x1024 .f32) (z : EReal) (r : Fin 256) (j : Fin 1024) :
    @Eq EReal (truncf (F := Ideal) .bf16 (mulf (F := Ideal) (φ := .f32) Y (broadcast S256x1024 (z : Ideal .f32))) bitsLt_bf16_f32 (ix2 r j)) (Y (ix2 r j) * z) := by
  pointwise

theorem blk_apply (a : BitVec 32) (x : Vec Ideal S256x1024 .bf16) (w : Vec Ideal S1024x1024 .bf16) (c s : Vec Ideal S256x128 .f32) (r : Fin 256) (h : Fin 8) (q : Fin 128) :
    @Eq EReal (rotBlk (F := Ideal) a x w c s (ix2 r (col h q)))
      ((dot (fun k => x (ix2 r k)) (fun k => w (ix2 k (col h q))) * c (ix2 r q) + dot (fun k => x (ix2 r k)) (fun k => w (ix2 k (col h (other q)))) * s (ix2 r q)) * scale (F := Ideal) a) := by
  unfold rotBlk
  refine (scaled_apply _ _ r _).trans (congrArg (· * (scale (F := Ideal) a : EReal)) ?_)
  refine (all_apply _ _ _ r h q).trans ?_
  rw [prod_apply, prod_apply, same_apply, same_apply]

theorem rowsOf_apply {b : ℕ} {α : Type} (w : (⟨2, ![2048, b]⟩ : Shape).Idx → α) (r : Fin 2048) (k : Fin b) :
    rowsOf w (256 * (r.val / 256)) (ix2 (⟨r.val % 256, Nat.mod_lt _ (by norm_num)⟩ : Fin 256) k) = w (ix2 r k) := by
  have e : (⟨(256 * (r.val / 256) + r.val % 256) % 2048, Nat.mod_lt _ (by norm_num)⟩ : Fin 2048) = r := Fin.ext (by show (256 * (r.val / 256) + r.val % 256) % 2048 = r.val; omega)
  exact congrArg (fun u => w (ix2 u k)) e

/-- One entry of what is stored. -/
theorem rows_apply (a : BitVec 32) (x : Vec Ideal S2048x1024 .bf16) (w : Vec Ideal S1024x1024 .bf16) (c s : Vec Ideal S2048x128 .f32) (r : Fin 2048) (h : Fin 8) (q : Fin 128) :
    @Eq EReal (rotRows (F := Ideal) a x w c s (ix2 r (col h q)))
      ((dot (fun k => x (ix2 r k)) (fun k => w (ix2 k (col h q))) * c (ix2 r q) + dot (fun k => x (ix2 r k)) (fun k => w (ix2 k (col h (other q)))) * s (ix2 r q)) * scale (F := Ideal) a) := by
  refine (blk_apply a (rowsOf x (256 * (r.val / 256))) w (rowsOf c (256 * (r.val / 256))) (rowsOf s (256 * (r.val / 256))) (⟨r.val % 256, Nat.mod_lt _ (by norm_num)⟩ : Fin 256) h q).trans ?_
  rw [rowsOf_apply c r q, rowsOf_apply s r q, funext fun k => rowsOf_apply x r k]

/-- The scale of each of the two blocks of columns. -/
theorem scale_apply (n : ℕ) (hn : n < 2) : @Eq EReal (scale (F := Ideal) (BitVec.ofNat 32 n)) (if n = 0 then Ideal.ofBits .f32 0x3E0293EE#32 else Ideal.ofBits .f32 0x3F800000#32) := by
  match n, hn with
  | 0, _ => rfl
  | 1, _ => rfl

end Cert.AqkIdeal.Val
-- ==== Proof.AqkTables.lean ====
module
public import proofs.«01_k».proof.Proof.AqkRot
public import Idealize.ShloMosaic.Lib.StableHlo.RunClose

/-!
# The attention's queries and keys: the tables of cosines and sines

The host makes the angles, their cosines twice over, and their sines once with the sign turned and once as they are.
-/

@[expose] public section
set_option maxRecDepth 16384
noncomputable section
namespace Cert.AqkIdeal.Val
open Idealize.ShloMosaic Idealize.ShloMosaic.TcCoe Idealize.SL.Sem
open Cert.AqkIdeal Cert.AqkIdeal.Gen Cert.FfnSpec Cert.ProjSpec Cert.RotSpec

/-- The angles. -/
def ang {F : FTy → Type} [FloatOps F] : Vec F S2048x64 .f32 :=
  (mulf (broadcastInDim S2048x64 ![0, 1] bcast_S2048x1_S2048x64_0_1 (broadcastInDim S2048x1 ![0] bcast_S2048_S2048x1_0 (sitofp .f32 (addi (broadcastInDim S2048 ![] bcast_S_S2048 (constantI S_ 32 16#32)) (iotaInDim S2048 32 0))))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))

/-- Their cosines. -/
def cosT {F : FTy → Type} [FloatOps F] : Vec F S2048x64 .f32 := Host.cos (F := F) (φ := .f32) (ang (F := F))
/-- Their sines. -/
def sinT {F : FTy → Type} [FloatOps F] : Vec F S2048x64 .f32 := Host.sin (F := F) (φ := .f32) (ang (F := F))

/-- Two tables side by side, through the host's reshapes. -/
def two {F : FTy → Type} [FloatOps F] (a b : Vec F S2048x64 .f32) : Vec F S2048x128 .f32 :=
  shapeCast S2048x128 (broadcastInDim S1x2048x1x128 ![0, 1, 2, 3] bcast_S1x2048x1x128_S1x2048x1x128_0_1_2_3 (shapeCast S1x2048x1x128 (concatenate S2048x128 1 [⟨S2048x64, a⟩, ⟨S2048x64, b⟩] concatenates_S2048x64_S2048x64_S2048x128_d1) shapeCasts_S2048x128_S1x2048x1x128)) shapeCasts_S1x2048x1x128_S2048x128

theorem pass_apply (v : Vec Ideal S2048x128 .f32) (r : Fin 2048) (q : Fin 128) :
    @Eq EReal (shapeCast S2048x128 (broadcastInDim S1x2048x1x128 ![0, 1, 2, 3] bcast_S1x2048x1x128_S1x2048x1x128_0_1_2_3 (shapeCast S1x2048x1x128 v shapeCasts_S2048x128_S1x2048x1x128)) shapeCasts_S1x2048x1x128_S2048x128 (ix2 r q)) (v (ix2 r q)) := by
  pointwise

theorem two_lo (a b : Vec Ideal S2048x64 .f32) (r : Fin 2048) (u : Fin 64) : @Eq EReal (two (F := Ideal) a b (ix2 r (⟨u.val, by omega⟩ : Fin 128))) (a (ix2 r u)) := by
  refine (pass_apply _ r _).trans ?_
  pointwise

theorem two_hi (a b : Vec Ideal S2048x64 .f32) (r : Fin 2048) (u : Fin 64) : @Eq EReal (two (F := Ideal) a b (ix2 r (hi u))) (b (ix2 r u)) := by
  refine (pass_apply _ r _).trans ?_
  pointwise

/-- The pair of columns a column belongs to. -/
abbrev pair (q : Fin 128) : Fin 64 := ⟨q.val % 64, Nat.mod_lt _ (by norm_num)⟩

theorem two_apply (a b : Vec Ideal S2048x64 .f32) (r : Fin 2048) (q : Fin 128) :
    @Eq EReal (two (F := Ideal) a b (ix2 r q)) (if q.val < 64 then a (ix2 r (pair q)) else b (ix2 r (pair q))) := by
  by_cases h : q.val < 64
  · rw [if_pos h, show pair q = ⟨q.val, h⟩ from Fin.ext (Nat.mod_eq_of_lt h)]
    exact two_lo a b r ⟨q.val, h⟩
  · obtain ⟨u, rfl⟩ : ∃ u : Fin 64, q = hi u := ⟨⟨q.val - 64, by omega⟩, Fin.ext (by show q.val = 64 + (q.val - 64); omega)⟩
    rw [if_neg h, show pair (hi u) = u from Fin.ext (by show (64 + u.val) % 64 = u.val; omega)]
    exact two_hi a b r u

theorem neg_apply (a : Vec Ideal S2048x64 .f32) (r : Fin 2048) (u : Fin 64) : @Eq EReal (Host.negf (F := Ideal) (φ := .f32) a (ix2 r u)) (-(a (ix2 r u) : EReal)) := by
  pointwise

variable (m : (ℓ : Loc nD τ sig) → Buf (Elt Ideal) ℓ) (c : Dev nD)

theorem cos_eq : @Eq (Vec Ideal S2048x128 .f32) (V m c main_v28) (two (F := Ideal) (cosT (F := Ideal)) (cosT (F := Ideal))) := by
  unfold two cosT ang
  unfold V hostOps0
  after_results_entrywise []

theorem sin_eq : @Eq (Vec Ideal S2048x128 .f32) (V m c main_v31) (two (F := Ideal) (Host.negf (F := Ideal) (φ := .f32) (sinT (F := Ideal))) (sinT (F := Ideal))) := by
  unfold two sinT ang
  unfold V hostOps0
  after_results_entrywise []

end Cert.AqkIdeal.Val
-- ==== Proof.AqkPieces.lean ====
module
public import proofs.«01_k».proof.Proof.AqkRot

/-!
# The attention's queries and keys: what a point stores, as one function of 256 rows

The printed body spells the same function out for each of its eight blocks of rows.
-/

@[expose] public section
set_option maxRecDepth 16384
noncomputable section
namespace Cert.AqkIdeal.Val
open Idealize.ShloMosaic Idealize.ShloMosaic.TcCoe Idealize.SL.Sem
open Cert.AqkIdeal Cert.AqkIdeal.Gen Cert.RotSpec
variable {F : FTy → Type} [FloatOps F]

theorem ld_w {Val : EltTy → Type} {e : EltTy} (w : S1024x1024.Idx → Val e) (inb : ∀ a, (![0, 0] : Fin 2 → ℕ) a + (![1024, 1024] : Fin 2 → ℕ) a ≤ S1024x1024.size a) :
    View.ld w (Rect.unit (s := S1024x1024) ![0, 0] ![1024, 1024] inb) = w :=
  View.ld_unit_zero (S := S1024x1024) (by funext d; match d with | ⟨0, _⟩ => rfl | ⟨1, _⟩ => rfl) inb w
theorem canon_w {Val : EltTy → Type} {e : EltTy} [∀ e, Nonempty (Val e)] (inb : ∀ a, (![0, 0] : Fin 2 → ℕ) a + (![1024, 1024] : Fin 2 → ℕ) a ≤ S1024x1024.size a)
    (w : S1024x1024.Idx → Val e) (L : List (View.Piece Val S1024x1024 e)) :
    View.canon ((⟨Rect.unit (s := S1024x1024) ![0, 0] ![1024, 1024] inb, w⟩ : View.Piece Val S1024x1024 e) :: L) = w :=
  View.canon_cons_unit_zero (S := S1024x1024) (by funext d; match d with | ⟨0, _⟩ => rfl | ⟨1, _⟩ => rfl) inb w L
theorem ld_x {Val : EltTy → Type} {e : EltTy} (w : S2048x1024.Idx → Val e) (o : ℕ) (inb : ∀ a, (![o, 0] : Fin 2 → ℕ) a + (![256, 1024] : Fin 2 → ℕ) a ≤ S2048x1024.size a) :
    View.ld w (Rect.unit (s := S2048x1024) ![o, 0] ![256, 1024] inb) = rowsOf w o := ld_rows w o inb
theorem ld_t {Val : EltTy → Type} {e : EltTy} (w : S2048x128.Idx → Val e) (o : ℕ) (inb : ∀ a, (![o, 0] : Fin 2 → ℕ) a + (![256, 128] : Fin 2 → ℕ) a ≤ S2048x128.size a) :
    View.ld w (Rect.unit (s := S2048x128) ![o, 0] ![256, 128] inb) = rowsOf w o := ld_rows w o inb

/-! The eight spellings of it. -/

theorem pay_1792 (i : grid0.Coords) (x : Vec F S256x1024 .bf16) (w : Vec F S1024x1024 .bf16) (c s : Vec F S256x128 .f32) :
    k0_pay1 (BitVec.ofNat 32 (i 0).val) (k0_pay73 x w) (k0_pay74 c) (k0_pay75 s) (k0_pay76 x w c s) (k0_pay77 x w c s) (k0_pay78 x w c s) (k0_pay79 x w c s) (k0_pay80 x w c s) (k0_pay82 x w c) (k0_pay83 x w s) = rotBlk (BitVec.ofNat 32 (i 0).val) x w c s := rfl
theorem pay_1536 (i : grid0.Coords) (x : Vec F S256x1024 .bf16) (w : Vec F S1024x1024 .bf16) (c s : Vec F S256x128 .f32) :
    k0_pay72 (BitVec.ofNat 32 (i 0).val) (k0_pay66 x w) (k0_pay67 c) (k0_pay68 s) (k0_pay70 x w c) (k0_pay71 x w s) = rotBlk (BitVec.ofNat 32 (i 0).val) x w c s := rfl
theorem pay_1280 (i : grid0.Coords) (x : Vec F S256x1024 .bf16) (w : Vec F S1024x1024 .bf16) (c s : Vec F S256x128 .f32) :
    k0_pay65 (BitVec.ofNat 32 (i 0).val) (k0_pay55 x w) (k0_pay56 c) (k0_pay57 s) (k0_pay58 x w c s) (k0_pay59 x w c s) (k0_pay60 x w c s) (k0_pay61 x w c s) (k0_pay62 x w) (k0_pay63 x w c) (k0_pay64 x w) = rotBlk (BitVec.ofNat 32 (i 0).val) x w c s := rfl
theorem pay_1024 (i : grid0.Coords) (x : Vec F S256x1024 .bf16) (w : Vec F S1024x1024 .bf16) (c s : Vec F S256x128 .f32) :
    k0_pay54 (BitVec.ofNat 32 (i 0).val) (k0_pay46 (k0_pay43 x w) (k0_pay44 c) s) (k0_pay47 (k0_pay43 x w) (k0_pay44 c) s) (k0_pay48 (k0_pay43 x w) (k0_pay44 c) s) (k0_pay49 (k0_pay43 x w) (k0_pay44 c) s) (k0_pay50 (k0_pay43 x w) (k0_pay44 c) s) (k0_pay51 (k0_pay43 x w) (k0_pay44 c) s) (k0_pay52 (k0_pay43 x w) (k0_pay44 c) s) (k0_pay53 (k0_pay43 x w) (k0_pay44 c) s) = rotBlk (BitVec.ofNat 32 (i 0).val) x w c s := rfl
theorem pay_768 (i : grid0.Coords) (x : Vec F S256x1024 .bf16) (w : Vec F S1024x1024 .bf16) (c s : Vec F S256x128 .f32) :
    k0_pay42 (BitVec.ofNat 32 (i 0).val) (k0_pay36 x w) (k0_pay37 c) (k0_pay38 s) (k0_pay39 x w c s) (k0_pay40 x w c s) (k0_pay41 x w c s) = rotBlk (BitVec.ofNat 32 (i 0).val) x w c s := rfl
theorem pay_512 (i : grid0.Coords) (x : Vec F S256x1024 .bf16) (w : Vec F S1024x1024 .bf16) (c s : Vec F S256x128 .f32) :
    k0_pay35 (BitVec.ofNat 32 (i 0).val) (k0_pay22 x w) (k0_pay23 c) (k0_pay24 s) (k0_pay25 x w c s) (k0_pay26 x w c s) (k0_pay27 x w c s) (k0_pay28 x w c s) (k0_pay29 x w c s) (k0_pay30 x w c s) (k0_pay32 x w c) (k0_pay33 x w) (k0_pay34 x w) = rotBlk (BitVec.ofNat 32 (i 0).val) x w c s := rfl
theorem pay_256 (i : grid0.Coords) (x : Vec F S256x1024 .bf16) (w : Vec F S1024x1024 .bf16) (c s : Vec F S256x128 .f32) :
    k0_pay21 (BitVec.ofNat 32 (i 0).val) (k0_pay13 x w) (k0_pay14 c) (k0_pay15 s) (k0_pay16 x w c s) (k0_pay18 x w c) (k0_pay19 x w) (k0_pay20 x w) = rotBlk (BitVec.ofNat 32 (i 0).val) x w c s := rfl
theorem pay_0 (i : grid0.Coords) (x : Vec F S256x1024 .bf16) (w : Vec F S1024x1024 .bf16) (c s : Vec F S256x128 .f32) :
    k0_pay12 (BitVec.ofNat 32 (i 0).val) (k0_pay3 x w) (k0_pay4 c) (k0_pay5 s) (k0_pay6 x w c s) (k0_pay7 x w c s) (k0_pay8 x w c s) (k0_pay9 x w c s) (k0_pay10 x w c s) (k0_pay11 x w) = rotBlk (BitVec.ofNat 32 (i 0).val) x w c s := rfl

/-- The first point of a block of columns: the turned block is kept. -/
theorem sout_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1024 .bf16) (harg6 : arg6.IsWhole) (arg7 : Memref sig .tc .vmem S1024x1024 .bf16) (harg7 : arg7.IsWhole) (hc0 : cond0_0 i)
    (x0 : Vec F S2048x1024 .bf16) (x1 : Vec F S1024x1024 .f32) (x2 : Vec F S2048x128 .f32) (x3 : Vec F S2048x128 .f32) :
    sout0_A_0 c i arg2 harg2 arg3 harg3 arg4 harg4 arg5 harg5 arg6 harg6 arg7 harg7 hc0 x0 x1 x2 x3 = k0_pay2 x1 := by
  unfold sout0_A_0
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]

set_option maxHeartbeats 1600000 in
/-- Its rows are multiplied by it. -/
theorem out_A_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1024 .bf16) (harg6 : arg6.IsWhole) (arg7 : Memref sig .tc .vmem S1024x1024 .bf16) (harg7 : arg7.IsWhole) (hc0 : cond0_0 i)
    (x0 : Vec F S2048x1024 .bf16) (x1 : Vec F S1024x1024 .f32) (x2 : Vec F S2048x128 .f32) (x3 : Vec F S2048x128 .f32) :
    out0_A_4 c i arg2 harg2 arg3 harg3 arg4 harg4 arg5 harg5 arg6 harg6 arg7 harg7 hc0 x0 x1 x2 x3 = rotRows (BitVec.ofNat 32 (i 0).val) x0 (k0_pay2 x1) x2 x3 := by
  unfold out0_A_4
  rw [View.read_writes_junk_eq_canon]
  unfold kernelRun0_A
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]
  rw [pay_1792, pay_1536, pay_1280, pay_1024, pay_768, pay_512, pay_256, pay_0]
  unfold rotRows
  exact canon_rows (Val := Elt F) (e := .bf16) (fun o => rotBlk (BitVec.ofNat 32 (i 0).val) (rowsOf x0 o) (k0_pay2 x1) (rowsOf x2 o) (rowsOf x3 o)) _ _ _ _ _ _ _ _ []

set_option maxHeartbeats 1600000 in
/-- A later point: its rows are multiplied by the kept block. -/
theorem out_B_eq (c : Dev nD) (i : grid0.Coords) (arg2 : Memref sig .tc .vmem S2048x1024 .bf16) (harg2 : arg2.IsWhole) (arg3 : Memref sig .tc .vmem S1024x1024 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1024 .bf16) (harg6 : arg6.IsWhole) (arg7 : Memref sig .tc .vmem S1024x1024 .bf16) (harg7 : arg7.IsWhole) (hc0 : ¬cond0_0 i)
    (x0 : Vec F S2048x1024 .bf16) (x1 : Vec F S1024x1024 .f32) (x2 : Vec F S2048x128 .f32) (x3 : Vec F S2048x128 .f32) (xs0 : Vec F S1024x1024 .bf16) :
    out0_B_4 c i arg2 harg2 arg3 harg3 arg4 harg4 arg5 harg5 arg6 harg6 arg7 harg7 hc0 x0 x1 x2 x3 xs0 = rotRows (BitVec.ofNat 32 (i 0).val) x0 xs0 x2 x3 := by
  unfold out0_B_4
  rw [View.read_writes_junk_eq_canon]
  unfold kernelRun0_B
  dsimp only
  sl_unfold_words
  simp (disch := rfl) only [↓View.readCov_cons_toLoadRect, View.readAt_eq_ld, harg2.read_unread, harg3.read_unread, harg4.read_unread, harg5.read_unread, harg6.read_unread, harg7.read_unread, ↓canon_w, ld_w, ld_x, ld_t]
  rw [pay_1792, pay_1536, pay_1280, pay_1024, pay_768, pay_512, pay_256, pay_0]
  unfold rotRows
  exact canon_rows (Val := Elt F) (e := .bf16) (fun o => rotBlk (BitVec.ofNat 32 (i 0).val) (rowsOf x0 o) xs0 (rowsOf x2 o) (rowsOf x3 o)) _ _ _ _ _ _ _ _ []

end Cert.AqkIdeal.Val
-- ==== Proof.AqkRows.lean ====
module
public import proofs.«01_k».proof.Proof.AqkTables
public import proofs.«01_k».proof.Proof.AqkPieces

/-!
# The attention's queries and keys, row by row

The kernel turns a block of 1024 columns of the weight once, keeps it over the eight blocks of rows that follow, multiplies
each of them by it and turns every head by its row's angles. By induction over the points, the kept block is the one of
the point's columns.
-/

@[expose] public section
set_option maxRecDepth 16384
noncomputable section
namespace Cert.AqkIdeal.Val
open Idealize.ShloMosaic Idealize.ShloMosaic.TcCoe Idealize.SL.Sem
open Cert.AqkIdeal Cert.AqkIdeal.Gen Cert.FfnSpec Cert.ProjSpec Cert.RotSpec

theorem turn_apply (v : Vec Ideal S1024x1024 .f32) (k j : Fin 1024) : @Eq EReal (k0_pay2 (F := Ideal) v (ix2 k j)) (v (ix2 j k)) := by
  pointwise [k0_pay2]

variable (m : (ℓ : Loc nD τ sig) → Buf (Elt Ideal) ℓ) (c : Dev nD)

theorem grid_lt (t : Fin cfg0.N) : t.val < 16 := lt_of_lt_of_eq t.isLt (by decide)

/-- The row of all rows that is row `r` of point `t`'s block. -/
abbrev rowOf (t : Fin cfg0.N) (r : Fin 2048) : Fin 16384 := ⟨2048 * (t.val % 8) + r.val, by omega⟩
/-- The weight's column that is column `j` of the result. -/
abbrev wcol (j : Fin 2048) : Fin 11848 := ⟨6144 + j.val, by omega⟩
/-- The result's column that is column `j` of point `t`'s block. -/
abbrev colOf (t : Fin cfg0.N) (j : Fin 1024) : Fin 2048 := ⟨1024 * (t.val / 8) + j.val, by have := grid_lt t; omega⟩

theorem index_all : ∀ t : Fin cfg0.N, ((win0_0.index t 0 = t.val % 8 ∧ win0_0.index t 1 = 0) ∧ (win0_1.index t 0 = 6 + t.val / 8 ∧ win0_1.index t 1 = 0)) ∧ ((win0_2.index t 0 = 0 ∧ win0_2.index t 1 = 0) ∧ (win0_3.index t 0 = 0 ∧ win0_3.index t 1 = 0)) ∧ (win0_4.index t 0 = t.val % 8 ∧ win0_4.index t 1 = t.val / 8) ∧ (grid0.coords t 0).val = t.val / 8 :=
  (by decide +kernel : ∀ t : Fin grid0.N, ((win0_0.index t 0 = t.val % 8 ∧ win0_0.index t 1 = 0) ∧ (win0_1.index t 0 = 6 + t.val / 8 ∧ win0_1.index t 1 = 0)) ∧ ((win0_2.index t 0 = 0 ∧ win0_2.index t 1 = 0) ∧ (win0_3.index t 0 = 0 ∧ win0_3.index t 1 = 0)) ∧ (win0_4.index t 0 = t.val % 8 ∧ win0_4.index t 1 = t.val / 8) ∧ (grid0.coords t 0).val = t.val / 8)

theorem iblk0 (t : Fin cfg0.N) (r : Fin 2048) (k : Fin 1024) : @Eq EReal ((iblk m c 0 t : Vec Ideal S2048x1024 .bf16) (ix2 r k)) ((m ((c : Thread nD τ).loc main_arg0) : Vec Ideal S16384x1024 .bf16) (ix2 (rowOf t r) k)) := by
  obtain ⟨⟨⟨h0, h1⟩, -⟩, -, -⟩ := index_all t
  refine Eq.trans ?_ (congrFun (V_main_arg0 m c) _)
  unfold iblk
  rw [View.read_apply]
  show V m c main_arg0 _ = _
  refine congrArg _ (funext fun a => Fin.ext ?_)
  match a with
  | ⟨0, _⟩ => show win0_0.index t 0 * 2048 + 1 * r.val = 2048 * (t.val % 8) + r.val; rw [h0]; omega
  | ⟨1, _⟩ => show win0_0.index t 1 * 1024 + 1 * k.val = k.val; rw [h1]; omega

/-- The cosines a point reads. -/
theorem iblk2 (t : Fin cfg0.N) (r : Fin 2048) (q : Fin 128) : @Eq EReal ((iblk m c 2 t : Vec Ideal S2048x128 .f32) (ix2 r q)) (cosT (F := Ideal) (ix2 r (pair q))) := by
  obtain ⟨-, ⟨⟨h0, h1⟩, -⟩, -⟩ := index_all t
  refine Eq.trans ?_ ((congrFun (cos_eq m c) (ix2 r q)).trans ((two_apply _ _ r q).trans (ite_self _)))
  unfold iblk
  rw [View.read_apply]
  show V m c main_v28 _ = _
  refine congrArg _ (funext fun a => Fin.ext ?_)
  match a with
  | ⟨0, _⟩ => show win0_2.index t 0 * 2048 + 1 * r.val = r.val; rw [h0]; omega
  | ⟨1, _⟩ => show win0_2.index t 1 * 128 + 1 * q.val = q.val; rw [h1]; omega

/-- The signed sines a point reads. -/
theorem iblk3 (t : Fin cfg0.N) (r : Fin 2048) (q : Fin 128) : @Eq EReal ((iblk m c 3 t : Vec Ideal S2048x128 .f32) (ix2 r q))
    (if q.val < 64 then -(sinT (F := Ideal) (ix2 r (pair q)) : EReal) else sinT (F := Ideal) (ix2 r (pair q))) := by
  obtain ⟨-, ⟨-, ⟨h0, h1⟩⟩, -⟩ := index_all t
  refine Eq.trans ?_ ((congrFun (sin_eq m c) (ix2 r q)).trans ((two_apply _ _ r q).trans (by rw [neg_apply])))
  unfold iblk
  rw [View.read_apply]
  show V m c main_v31 _ = _
  refine congrArg _ (funext fun a => Fin.ext ?_)
  match a with
  | ⟨0, _⟩ => show win0_3.index t 0 * 2048 + 1 * r.val = r.val; rw [h0]; omega
  | ⟨1, _⟩ => show win0_3.index t 1 * 128 + 1 * q.val = q.val; rw [h1]; omega

/-- The weight as the host hands it over: turned. -/
theorem host_apply (w : Vec Ideal S1x1024x11848 .f32) (j : Fin 11848) (k : Fin 1024) :
    @Eq EReal (transpose S11848x1024 [1, 0] (shapeCast S1024x11848 w shapeCasts_S1x1024x11848_S1024x11848) transposes_S1024x11848_S11848x1024_1_0 (ix2 j k)) (w (ix3 0 k j)) := by
  pointwise

theorem wblk (t : Fin cfg0.N) (j k : Fin 1024) : @Eq EReal ((X0_1 m c t : Vec Ideal S1024x1024 .f32) (ix2 j k)) ((m ((c : Thread nD τ).loc main_arg1) : Vec Ideal S1x1024x11848 .f32) (ix3 0 k (wcol (colOf t j)))) := by
  have e : @Eq (Vec Ideal S11848x1024 .f32) (V m c main_v4) (transpose S11848x1024 [1, 0] (shapeCast S1024x11848 (m ((c : Thread nD τ).loc main_arg1) : Vec Ideal S1x1024x11848 .f32) shapeCasts_S1x1024x11848_S1024x11848) transposes_S1024x11848_S11848x1024_1_0) := by
    unfold V hostOps0
    after_results_entrywise []
  obtain ⟨⟨-, ⟨h0, h1⟩⟩, -, -⟩ := index_all t
  have hj : (⟨1024 * (6 + t.val / 8) + j.val, by have := grid_lt t; omega⟩ : Fin 11848) = wcol (colOf t j) := Fin.ext (by show 1024 * (6 + t.val / 8) + j.val = 6144 + (1024 * (t.val / 8) + j.val); omega)
  refine Eq.trans ?_ (((congrFun e (ix2 (⟨1024 * (6 + t.val / 8) + j.val, by have := grid_lt t; omega⟩ : Fin 11848) k)).trans (host_apply _ _ k)).trans (congrArg (fun q => (m ((c : Thread nD τ).loc main_arg1) : Vec Ideal S1x1024x11848 .f32) (ix3 0 k q)) hj))
  unfold X0_1 Pipeline.Window.fill
  rw [dif_pos (moved0_1 t _)]
  unfold iblk
  rw [View.read_apply]
  show V m c main_v4 _ = _
  refine congrArg _ (funext fun a => Fin.ext ?_)
  match a with
  | ⟨0, _⟩ => show win0_1.index t 0 * 1024 + 1 * j.val = 1024 * (6 + t.val / 8) + j.val; rw [h0]; omega
  | ⟨1, _⟩ => show win0_1.index t 1 * 1024 + 1 * k.val = k.val; rw [h1]; omega

/-- One entry of the rows' product with the weight, from the arguments. -/
def dotAt (t : Fin cfg0.N) (r : Fin 2048) (j : Fin 1024) : EReal :=
  dot (fun k => (m ((c : Thread nD τ).loc main_arg0) : Vec Ideal S16384x1024 .bf16) (ix2 (rowOf t r) k)) (fun k => (m ((c : Thread nD τ).loc main_arg1) : Vec Ideal S1x1024x11848 .f32) (ix3 0 k (wcol (colOf t j))))

/-- One entry of the result. -/
def entry (t : Fin cfg0.N) (r : Fin 2048) (h : Fin 8) (q : Fin 128) : EReal :=
  turned (q.val < 64) (dotAt m c t r (col h q)) (dotAt m c t r (col h (other q))) (cosT (F := Ideal) (ix2 r (pair q))) (sinT (F := Ideal) (ix2 r (pair q))) * (if t.val / 8 = 0 then Ideal.ofBits .f32 0x3E0293EE#32 else Ideal.ofBits .f32 0x3F800000#32)

/-- What every point keeps. -/
theorem kept (n : ℕ) (hn : n < cfg0.N) (k j : Fin 1024) :
    @Eq EReal ((outsAt0 m c n hn).2 (ix2 k j)) ((m ((c : Thread nD τ).loc main_arg1) : Vec Ideal S1x1024x11848 .f32) (ix3 0 k (wcol (colOf ⟨n, hn⟩ j)))) := by
  induction n with
  | zero =>
    have e := congrArg Prod.snd (outsAt0_A m c ⟨0, hn⟩ rfl)
    rw [sout_A_eq] at e
    exact (congrFun e (ix2 k j)).trans ((turn_apply _ k j).trans (wblk m c ⟨0, hn⟩ j k))
  | succ n ih =>
    by_cases h0 : (n + 1) % 8 = 0
    · have e := congrArg Prod.snd (outsAt0_A m c ⟨n + 1, hn⟩ h0)
      rw [sout_A_eq] at e
      exact (congrFun e (ix2 k j)).trans ((turn_apply _ k j).trans (wblk m c ⟨n + 1, hn⟩ j k))
    · have e := congrArg Prod.snd (outsAt0_B m c ⟨n + 1, hn⟩ h0)
      refine (congrFun e (ix2 k j)).trans ((ih (Nat.lt_of_succ_lt hn)).trans ?_)
      have hc : colOf ⟨n, Nat.lt_of_succ_lt hn⟩ j = colOf ⟨n + 1, hn⟩ j := Fin.ext (show 1024 * (n / 8) + j.val = 1024 * ((n + 1) / 8) + j.val by omega)
      rw [hc]

/-- The stored rows' entry, once the kept block is the point's columns. -/
theorem stored (t : Fin cfg0.N) (w : Vec Ideal S1024x1024 .bf16) (hw : ∀ k j : Fin 1024, @Eq EReal (w (ix2 k j)) ((m ((c : Thread nD τ).loc main_arg1) : Vec Ideal S1x1024x11848 .f32) (ix3 0 k (wcol (colOf t j)))))
    (r : Fin 2048) (h : Fin 8) (q : Fin 128) :
    @Eq EReal (rotRows (F := Ideal) (BitVec.ofNat 32 (grid0.coords t 0).val) (iblk m c 0 t) w (iblk m c 2 t) (iblk m c 3 t) (ix2 r (col h q))) (entry m c t r h q) := by
  obtain ⟨-, -, -, hi⟩ := index_all t
  refine (rows_apply _ _ w _ _ r h q).trans ?_
  unfold entry dotAt
  rw [← turned_eq, hi, scale_apply (t.val / 8) (by have := grid_lt t; omega), iblk2 m c t r q, iblk3 m c t r q, funext fun k => iblk0 m c t r k, funext fun k => hw k (col h q), funext fun k => hw k (col h (other q))]

/-- What every point writes. -/
theorem written (t : Fin cfg0.N) (r : Fin 2048) (h : Fin 8) (q : Fin 128) :
    @Eq EReal ((outsAt0 m c t.val t.isLt).1 (ix2 r (col h q))) (entry m c t r h q) := by
  by_cases h0 : t.val % 8 = 0
  · have e := congrArg Prod.fst (outsAt0_A m c t h0)
    rw [out_A_eq] at e
    exact (congrFun e (ix2 r (col h q))).trans (stored m c t _ (fun k j => (turn_apply (X0_1 m c t) k j).trans (wblk m c t j k)) r h q)
  · have e := congrArg Prod.fst (outsAt0_B m c t h0)
    rw [out_B_eq] at e
    have hl : t.val - 1 < cfg0.N := Nat.lt_of_le_of_lt (Nat.sub_le _ _) t.isLt
    have hc : ∀ j, colOf ⟨t.val - 1, hl⟩ j = colOf t j := fun j => Fin.ext (show 1024 * ((t.val - 1) / 8) + j.val = 1024 * (t.val / 8) + j.val by omega)
    exact (congrFun e (ix2 r (col h q))).trans (stored m c t _ (fun k j => (kept m c (t.val - 1) hl k j).trans (by rw [hc j])) r h q)

theorem flush4 : ∀ t : Fin cfg0.N, (cfg0.win 4).flush t = true :=
  (by decide +kernel : ∀ t : Fin grid0.N, win0_4.flush t = true)

/-- The array the kernel leaves, at a row and a column. -/
theorem final_apply (t : Fin cfg0.N) (r : Fin 2048) (h : Fin 8) (q : Fin 128) :
    @Eq EReal (((dats m 0 c).arrAt 4 cfg0.N : Vec Ideal S16384x2048 .bf16) (ix2 (rowOf t r) (colOf t (col h q)))) (entry m c t r h q) := by
  have hb := congrFun (Cert.AqkIdeal.Value.blocks4 m c t (flush4 _)) (ix2 r (col h q))
  rw [Cert.AqkIdeal.Value.flushed4] at hb
  refine Eq.trans ?_ (hb.trans (written m c t r h q))
  obtain ⟨-, -, ⟨h0, h1⟩, -⟩ := index_all t
  rw [View.read_apply]
  show (dats m 0 c).arrAt 4 cfg0.N _ = (dats m 0 c).arrAt 4 cfg0.N _
  refine congrArg _ (funext fun a => Fin.ext ?_)
  match a with
  | ⟨0, _⟩ => show 2048 * (t.val % 8) + r.val = win0_4.index t 0 * 2048 + 1 * r.val; rw [h0]; omega
  | ⟨1, _⟩ => show 1024 * (t.val / 8) + (128 * h.val + q.val) = win0_4.index t 1 * 1024 + 1 * (128 * h.val + q.val); rw [h1]; omega

end Cert.AqkIdeal.Val
-- ==== Proof.AqkTie.lean ====
module
public import proofs.«01_k».proof.Proof.AqkRows
public import proofs.«01_k».proof.Proof.Gen.AqkReferenceIdeal.Run

/-!
# The attention's queries and keys are the plain statement's

The reference multiplies the rows by the whole weight, takes the columns, splits them into heads and turns the halves.
-/

@[expose] public section
set_option maxRecDepth 16384
noncomputable section
namespace Cert.AqkReferenceIdeal.Val
open Idealize.ShloMosaic Idealize.ShloMosaic.TcCoe Idealize.SL.Sem
open Cert.AqkReferenceIdeal Cert.AqkReferenceIdeal.Gen Cert.FfnSpec Cert.ProjSpec Cert.RotSpec
open Cert.AqkIdeal.Val (wcol col other pair hi)

/-- A row from its sequence and its place there. -/
abbrev row (b : Fin 8) (r : Fin 2048) : Fin 16384 := ⟨2048 * b.val + r.val, by omega⟩

/-- The product with the whole weight. -/
def whole (x : Vec Ideal S16384x1024 .bf16) (w : Vec Ideal S1x1024x11848 .f32) : Vec Ideal S16384x11848 .f32 :=
  Host.dotGeneral (F := Ideal) (φ₁ := .f32) (φ₂ := .f32) dot_S16384x1024_S1024x11848_S16384x11848_1_0_0_1_n_n none (extf (F := Ideal) (φ := .bf16) .f32 x bitsLt_bf16_f32) (shapeCast S1024x11848 w shapeCasts_S1x1024x11848_S1024x11848)

theorem whole_apply (x : Vec Ideal S16384x1024 .bf16) (w : Vec Ideal S1x1024x11848 .f32) (R : Fin 16384) (q : Fin 11848) :
    @Eq EReal (whole x w (ix2 R q)) (dot (fun k => x (ix2 R k)) (fun k => w (ix3 0 k q))) := by
  unfold dot
  pointwise [whole]

/-- One entry of the columns taken. -/
def dotIn (x : Vec Ideal S16384x1024 .bf16) (w : Vec Ideal S1x1024x11848 .f32) (b : Fin 8) (r : Fin 2048) (j : Fin 2048) : EReal :=
  dot (fun k => x (ix2 (row b r) k)) (fun k => w (ix3 0 k (wcol j)))

/-- The columns of the queries. -/
def cols0 (x : Vec Ideal S16384x1024 .bf16) (w : Vec Ideal S1x1024x11848 .f32) : Vec Ideal S16384x1024 .f32 :=
  extractStridedSlice S16384x1024 ![0, 6144] (whole x w) slices_S16384x11848_S16384x1024_0_6144
theorem cols0_apply (x : Vec Ideal S16384x1024 .bf16) (w : Vec Ideal S1x1024x11848 .f32) (b : Fin 8) (r : Fin 2048) (j : Fin 1024) :
    @Eq EReal (cols0 x w (ix2 (row b r) j)) (dotIn x w b r (⟨0 + j.val, by omega⟩ : Fin 2048)) := by
  unfold cols0 dotIn
  generalize hW : whole x w = W
  have hq : (⟨6144 + j.val, by omega⟩ : Fin 11848) = wcol (⟨0 + j.val, by omega⟩ : Fin 2048) := Fin.ext (by show 6144 + j.val = 6144 + (0 + j.val); omega)
  refine Eq.trans (b := (W (ix2 (row b r) (⟨6144 + j.val, by omega⟩ : Fin 11848)) : EReal)) (by pointwise) ?_
  rw [← hW, hq]
  exact whole_apply x w _ _

/-- The columns of the keys. -/
def cols1 (x : Vec Ideal S16384x1024 .bf16) (w : Vec Ideal S1x1024x11848 .f32) : Vec Ideal S16384x1024 .f32 :=
  extractStridedSlice S16384x1024 ![0, 7168] (whole x w) slices_S16384x11848_S16384x1024_0_7168
theorem cols1_apply (x : Vec Ideal S16384x1024 .bf16) (w : Vec Ideal S1x1024x11848 .f32) (b : Fin 8) (r : Fin 2048) (j : Fin 1024) :
    @Eq EReal (cols1 x w (ix2 (row b r) j)) (dotIn x w b r (⟨1024 + j.val, by omega⟩ : Fin 2048)) := by
  unfold cols1 dotIn
  generalize hW : whole x w = W
  have hq : (⟨7168 + j.val, by omega⟩ : Fin 11848) = wcol (⟨1024 + j.val, by omega⟩ : Fin 2048) := Fin.ext (by show 7168 + j.val = 6144 + (1024 + j.val); omega)
  refine Eq.trans (b := (W (ix2 (row b r) (⟨7168 + j.val, by omega⟩ : Fin 11848)) : EReal)) (by pointwise) ?_
  rw [← hW, hq]
  exact whole_apply x w _ _

/-- Into heads. -/
def split (Y : Vec Ideal S16384x1024 .f32) : Vec Ideal S8x2048x8x128 .f32 := shapeCast S8x2048x8x128 Y shapeCasts_S16384x1024_S8x2048x8x128
/-- And back. -/
def merge (z : Vec Ideal S8x2048x8x128 .f32) : Vec Ideal S16384x1024 .f32 := shapeCast S16384x1024 z shapeCasts_S8x2048x8x128_S16384x1024

theorem place (b : Fin 8) (r : Fin 2048) (h : Fin 8) (q : Fin 128) :
    ((⟨4, ![8, 2048, 8, 128]⟩ : Shape).rowMajor (ix4 b r h q)).val = ((⟨2, ![16384, 1024]⟩ : Shape).rowMajor (ix2 (row b r) (col h q))).val :=
  (Shape.rowMajor_val_four (d := ![8, 2048, 8, 128]) (ix4 b r h q)).trans (Eq.trans
    (by show ((b.val * 2048 + r.val) * 8 + h.val) * 128 + q.val = (2048 * b.val + r.val) * 1024 + (128 * h.val + q.val); omega)
    (Shape.rowMajor_val_two (d := ![16384, 1024]) (ix2 (row b r) (col h q))).symm)

theorem split_apply (Y : Vec Ideal S16384x1024 .f32) (b : Fin 8) (r : Fin 2048) (h : Fin 8) (q : Fin 128) :
    @Eq EReal (split Y (ix4 b r h q)) (Y (ix2 (row b r) (col h q))) :=
  shapeCast_apply _ _ _ _ (place b r h q).symm
theorem merge_apply (z : Vec Ideal S8x2048x8x128 .f32) (b : Fin 8) (r : Fin 2048) (h : Fin 8) (q : Fin 128) :
    @Eq EReal (merge z (ix2 (row b r) (col h q))) (z (ix4 b r h q)) :=
  shapeCast_apply _ _ _ _ (place b r h q)

/-- The angles, their cosines and sines. -/
def angR {F : FTy → Type} [FloatOps F] : Vec F S2048x64 .f32 :=
  (mulf (broadcastInDim S2048x64 ![0, 1] bcast_S2048x1_S2048x64_0_1 (broadcastInDim S2048x1 ![0] bcast_S2048_S2048x1_0 (sitofp .f32 (addi (broadcastInDim S2048 ![] bcast_S_S2048 (constantI S_ 32 16#32)) (iotaInDim S2048 32 0))))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))
def cosR : Vec Ideal S2048x64 .f32 := Host.cos (F := Ideal) (φ := .f32) (angR (F := Ideal))
def sinR : Vec Ideal S2048x64 .f32 := Host.sin (F := Ideal) (φ := .f32) (angR (F := Ideal))

/-- Every head turned. -/
def rope (z : Vec Ideal S8x2048x8x128 .f32) (cs sn : Vec Ideal S2048x64 .f32) : Vec Ideal S8x2048x8x128 .f32 :=
  concatenate S8x2048x8x128 3 [⟨S8x2048x8x64, subf (F := Ideal) (φ := .f32) (mulf (F := Ideal) (φ := .f32) (extractStridedSlice S8x2048x8x64 ![0, 0, 0, 0] z slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 cs)))) (mulf (F := Ideal) (φ := .f32) (extractStridedSlice S8x2048x8x64 ![0, 0, 0, 64] z slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 sn))))⟩,
    ⟨S8x2048x8x64, addf (F := Ideal) (φ := .f32) (mulf (F := Ideal) (φ := .f32) (extractStridedSlice S8x2048x8x64 ![0, 0, 0, 64] z slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 cs)))) (mulf (F := Ideal) (φ := .f32) (extractStridedSlice S8x2048x8x64 ![0, 0, 0, 0] z slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 sn))))⟩] concatenates_S8x2048x8x64_S8x2048x8x64_S8x2048x8x128_d3

theorem rope_lo (z : Vec Ideal S8x2048x8x128 .f32) (cs sn : Vec Ideal S2048x64 .f32) (b : Fin 8) (r : Fin 2048) (h : Fin 8) (u : Fin 64) :
    @Eq EReal (rope z cs sn (ix4 b r h (⟨u.val, by omega⟩ : Fin 128))) (z (ix4 b r h (⟨u.val, by omega⟩ : Fin 128)) * cs (ix2 r u) - z (ix4 b r h (hi u)) * sn (ix2 r u)) := by
  pointwise [rope]
theorem rope_hi (z : Vec Ideal S8x2048x8x128 .f32) (cs sn : Vec Ideal S2048x64 .f32) (b : Fin 8) (r : Fin 2048) (h : Fin 8) (u : Fin 64) :
    @Eq EReal (rope z cs sn (ix4 b r h (hi u))) (z (ix4 b r h (hi u)) * cs (ix2 r u) + z (ix4 b r h (⟨u.val, by omega⟩ : Fin 128)) * sn (ix2 r u)) := by
  pointwise [rope]

theorem rope_apply (z : Vec Ideal S8x2048x8x128 .f32) (cs sn : Vec Ideal S2048x64 .f32) (b : Fin 8) (r : Fin 2048) (h : Fin 8) (q : Fin 128) :
    @Eq EReal (rope z cs sn (ix4 b r h q)) (turned (q.val < 64) (z (ix4 b r h q)) (z (ix4 b r h (other q))) (cs (ix2 r (pair q))) (sn (ix2 r (pair q)))) := by
  unfold turned
  by_cases hq : q.val < 64
  · have e : hi ⟨q.val, hq⟩ = other q := Fin.ext (by show 64 + q.val = (q.val + 64) % 128; omega)
    rw [if_pos hq, show pair q = ⟨q.val, hq⟩ from Fin.ext (Nat.mod_eq_of_lt hq), ← e]
    exact rope_lo z cs sn b r h ⟨q.val, hq⟩
  · obtain ⟨u, rfl⟩ : ∃ u : Fin 64, q = hi u := ⟨⟨q.val - 64, by omega⟩, Fin.ext (by show q.val = 64 + (q.val - 64); omega)⟩
    have e : (⟨u.val, by omega⟩ : Fin 128) = other (hi u) := Fin.ext (by show u.val = (64 + u.val + 64) % 128; omega)
    rw [if_neg hq, show pair (hi u) = u from Fin.ext (by show (64 + u.val) % 64 = u.val; omega), ← e]
    exact rope_hi z cs sn b r h u

/-- Times the queries' scale. -/
def scaled (z : Vec Ideal S8x2048x8x128 .f32) : Vec Ideal S8x2048x8x128 .f32 := mulf (F := Ideal) (φ := .f32) z (broadcastInDim S8x2048x8x128 ![] bcast_S_S8x2048x8x128 (constant S_ .f32 0x3E0293EE#32))
theorem scaled_apply (z : Vec Ideal S8x2048x8x128 .f32) (b : Fin 8) (r : Fin 2048) (h : Fin 8) (q : Fin 128) : @Eq EReal (scaled z (ix4 b r h q)) (z (ix4 b r h q) * Ideal.ofBits .f32 0x3E0293EE#32) := by
  pointwise [scaled]

/-- Two arrays side by side. -/
def beside (A B : Vec Ideal S16384x1024 .f32) : Vec Ideal S16384x2048 .bf16 :=
  truncf (F := Ideal) .bf16 (concatenate S16384x2048 1 [⟨S16384x1024, A⟩, ⟨S16384x1024, B⟩] concatenates_S16384x1024_S16384x1024_S16384x2048_d1) bitsLt_bf16_f32
theorem beside_0 (A B : Vec Ideal S16384x1024 .f32) (R : Fin 16384) (j : Fin 1024) : @Eq EReal (beside A B (ix2 R (⟨0 + j.val, by omega⟩ : Fin 2048))) (A (ix2 R j)) := by
  pointwise [beside]
theorem beside_1 (A B : Vec Ideal S16384x1024 .f32) (R : Fin 16384) (j : Fin 1024) : @Eq EReal (beside A B (ix2 R (⟨1024 + j.val, by omega⟩ : Fin 2048))) (B (ix2 R j)) := by
  pointwise [beside]

theorem part0_apply (x : Vec Ideal S16384x1024 .bf16) (w : Vec Ideal S1x1024x11848 .f32) (b : Fin 8) (r : Fin 2048) (h : Fin 8) (q : Fin 128) :
    @Eq EReal (merge (scaled (rope (split (cols0 x w)) cosR sinR)) (ix2 (row b r) (col h q)))
      (turned (q.val < 64) (dotIn x w b r (⟨0 + (col h q).val, by have := (col h q).isLt; omega⟩ : Fin 2048)) (dotIn x w b r (⟨0 + (col h (other q)).val, by have := (col h (other q)).isLt; omega⟩ : Fin 2048)) (cosR (ix2 r (pair q))) (sinR (ix2 r (pair q))) * Ideal.ofBits .f32 0x3E0293EE#32) := by
  refine (merge_apply _ b r h q).trans ?_
  refine (scaled_apply _ b r h q).trans (congrArg (· * Ideal.ofBits .f32 0x3E0293EE#32) ?_)
  refine (rope_apply _ _ _ b r h q).trans ?_
  rw [split_apply, split_apply, cols0_apply, cols0_apply]

theorem part1_apply (x : Vec Ideal S16384x1024 .bf16) (w : Vec Ideal S1x1024x11848 .f32) (b : Fin 8) (r : Fin 2048) (h : Fin 8) (q : Fin 128) :
    @Eq EReal (merge (rope (split (cols1 x w)) cosR sinR) (ix2 (row b r) (col h q)))
      (turned (q.val < 64) (dotIn x w b r (⟨1024 + (col h q).val, by have := (col h q).isLt; omega⟩ : Fin 2048)) (dotIn x w b r (⟨1024 + (col h (other q)).val, by have := (col h (other q)).isLt; omega⟩ : Fin 2048)) (cosR (ix2 r (pair q))) (sinR (ix2 r (pair q))) * Ideal.ofBits .f32 0x3F800000#32) := by
  refine (merge_apply _ b r h q).trans ?_
  rw [show Ideal.ofBits .f32 0x3F800000#32 = (1 : EReal) from FfnSpec.ofBits_one.trans EReal.coe_one, mul_one]
  refine (rope_apply _ _ _ b r h q).trans ?_
  rw [split_apply, split_apply, cols1_apply, cols1_apply]

/-- The result. -/
def result (x : Vec Ideal S16384x1024 .bf16) (w : Vec Ideal S1x1024x11848 .f32) : Vec Ideal S16384x2048 .bf16 :=
  beside (merge (scaled (rope (split (cols0 x w)) cosR sinR))) (merge (rope (split (cols1 x w)) cosR sinR))

theorem result_apply (x : Vec Ideal S16384x1024 .bf16) (w : Vec Ideal S1x1024x11848 .f32) (a : Fin 2) (b : Fin 8) (r : Fin 2048) (h : Fin 8) (q : Fin 128) :
    @Eq EReal (result x w (ix2 (row b r) (⟨1024 * a.val + (col h q).val, by have := (col h q).isLt; omega⟩ : Fin 2048)))
      (turned (q.val < 64) (dotIn x w b r (⟨1024 * a.val + (col h q).val, by have := (col h q).isLt; omega⟩ : Fin 2048)) (dotIn x w b r (⟨1024 * a.val + (col h (other q)).val, by have := (col h (other q)).isLt; omega⟩ : Fin 2048)) (cosR (ix2 r (pair q))) (sinR (ix2 r (pair q))) * (if a.val = 0 then Ideal.ofBits .f32 0x3E0293EE#32 else Ideal.ofBits .f32 0x3F800000#32)) := by
  unfold result
  match a with
  | ⟨0, _⟩ => exact (beside_0 _ _ _ (col h q)).trans (part0_apply x w b r h q)
  | ⟨1, _⟩ => exact (beside_1 _ _ _ (col h q)).trans (part1_apply x w b r h q)

end Cert.AqkReferenceIdeal.Val

namespace Cert.AqkTie
open Idealize.ShloMosaic Idealize.ShloMosaic.TcCoe Idealize.SL.Sem
open Cert.AqkIdeal.Val (rowOf colOf wcol col other pair)

theorem cos_same : Cert.AqkReferenceIdeal.Val.cosR = Cert.AqkIdeal.Val.cosT (F := Ideal) := rfl
theorem sin_same : Cert.AqkReferenceIdeal.Val.sinR = Cert.AqkIdeal.Val.sinT (F := Ideal) := rfl

variable (m : (ℓ : Loc Cert.AqkIdeal.nD Cert.AqkIdeal.τ Cert.AqkIdeal.sig) → Buf (Elt Ideal) ℓ)
  (m' : (ℓ : Loc Cert.AqkReferenceIdeal.nD Cert.AqkReferenceIdeal.τ Cert.AqkReferenceIdeal.sig) → Buf (Elt Ideal) ℓ) (c : Dev Cert.AqkIdeal.nD)

/-- The two results are one array. -/
theorem tie
    (e0 : m' ((c.tc : Thread Cert.AqkReferenceIdeal.nD Cert.AqkReferenceIdeal.τ).loc Cert.AqkReferenceIdeal.main_arg0) = m ((c.tc : Thread Cert.AqkIdeal.nD Cert.AqkIdeal.τ).loc Cert.AqkIdeal.main_arg0))
    (e1 : m' ((c.tc : Thread Cert.AqkReferenceIdeal.nD Cert.AqkReferenceIdeal.τ).loc Cert.AqkReferenceIdeal.main_arg1) = m ((c.tc : Thread Cert.AqkIdeal.nD Cert.AqkIdeal.τ).loc Cert.AqkIdeal.main_arg1)) :
    @Eq (Vec Ideal Cert.AqkIdeal.S16384x2048 .bf16)
      (Cert.AqkReferenceIdeal.Val.result (m' ((c.tc : Thread Cert.AqkReferenceIdeal.nD Cert.AqkReferenceIdeal.τ).loc Cert.AqkReferenceIdeal.main_arg0)) (m' ((c.tc : Thread Cert.AqkReferenceIdeal.nD Cert.AqkReferenceIdeal.τ).loc Cert.AqkReferenceIdeal.main_arg1)))
      ((Cert.AqkIdeal.Gen.dats m 0 c).arrAt 4 Cert.AqkIdeal.cfg0.N) := by
  funext i
  obtain ⟨R, j, rfl⟩ : ∃ R j, i = ix2 R j := ⟨i 0, i 1, by funext a; fin_cases a <;> rfl⟩
  have ht : 8 * (j.val / 1024) + R.val / 2048 < Cert.AqkIdeal.cfg0.N := lt_of_lt_of_eq (show 8 * (j.val / 1024) + R.val / 2048 < 16 by omega) (by decide)
  obtain ⟨t, htv⟩ : ∃ t : Fin Cert.AqkIdeal.cfg0.N, t.val = 8 * (j.val / 1024) + R.val / 2048 := ⟨⟨_, ht⟩, rfl⟩
  obtain ⟨a, ha⟩ : ∃ a : Fin 2, a.val = t.val / 8 := ⟨⟨t.val / 8, by omega⟩, rfl⟩
  obtain ⟨b, hb⟩ : ∃ b : Fin 8, b.val = t.val % 8 := ⟨⟨t.val % 8, by omega⟩, rfl⟩
  obtain ⟨r, hr⟩ : ∃ r : Fin 2048, r.val = R.val % 2048 := ⟨⟨R.val % 2048, by omega⟩, rfl⟩
  obtain ⟨h, hh⟩ : ∃ h : Fin 8, h.val = j.val % 1024 / 128 := ⟨⟨j.val % 1024 / 128, by omega⟩, rfl⟩
  obtain ⟨q, hq⟩ : ∃ q : Fin 128, q.val = j.val % 128 := ⟨⟨j.val % 128, by omega⟩, rfl⟩
  have hR : R = rowOf t r := Fin.ext (by show R.val = 2048 * (t.val % 8) + r.val; omega)
  have hj : j = colOf t (col h q) := Fin.ext (by show j.val = 1024 * (t.val / 8) + (128 * h.val + q.val); omega)
  have hR2 : rowOf t r = Cert.AqkReferenceIdeal.Val.row b r := Fin.ext (by show 2048 * (t.val % 8) + r.val = 2048 * b.val + r.val; omega)
  have hc2 : ∀ k : Fin 1024, colOf t k = (⟨1024 * a.val + k.val, by omega⟩ : Fin 2048) := fun k => Fin.ext (by show 1024 * (t.val / 8) + k.val = 1024 * a.val + k.val; omega)
  have key := Cert.AqkIdeal.Val.final_apply m c t r h q
  unfold Cert.AqkIdeal.Val.entry Cert.AqkIdeal.Val.dotAt at key
  rw [hR2, hc2, hc2, ← ha, ← cos_same, ← sin_same] at key
  rw [hR, hj, hR2, hc2]
  refine (Cert.AqkReferenceIdeal.Val.result_apply _ _ a b r h q).trans (Eq.trans ?_ key.symm)
  unfold Cert.AqkReferenceIdeal.Val.dotIn
  rw [e0, e1]

end Cert.AqkTie
-- ==== Proof.lean ====
/-
  The claims of `Cert.Claim` (proofs.«01_k».proof.Defs), put together: the frames are the generated ones, or a reference's
  run with the counters zero because it declares no semaphore; a value claim sets the kernel's run beside the reference's
  and closes with the call's tie (RetTie, FfnOneTie, FfnTie, MergeTie, RvTie, RgTie, GatesTie, AvTie, RqkTie, AqkTie).
-/
module

public import proofs.«01_k».proof.Defs
public import proofs.«01_k».proof.Proof.Gen.ReferenceIdeal.Run
public import proofs.«01_k».proof.Proof.Gen.KernelIdeal.Value
public import proofs.«01_k».proof.Proof.Gen.Kernel.Frame
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnOne.Frame
public import proofs.«01_k».proof.Proof.Gen.FfnOneIdeal.Value
public import proofs.«01_k».proof.Proof.Gen.FfnOneReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.Rv.Frame
public import proofs.«01_k».proof.Proof.Gen.RvIdeal.Value
public import proofs.«01_k».proof.Proof.Gen.RvReferenceIdeal.Run
public import proofs.«01_k».proof.Proof.Gen.Rg.Frame
public import proofs.«01_k».proof.Proof.Gen.RgIdeal.Value
public import proofs.«01_k».proof.Proof.Gen.RgReferenceIdeal.Run
public import proofs.«01_k».proof.Proof.Gen.Gates.Frame
public import proofs.«01_k».proof.Proof.Gen.GatesIdeal.Value
public import proofs.«01_k».proof.Proof.Gen.GatesReferenceIdeal.Run
public import proofs.«01_k».proof.Proof.Gen.Av.Frame
public import proofs.«01_k».proof.Proof.Gen.AvIdeal.Value
public import proofs.«01_k».proof.Proof.Gen.AvReferenceIdeal.Run
public import proofs.«01_k».proof.Proof.Gen.Rqk.Frame
public import proofs.«01_k».proof.Proof.Gen.RqkIdeal.Value
public import proofs.«01_k».proof.Proof.Gen.RqkReferenceIdeal.Run
public import proofs.«01_k».proof.Proof.Gen.Aqk.Frame
public import proofs.«01_k».proof.Proof.Gen.AqkIdeal.Value
public import proofs.«01_k».proof.Proof.Gen.AqkReferenceIdeal.Run
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.RetTie
public import proofs.«01_k».proof.Proof.FfnTie
public import proofs.«01_k».proof.Proof.FfnOneTie
public import proofs.«01_k».proof.Proof.MergeTie
public import proofs.«01_k».proof.Proof.RvTie
public import proofs.«01_k».proof.Proof.RgTie
public import proofs.«01_k».proof.Proof.GatesTie
public import proofs.«01_k».proof.Proof.AvTie
public import proofs.«01_k».proof.Proof.RqkTie
public import proofs.«01_k».proof.Proof.AqkTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_KernelIdeal : quiescent_KernelIdeal := fun m ρ _ => Cert.KernelIdeal.Gen.frame m ρ

attribute [local instance] Cert.Pre_finite.facts

theorem quiescent_KernelIdeal_pre_finite : quiescent_KernelIdeal_pre_finite := fun m ρ _ => Cert.KernelIdeal.Gen.frame m ρ

theorem quiescent_ReferenceIdeal_pre_finite : quiescent_ReferenceIdeal_pre_finite := fun m ρ _ => quiescent_ReferenceIdeal m ρ trivial

theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4⟩ := hagree c
  have H := Cert.Tie.isReal m c hpre
  exact (h c).1.trans (Cert.Tie.tie m m' c H (Cert.Tie.isReal' m m' c H e0 e1 e3 e4) e2)

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem quiescent_FfnOneReferenceIdeal : quiescent_FfnOneReferenceIdeal := fun m ρ _ =>
  (θ_run Cert.FfnOneReferenceIdeal.defs _ _).mono (fun r h => ⟨fun c => (h c).2.2, sem_eq_zero_of_no_sems (by decide) r.2⟩)
    (Cert.FfnOneReferenceIdeal.Value.run (F := Ideal) m ρ)

theorem quiescent_MergeReferenceIdeal : quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The second feed-forward call. -/
theorem algebraic_FfnIdeal_FfnReferenceIdeal : algebraic_FfnIdeal_FfnReferenceIdeal := by
  intro m ρ m' ρ' _ hagree
  refine ⟨_, Cert.FfnIdeal.Value.run_blocks (F := Ideal) m ρ, ?_⟩
  refine (θ_run Cert.FfnReferenceIdeal.defs _ _).mono (fun _ h c => ⟨?_, (h c).2⟩) (Cert.FfnReferenceIdeal.Value.run (F := Ideal) m' ρ')
  obtain ⟨e0, e1, e2, e3, e4, e5⟩ := hagree c
  exact (h c).1.trans (Cert.FfnTie.tie m m' c e0 e1 e2 e3 e4 e5)

/-- The first feed-forward call, both results. -/
theorem algebraic_FfnOneIdeal_FfnOneReferenceIdeal : algebraic_FfnOneIdeal_FfnOneReferenceIdeal := by
  intro m ρ m' ρ' _ hagree
  refine ⟨_, _, Cert.FfnOneIdeal.Value.run_blocks (F := Ideal) m ρ, ?_⟩
  refine (θ_run Cert.FfnOneReferenceIdeal.defs _ _).mono (fun _ h c => ⟨?_, ?_, (h c).2.2⟩) (Cert.FfnOneReferenceIdeal.Value.run (F := Ideal) m' ρ')
  · obtain ⟨e0, e1, e2, e3, e4, e5⟩ := hagree c
    exact (h c).1.trans (Cert.FfnOneTie.tie6 m m' c e0 e1 e2 e3 e4)
  · obtain ⟨e0, e1, e2, e3, e4, e5⟩ := hagree c
    exact (h c).2.1.trans (Cert.FfnOneTie.tie7 m m' c e0 e1 e2 e3 e4 e5)

/-- The merge call. -/
theorem algebraic_MergeIdeal_MergeReferenceIdeal : algebraic_MergeIdeal_MergeReferenceIdeal := by
  intro m ρ m' ρ' _ hagree
  refine ⟨_, Cert.MergeIdeal.Value.run_blocks (F := Ideal) m ρ, ?_⟩
  refine (θ_run Cert.MergeReferenceIdeal.defs _ _).mono (fun _ h c => ⟨?_, (h c).2⟩) (Cert.MergeReferenceIdeal.Value.run (F := Ideal) m' ρ')
  obtain ⟨e0, e1, e2, e3, e4, e5, e6⟩ := hagree c
  exact (h c).1.trans (Cert.MergeTie.tie m m' c e0 e1 e2 e3 e4 e5 e6)

theorem quiescent_RvReferenceIdeal : quiescent_RvReferenceIdeal := fun m ρ _ =>
  (θ_run Cert.RvReferenceIdeal.defs _ _).mono (fun r h => ⟨fun c => (h c).2, sem_eq_zero_of_no_sems (by decide) r.2⟩)
    (Cert.RvReferenceIdeal.Value.run (F := Ideal) m ρ)

theorem algebraic_RvIdeal_RvReferenceIdeal : algebraic_RvIdeal_RvReferenceIdeal := by
  intro m ρ m' ρ' _ hagree
  refine ⟨_, Cert.RvIdeal.Value.run_blocks (F := Ideal) m ρ, ?_⟩
  refine (θ_run Cert.RvReferenceIdeal.defs _ _).mono (fun _ h c => ⟨?_, (h c).2⟩) (Cert.RvReferenceIdeal.Value.run (F := Ideal) m' ρ')
  obtain ⟨e0, e1⟩ := hagree c
  exact (h c).1.trans (Cert.RvTie.tie m m' c e0 e1)

theorem quiescent_RgReferenceIdeal : quiescent_RgReferenceIdeal := fun m ρ _ =>
  (θ_run Cert.RgReferenceIdeal.defs _ _).mono (fun r h => ⟨fun c => (h c).2, sem_eq_zero_of_no_sems (by decide) r.2⟩)
    (Cert.RgReferenceIdeal.Value.run (F := Ideal) m ρ)

theorem algebraic_RgIdeal_RgReferenceIdeal : algebraic_RgIdeal_RgReferenceIdeal := by
  intro m ρ m' ρ' _ hagree
  refine ⟨_, Cert.RgIdeal.Value.run_blocks (F := Ideal) m ρ, ?_⟩
  refine (θ_run Cert.RgReferenceIdeal.defs _ _).mono (fun _ h c => ⟨?_, (h c).2⟩) (Cert.RgReferenceIdeal.Value.run (F := Ideal) m' ρ')
  obtain ⟨e0, e1⟩ := hagree c
  exact (h c).1.trans (Cert.RgTie.tie m m' c e0 e1)

theorem quiescent_GatesReferenceIdeal : quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

theorem algebraic_GatesIdeal_GatesReferenceIdeal : algebraic_GatesIdeal_GatesReferenceIdeal := by
  intro m ρ m' ρ' _ hagree
  refine ⟨_, Cert.GatesIdeal.Value.run_blocks (F := Ideal) m ρ, ?_⟩
  refine (θ_run Cert.GatesReferenceIdeal.defs _ _).mono (fun _ h c => ⟨?_, (h c).2⟩) (Cert.GatesReferenceIdeal.Value.run (F := Ideal) m' ρ')
  obtain ⟨e0, e1⟩ := hagree c
  exact (h c).1.trans (Cert.GatesTie.tie m m' c e0 e1)

theorem quiescent_AvReferenceIdeal : quiescent_AvReferenceIdeal := fun m ρ _ =>
  (θ_run Cert.AvReferenceIdeal.defs _ _).mono (fun r h => ⟨fun c => (h c).2, sem_eq_zero_of_no_sems (by decide) r.2⟩)
    (Cert.AvReferenceIdeal.Value.run (F := Ideal) m ρ)

theorem algebraic_AvIdeal_AvReferenceIdeal : algebraic_AvIdeal_AvReferenceIdeal := by
  intro m ρ m' ρ' _ hagree
  refine ⟨_, Cert.AvIdeal.Value.run_blocks (F := Ideal) m ρ, ?_⟩
  refine (θ_run Cert.AvReferenceIdeal.defs _ _).mono (fun _ h c => ⟨?_, (h c).2⟩) (Cert.AvReferenceIdeal.Value.run (F := Ideal) m' ρ')
  obtain ⟨e0, e1⟩ := hagree c
  exact (h c).1.trans (Cert.AvTie.tie m m' c e0 e1)

theorem quiescent_RqkReferenceIdeal : quiescent_RqkReferenceIdeal := fun m ρ _ =>
  (θ_run Cert.RqkReferenceIdeal.defs _ _).mono (fun r h => ⟨fun c => (h c).2, sem_eq_zero_of_no_sems (by decide) r.2⟩)
    (Cert.RqkReferenceIdeal.Value.run (F := Ideal) m ρ)

theorem algebraic_RqkIdeal_RqkReferenceIdeal : algebraic_RqkIdeal_RqkReferenceIdeal := by
  intro m ρ m' ρ' _ hagree
  refine ⟨_, Cert.RqkIdeal.Value.run_blocks (F := Ideal) m ρ, ?_⟩
  refine (θ_run Cert.RqkReferenceIdeal.defs _ _).mono (fun _ h c => ⟨?_, (h c).2⟩) (Cert.RqkReferenceIdeal.Value.run (F := Ideal) m' ρ')
  obtain ⟨e0, e1⟩ := hagree c
  exact (h c).1.trans (Cert.RqkTie.tie m m' c e0 e1)

theorem quiescent_AqkReferenceIdeal : quiescent_AqkReferenceIdeal := fun m ρ _ =>
  (θ_run Cert.AqkReferenceIdeal.defs _ _).mono (fun r h => ⟨fun c => (h c).2, sem_eq_zero_of_no_sems (by decide) r.2⟩)
    (Cert.AqkReferenceIdeal.Value.run (F := Ideal) m ρ)

theorem algebraic_AqkIdeal_AqkReferenceIdeal : algebraic_AqkIdeal_AqkReferenceIdeal := by
  intro m ρ m' ρ' _ hagree
  refine ⟨_, Cert.AqkIdeal.Value.run_blocks (F := Ideal) m ρ, ?_⟩
  refine (θ_run Cert.AqkReferenceIdeal.defs _ _).mono (fun _ h c => ⟨?_, (h c).2⟩) (Cert.AqkReferenceIdeal.Value.run (F := Ideal) m' ρ')
  obtain ⟨e0, e1⟩ := hagree c
  exact (h c).1.trans (Cert.AqkTie.tie m m' c e0 e1)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts, Cert.FfnOne.Gen.facts, Cert.FfnOneIdeal.Gen.facts, Cert.FfnOneReferenceIdeal.Gen.facts, Cert.Merge.Gen.facts, Cert.MergeIdeal.Gen.facts, Cert.MergeReferenceIdeal.Gen.facts, Cert.Rv.Gen.facts, Cert.RvIdeal.Gen.facts, Cert.RvReferenceIdeal.Gen.facts, Cert.Rg.Gen.facts, Cert.RgIdeal.Gen.facts, Cert.RgReferenceIdeal.Gen.facts, Cert.Gates.Gen.facts, Cert.GatesIdeal.Gen.facts, Cert.GatesReferenceIdeal.Gen.facts, Cert.Av.Gen.facts, Cert.AvIdeal.Gen.facts, Cert.AvReferenceIdeal.Gen.facts, Cert.Rqk.Gen.facts, Cert.RqkIdeal.Gen.facts, Cert.RqkReferenceIdeal.Gen.facts, Cert.Aqk.Gen.facts, Cert.AqkIdeal.Gen.facts, Cert.AqkReferenceIdeal.Gen.facts, Cert.Pre_finite.facts,
  fun m ρ _ => Cert.Kernel.Gen.frame m ρ, quiescent_KernelIdeal, quiescent_KernelIdeal_pre_finite, quiescent_ReferenceIdeal,
  quiescent_ReferenceIdeal_pre_finite,
  fun m ρ _ => Cert.Ffn.Gen.frame m ρ, fun m ρ _ => Cert.FfnIdeal.Gen.frame m ρ, quiescent_FfnReferenceIdeal, fun m ρ _ => Cert.FfnOne.Gen.frame m ρ, fun m ρ _ => Cert.FfnOneIdeal.Gen.frame m ρ, quiescent_FfnOneReferenceIdeal, fun m ρ _ => Cert.Merge.Gen.frame m ρ, fun m ρ _ => Cert.MergeIdeal.Gen.frame m ρ, quiescent_MergeReferenceIdeal,
  fun m ρ _ => Cert.Rv.Gen.frame m ρ, fun m ρ _ => Cert.RvIdeal.Gen.frame m ρ, quiescent_RvReferenceIdeal, fun m ρ _ => Cert.Rg.Gen.frame m ρ, fun m ρ _ => Cert.RgIdeal.Gen.frame m ρ, quiescent_RgReferenceIdeal, fun m ρ _ => Cert.Gates.Gen.frame m ρ, fun m ρ _ => Cert.GatesIdeal.Gen.frame m ρ, quiescent_GatesReferenceIdeal, fun m ρ _ => Cert.Av.Gen.frame m ρ, fun m ρ _ => Cert.AvIdeal.Gen.frame m ρ, quiescent_AvReferenceIdeal, fun m ρ _ => Cert.Rqk.Gen.frame m ρ, fun m ρ _ => Cert.RqkIdeal.Gen.frame m ρ, quiescent_RqkReferenceIdeal, fun m ρ _ => Cert.Aqk.Gen.frame m ρ, fun m ρ _ => Cert.AqkIdeal.Gen.frame m ρ, quiescent_AqkReferenceIdeal,
  (trivial : preserves_Kernel_KernelIdeal), algebraic_KernelIdeal_ReferenceIdeal_pre_finite,
  (trivial : preserves_Ffn_FfnIdeal), algebraic_FfnIdeal_FfnReferenceIdeal, (trivial : preserves_FfnOne_FfnOneIdeal), algebraic_FfnOneIdeal_FfnOneReferenceIdeal, (trivial : preserves_Merge_MergeIdeal), algebraic_MergeIdeal_MergeReferenceIdeal,
  (trivial : preserves_Rv_RvIdeal), algebraic_RvIdeal_RvReferenceIdeal,
  (trivial : preserves_Rg_RgIdeal), algebraic_RgIdeal_RgReferenceIdeal,
  (trivial : preserves_Gates_GatesIdeal), algebraic_GatesIdeal_GatesReferenceIdeal,
  (trivial : preserves_Av_AvIdeal), algebraic_AvIdeal_AvReferenceIdeal,
  (trivial : preserves_Rqk_RqkIdeal), algebraic_RqkIdeal_RqkReferenceIdeal,
  (trivial : preserves_Aqk_AqkIdeal), algebraic_AqkIdeal_AqkReferenceIdeal⟩

end Cert.Proof

end
